-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v100)) (v2 : (c : Dev Cert.KernelIdeal.nD) → Buf (Elt Ideal) ((c.tc : Thread Cert.KernelIdeal.nD Cert.KernelIdeal.τ).loc Cert.KernelIdeal.main_v101)) (v3 : (c : Dev Cert.KernelIdeal.nD) → Buf (Elt Ideal) ((c.tc : Thread Cert.KernelIdeal.nD Cert.KernelIdeal.τ).loc Cert.KernelIdeal.main_v102)) (v4 : (c : Dev Cert.KernelIdeal.nD) → Buf (Elt Ideal) ((c.tc : Thread Cert.KernelIdeal.nD Cert.KernelIdeal.τ).loc Cert.KernelIdeal.main_v103)) (v5 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_v102) = v3 c
          ∧ r.2.mem ((c.tc : Thread Cert.KernelIdeal.nD Cert.KernelIdeal.τ).loc Cert.KernelIdeal.main_v103) = v4 c
          ∧ r.2.mem ((c.tc : Thread Cert.KernelIdeal.nD Cert.KernelIdeal.τ).loc Cert.KernelIdeal.main_v104) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_v20) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v19) = v2 c
          ∧ r.2.mem ((c.tc : Thread Cert.Reference14Ideal.nD Cert.Reference14Ideal.τ).loc Cert.Reference14Ideal.main_v27) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v23) = v0 c
          ∧ r.2.mem ((c.tc : Thread Cert.Reference41Ideal.nD Cert.Reference41Ideal.τ).loc Cert.Reference41Ideal.main_v4) = v1 c
          ∧ r.2.mem ((c.tc : Thread Cert.Reference41Ideal.nD Cert.Reference41Ideal.τ).loc Cert.Reference41Ideal.main_v10) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v23) = v0 c
          ∧ r.2.mem ((c.tc : Thread Cert.Reference42Ideal.nD Cert.Reference42Ideal.τ).loc Cert.Reference42Ideal.main_v4) = v1 c
          ∧ r.2.mem ((c.tc : Thread Cert.Reference42Ideal.nD Cert.Reference42Ideal.τ).loc Cert.Reference42Ideal.main_v10) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v23) = v0 c
          ∧ r.2.mem ((c.tc : Thread Cert.Reference43Ideal.nD Cert.Reference43Ideal.τ).loc Cert.Reference43Ideal.main_v4) = v1 c
          ∧ r.2.mem ((c.tc : Thread Cert.Reference43Ideal.nD Cert.Reference43Ideal.τ).loc Cert.Reference43Ideal.main_v10) = v2 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v23) = v0 c
          ∧ r.2.mem ((c.tc : Thread Cert.Reference44Ideal.nD Cert.Reference44Ideal.τ).loc Cert.Reference44Ideal.main_v4) = v1 c
          ∧ r.2.mem ((c.tc : Thread Cert.Reference44Ideal.nD Cert.Reference44Ideal.τ).loc Cert.Reference44Ideal.main_v10) = v2 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v4) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
-- ==== Pre_finite.lean ====
abbrev S2x2064x32x64 : Shape := ⟨4, ![2, 2064, 32, 64]⟩
abbrev S2064x2x32x64x64 : Shape := ⟨5, ![2064, 2, 32, 64, 64]⟩
abbrev S_ : Shape := ⟨0, ![]⟩

class Facts : Prop where
  bcast_S_S2x2064x32x64 : S_.BroadcastsInDim S2x2064x32x64 (![] : Fin 0 → Fin S2x2064x32x64.rank)
  bcast_S_S2064x2x32x64x64 : S_.BroadcastsInDim S2064x2x32x64x64 (![] : Fin 0 → Fin S2064x2x32x64x64.rank)

variable [Facts]

def fn_part1 {F : FTy → Type} [FloatOps F] (main_arg6 : FVec F S2x2064x32x64 .f32) (main_arg7 : FVec F S2064x2x32x64x64 .f32) (main_v2 : IVec S2x2064x32x64 1) (main_v5 : IVec S2x2064x32x64 1) (main_v8 : IVec S2x2064x32x64 1) (main_v11 : IVec S2x2064x32x64 1) (main_v14 : IVec S2x2064x32x64 1) (main_v17 : IVec S2x2064x32x64 1) : IVec S2x2064x32x64 1 × IVec S2x2064x32x64 1 × IVec S2x2064x32x64 1 × IVec S2x2064x32x64 1 × IVec S2x2064x32x64 1 × IVec S2x2064x32x64 1 × IVec S2x2064x32x64 1 × IVec S2064x2x32x64x64 1 :=
  let main_v18 : FVec F S2x2064x32x64 .f32 := Host.absf main_arg6
  let main_cst_5 : FVec F S_ .f32 := constant S_ .f32 0x7F800000#32
  let main_v19 : FVec F S2x2064x32x64 .f32 := broadcastInDim S2x2064x32x64 ![] bcast_S_S2x2064x32x64 main_cst_5
  let main_v20 : IVec S2x2064x32x64 1 := cmpf .olt main_v18 main_v19
  let main_v21 : FVec F S2064x2x32x64x64 .f32 := Host.absf main_arg7
  let main_cst_6 : FVec F S_ .f32 := constant S_ .f32 0x7F800000#32
  let main_v22 : FVec F S2064x2x32x64x64 .f32 := broadcastInDim S2064x2x32x64x64 ![] bcast_S_S2064x2x32x64x64 main_cst_6
  let main_v23 : IVec S2064x2x32x64x64 1 := cmpf .olt main_v21 main_v22
  (main_v2, main_v5, main_v8, main_v11, main_v14, main_v17, main_v20, main_v23)

def fn {F : FTy → Type} [FloatOps F] (main_arg0 : FVec F S2x2064x32x64 .f32) (main_arg1 : FVec F S2x2064x32x64 .f32) (main_arg2 : FVec F S2x2064x32x64 .f32) (main_arg3 : FVec F S2x2064x32x64 .f32) (main_arg4 : FVec F S2x2064x32x64 .f32) (main_arg5 : FVec F S2x2064x32x64 .f32) (main_arg6 : FVec F S2x2064x32x64 .f32) (main_arg7 : FVec F S2064x2x32x64x64 .f32) : IVec S2x2064x32x64 1 × IVec S2x2064x32x64 1 × IVec S2x2064x32x64 1 × IVec S2x2064x32x64 1 × IVec S2x2064x32x64 1 × IVec S2x2064x32x64 1 × IVec S2x2064x32x64 1 × IVec S2064x2x32x64x64 1 :=
  let main_v0 : FVec F S2x2064x32x64 .f32 := Host.absf main_arg0
  let main_cst : FVec F S_ .f32 := constant S_ .f32 0x7F800000#32
  let main_v1 : FVec F S2x2064x32x64 .f32 := broadcastInDim S2x2064x32x64 ![] bcast_S_S2x2064x32x64 main_cst
  let main_v2 : IVec S2x2064x32x64 1 := cmpf .olt main_v0 main_v1
  let main_v3 : FVec F S2x2064x32x64 .f32 := Host.absf main_arg1
  let main_cst_0 : FVec F S_ .f32 := constant S_ .f32 0x7F800000#32
  let main_v4 : FVec F S2x2064x32x64 .f32 := broadcastInDim S2x2064x32x64 ![] bcast_S_S2x2064x32x64 main_cst_0
  let main_v5 : IVec S2x2064x32x64 1 := cmpf .olt main_v3 main_v4
  let main_v6 : FVec F S2x2064x32x64 .f32 := Host.absf main_arg2
  let main_cst_1 : FVec F S_ .f32 := constant S_ .f32 0x7F800000#32
  let main_v7 : FVec F S2x2064x32x64 .f32 := broadcastInDim S2x2064x32x64 ![] bcast_S_S2x2064x32x64 main_cst_1
  let main_v8 : IVec S2x2064x32x64 1 := cmpf .olt main_v6 main_v7
  let main_v9 : FVec F S2x2064x32x64 .f32 := Host.absf main_arg3
  let main_cst_2 : FVec F S_ .f32 := constant S_ .f32 0x7F800000#32
  let main_v10 : FVec F S2x2064x32x64 .f32 := broadcastInDim S2x2064x32x64 ![] bcast_S_S2x2064x32x64 main_cst_2
  let main_v11 : IVec S2x2064x32x64 1 := cmpf .olt main_v9 main_v10
  let main_v12 : FVec F S2x2064x32x64 .f32 := Host.absf main_arg4
  let main_cst_3 : FVec F S_ .f32 := constant S_ .f32 0x7F800000#32
  let main_v13 : FVec F S2x2064x32x64 .f32 := broadcastInDim S2x2064x32x64 ![] bcast_S_S2x2064x32x64 main_cst_3
  let main_v14 : IVec S2x2064x32x64 1 := cmpf .olt main_v12 main_v13
  let main_v15 : FVec F S2x2064x32x64 .f32 := Host.absf main_arg5
  let main_cst_4 : FVec F S_ .f32 := constant S_ .f32 0x7F800000#32
  let main_v16 : FVec F S2x2064x32x64 .f32 := broadcastInDim S2x2064x32x64 ![] bcast_S_S2x2064x32x64 main_cst_4
  let main_v17 : IVec S2x2064x32x64 1 := cmpf .olt main_v15 main_v16
  fn_part1 (F := F) main_arg6 main_arg7 main_v2 main_v5 main_v8 main_v11 main_v14 main_v17
-- ==== Kernel.lean ====
abbrev S2x2064x32x64 : Shape := ⟨4, ![2, 2064, 32, 64]⟩
abbrev S2064x2x32x64x64 : Shape := ⟨5, ![2064, 2, 32, 64, 64]⟩
abbrev S2064x2x32x64 : Shape := ⟨4, ![2064, 2, 32, 64]⟩
abbrev S2064x64x2x32x64 : Shape := ⟨5, ![2064, 64, 2, 32, 64]⟩
abbrev S2064x32x64x2x64 : Shape := ⟨5, ![2064, 32, 64, 2, 64]⟩
abbrev S2064x32x64x128 : Shape := ⟨4, ![2064, 32, 64, 128]⟩
abbrev S2064x64x2x32 : Shape := ⟨4, ![2064, 64, 2, 32]⟩
abbrev S2064x32x2x64 : Shape := ⟨4, ![2064, 32, 2, 64]⟩
abbrev S2064x32x128 : Shape := ⟨3, ![2064, 32, 128]⟩
abbrev S4128x2048 : Shape := ⟨2, ![4128, 2048]⟩
abbrev S2x2064x2048 : Shape := ⟨3, ![2, 2064, 2048]⟩
abbrev S2064x2x2048 : Shape := ⟨3, ![2064, 2, 2048]⟩
abbrev S2064x64x64 : Shape := ⟨3, ![2064, 64, 64]⟩
abbrev S2064x64x1x64 : Shape := ⟨4, ![2064, 64, 1, 64]⟩
abbrev S2064x64x2x64 : Shape := ⟨4, ![2064, 64, 2, 64]⟩
abbrev S2064x64x128 : Shape := ⟨3, ![2064, 64, 128]⟩
abbrev S16x64x128 : Shape := ⟨3, ![16, 64, 128]⟩
abbrev S16x32x128 : Shape := ⟨3, ![16, 32, 128]⟩
abbrev S16x32x64x128 : Shape := ⟨4, ![16, 32, 64, 128]⟩
abbrev S16x64x64 : Shape := ⟨3, ![16, 64, 64]⟩
abbrev S32x64x128 : Shape := ⟨3, ![32, 64, 128]⟩
abbrev S1x64x128 : Shape := ⟨3, ![1, 64, 128]⟩
abbrev S64x128 : Shape := ⟨2, ![64, 128]⟩
abbrev S1x128 : Shape := ⟨2, ![1, 128]⟩
abbrev S1x1x64x128 : Shape := ⟨4, ![1, 1, 64, 128]⟩
abbrev S1x1x128 : Shape := ⟨3, ![1, 1, 128]⟩
abbrev S128 : Shape := ⟨1, ![128]⟩
abbrev S64x64 : Shape := ⟨2, ![64, 64]⟩
abbrev S1x64x64 : Shape := ⟨3, ![1, 64, 64]⟩

abbrev nBuf : Space → Nat
  | .hbm => 118
  | .vmem => 31
  | .smem => 0
  | _ => 0

abbrev bufTy : (tb : Table) → Fin (tcTables nBuf tb) → BufTy
  | .hbm, ⟨0, _⟩ => ⟨S2x2064x32x64, .f32⟩
  | .hbm, ⟨1, _⟩ => ⟨S2x2064x32x64, .f32⟩
  | .hbm, ⟨2, _⟩ => ⟨S2x2064x32x64, .f32⟩
  | .hbm, ⟨3, _⟩ => ⟨S2x2064x32x64, .f32⟩
  | .hbm, ⟨4, _⟩ => ⟨S2x2064x32x64, .f32⟩
  | .hbm, ⟨5, _⟩ => ⟨S2x2064x32x64, .f32⟩
  | .hbm, ⟨6, _⟩ => ⟨S2x2064x32x64, .f32⟩
  | .hbm, ⟨7, _⟩ => ⟨S2064x2x32x64x64, .f32⟩
  | .hbm, ⟨8, _⟩ => ⟨S2064x2x32x64, .f32⟩
  | .hbm, ⟨9, _⟩ => ⟨S2064x2x32x64, .f32⟩
  | .hbm, ⟨10, _⟩ => ⟨S2064x64x2x32x64, .f32⟩
  | .hbm, ⟨11, _⟩ => ⟨S2064x32x64x2x64, .f32⟩
  | .hbm, ⟨12, _⟩ => ⟨S2064x32x64x128, .f32⟩
  | .hbm, ⟨13, _⟩ => ⟨S2064x64x2x32, .f32⟩
  | .hbm, ⟨14, _⟩ => ⟨S2064x32x2x64, .f32⟩
  | .hbm, ⟨15, _⟩ => ⟨S2064x32x128, .f32⟩
  | .hbm, ⟨16, _⟩ => ⟨S4128x2048, .f32⟩
  | .hbm, ⟨17, _⟩ => ⟨S2x2064x2048, .f32⟩
  | .hbm, ⟨18, _⟩ => ⟨S2064x2x2048, .f32⟩
  | .hbm, ⟨19, _⟩ => ⟨S2064x2x2048, .f32⟩
  | .hbm, ⟨20, _⟩ => ⟨S2064x64x64, .f32⟩
  | .hbm, ⟨21, _⟩ => ⟨S2064x64x64, .f32⟩
  | .hbm, ⟨22, _⟩ => ⟨S2064x64x1x64, .f32⟩
  | .hbm, ⟨23, _⟩ => ⟨S2064x64x2x64, .f32⟩
  | .hbm, ⟨24, _⟩ => ⟨S2064x64x128, .f32⟩
  | .hbm, ⟨25, _⟩ => ⟨S4128x2048, .f32⟩
  | .hbm, ⟨26, _⟩ => ⟨S2x2064x2048, .f32⟩
  | .hbm, ⟨27, _⟩ => ⟨S2064x2x2048, .f32⟩
  | .hbm, ⟨28, _⟩ => ⟨S2064x2x2048, .f32⟩
  | .hbm, ⟨29, _⟩ => ⟨S2064x64x64, .f32⟩
  | .hbm, ⟨30, _⟩ => ⟨S2064x64x64, .f32⟩
  | .hbm, ⟨31, _⟩ => ⟨S2064x64x1x64, .f32⟩
  | .hbm, ⟨32, _⟩ => ⟨S2064x64x2x64, .f32⟩
  | .hbm, ⟨33, _⟩ => ⟨S2064x64x128, .f32⟩
  | .hbm, ⟨34, _⟩ => ⟨S4128x2048, .f32⟩
  | .hbm, ⟨35, _⟩ => ⟨S2x2064x2048, .f32⟩
  | .hbm, ⟨36, _⟩ => ⟨S2064x2x2048, .f32⟩
  | .hbm, ⟨37, _⟩ => ⟨S2064x2x2048, .f32⟩
  | .hbm, ⟨38, _⟩ => ⟨S2064x64x64, .f32⟩
  | .hbm, ⟨39, _⟩ => ⟨S2064x64x64, .f32⟩
  | .hbm, ⟨40, _⟩ => ⟨S2064x64x1x64, .f32⟩
  | .hbm, ⟨41, _⟩ => ⟨S2064x64x2x64, .f32⟩
  | .hbm, ⟨42, _⟩ => ⟨S2064x64x128, .f32⟩
  | .hbm, ⟨43, _⟩ => ⟨S4128x2048, .f32⟩
  | .hbm, ⟨44, _⟩ => ⟨S2x2064x2048, .f32⟩
  | .hbm, ⟨45, _⟩ => ⟨S2064x2x2048, .f32⟩
  | .hbm, ⟨46, _⟩ => ⟨S2064x2x2048, .f32⟩
  | .hbm, ⟨47, _⟩ => ⟨S2064x64x64, .f32⟩
  | .hbm, ⟨48, _⟩ => ⟨S2064x64x64, .f32⟩
  | .hbm, ⟨49, _⟩ => ⟨S2064x64x1x64, .f32⟩
  | .hbm, ⟨50, _⟩ => ⟨S2064x64x2x64, .f32⟩
  | .hbm, ⟨51, _⟩ => ⟨S2064x64x128, .f32⟩
  | .hbm, ⟨52, _⟩ => ⟨S4128x2048, .f32⟩
  | .hbm, ⟨53, _⟩ => ⟨S2x2064x2048, .f32⟩
  | .hbm, ⟨54, _⟩ => ⟨S2064x2x2048, .f32⟩
  | .hbm, ⟨55, _⟩ => ⟨S2064x2x2048, .f32⟩
  | .hbm, ⟨56, _⟩ => ⟨S2064x64x64, .f32⟩
  | .hbm, ⟨57, _⟩ => ⟨S2064x64x64, .f32⟩
  | .hbm, ⟨58, _⟩ => ⟨S2064x64x1x64, .f32⟩
  | .hbm, ⟨59, _⟩ => ⟨S2064x64x2x64, .f32⟩
  | .hbm, ⟨60, _⟩ => ⟨S2064x64x128, .f32⟩
  | .hbm, ⟨61, _⟩ => ⟨S4128x2048, .f32⟩
  | .hbm, ⟨62, _⟩ => ⟨S2x2064x2048, .f32⟩
  | .hbm, ⟨63, _⟩ => ⟨S2064x2x2048, .f32⟩
  | .hbm, ⟨64, _⟩ => ⟨S2064x2x2048, .f32⟩
  | .hbm, ⟨65, _⟩ => ⟨S2064x64x2x32, .f32⟩
  | .hbm, ⟨66, _⟩ => ⟨S2064x32x2x64, .f32⟩
  | .hbm, ⟨67, _⟩ => ⟨S2064x32x128, .f32⟩
  | .hbm, ⟨68, _⟩ => ⟨S4128x2048, .f32⟩
  | .hbm, ⟨69, _⟩ => ⟨S2x2064x2048, .f32⟩
  | .hbm, ⟨70, _⟩ => ⟨S2064x2x2048, .f32⟩
  | .hbm, ⟨71, _⟩ => ⟨S2064x2x2048, .f32⟩
  | .hbm, ⟨72, _⟩ => ⟨S2064x64x2x32, .f32⟩
  | .hbm, ⟨73, _⟩ => ⟨S2064x32x2x64, .f32⟩
  | .hbm, ⟨74, _⟩ => ⟨S2064x32x128, .f32⟩
  | .hbm, ⟨75, _⟩ => ⟨S2064x64x64, .f32⟩
  | .hbm, ⟨76, _⟩ => ⟨S2064x64x64, .f32⟩
  | .hbm, ⟨77, _⟩ => ⟨S2064x64x64, .f32⟩
  | .hbm, ⟨78, _⟩ => ⟨S2064x64x64, .f32⟩
  | .hbm, ⟨79, _⟩ => ⟨S2064x64x64, .f32⟩
  | .hbm, ⟨80, _⟩ => ⟨S2064x32x128, .f32⟩
  | .hbm, ⟨81, _⟩ => ⟨S2064x64x64, .f32⟩
  | .hbm, ⟨82, _⟩ => ⟨S2064x2x2048, .f32⟩
  | .hbm, ⟨83, _⟩ => ⟨S2064x2x2048, .f32⟩
  | .hbm, ⟨84, _⟩ => ⟨S2x2064x2048, .f32⟩
  | .hbm, ⟨85, _⟩ => ⟨S4128x2048, .f32⟩
  | .hbm, ⟨86, _⟩ => ⟨S2064x64x64, .f32⟩
  | .hbm, ⟨87, _⟩ => ⟨S2064x2x2048, .f32⟩
  | .hbm, ⟨88, _⟩ => ⟨S2064x2x2048, .f32⟩
  | .hbm, ⟨89, _⟩ => ⟨S2x2064x2048, .f32⟩
  | .hbm, ⟨90, _⟩ => ⟨S4128x2048, .f32⟩
  | .hbm, ⟨91, _⟩ => ⟨S2064x64x64, .f32⟩
  | .hbm, ⟨92, _⟩ => ⟨S2064x2x2048, .f32⟩
  | .hbm, ⟨93, _⟩ => ⟨S2064x2x2048, .f32⟩
  | .hbm, ⟨94, _⟩ => ⟨S2x2064x2048, .f32⟩
  | .hbm, ⟨95, _⟩ => ⟨S4128x2048, .f32⟩
  | .hbm, ⟨96, _⟩ => ⟨S2064x32x2x64, .f32⟩
  | .hbm, ⟨97, _⟩ => ⟨S2064x64x2x32, .f32⟩
  | .hbm, ⟨98, _⟩ => ⟨S2064x2x2048, .f32⟩
  | .hbm, ⟨99, _⟩ => ⟨S2064x2x2048, .f32⟩
  | .hbm, ⟨100, _⟩ => ⟨S2x2064x2048, .f32⟩
  | .hbm, ⟨101, _⟩ => ⟨S4128x2048, .f32⟩
  | .hbm, ⟨102, _⟩ => ⟨S2064x64x64, .f32⟩
  | .hbm, ⟨103, _⟩ => ⟨S2064x2x2048, .f32⟩
  | .hbm, ⟨104, _⟩ => ⟨S2064x2x2048, .f32⟩
  | .hbm, ⟨105, _⟩ => ⟨S2x2064x2048, .f32⟩
  | .hbm, ⟨106, _⟩ => ⟨S4128x2048, .f32⟩
  | .hbm, ⟨107, _⟩ => ⟨S2064x64x64, .f32⟩
  | .hbm, ⟨108, _⟩ => ⟨S2064x2x2048, .f32⟩
  | .hbm, ⟨109, _⟩ => ⟨S2064x2x2048, .f32⟩
  | .hbm, ⟨110, _⟩ => ⟨S2x2064x2048, .f32⟩
  | .hbm, ⟨111, _⟩ => ⟨S4128x2048, .f32⟩
  | .hbm, ⟨112, _⟩ => ⟨S2x2064x32x64, .f32⟩
  | .hbm, ⟨113, _⟩ => ⟨S2x2064x32x64, .f32⟩
  | .hbm, ⟨114, _⟩ => ⟨S2x2064x32x64, .f32⟩
  | .hbm, ⟨115, _⟩ => ⟨S2x2064x32x64, .f32⟩
  | .hbm, ⟨116, _⟩ => ⟨S2x2064x32x64, .f32⟩
  | .hbm, ⟨117, _⟩ => ⟨S2x2064x32x64, .f32⟩
  | .local _ .vmem, ⟨0, _⟩ => ⟨S16x64x128, .f32⟩
  | .local _ .vmem, ⟨1, _⟩ => ⟨S16x64x128, .f32⟩
  | .local _ .vmem, ⟨2, _⟩ => ⟨S16x64x128, .f32⟩
  | .local _ .vmem, ⟨3, _⟩ => ⟨S16x64x128, .f32⟩
  | .local _ .vmem, ⟨4, _⟩ => ⟨S16x64x128, .f32⟩
  | .local _ .vmem, ⟨5, _⟩ => ⟨S16x64x128, .f32⟩
  | .local _ .vmem, ⟨6, _⟩ => ⟨S16x64x128, .f32⟩
  | .local _ .vmem, ⟨7, _⟩ => ⟨S16x64x128, .f32⟩
  | .local _ .vmem, ⟨8, _⟩ => ⟨S16x64x128, .f32⟩
  | .local _ .vmem, ⟨9, _⟩ => ⟨S16x64x128, .f32⟩
  | .local _ .vmem, ⟨10, _⟩ => ⟨S16x32x128, .f32⟩
  | .local _ .vmem, ⟨11, _⟩ => ⟨S16x32x128, .f32⟩
  | .local _ .vmem, ⟨12, _⟩ => ⟨S16x32x128, .f32⟩
  | .local _ .vmem, ⟨13, _⟩ => ⟨S16x32x128, .f32⟩
  | .local _ .vmem, ⟨14, _⟩ => ⟨S16x32x64x128, .f32⟩
  | .local _ .vmem, ⟨15, _⟩ => ⟨S16x32x64x128, .f32⟩
  | .local _ .vmem, ⟨16, _⟩ => ⟨S16x32x128, .f32⟩
  | .local _ .vmem, ⟨17, _⟩ => ⟨S16x32x128, .f32⟩
  | .local _ .vmem, ⟨18, _⟩ => ⟨S16x64x64, .f32⟩
  | .local _ .vmem, ⟨19, _⟩ => ⟨S16x64x64, .f32⟩
  | .local _ .vmem, ⟨20, _⟩ => ⟨S16x64x64, .f32⟩
  | .local _ .vmem, ⟨21, _⟩ => ⟨S16x64x64, .f32⟩
  | .local _ .vmem, ⟨22, _⟩ => ⟨S16x64x64, .f32⟩
  | .local _ .vmem, ⟨23, _⟩ => ⟨S16x64x64, .f32⟩
  | .local _ .vmem, ⟨24, _⟩ => ⟨S16x64x64, .f32⟩
  | .local _ .vmem, ⟨25, _⟩ => ⟨S16x64x64, .f32⟩
  | .local _ .vmem, ⟨26, _⟩ => ⟨S16x64x64, .f32⟩
  | .local _ .vmem, ⟨27, _⟩ => ⟨S16x64x64, .f32⟩
  | .local _ .vmem, ⟨28, _⟩ => ⟨S16x32x128, .f32⟩
  | .local _ .vmem, ⟨29, _⟩ => ⟨S16x32x128, .f32⟩
  | .local _ .vmem, ⟨30, _⟩ => ⟨S32x64x128, .f32⟩
  | _, _ => ⟨S2x2064x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67_0 : Ref sig .tc := ⟨.hbm, 75, rfl⟩
abbrev main_v67_1 : Ref sig .tc := ⟨.hbm, 76, rfl⟩
abbrev main_v67_2 : Ref sig .tc := ⟨.hbm, 77, rfl⟩
abbrev main_v67_3 : Ref sig .tc := ⟨.hbm, 78, rfl⟩
abbrev main_v67_4 : Ref sig .tc := ⟨.hbm, 79, rfl⟩
abbrev main_v67_5 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![129], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v5 : Index := Scalar.indexCast v4
  let c0 : Index := 0#32
  let c0_3 : Index := 0#32
  ![v5.toNat, 0, 0]
def k0_off2 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v22 : Index := Scalar.indexCast v4
  let c0_13 : Index := 0#32
  let c0_14 : Index := 0#32
  let c0_15 : Index := 0#32
  ![v22.toNat, 0, 0, 0]
def k0_off3 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v25 : Index := Scalar.indexCast v4
  let c0_16 : Index := 0#32
  let c0_17 : Index := 0#32
  ![v25.toNat, 0, 0]
def k0_off4 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v74 : Index := Scalar.indexCast v4
  let c1 : Index := 1#32
  let c0_32 : Index := 0#32
  let c0_33 : Index := 0#32
  ![v74.toNat, 1, 0, 0]
def k0_off5 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v77 : Index := Scalar.indexCast v4
  let c1_34 : Index := 1#32
  let c0_35 : Index := 0#32
  ![v77.toNat, 1, 0]
def k0_off6 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v126 : Index := Scalar.indexCast v4
  let c2 : Index := 2#32
  let c0_50 : Index := 0#32
  let c0_51 : Index := 0#32
  ![v126.toNat, 2, 0, 0]
def k0_off7 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v129 : Index := Scalar.indexCast v4
  let c2_52 : Index := 2#32
  let c0_53 : Index := 0#32
  ![v129.toNat, 2, 0]
def k0_off8 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v178 : Index := Scalar.indexCast v4
  let c3 : Index := 3#32
  let c0_68 : Index := 0#32
  let c0_69 : Index := 0#32
  ![v178.toNat, 3, 0, 0]
def k0_off9 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v181 : Index := Scalar.indexCast v4
  let c3_70 : Index := 3#32
  let c0_71 : Index := 0#32
  ![v181.toNat, 3, 0]
def k0_off10 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v230 : Index := Scalar.indexCast v4
  let c4 : Index := 4#32
  let c0_86 : Index := 0#32
  let c0_87 : Index := 0#32
  ![v230.toNat, 4, 0, 0]
def k0_off11 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v233 : Index := Scalar.indexCast v4
  let c4_88 : Index := 4#32
  let c0_89 : Index := 0#32
  ![v233.toNat, 4, 0]
def k0_off12 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v282 : Index := Scalar.indexCast v4
  let c5 : Index := 5#32
  let c0_104 : Index := 0#32
  let c0_105 : Index := 0#32
  ![v282.toNat, 5, 0, 0]
def k0_off13 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v285 : Index := Scalar.indexCast v4
  let c5_106 : Index := 5#32
  let c0_107 : Index := 0#32
  ![v285.toNat, 5, 0]
def k0_off14 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v334 : Index := Scalar.indexCast v4
  let c6 : Index := 6#32
  let c0_122 : Index := 0#32
  let c0_123 : Index := 0#32
  ![v334.toNat, 6, 0, 0]
def k0_off15 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v337 : Index := Scalar.indexCast v4
  let c6_124 : Index := 6#32
  let c0_125 : Index := 0#32
  ![v337.toNat, 6, 0]
def k0_off16 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v386 : Index := Scalar.indexCast v4
  let c7 : Index := 7#32
  let c0_140 : Index := 0#32
  let c0_141 : Index := 0#32
  ![v386.toNat, 7, 0, 0]
def k0_off17 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v389 : Index := Scalar.indexCast v4
  let c7_142 : Index := 7#32
  let c0_143 : Index := 0#32
  ![v389.toNat, 7, 0]
def k0_off18 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v438 : Index := Scalar.indexCast v4
  let c8 : Index := 8#32
  let c0_158 : Index := 0#32
  let c0_159 : Index := 0#32
  ![v438.toNat, 8, 0, 0]
def k0_off19 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v441 : Index := Scalar.indexCast v4
  let c8_160 : Index := 8#32
  let c0_161 : Index := 0#32
  ![v441.toNat, 8, 0]
def k0_off20 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v490 : Index := Scalar.indexCast v4
  let c9 : Index := 9#32
  let c0_176 : Index := 0#32
  let c0_177 : Index := 0#32
  ![v490.toNat, 9, 0, 0]
def k0_off21 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v493 : Index := Scalar.indexCast v4
  let c9_178 : Index := 9#32
  let c0_179 : Index := 0#32
  ![v493.toNat, 9, 0]
def k0_off22 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v542 : Index := Scalar.indexCast v4
  let c10 : Index := 10#32
  let c0_194 : Index := 0#32
  let c0_195 : Index := 0#32
  ![v542.toNat, 10, 0, 0]
def k0_off23 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v545 : Index := Scalar.indexCast v4
  let c10_196 : Index := 10#32
  let c0_197 : Index := 0#32
  ![v545.toNat, 10, 0]
def k0_off24 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v594 : Index := Scalar.indexCast v4
  let c11 : Index := 11#32
  let c0_212 : Index := 0#32
  let c0_213 : Index := 0#32
  ![v594.toNat, 11, 0, 0]
def k0_off25 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v597 : Index := Scalar.indexCast v4
  let c11_214 : Index := 11#32
  let c0_215 : Index := 0#32
  ![v597.toNat, 11, 0]
def k0_off26 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v646 : Index := Scalar.indexCast v4
  let c12 : Index := 12#32
  let c0_230 : Index := 0#32
  let c0_231 : Index := 0#32
  ![v646.toNat, 12, 0, 0]
def k0_off27 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v649 : Index := Scalar.indexCast v4
  let c12_232 : Index := 12#32
  let c0_233 : Index := 0#32
  ![v649.toNat, 12, 0]
def k0_off28 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v698 : Index := Scalar.indexCast v4
  let c13 : Index := 13#32
  let c0_248 : Index := 0#32
  let c0_249 : Index := 0#32
  ![v698.toNat, 13, 0, 0]
def k0_off29 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v701 : Index := Scalar.indexCast v4
  let c13_250 : Index := 13#32
  let c0_251 : Index := 0#32
  ![v701.toNat, 13, 0]
def k0_off30 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v750 : Index := Scalar.indexCast v4
  let c14 : Index := 14#32
  let c0_266 : Index := 0#32
  let c0_267 : Index := 0#32
  ![v750.toNat, 14, 0, 0]
def k0_off31 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v753 : Index := Scalar.indexCast v4
  let c14_268 : Index := 14#32
  let c0_269 : Index := 0#32
  ![v753.toNat, 14, 0]
def k0_off32 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v802 : Index := Scalar.indexCast v4
  let c15 : Index := 15#32
  let c0_284 : Index := 0#32
  let c0_285 : Index := 0#32
  ![v802.toNat, 15, 0, 0]
def k0_off33 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v805 : Index := Scalar.indexCast v4
  let c15_286 : Index := 15#32
  let c0_287 : Index := 0#32
  ![v805.toNat, 15, 0]
def k0_off34 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v854 : Index := Scalar.indexCast v4
  let c16 : Index := 16#32
  let c0_302 : Index := 0#32
  let c0_303 : Index := 0#32
  ![v854.toNat, 16, 0, 0]
def k0_off35 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v857 : Index := Scalar.indexCast v4
  let c16_304 : Index := 16#32
  let c0_305 : Index := 0#32
  ![v857.toNat, 16, 0]
def k0_off36 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v906 : Index := Scalar.indexCast v4
  let c17 : Index := 17#32
  let c0_320 : Index := 0#32
  let c0_321 : Index := 0#32
  ![v906.toNat, 17, 0, 0]
def k0_off37 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v909 : Index := Scalar.indexCast v4
  let c17_322 : Index := 17#32
  let c0_323 : Index := 0#32
  ![v909.toNat, 17, 0]
def k0_off38 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v958 : Index := Scalar.indexCast v4
  let c18 : Index := 18#32
  let c0_338 : Index := 0#32
  let c0_339 : Index := 0#32
  ![v958.toNat, 18, 0, 0]
def k0_off39 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v961 : Index := Scalar.indexCast v4
  let c18_340 : Index := 18#32
  let c0_341 : Index := 0#32
  ![v961.toNat, 18, 0]
def k0_off40 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1010 : Index := Scalar.indexCast v4
  let c19 : Index := 19#32
  let c0_356 : Index := 0#32
  let c0_357 : Index := 0#32
  ![v1010.toNat, 19, 0, 0]
def k0_off41 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1013 : Index := Scalar.indexCast v4
  let c19_358 : Index := 19#32
  let c0_359 : Index := 0#32
  ![v1013.toNat, 19, 0]
def k0_off42 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1062 : Index := Scalar.indexCast v4
  let c20 : Index := 20#32
  let c0_374 : Index := 0#32
  let c0_375 : Index := 0#32
  ![v1062.toNat, 20, 0, 0]
def k0_off43 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1065 : Index := Scalar.indexCast v4
  let c20_376 : Index := 20#32
  let c0_377 : Index := 0#32
  ![v1065.toNat, 20, 0]
def k0_off44 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1114 : Index := Scalar.indexCast v4
  let c21 : Index := 21#32
  let c0_392 : Index := 0#32
  let c0_393 : Index := 0#32
  ![v1114.toNat, 21, 0, 0]
def k0_off45 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1117 : Index := Scalar.indexCast v4
  let c21_394 : Index := 21#32
  let c0_395 : Index := 0#32
  ![v1117.toNat, 21, 0]
def k0_off46 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1166 : Index := Scalar.indexCast v4
  let c22 : Index := 22#32
  let c0_410 : Index := 0#32
  let c0_411 : Index := 0#32
  ![v1166.toNat, 22, 0, 0]
def k0_off47 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1169 : Index := Scalar.indexCast v4
  let c22_412 : Index := 22#32
  let c0_413 : Index := 0#32
  ![v1169.toNat, 22, 0]
def k0_off48 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1218 : Index := Scalar.indexCast v4
  let c23 : Index := 23#32
  let c0_428 : Index := 0#32
  let c0_429 : Index := 0#32
  ![v1218.toNat, 23, 0, 0]
def k0_off49 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1221 : Index := Scalar.indexCast v4
  let c23_430 : Index := 23#32
  let c0_431 : Index := 0#32
  ![v1221.toNat, 23, 0]
def k0_off50 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1270 : Index := Scalar.indexCast v4
  let c24 : Index := 24#32
  let c0_446 : Index := 0#32
  let c0_447 : Index := 0#32
  ![v1270.toNat, 24, 0, 0]
def k0_off51 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1273 : Index := Scalar.indexCast v4
  let c24_448 : Index := 24#32
  let c0_449 : Index := 0#32
  ![v1273.toNat, 24, 0]
def k0_off52 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1322 : Index := Scalar.indexCast v4
  let c25 : Index := 25#32
  let c0_464 : Index := 0#32
  let c0_465 : Index := 0#32
  ![v1322.toNat, 25, 0, 0]
def k0_off53 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1325 : Index := Scalar.indexCast v4
  let c25_466 : Index := 25#32
  let c0_467 : Index := 0#32
  ![v1325.toNat, 25, 0]
def k0_off54 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1374 : Index := Scalar.indexCast v4
  let c26 : Index := 26#32
  let c0_482 : Index := 0#32
  let c0_483 : Index := 0#32
  ![v1374.toNat, 26, 0, 0]
def k0_off55 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1377 : Index := Scalar.indexCast v4
  let c26_484 : Index := 26#32
  let c0_485 : Index := 0#32
  ![v1377.toNat, 26, 0]
def k0_off56 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1426 : Index := Scalar.indexCast v4
  let c27 : Index := 27#32
  let c0_500 : Index := 0#32
  let c0_501 : Index := 0#32
  ![v1426.toNat, 27, 0, 0]
def k0_off57 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1429 : Index := Scalar.indexCast v4
  let c27_502 : Index := 27#32
  let c0_503 : Index := 0#32
  ![v1429.toNat, 27, 0]
def k0_off58 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1478 : Index := Scalar.indexCast v4
  let c28 : Index := 28#32
  let c0_518 : Index := 0#32
  let c0_519 : Index := 0#32
  ![v1478.toNat, 28, 0, 0]
def k0_off59 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1481 : Index := Scalar.indexCast v4
  let c28_520 : Index := 28#32
  let c0_521 : Index := 0#32
  ![v1481.toNat, 28, 0]
def k0_off60 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1530 : Index := Scalar.indexCast v4
  let c29 : Index := 29#32
  let c0_536 : Index := 0#32
  let c0_537 : Index := 0#32
  ![v1530.toNat, 29, 0, 0]
def k0_off61 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1533 : Index := Scalar.indexCast v4
  let c29_538 : Index := 29#32
  let c0_539 : Index := 0#32
  ![v1533.toNat, 29, 0]
def k0_off62 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1582 : Index := Scalar.indexCast v4
  let c30 : Index := 30#32
  let c0_554 : Index := 0#32
  let c0_555 : Index := 0#32
  ![v1582.toNat, 30, 0, 0]
def k0_off63 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1585 : Index := Scalar.indexCast v4
  let c30_556 : Index := 30#32
  let c0_557 : Index := 0#32
  ![v1585.toNat, 30, 0]
def k0_off64 (k0_t1 : Fin k0_t1_loop.trips) : Fin 4 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1634 : Index := Scalar.indexCast v4
  let c31 : Index := 31#32
  let c0_572 : Index := 0#32
  let c0_573 : Index := 0#32
  ![v1634.toNat, 31, 0, 0]
def k0_off65 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1637 : Index := Scalar.indexCast v4
  let c31_574 : Index := 31#32
  let c0_575 : Index := 0#32
  ![v1637.toNat, 31, 0]
def k0_off66 (k0_t1 : Fin k0_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k0_t1
  let v4 : BitVec 32 := Scalar.subi c15_i32 arg17
  let v1696 : Index := Scalar.indexCast v4
  let c0_590 : Index := 0#32
  let c0_591 : Index := 0#32
  ![v1696.toNat, 0, 0]
def cc0_transform_0 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 4 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2x2064x32x64 : Shape := ⟨4, ![2, 2064, 32, 64]⟩
abbrev S2064x2x32x64x64 : Shape := ⟨5, ![2064, 2, 32, 64, 64]⟩
abbrev S2064x2x32x64 : Shape := ⟨4, ![2064, 2, 32, 64]⟩
abbrev S_ : Shape := ⟨0, ![]⟩
abbrev S2x32x64x64 : Shape := ⟨4, ![2, 32, 64, 64]⟩
abbrev S1x2x32x64x64 : Shape := ⟨5, ![1, 2, 32, 64, 64]⟩
abbrev S1x2x32x64 : Shape := ⟨4, ![1, 2, 32, 64]⟩
abbrev S2x32x64 : Shape := ⟨3, ![2, 32, 64]⟩
abbrev S2x32x1x64 : Shape := ⟨4, ![2, 32, 1, 64]⟩
abbrev S2x32x64x1 : Shape := ⟨4, ![2, 32, 64, 1]⟩

abbrev nBuf : Space → Nat
  | .hbm => 212
  | .vmem => 0
  | .smem => 0
  | _ => 0

abbrev hbmTy0_0 (i : Nat) : BufTy := match i % 128 with
  | 0 => ⟨S2x2064x32x64, .f32⟩
  | 1 => ⟨S2x2064x32x64, .f32⟩
  | 2 => ⟨S2x2064x32x64, .f32⟩
  | 3 => ⟨S2x2064x32x64, .f32⟩
  | 4 => ⟨S2x2064x32x64, .f32⟩
  | 5 => ⟨S2x2064x32x64, .f32⟩
  | 6 => ⟨S2x2064x32x64, .f32⟩
  | 7 => ⟨S2064x2x32x64x64, .f32⟩
  | 8 => ⟨S2064x2x32x64, .f32⟩
  | 9 => ⟨S2064x2x32x64, .f32⟩
  | 10 => ⟨S2064x2x32x64, .f32⟩
  | 11 => ⟨S2064x2x32x64, .f32⟩
  | 12 => ⟨S2064x2x32x64, .f32⟩
  | 13 => ⟨S2064x2x32x64, .f32⟩
  | 14 => ⟨S_, .f32⟩
  | 15 => ⟨S2x32x64x64, .f32⟩
  | 16 => ⟨S2064x2x32x64, .f32⟩
  | 17 => ⟨S_, .f32⟩
  | 18 => ⟨S2064x2x32x64, .f32⟩
  | 19 => ⟨S_, .f32⟩
  | 20 => ⟨S2064x2x32x64, .f32⟩
  | 21 => ⟨S_, .f32⟩
  | 22 => ⟨S2064x2x32x64, .f32⟩
  | 23 => ⟨S_, .f32⟩
  | 24 => ⟨S2064x2x32x64, .f32⟩
  | 25 => ⟨S_, .f32⟩
  | 26 => ⟨S2064x2x32x64, .f32⟩
  | 27 => ⟨S_, .f32⟩
  | 28 => ⟨S2064x2x32x64, .f32⟩
  | 29 => ⟨S_, .i32⟩
  | 30 => ⟨S2064x2x32x64x64, .f32⟩
  | 31 => ⟨S2064x2x32x64, .f32⟩
  | 32 => ⟨S2064x2x32x64, .f32⟩
  | 33 => ⟨S2064x2x32x64, .f32⟩
  | 34 => ⟨S2064x2x32x64, .f32⟩
  | 35 => ⟨S2064x2x32x64, .f32⟩
  | 36 => ⟨S2064x2x32x64, .f32⟩
  | 37 => ⟨S2064x2x32x64, .f32⟩
  | 38 => ⟨S_, .i32⟩
  | 39 => ⟨S2x32x64x64, .f32⟩
  | 40 => ⟨S2064x2x32x64, .f32⟩
  | 41 => ⟨S2064x2x32x64, .f32⟩
  | 42 => ⟨S2064x2x32x64, .f32⟩
  | 43 => ⟨S2064x2x32x64, .f32⟩
  | 44 => ⟨S2064x2x32x64, .f32⟩
  | 45 => ⟨S2064x2x32x64, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S1x2x32x64x64, .f32⟩
  | 57 => ⟨S2x32x64x64, .f32⟩
  | 58 => ⟨S_, .i32⟩
  | 59 => ⟨S_, .i32⟩
  | 60 => ⟨S_, .i32⟩
  | 61 => ⟨S1x2x32x64, .f32⟩
  | 62 => ⟨S2x32x64, .f32⟩
  | 63 => ⟨S_, .i32⟩
  | 64 => ⟨S_, .i32⟩
  | 65 => ⟨S_, .i32⟩
  | 66 => ⟨S1x2x32x64, .f32⟩
  | 67 => ⟨S2x32x64, .f32⟩
  | 68 => ⟨S_, .i32⟩
  | 69 => ⟨S_, .i32⟩
  | 70 => ⟨S_, .i32⟩
  | 71 => ⟨S1x2x32x64, .f32⟩
  | 72 => ⟨S2x32x64, .f32⟩
  | 73 => ⟨S_, .i32⟩
  | 74 => ⟨S_, .i32⟩
  | 75 => ⟨S_, .i32⟩
  | 76 => ⟨S1x2x32x64, .f32⟩
  | 77 => ⟨S2x32x64, .f32⟩
  | 78 => ⟨S_, .i32⟩
  | 79 => ⟨S_, .i32⟩
  | 80 => ⟨S_, .i32⟩
  | 81 => ⟨S1x2x32x64, .f32⟩
  | 82 => ⟨S2x32x64, .f32⟩
  | 83 => ⟨S_, .i32⟩
  | 84 => ⟨S_, .i32⟩
  | 85 => ⟨S_, .i32⟩
  | 86 => ⟨S1x2x32x64, .f32⟩
  | 87 => ⟨S2x32x64, .f32⟩
  | 88 => ⟨S_, .i32⟩
  | 89 => ⟨S_, .i32⟩
  | 90 => ⟨S_, .i32⟩
  | 91 => ⟨S1x2x32x64, .f32⟩
  | 92 => ⟨S2x32x64, .f32⟩
  | 93 => ⟨S2x32x1x64, .f32⟩
  | 94 => ⟨S2x32x64x64, .f32⟩
  | 95 => ⟨S2x32x64x64, .f32⟩
  | 96 => ⟨S_, .f32⟩
  | 97 => ⟨S2x32x64, .f32⟩
  | 98 => ⟨S2x32x1x64, .f32⟩
  | 99 => ⟨S2x32x64x64, .f32⟩
  | 100 => ⟨S2x32x64x64, .f32⟩
  | 101 => ⟨S2x32x64x1, .f32⟩
  | 102 => ⟨S2x32x1x64, .f32⟩
  | 103 => ⟨S2x32x64x64, .f32⟩
  | 104 => ⟨S2x32x64x64, .f32⟩
  | 105 => ⟨S2x32x64x64, .f32⟩
  | 106 => ⟨S2x32x64x64, .f32⟩
  | 107 => ⟨S2x32x64x1, .f32⟩
  | 108 => ⟨S2x32x1x64, .f32⟩
  | 109 => ⟨S2x32x64x64, .f32⟩
  | 110 => ⟨S2x32x64x64, .f32⟩
  | 111 => ⟨S2x32x64x64, .f32⟩
  | 112 => ⟨S2x32x64x64, .f32⟩
  | 113 => ⟨S2x32x1x64, .f32⟩
  | 114 => ⟨S2x32x64x64, .f32⟩
  | 115 => ⟨S2x32x64x64, .f32⟩
  | 116 => ⟨S_, .f32⟩
  | 117 => ⟨S2x32x64, .f32⟩
  | 118 => ⟨S2x32x64x64, .f32⟩
  | 119 => ⟨S2x32x64x64, .f32⟩
  | 120 => ⟨S_, .f32⟩
  | 121 => ⟨S2x32x64, .f32⟩
  | 122 => ⟨S2x32x1x64, .f32⟩
  | 123 => ⟨S2x32x64x64, .f32⟩
  | 124 => ⟨S2x32x64x64, .f32⟩
  | 125 => ⟨S2x32x64x64, .f32⟩
  | 126 => ⟨S_, .f32⟩
  | 127 => ⟨S2x32x64, .f32⟩
  | _ => ⟨S2x2064x32x64, .f32⟩

abbrev hbmTy0_1 (i : Nat) : BufTy := match i % 128 with
  | 0 => ⟨S2x32x64x64, .f32⟩
  | 1 => ⟨S2x32x64x64, .f32⟩
  | 2 => ⟨S_, .f32⟩
  | 3 => ⟨S2x32x64, .f32⟩
  | 4 => ⟨S2x32x1x64, .f32⟩
  | 5 => ⟨S2x32x64x64, .f32⟩
  | 6 => ⟨S2x32x64x64, .f32⟩
  | 7 => ⟨S_, .f32⟩
  | 8 => ⟨S2x32x64, .f32⟩
  | 9 => ⟨S2x32x64x1, .f32⟩
  | 10 => ⟨S_, .f32⟩
  | 11 => ⟨S2x32x64, .f32⟩
  | 12 => ⟨S_, .f32⟩
  | 13 => ⟨S2x32x64, .f32⟩
  | 14 => ⟨S2x32x64x64, .f32⟩
  | 15 => ⟨S2x32x64x64, .f32⟩
  | 16 => ⟨S_, .f32⟩
  | 17 => ⟨S2x32x64, .f32⟩
  | 18 => ⟨S2x32x1x64, .f32⟩
  | 19 => ⟨S2x32x64x64, .f32⟩
  | 20 => ⟨S2x32x64x64, .f32⟩
  | 21 => ⟨S_, .f32⟩
  | 22 => ⟨S2x32x64, .f32⟩
  | 23 => ⟨S2x32x64x1, .f32⟩
  | 24 => ⟨S_, .f32⟩
  | 25 => ⟨S2x32x64, .f32⟩
  | 26 => ⟨S_, .f32⟩
  | 27 => ⟨S2x32x64, .f32⟩
  | 28 => ⟨S2x32x64x64, .f32⟩
  | 29 => ⟨S_, .f32⟩
  | 30 => ⟨S2x32x64, .f32⟩
  | 31 => ⟨S2x32x1x64, .f32⟩
  | 32 => ⟨S2x32x64x64, .f32⟩
  | 33 => ⟨S2x32x64x64, .f32⟩
  | 34 => ⟨S_, .f32⟩
  | 35 => ⟨S2x32x64, .f32⟩
  | 36 => ⟨S2x32x64x64, .f32⟩
  | 37 => ⟨S2x32x64x64, .f32⟩
  | 38 => ⟨S_, .f32⟩
  | 39 => ⟨S2x32x64, .f32⟩
  | 40 => ⟨S2x32x1x64, .f32⟩
  | 41 => ⟨S2x32x64x64, .f32⟩
  | 42 => ⟨S2x32x64x64, .f32⟩
  | 43 => ⟨S2x32x64x64, .f32⟩
  | 44 => ⟨S_, .f32⟩
  | 45 => ⟨S2x32x64, .f32⟩
  | 46 => ⟨S1x2x32x64, .f32⟩
  | 47 => ⟨S_, .i32⟩
  | 48 => ⟨S_, .i32⟩
  | 49 => ⟨S_, .i32⟩
  | 50 => ⟨S2064x2x32x64, .f32⟩
  | 51 => ⟨S1x2x32x64, .f32⟩
  | 52 => ⟨S_, .i32⟩
  | 53 => ⟨S_, .i32⟩
  | 54 => ⟨S_, .i32⟩
  | 55 => ⟨S2064x2x32x64, .f32⟩
  | 56 => ⟨S1x2x32x64, .f32⟩
  | 57 => ⟨S_, .i32⟩
  | 58 => ⟨S_, .i32⟩
  | 59 => ⟨S_, .i32⟩
  | 60 => ⟨S2064x2x32x64, .f32⟩
  | 61 => ⟨S1x2x32x64, .f32⟩
  | 62 => ⟨S_, .i32⟩
  | 63 => ⟨S_, .i32⟩
  | 64 => ⟨S_, .i32⟩
  | 65 => ⟨S2064x2x32x64, .f32⟩
  | 66 => ⟨S1x2x32x64, .f32⟩
  | 67 => ⟨S_, .i32⟩
  | 68 => ⟨S_, .i32⟩
  | 69 => ⟨S_, .i32⟩
  | 70 => ⟨S2064x2x32x64, .f32⟩
  | 71 => ⟨S1x2x32x64, .f32⟩
  | 72 => ⟨S_, .i32⟩
  | 73 => ⟨S_, .i32⟩
  | 74 => ⟨S_, .i32⟩
  | 75 => ⟨S2064x2x32x64, .f32⟩
  | 76 => ⟨S_, .i32⟩
  | 77 => ⟨S_, .i32⟩
  | 78 => ⟨S2x2064x32x64, .f32⟩
  | 79 => ⟨S2x2064x32x64, .f32⟩
  | 80 => ⟨S2x2064x32x64, .f32⟩
  | 81 => ⟨S2x2064x32x64, .f32⟩
  | 82 => ⟨S2x2064x32x64, .f32⟩
  | 83 => ⟨S2x2064x32x64, .f32⟩
  | _ => ⟨S2x2064x32x64, .f32⟩

abbrev hbmTy (i : Nat) : BufTy := match i / 128 with
  | 0 => hbmTy0_0 i
  | 1 => hbmTy0_1 i
  | _ => ⟨S2x2064x32x64, .f32⟩

abbrev bufTy : (tb : Table) → Fin (tcTables nBuf tb) → BufTy
  | .hbm, ⟨i, _⟩ => hbmTy i
  | _, _ => ⟨S2x2064x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_c : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v14_6 : Ref sig .tc := ⟨.hbm, 36, rfl⟩
abbrev main_v14_7 : Ref sig .tc := ⟨.hbm, 37, rfl⟩
abbrev main_v14_8 : Ref sig .tc := ⟨.hbm, 38, rfl⟩
abbrev main_v14_9 : Ref sig .tc := ⟨.hbm, 39, rfl⟩
abbrev main_v14_10 : Ref sig .tc := ⟨.hbm, 40, rfl⟩
abbrev main_v14_11 : Ref sig .tc := ⟨.hbm, 41, rfl⟩
abbrev main_v14_12 : Ref sig .tc := ⟨.hbm, 42, rfl⟩
abbrev main_v14_13 : Ref sig .tc := ⟨.hbm, 43, rfl⟩
abbrev main_v14_14 : Ref sig .tc := ⟨.hbm, 44, rfl⟩
abbrev main_v14_15 : Ref sig .tc := ⟨.hbm, 45, rfl⟩
abbrev main_while0c_c_21 : Ref sig .tc := ⟨.hbm, 46, rfl⟩
abbrev main_while0c_v21 : Ref sig .tc := ⟨.hbm, 47, rfl⟩
abbrev main_while0b_c_21 : Ref sig .tc := ⟨.hbm, 48, rfl⟩
abbrev main_while0b_v21 : Ref sig .tc := ⟨.hbm, 49, rfl⟩
abbrev main_while0b_c_22 : Ref sig .tc := ⟨.hbm, 50, rfl⟩
abbrev main_while0b_v22 : Ref sig .tc := ⟨.hbm, 51, rfl⟩
abbrev main_while0b_call0_c : Ref sig .tc := ⟨.hbm, 52, rfl⟩
abbrev main_while0b_call0_c_0 : Ref sig .tc := ⟨.hbm, 53, rfl⟩
abbrev main_while0b_call0_c_1 : Ref sig .tc := ⟨.hbm, 54, rfl⟩
abbrev main_while0b_call0_c_2 : Ref sig .tc := ⟨.hbm, 55, rfl⟩
abbrev main_while0b_call0_v0 : Ref sig .tc := ⟨.hbm, 56, rfl⟩
abbrev main_while0b_v23 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_c_1 : Ref sig .tc := ⟨.hbm, 60, rfl⟩
abbrev main_while0b_call1_v0 : Ref sig .tc := ⟨.hbm, 61, rfl⟩
abbrev main_while0b_v24 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_v0 : Ref sig .tc := ⟨.hbm, 66, rfl⟩
abbrev main_while0b_v25 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_call3_v0 : Ref sig .tc := ⟨.hbm, 71, rfl⟩
abbrev main_while0b_v26 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_c_1 : Ref sig .tc := ⟨.hbm, 75, rfl⟩
abbrev main_while0b_call4_v0 : Ref sig .tc := ⟨.hbm, 76, rfl⟩
abbrev main_while0b_v27 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_c_1 : Ref sig .tc := ⟨.hbm, 80, rfl⟩
abbrev main_while0b_call5_v0 : Ref sig .tc := ⟨.hbm, 81, rfl⟩
abbrev main_while0b_v28 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_v0 : Ref sig .tc := ⟨.hbm, 86, rfl⟩
abbrev main_while0b_v29 : Ref sig .tc := ⟨.hbm, 87, rfl⟩
abbrev main_while0b_call7_c : Ref sig .tc := ⟨.hbm, 88, rfl⟩
abbrev main_while0b_call7_c_0 : Ref sig .tc := ⟨.hbm, 89, rfl⟩
abbrev main_while0b_call7_c_1 : Ref sig .tc := ⟨.hbm, 90, rfl⟩
abbrev main_while0b_call7_v0 : Ref sig .tc := ⟨.hbm, 91, rfl⟩
abbrev main_while0b_v30 : Ref sig .tc := ⟨.hbm, 92, rfl⟩
abbrev main_while0b_v31 : Ref sig .tc := ⟨.hbm, 93, rfl⟩
abbrev main_while0b_v32 : Ref sig .tc := ⟨.hbm, 94, rfl⟩
abbrev main_while0b_v33 : Ref sig .tc := ⟨.hbm, 95, rfl⟩
abbrev main_while0b_cst_23 : Ref sig .tc := ⟨.hbm, 96, rfl⟩
abbrev main_while0b_v34 : Ref sig .tc := ⟨.hbm, 97, rfl⟩
abbrev main_while0b_v35 : Ref sig .tc := ⟨.hbm, 98, rfl⟩
abbrev main_while0b_v36 : Ref sig .tc := ⟨.hbm, 99, rfl⟩
abbrev main_while0b_v37 : Ref sig .tc := ⟨.hbm, 100, rfl⟩
abbrev main_while0b_v38 : Ref sig .tc := ⟨.hbm, 101, rfl⟩
abbrev main_while0b_v39 : Ref sig .tc := ⟨.hbm, 102, rfl⟩
abbrev main_while0b_v40 : Ref sig .tc := ⟨.hbm, 103, rfl⟩
abbrev main_while0b_v41 : Ref sig .tc := ⟨.hbm, 104, rfl⟩
abbrev main_while0b_v42 : Ref sig .tc := ⟨.hbm, 105, rfl⟩
abbrev main_while0b_v43 : Ref sig .tc := ⟨.hbm, 106, rfl⟩
abbrev main_while0b_v44 : Ref sig .tc := ⟨.hbm, 107, rfl⟩
abbrev main_while0b_v45 : Ref sig .tc := ⟨.hbm, 108, rfl⟩
abbrev main_while0b_v46 : Ref sig .tc := ⟨.hbm, 109, rfl⟩
abbrev main_while0b_v47 : Ref sig .tc := ⟨.hbm, 110, rfl⟩
abbrev main_while0b_v48 : Ref sig .tc := ⟨.hbm, 111, rfl⟩
abbrev main_while0b_v49 : Ref sig .tc := ⟨.hbm, 112, rfl⟩
abbrev main_while0b_v50 : Ref sig .tc := ⟨.hbm, 113, rfl⟩
abbrev main_while0b_v51 : Ref sig .tc := ⟨.hbm, 114, rfl⟩
abbrev main_while0b_v52 : Ref sig .tc := ⟨.hbm, 115, rfl⟩
abbrev main_while0b_cst_24 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_cst_25 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_cst_26 : Ref sig .tc := ⟨.hbm, 126, rfl⟩
abbrev main_while0b_v61 : Ref sig .tc := ⟨.hbm, 127, rfl⟩
abbrev main_while0b_v62 : Ref sig .tc := ⟨.hbm, 128, rfl⟩
abbrev main_while0b_v63 : Ref sig .tc := ⟨.hbm, 129, rfl⟩
abbrev main_while0b_cst_27 : Ref sig .tc := ⟨.hbm, 130, rfl⟩
abbrev main_while0b_v64 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_cst_28 : Ref sig .tc := ⟨.hbm, 135, rfl⟩
abbrev main_while0b_v68 : Ref sig .tc := ⟨.hbm, 136, rfl⟩
abbrev main_while0b_v69 : Ref sig .tc := ⟨.hbm, 137, rfl⟩
abbrev main_while0b_cst_29 : Ref sig .tc := ⟨.hbm, 138, rfl⟩
abbrev main_while0b_v70 : Ref sig .tc := ⟨.hbm, 139, rfl⟩
abbrev main_while0b_cst_30 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_cst_31 : Ref sig .tc := ⟨.hbm, 144, rfl⟩
abbrev main_while0b_v74 : Ref sig .tc := ⟨.hbm, 145, rfl⟩
abbrev main_while0b_v75 : Ref sig .tc := ⟨.hbm, 146, rfl⟩
abbrev main_while0b_v76 : Ref sig .tc := ⟨.hbm, 147, rfl⟩
abbrev main_while0b_v77 : Ref sig .tc := ⟨.hbm, 148, rfl⟩
abbrev main_while0b_cst_32 : Ref sig .tc := ⟨.hbm, 149, rfl⟩
abbrev main_while0b_v78 : Ref sig .tc := ⟨.hbm, 150, rfl⟩
abbrev main_while0b_v79 : Ref sig .tc := ⟨.hbm, 151, rfl⟩
abbrev main_while0b_cst_33 : Ref sig .tc := ⟨.hbm, 152, rfl⟩
abbrev main_while0b_v80 : Ref sig .tc := ⟨.hbm, 153, rfl⟩
abbrev main_while0b_cst_34 : Ref sig .tc := ⟨.hbm, 154, rfl⟩
abbrev main_while0b_v81 : Ref sig .tc := ⟨.hbm, 155, rfl⟩
abbrev main_while0b_v82 : Ref sig .tc := ⟨.hbm, 156, rfl⟩
abbrev main_while0b_cst_35 : Ref sig .tc := ⟨.hbm, 157, rfl⟩
abbrev main_while0b_v83 : Ref sig .tc := ⟨.hbm, 158, rfl⟩
abbrev main_while0b_v84 : Ref sig .tc := ⟨.hbm, 159, rfl⟩
abbrev main_while0b_v85 : Ref sig .tc := ⟨.hbm, 160, rfl⟩
abbrev main_while0b_v86 : Ref sig .tc := ⟨.hbm, 161, rfl⟩
abbrev main_while0b_cst_36 : Ref sig .tc := ⟨.hbm, 162, rfl⟩
abbrev main_while0b_v87 : Ref sig .tc := ⟨.hbm, 163, rfl⟩
abbrev main_while0b_v88 : Ref sig .tc := ⟨.hbm, 164, rfl⟩
abbrev main_while0b_v89 : Ref sig .tc := ⟨.hbm, 165, rfl⟩
abbrev main_while0b_cst_37 : Ref sig .tc := ⟨.hbm, 166, rfl⟩
abbrev main_while0b_v90 : Ref sig .tc := ⟨.hbm, 167, rfl⟩
abbrev main_while0b_v91 : Ref sig .tc := ⟨.hbm, 168, rfl⟩
abbrev main_while0b_v92 : Ref sig .tc := ⟨.hbm, 169, rfl⟩
abbrev main_while0b_v93 : Ref sig .tc := ⟨.hbm, 170, rfl⟩
abbrev main_while0b_v94 : Ref sig .tc := ⟨.hbm, 171, rfl⟩
abbrev main_while0b_cst_38 : Ref sig .tc := ⟨.hbm, 172, rfl⟩
abbrev main_while0b_v95 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_call8_c_1 : Ref sig .tc := ⟨.hbm, 177, rfl⟩
abbrev main_while0b_v96 : Ref sig .tc := ⟨.hbm, 178, rfl⟩
abbrev main_while0b_call9_v0 : Ref sig .tc := ⟨.hbm, 179, rfl⟩
abbrev main_while0b_call9_c : Ref sig .tc := ⟨.hbm, 180, rfl⟩
abbrev main_while0b_call9_c_0 : Ref sig .tc := ⟨.hbm, 181, rfl⟩
abbrev main_while0b_call9_c_1 : Ref sig .tc := ⟨.hbm, 182, rfl⟩
abbrev main_while0b_v97 : Ref sig .tc := ⟨.hbm, 183, rfl⟩
abbrev main_while0b_call10_v0 : Ref sig .tc := ⟨.hbm, 184, rfl⟩
abbrev main_while0b_call10_c : Ref sig .tc := ⟨.hbm, 185, rfl⟩
abbrev main_while0b_call10_c_0 : Ref sig .tc := ⟨.hbm, 186, rfl⟩
abbrev main_while0b_call10_c_1 : Ref sig .tc := ⟨.hbm, 187, rfl⟩
abbrev main_while0b_v98 : Ref sig .tc := ⟨.hbm, 188, rfl⟩
abbrev main_while0b_call11_v0 : Ref sig .tc := ⟨.hbm, 189, rfl⟩
abbrev main_while0b_call11_c : Ref sig .tc := ⟨.hbm, 190, rfl⟩
abbrev main_while0b_call11_c_0 : Ref sig .tc := ⟨.hbm, 191, rfl⟩
abbrev main_while0b_call11_c_1 : Ref sig .tc := ⟨.hbm, 192, rfl⟩
abbrev main_while0b_v99 : Ref sig .tc := ⟨.hbm, 193, rfl⟩
abbrev main_while0b_call12_v0 : Ref sig .tc := ⟨.hbm, 194, rfl⟩
abbrev main_while0b_call12_c : Ref sig .tc := ⟨.hbm, 195, rfl⟩
abbrev main_while0b_call12_c_0 : Ref sig .tc := ⟨.hbm, 196, rfl⟩
abbrev main_while0b_call12_c_1 : Ref sig .tc := ⟨.hbm, 197, rfl⟩
abbrev main_while0b_v100 : Ref sig .tc := ⟨.hbm, 198, rfl⟩
abbrev main_while0b_call13_v0 : Ref sig .tc := ⟨.hbm, 199, rfl⟩
abbrev main_while0b_call13_c : Ref sig .tc := ⟨.hbm, 200, rfl⟩
abbrev main_while0b_call13_c_0 : Ref sig .tc := ⟨.hbm, 201, rfl⟩
abbrev main_while0b_call13_c_1 : Ref sig .tc := ⟨.hbm, 202, rfl⟩
abbrev main_while0b_v101 : Ref sig .tc := ⟨.hbm, 203, rfl⟩
abbrev main_while0b_c_39 : Ref sig .tc := ⟨.hbm, 204, rfl⟩
abbrev main_while0b_v102 : Ref sig .tc := ⟨.hbm, 205, rfl⟩
abbrev main_v15 : Ref sig .tc := ⟨.hbm, 206, rfl⟩
abbrev main_v16 : Ref sig .tc := ⟨.hbm, 207, rfl⟩
abbrev main_v17 : Ref sig .tc := ⟨.hbm, 208, rfl⟩
abbrev main_v18 : Ref sig .tc := ⟨.hbm, 209, rfl⟩
abbrev main_v19 : Ref sig .tc := ⟨.hbm, 210, rfl⟩
abbrev main_v20 : Ref sig .tc := ⟨.hbm, 211, rfl⟩

abbrev nD : Nat := 1
abbrev τ : Topo := Topo.v7x

variable {F : FTy → Type} [FloatOps F]

abbrev main_while0_count : Scf.Loop 32 := ⟨0#32, 2064#32, 1#32⟩
-- ==== Kernel2.lean ====
abbrev S4128x2048 : Shape := ⟨2, ![4128, 2048]⟩
abbrev S5632x2048 : Shape := ⟨2, ![5632, 2048]⟩
abbrev S4128x5632 : Shape := ⟨2, ![4128, 5632]⟩
abbrev S688x1024 : Shape := ⟨2, ![688, 1024]⟩
abbrev S1408x1024 : Shape := ⟨2, ![1408, 1024]⟩
abbrev S688x1408 : Shape := ⟨2, ![688, 1408]⟩

abbrev nBuf : Space → Nat
  | .hbm => 6
  | .vmem => 13
  | .smem => 0
  | _ => 0

abbrev bufTy : (tb : Table) → Fin (tcTables nBuf tb) → BufTy
  | .hbm, ⟨0, _⟩ => ⟨S4128x2048, .bf16⟩
  | .hbm, ⟨1, _⟩ => ⟨S5632x2048, .bf16⟩
  | .hbm, ⟨2, _⟩ => ⟨S4128x5632, .f32⟩
  | .hbm, ⟨3, _⟩ => ⟨S4128x5632, .f32⟩
  | .hbm, ⟨4, _⟩ => ⟨S4128x5632, .bf16⟩
  | .hbm, ⟨5, _⟩ => ⟨S4128x5632, .bf16⟩
  | .local _ .vmem, ⟨0, _⟩ => ⟨S688x1024, .bf16⟩
  | .local _ .vmem, ⟨1, _⟩ => ⟨S688x1024, .bf16⟩
  | .local _ .vmem, ⟨2, _⟩ => ⟨S1408x1024, .bf16⟩
  | .local _ .vmem, ⟨3, _⟩ => ⟨S1408x1024, .bf16⟩
  | .local _ .vmem, ⟨4, _⟩ => ⟨S688x1408, .f32⟩
  | .local _ .vmem, ⟨5, _⟩ => ⟨S688x1408, .f32⟩
  | .local _ .vmem, ⟨6, _⟩ => ⟨S688x1408, .f32⟩
  | .local _ .vmem, ⟨7, _⟩ => ⟨S688x1408, .f32⟩
  | .local _ .vmem, ⟨8, _⟩ => ⟨S688x1408, .bf16⟩
  | .local _ .vmem, ⟨9, _⟩ => ⟨S688x1408, .bf16⟩
  | .local _ .vmem, ⟨10, _⟩ => ⟨S688x1408, .bf16⟩
  | .local _ .vmem, ⟨11, _⟩ => ⟨S688x1408, .bf16⟩
  | .local _ .vmem, ⟨12, _⟩ => ⟨S688x1408, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S688x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S688x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S688x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4128x2048 : Shape := ⟨2, ![4128, 2048]⟩
abbrev S5632x2048 : Shape := ⟨2, ![5632, 2048]⟩
abbrev S4128x5632 : Shape := ⟨2, ![4128, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S5632x2048, .bf16⟩
  | .hbm, ⟨2, _⟩ => ⟨S4128x5632, .f32⟩
  | .hbm, ⟨3, _⟩ => ⟨S4128x5632, .f32⟩
  | .hbm, ⟨4, _⟩ => ⟨S5632x2048, .f32⟩
  | .hbm, ⟨5, _⟩ => ⟨S4128x5632, .f32⟩
  | .hbm, ⟨6, _⟩ => ⟨S4128x5632, .f32⟩
  | .hbm, ⟨7, _⟩ => ⟨S_, .f32⟩
  | .hbm, ⟨8, _⟩ => ⟨S4128x5632, .f32⟩
  | .hbm, ⟨9, _⟩ => ⟨S4128x5632, .f32⟩
  | .hbm, ⟨10, _⟩ => ⟨S_, .f32⟩
  | .hbm, ⟨11, _⟩ => ⟨S4128x5632, .f32⟩
  | .hbm, ⟨12, _⟩ => ⟨S4128x5632, .f32⟩
  | .hbm, ⟨13, _⟩ => ⟨S_, .f32⟩
  | .hbm, ⟨14, _⟩ => ⟨S4128x5632, .f32⟩
  | .hbm, ⟨15, _⟩ => ⟨S4128x5632, .f32⟩
  | .hbm, ⟨16, _⟩ => ⟨S4128x5632, .f32⟩
  | .hbm, ⟨17, _⟩ => ⟨S4128x5632, .f32⟩
  | .hbm, ⟨18, _⟩ => ⟨S4128x5632, .f32⟩
  | .hbm, ⟨19, _⟩ => ⟨S4128x2048, .f32⟩
  | .hbm, ⟨20, _⟩ => ⟨S4128x2048, .f32⟩
  | .hbm, ⟨21, _⟩ => ⟨S4128x5632, .f32⟩
  | .hbm, ⟨22, _⟩ => ⟨S4128x5632, .f32⟩
  | .hbm, ⟨23, _⟩ => ⟨S4128x5632, .f32⟩
  | .hbm, ⟨24, _⟩ => ⟨S4128x5632, .f32⟩
  | .hbm, ⟨25, _⟩ => ⟨S4128x5632, .f32⟩
  | .hbm, ⟨26, _⟩ => ⟨S4128x5632, .f32⟩
  | .hbm, ⟨27, _⟩ => ⟨S4128x5632, .f32⟩
  | .hbm, ⟨28, _⟩ => ⟨S4128x5632, .bf16⟩
  | .hbm, ⟨29, _⟩ => ⟨S4128x5632, .bf16⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S4128x5632 : Shape := ⟨2, ![4128, 5632]⟩
abbrev S4128x2048 : Shape := ⟨2, ![4128, 2048]⟩
abbrev S5632x2048 : Shape := ⟨2, ![5632, 2048]⟩
abbrev S688x1408 : Shape := ⟨2, ![688, 1408]⟩
abbrev S688x1024 : Shape := ⟨2, ![688, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x5632, .bf16⟩
  | .hbm, ⟨1, _⟩ => ⟨S4128x2048, .bf16⟩
  | .hbm, ⟨2, _⟩ => ⟨S5632x2048, .f32⟩
  | .local _ .vmem, ⟨0, _⟩ => ⟨S688x1408, .bf16⟩
  | .local _ .vmem, ⟨1, _⟩ => ⟨S688x1408, .bf16⟩
  | .local _ .vmem, ⟨2, _⟩ => ⟨S688x1024, .bf16⟩
  | .local _ .vmem, ⟨3, _⟩ => ⟨S688x1024, .bf16⟩
  | .local _ .vmem, ⟨4, _⟩ => ⟨S1408x1024, .f32⟩
  | .local _ .vmem, ⟨5, _⟩ => ⟨S1408x1024, .f32⟩
  | _, _ => ⟨S4128x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4128x5632 : Shape := ⟨2, ![4128, 5632]⟩
abbrev S4128x2048 : Shape := ⟨2, ![4128, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4128x5632, .bf16⟩
  | .hbm, ⟨1, _⟩ => ⟨S4128x2048, .bf16⟩
  | .hbm, ⟨2, _⟩ => ⟨S_, .f32⟩
  | .hbm, ⟨3, _⟩ => ⟨S5632x2048, .f32⟩
  | .hbm, ⟨4, _⟩ => ⟨S4128x5632, .f32⟩
  | .hbm, ⟨5, _⟩ => ⟨S4128x2048, .f32⟩
  | .hbm, ⟨6, _⟩ => ⟨S4128x2048, .f32⟩
  | .hbm, ⟨7, _⟩ => ⟨S2048x5632, .f32⟩
  | .hbm, ⟨8, _⟩ => ⟨S5632x2048, .f32⟩
  | _, _ => ⟨S4128x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4128x2048 : Shape := ⟨2, ![4128, 2048]⟩
abbrev S4128x5632 : Shape := ⟨2, ![4128, 5632]⟩
abbrev S4x2048x1408 : Shape := ⟨3, ![4, 2048, 1408]⟩
abbrev S688x1024 : Shape := ⟨2, ![688, 1024]⟩
abbrev S688x1408 : Shape := ⟨2, ![688, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S4128x5632, .bf16⟩
  | .hbm, ⟨2, _⟩ => ⟨S4x2048x1408, .f32⟩
  | .local _ .vmem, ⟨0, _⟩ => ⟨S688x1024, .bf16⟩
  | .local _ .vmem, ⟨1, _⟩ => ⟨S688x1024, .bf16⟩
  | .local _ .vmem, ⟨2, _⟩ => ⟨S688x1408, .bf16⟩
  | .local _ .vmem, ⟨3, _⟩ => ⟨S688x1408, .bf16⟩
  | .local _ .vmem, ⟨4, _⟩ => ⟨S1x1024x1408, .f32⟩
  | .local _ .vmem, ⟨5, _⟩ => ⟨S1x1024x1408, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4128x2048 : Shape := ⟨2, ![4128, 2048]⟩
abbrev S4128x5632 : Shape := ⟨2, ![4128, 5632]⟩
abbrev S_ : Shape := ⟨0, ![]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S2048x5632 : Shape := ⟨2, ![2048, 5632]⟩
abbrev S5632x2048 : Shape := ⟨2, ![5632, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S4128x5632, .bf16⟩
  | .hbm, ⟨2, _⟩ => ⟨S_, .f32⟩
  | .hbm, ⟨3, _⟩ => ⟨S4x2048x1408, .f32⟩
  | .hbm, ⟨4, _⟩ => ⟨S4128x2048, .f32⟩
  | .hbm, ⟨5, _⟩ => ⟨S1x2048x1408, .f32⟩
  | .hbm, ⟨6, _⟩ => ⟨S2048x1408, .f32⟩
  | .hbm, ⟨7, _⟩ => ⟨S1x2048x1408, .f32⟩
  | .hbm, ⟨8, _⟩ => ⟨S2048x1408, .f32⟩
  | .hbm, ⟨9, _⟩ => ⟨S1x2048x1408, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S2048x5632, .f32⟩
  | .hbm, ⟨14, _⟩ => ⟨S4128x5632, .f32⟩
  | .hbm, ⟨15, _⟩ => ⟨S4128x5632, .f32⟩
  | .hbm, ⟨16, _⟩ => ⟨S5632x2048, .f32⟩
  | .hbm, ⟨17, _⟩ => ⟨S2048x5632, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S1x2048x1408, .f32⟩
  | .hbm, ⟨23, _⟩ => ⟨S_, .f32⟩
  | .hbm, ⟨24, _⟩ => ⟨S4x2048x1408, .f32⟩
  | .hbm, ⟨25, _⟩ => ⟨S1x2048x1408, .f32⟩
  | .hbm, ⟨26, _⟩ => ⟨S_, .f32⟩
  | .hbm, ⟨27, _⟩ => ⟨S4x2048x1408, .f32⟩
  | .hbm, ⟨28, _⟩ => ⟨S4x2048x1408, .f32⟩
  | .hbm, ⟨29, _⟩ => ⟨S1x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S1x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel5.lean ====
abbrev S4128x5632 : Shape := ⟨2, ![4128, 5632]⟩
abbrev S4x2048x1408 : Shape := ⟨3, ![4, 2048, 1408]⟩
abbrev S4128x2048 : Shape := ⟨2, ![4128, 2048]⟩
abbrev S1376x1408 : Shape := ⟨2, ![1376, 1408]⟩
abbrev S1x1024x1408 : Shape := ⟨3, ![1, 1024, 1408]⟩
abbrev S1376x1024 : Shape := ⟨2, ![1376, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4128x5632, .bf16⟩
  | .hbm, ⟨1, _⟩ => ⟨S4x2048x1408, .bf16⟩
  | .hbm, ⟨2, _⟩ => ⟨S4128x2048, .f32⟩
  | .local _ .vmem, ⟨0, _⟩ => ⟨S1376x1408, .bf16⟩
  | .local _ .vmem, ⟨1, _⟩ => ⟨S1376x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1376x1024, .f32⟩
  | .local _ .vmem, ⟨5, _⟩ => ⟨S1376x1024, .f32⟩
  | _, _ => ⟨S4128x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4128x5632 : Shape := ⟨2, ![4128, 5632]⟩
abbrev S4x2048x1408 : Shape := ⟨3, ![4, 2048, 1408]⟩
abbrev S_ : Shape := ⟨0, ![]⟩
abbrev S4128x2048 : Shape := ⟨2, ![4128, 2048]⟩
abbrev S1x2048x1408 : Shape := ⟨3, ![1, 2048, 1408]⟩
abbrev S2048x1408 : Shape := ⟨2, ![2048, 1408]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4128x5632, .bf16⟩
  | .hbm, ⟨1, _⟩ => ⟨S4x2048x1408, .bf16⟩
  | .hbm, ⟨2, _⟩ => ⟨S_, .f32⟩
  | .hbm, ⟨3, _⟩ => ⟨S4128x2048, .f32⟩
  | .hbm, ⟨4, _⟩ => ⟨S1x2048x1408, .bf16⟩
  | .hbm, ⟨5, _⟩ => ⟨S2048x1408, .bf16⟩
  | .hbm, ⟨6, _⟩ => ⟨S1x2048x1408, .bf16⟩
  | .hbm, ⟨7, _⟩ => ⟨S2048x1408, .bf16⟩
  | .hbm, ⟨8, _⟩ => ⟨S1x2048x1408, .bf16⟩
  | .hbm, ⟨9, _⟩ => ⟨S2048x1408, .bf16⟩
  | .hbm, ⟨10, _⟩ => ⟨S1x2048x1408, .bf16⟩
  | .hbm, ⟨11, _⟩ => ⟨S2048x1408, .bf16⟩
  | .hbm, ⟨12, _⟩ => ⟨S2048x5632, .bf16⟩
  | .hbm, ⟨13, _⟩ => ⟨S2048x5632, .f32⟩
  | .hbm, ⟨14, _⟩ => ⟨S4128x5632, .f32⟩
  | .hbm, ⟨15, _⟩ => ⟨S4128x5632, .f32⟩
  | .hbm, ⟨16, _⟩ => ⟨S4128x2048, .f32⟩
  | _, _ => ⟨S4128x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S4128x5632 : Shape := ⟨2, ![4128, 5632]⟩
abbrev S4x2048x1408 : Shape := ⟨3, ![4, 2048, 1408]⟩
abbrev S4128x2048 : Shape := ⟨2, ![4128, 2048]⟩
abbrev S1376x1408 : Shape := ⟨2, ![1376, 1408]⟩
abbrev S1x1024x1408 : Shape := ⟨3, ![1, 1024, 1408]⟩
abbrev S1376x1024 : Shape := ⟨2, ![1376, 1024]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4128x5632, .bf16⟩
  | .hbm, ⟨1, _⟩ => ⟨S4x2048x1408, .bf16⟩
  | .hbm, ⟨2, _⟩ => ⟨S4128x2048, .f32⟩
  | .hbm, ⟨3, _⟩ => ⟨S4128x2048, .f32⟩
  | .local _ .vmem, ⟨0, _⟩ => ⟨S1376x1408, .bf16⟩
  | .local _ .vmem, ⟨1, _⟩ => ⟨S1376x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1376x1024, .f32⟩
  | .local _ .vmem, ⟨5, _⟩ => ⟨S1376x1024, .f32⟩
  | .local _ .vmem, ⟨6, _⟩ => ⟨S1376x1024, .f32⟩
  | .local _ .vmem, ⟨7, _⟩ => ⟨S1376x1024, .f32⟩
  | _, _ => ⟨S4128x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4128x5632 : Shape := ⟨2, ![4128, 5632]⟩
abbrev S4x2048x1408 : Shape := ⟨3, ![4, 2048, 1408]⟩
abbrev S4128x2048 : Shape := ⟨2, ![4128, 2048]⟩
abbrev S_ : Shape := ⟨0, ![]⟩
abbrev S1x2048x1408 : Shape := ⟨3, ![1, 2048, 1408]⟩
abbrev S2048x1408 : Shape := ⟨2, ![2048, 1408]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4128x5632, .bf16⟩
  | .hbm, ⟨1, _⟩ => ⟨S4x2048x1408, .bf16⟩
  | .hbm, ⟨2, _⟩ => ⟨S4128x2048, .f32⟩
  | .hbm, ⟨3, _⟩ => ⟨S_, .f32⟩
  | .hbm, ⟨4, _⟩ => ⟨S4128x2048, .f32⟩
  | .hbm, ⟨5, _⟩ => ⟨S1x2048x1408, .bf16⟩
  | .hbm, ⟨6, _⟩ => ⟨S2048x1408, .bf16⟩
  | .hbm, ⟨7, _⟩ => ⟨S1x2048x1408, .bf16⟩
  | .hbm, ⟨8, _⟩ => ⟨S2048x1408, .bf16⟩
  | .hbm, ⟨9, _⟩ => ⟨S1x2048x1408, .bf16⟩
  | .hbm, ⟨10, _⟩ => ⟨S2048x1408, .bf16⟩
  | .hbm, ⟨11, _⟩ => ⟨S1x2048x1408, .bf16⟩
  | .hbm, ⟨12, _⟩ => ⟨S2048x1408, .bf16⟩
  | .hbm, ⟨13, _⟩ => ⟨S2048x5632, .bf16⟩
  | .hbm, ⟨14, _⟩ => ⟨S2048x5632, .f32⟩
  | .hbm, ⟨15, _⟩ => ⟨S4128x5632, .f32⟩
  | .hbm, ⟨16, _⟩ => ⟨S4128x5632, .f32⟩
  | .hbm, ⟨17, _⟩ => ⟨S4128x2048, .f32⟩
  | .hbm, ⟨18, _⟩ => ⟨S4128x2048, .f32⟩
  | _, _ => ⟨S4128x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel7.lean ====
abbrev S4128x2048 : Shape := ⟨2, ![4128, 2048]⟩
abbrev S1x2048 : Shape := ⟨2, ![1, 2048]⟩
abbrev S96x2048 : Shape := ⟨2, ![96, 2048]⟩
abbrev S96 : Shape := ⟨1, ![96]⟩
abbrev S96x1 : Shape := ⟨2, ![96, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4128x2048, .f32⟩
  | .hbm, ⟨1, _⟩ => ⟨S4128x2048, .f32⟩
  | .hbm, ⟨2, _⟩ => ⟨S4128x2048, .f32⟩
  | .hbm, ⟨3, _⟩ => ⟨S1x2048, .f32⟩
  | .hbm, ⟨4, _⟩ => ⟨S4128x2048, .f32⟩
  | .hbm, ⟨5, _⟩ => ⟨S1x2048, .f32⟩
  | .local _ .vmem, ⟨0, _⟩ => ⟨S96x2048, .f32⟩
  | .local _ .vmem, ⟨1, _⟩ => ⟨S96x2048, .f32⟩
  | .local _ .vmem, ⟨2, _⟩ => ⟨S96x2048, .f32⟩
  | .local _ .vmem, ⟨3, _⟩ => ⟨S96x2048, .f32⟩
  | .local _ .vmem, ⟨4, _⟩ => ⟨S96x2048, .f32⟩
  | .local _ .vmem, ⟨5, _⟩ => ⟨S96x2048, .f32⟩
  | .local _ .vmem, ⟨6, _⟩ => ⟨S1x2048, .f32⟩
  | .local _ .vmem, ⟨7, _⟩ => ⟨S96x2048, .f32⟩
  | .local _ .vmem, ⟨8, _⟩ => ⟨S96x2048, .f32⟩
  | .local _ .vmem, ⟨9, _⟩ => ⟨S1x2048, .f32⟩
  | _, _ => ⟨S4128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 43], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S96x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S96x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S96x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S96x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference7Ideal.lean ====
abbrev S4128x2048 : Shape := ⟨2, ![4128, 2048]⟩
abbrev S1x2048 : Shape := ⟨2, ![1, 2048]⟩
abbrev S_ : Shape := ⟨0, ![]⟩
abbrev S4128 : Shape := ⟨1, ![4128]⟩
abbrev S4128x1 : Shape := ⟨2, ![4128, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4128x2048, .f32⟩
  | .hbm, ⟨1, _⟩ => ⟨S4128x2048, .f32⟩
  | .hbm, ⟨2, _⟩ => ⟨S4128x2048, .f32⟩
  | .hbm, ⟨3, _⟩ => ⟨S1x2048, .f32⟩
  | .hbm, ⟨4, _⟩ => ⟨S4128x2048, .f32⟩
  | .hbm, ⟨5, _⟩ => ⟨S_, .f32⟩
  | .hbm, ⟨6, _⟩ => ⟨S4128, .f32⟩
  | .hbm, ⟨7, _⟩ => ⟨S4128x1, .f32⟩
  | .hbm, ⟨8, _⟩ => ⟨S_, .f32⟩
  | .hbm, ⟨9, _⟩ => ⟨S4128x1, .f32⟩
  | .hbm, ⟨10, _⟩ => ⟨S4128x1, .f32⟩
  | .hbm, ⟨11, _⟩ => ⟨S_, .f32⟩
  | .hbm, ⟨12, _⟩ => ⟨S4128x1, .f32⟩
  | .hbm, ⟨13, _⟩ => ⟨S4128x1, .f32⟩
  | .hbm, ⟨14, _⟩ => ⟨S4128x1, .f32⟩
  | .hbm, ⟨15, _⟩ => ⟨S4128x1, .f32⟩
  | .hbm, ⟨16, _⟩ => ⟨S_, .f32⟩
  | .hbm, ⟨17, _⟩ => ⟨S4128x1, .f32⟩
  | .hbm, ⟨18, _⟩ => ⟨S4128x1, .f32⟩
  | .hbm, ⟨19, _⟩ => ⟨S4128x2048, .f32⟩
  | .hbm, ⟨20, _⟩ => ⟨S4128x2048, .f32⟩
  | .hbm, ⟨21, _⟩ => ⟨S4128x2048, .f32⟩
  | .hbm, ⟨22, _⟩ => ⟨S4128x2048, .f32⟩
  | .hbm, ⟨23, _⟩ => ⟨S4128x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4128x2048, .f32⟩
  | .hbm, ⟨28, _⟩ => ⟨S4128x2048, .f32⟩
  | .hbm, ⟨29, _⟩ => ⟨S4128x2048, .f32⟩
  | .hbm, ⟨30, _⟩ => ⟨S_, .f32⟩
  | .hbm, ⟨31, _⟩ => ⟨S4128, .f32⟩
  | .hbm, ⟨32, _⟩ => ⟨S4128x1, .f32⟩
  | .hbm, ⟨33, _⟩ => ⟨S4128x2048, .f32⟩
  | .hbm, ⟨34, _⟩ => ⟨S4128x2048, .f32⟩
  | .hbm, ⟨35, _⟩ => ⟨S4128x1, .f32⟩
  | .hbm, ⟨36, _⟩ => ⟨S_, .f32⟩
  | .hbm, ⟨37, _⟩ => ⟨S4128x1, .f32⟩
  | .hbm, ⟨38, _⟩ => ⟨S4128x1, .f32⟩
  | .hbm, ⟨39, _⟩ => ⟨S_, .f32⟩
  | .hbm, ⟨40, _⟩ => ⟨S4128, .f32⟩
  | .hbm, ⟨41, _⟩ => ⟨S4128x2048, .f32⟩
  | .hbm, ⟨42, _⟩ => ⟨S4128x2048, .f32⟩
  | .hbm, ⟨43, _⟩ => ⟨S4128x2048, .f32⟩
  | .hbm, ⟨44, _⟩ => ⟨S4128x2048, .f32⟩
  | .hbm, ⟨45, _⟩ => ⟨S4128x2048, .f32⟩
  | .hbm, ⟨46, _⟩ => ⟨S4128x2048, .f32⟩
  | _, _ => ⟨S4128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel8.lean ====
abbrev S4128x2048 : Shape := ⟨2, ![4128, 2048]⟩
abbrev S4x2048x1408 : Shape := ⟨3, ![4, 2048, 1408]⟩
abbrev S4128x5632 : Shape := ⟨2, ![4128, 5632]⟩
abbrev S688x1024 : Shape := ⟨2, ![688, 1024]⟩
abbrev S1x1024x1408 : Shape := ⟨3, ![1, 1024, 1408]⟩
abbrev S688x1408 : Shape := ⟨2, ![688, 1408]⟩
abbrev S1024x1408 : Shape := ⟨2, ![1024, 1408]⟩

abbrev nBuf : Space → Nat
  | .hbm => 6
  | .vmem => 14
  | .smem => 0
  | _ => 0

abbrev bufTy : (tb : Table) → Fin (tcTables nBuf tb) → BufTy
  | .hbm, ⟨0, _⟩ => ⟨S4128x2048, .bf16⟩
  | .hbm, ⟨1, _⟩ => ⟨S4x2048x1408, .bf16⟩
  | .hbm, ⟨2, _⟩ => ⟨S4x2048x1408, .bf16⟩
  | .hbm, ⟨3, _⟩ => ⟨S4128x5632, .f32⟩
  | .hbm, ⟨4, _⟩ => ⟨S4128x5632, .f32⟩
  | .hbm, ⟨5, _⟩ => ⟨S4128x5632, .bf16⟩
  | .local _ .vmem, ⟨0, _⟩ => ⟨S688x1024, .bf16⟩
  | .local _ .vmem, ⟨1, _⟩ => ⟨S688x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S688x1408, .f32⟩
  | .local _ .vmem, ⟨7, _⟩ => ⟨S688x1408, .f32⟩
  | .local _ .vmem, ⟨8, _⟩ => ⟨S688x1408, .f32⟩
  | .local _ .vmem, ⟨9, _⟩ => ⟨S688x1408, .f32⟩
  | .local _ .vmem, ⟨10, _⟩ => ⟨S688x1408, .bf16⟩
  | .local _ .vmem, ⟨11, _⟩ => ⟨S688x1408, .bf16⟩
  | .local _ .vmem, ⟨12, _⟩ => ⟨S688x1408, .f32⟩
  | .local _ .vmem, ⟨13, _⟩ => ⟨S688x1408, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 4, 2], ![false, false, false]⟩

def k0_cond2 (i : grid0.Coords) : BitVec 1 :=
  let arg2 : BitVec 32 := BitVec.ofNat 32 (i 2).val
  let c1_i32 : BitVec 32 := 1#32
  let v20 : BitVec 1 := Scalar.cmpi .eq arg2 c1_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S688x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S688x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S688x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S4128x2048 : Shape := ⟨2, ![4128, 2048]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S2048x5632 : Shape := ⟨2, ![2048, 5632]⟩
abbrev S4128x5632 : Shape := ⟨2, ![4128, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S4x2048x1408, .bf16⟩
  | .hbm, ⟨2, _⟩ => ⟨S4x2048x1408, .bf16⟩
  | .hbm, ⟨3, _⟩ => ⟨S4128x2048, .f32⟩
  | .hbm, ⟨4, _⟩ => ⟨S1x2048x1408, .bf16⟩
  | .hbm, ⟨5, _⟩ => ⟨S2048x1408, .bf16⟩
  | .hbm, ⟨6, _⟩ => ⟨S1x2048x1408, .bf16⟩
  | .hbm, ⟨7, _⟩ => ⟨S2048x1408, .bf16⟩
  | .hbm, ⟨8, _⟩ => ⟨S1x2048x1408, .bf16⟩
  | .hbm, ⟨9, _⟩ => ⟨S2048x1408, .bf16⟩
  | .hbm, ⟨10, _⟩ => ⟨S1x2048x1408, .bf16⟩
  | .hbm, ⟨11, _⟩ => ⟨S2048x1408, .bf16⟩
  | .hbm, ⟨12, _⟩ => ⟨S2048x5632, .bf16⟩
  | .hbm, ⟨13, _⟩ => ⟨S2048x5632, .f32⟩
  | .hbm, ⟨14, _⟩ => ⟨S4128x5632, .f32⟩
  | .hbm, ⟨15, _⟩ => ⟨S4128x2048, .f32⟩
  | .hbm, ⟨16, _⟩ => ⟨S1x2048x1408, .bf16⟩
  | .hbm, ⟨17, _⟩ => ⟨S2048x1408, .bf16⟩
  | .hbm, ⟨18, _⟩ => ⟨S1x2048x1408, .bf16⟩
  | .hbm, ⟨19, _⟩ => ⟨S2048x1408, .bf16⟩
  | .hbm, ⟨20, _⟩ => ⟨S1x2048x1408, .bf16⟩
  | .hbm, ⟨21, _⟩ => ⟨S2048x1408, .bf16⟩
  | .hbm, ⟨22, _⟩ => ⟨S1x2048x1408, .bf16⟩
  | .hbm, ⟨23, _⟩ => ⟨S2048x1408, .bf16⟩
  | .hbm, ⟨24, _⟩ => ⟨S2048x5632, .bf16⟩
  | .hbm, ⟨25, _⟩ => ⟨S2048x5632, .f32⟩
  | .hbm, ⟨26, _⟩ => ⟨S4128x5632, .f32⟩
  | .hbm, ⟨27, _⟩ => ⟨S4128x5632, .f32⟩
  | .hbm, ⟨28, _⟩ => ⟨S4128x5632, .f32⟩
  | .hbm, ⟨29, _⟩ => ⟨S_, .f32⟩
  | .hbm, ⟨30, _⟩ => ⟨S4128x5632, .f32⟩
  | .hbm, ⟨31, _⟩ => ⟨S4128x5632, .f32⟩
  | .hbm, ⟨32, _⟩ => ⟨S_, .f32⟩
  | .hbm, ⟨33, _⟩ => ⟨S4128x5632, .f32⟩
  | .hbm, ⟨34, _⟩ => ⟨S4128x5632, .f32⟩
  | .hbm, ⟨35, _⟩ => ⟨S4128x5632, .f32⟩
  | .hbm, ⟨36, _⟩ => ⟨S4128x5632, .f32⟩
  | .hbm, ⟨37, _⟩ => ⟨S4128x5632, .bf16⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel9.lean ====
abbrev S4128x5632 : Shape := ⟨2, ![4128, 5632]⟩
abbrev S5632x2048 : Shape := ⟨2, ![5632, 2048]⟩
abbrev S4128x2048 : Shape := ⟨2, ![4128, 2048]⟩
abbrev S1376x1408 : Shape := ⟨2, ![1376, 1408]⟩
abbrev S1408x1024 : Shape := ⟨2, ![1408, 1024]⟩
abbrev S1376x1024 : Shape := ⟨2, ![1376, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4128x5632, .bf16⟩
  | .hbm, ⟨1, _⟩ => ⟨S5632x2048, .bf16⟩
  | .hbm, ⟨2, _⟩ => ⟨S4128x2048, .f32⟩
  | .hbm, ⟨3, _⟩ => ⟨S4128x2048, .f32⟩
  | .local _ .vmem, ⟨0, _⟩ => ⟨S1376x1408, .bf16⟩
  | .local _ .vmem, ⟨1, _⟩ => ⟨S1376x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1376x1024, .f32⟩
  | .local _ .vmem, ⟨5, _⟩ => ⟨S1376x1024, .f32⟩
  | .local _ .vmem, ⟨6, _⟩ => ⟨S1376x1024, .f32⟩
  | .local _ .vmem, ⟨7, _⟩ => ⟨S1376x1024, .f32⟩
  | _, _ => ⟨S4128x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4128x5632 : Shape := ⟨2, ![4128, 5632]⟩
abbrev S5632x2048 : Shape := ⟨2, ![5632, 2048]⟩
abbrev S4128x2048 : Shape := ⟨2, ![4128, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4128x5632, .bf16⟩
  | .hbm, ⟨1, _⟩ => ⟨S5632x2048, .bf16⟩
  | .hbm, ⟨2, _⟩ => ⟨S4128x2048, .f32⟩
  | .hbm, ⟨3, _⟩ => ⟨S4128x5632, .f32⟩
  | .hbm, ⟨4, _⟩ => ⟨S5632x2048, .f32⟩
  | .hbm, ⟨5, _⟩ => ⟨S4128x2048, .f32⟩
  | .hbm, ⟨6, _⟩ => ⟨S_, .f32⟩
  | .hbm, ⟨7, _⟩ => ⟨S4128x2048, .f32⟩
  | .hbm, ⟨8, _⟩ => ⟨S4128x2048, .f32⟩
  | .hbm, ⟨9, _⟩ => ⟨S4128x2048, .f32⟩
  | _, _ => ⟨S4128x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4128x2048 : Shape := ⟨2, ![4128, 2048]⟩
abbrev S4128x12288 : Shape := ⟨2, ![4128, 12288]⟩
abbrev S2048x12288 : Shape := ⟨2, ![2048, 12288]⟩
abbrev S688x1024 : Shape := ⟨2, ![688, 1024]⟩
abbrev S688x1536 : Shape := ⟨2, ![688, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S4128x12288, .bf16⟩
  | .hbm, ⟨2, _⟩ => ⟨S2048x12288, .f32⟩
  | .local _ .vmem, ⟨0, _⟩ => ⟨S688x1024, .bf16⟩
  | .local _ .vmem, ⟨1, _⟩ => ⟨S688x1024, .bf16⟩
  | .local _ .vmem, ⟨2, _⟩ => ⟨S688x1536, .bf16⟩
  | .local _ .vmem, ⟨3, _⟩ => ⟨S688x1536, .bf16⟩
  | .local _ .vmem, ⟨4, _⟩ => ⟨S1024x1536, .f32⟩
  | .local _ .vmem, ⟨5, _⟩ => ⟨S1024x1536, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4128x2048 : Shape := ⟨2, ![4128, 2048]⟩
abbrev S4128x12288 : Shape := ⟨2, ![4128, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S4128x12288, .bf16⟩
  | .hbm, ⟨2, _⟩ => ⟨S_, .f32⟩
  | .hbm, ⟨3, _⟩ => ⟨S2048x12288, .f32⟩
  | .hbm, ⟨4, _⟩ => ⟨S4128x2048, .f32⟩
  | .hbm, ⟨5, _⟩ => ⟨S4128x12288, .f32⟩
  | .hbm, ⟨6, _⟩ => ⟨S4128x12288, .f32⟩
  | .hbm, ⟨7, _⟩ => ⟨S12288x2048, .f32⟩
  | .hbm, ⟨8, _⟩ => ⟨S2048x12288, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4128x2048 : Shape := ⟨2, ![4128, 2048]⟩
abbrev S2048x12288 : Shape := ⟨2, ![2048, 12288]⟩
abbrev S4128x12288 : Shape := ⟨2, ![4128, 12288]⟩
abbrev S1376x1024 : Shape := ⟨2, ![1376, 1024]⟩
abbrev S1024x1536 : Shape := ⟨2, ![1024, 1536]⟩
abbrev S1376x1536 : Shape := ⟨2, ![1376, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S2048x12288, .bf16⟩
  | .hbm, ⟨2, _⟩ => ⟨S4128x12288, .f32⟩
  | .local _ .vmem, ⟨0, _⟩ => ⟨S1376x1024, .bf16⟩
  | .local _ .vmem, ⟨1, _⟩ => ⟨S1376x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1376x1536, .f32⟩
  | .local _ .vmem, ⟨5, _⟩ => ⟨S1376x1536, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4128x2048 : Shape := ⟨2, ![4128, 2048]⟩
abbrev S2048x12288 : Shape := ⟨2, ![2048, 12288]⟩
abbrev S4128x12288 : Shape := ⟨2, ![4128, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S2048x12288, .bf16⟩
  | .hbm, ⟨2, _⟩ => ⟨S4128x2048, .f32⟩
  | .hbm, ⟨3, _⟩ => ⟨S2048x12288, .f32⟩
  | .hbm, ⟨4, _⟩ => ⟨S4128x12288, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4128x2048 : Shape := ⟨2, ![4128, 2048]⟩
abbrev S2048x2048 : Shape := ⟨2, ![2048, 2048]⟩
abbrev S688x1024 : Shape := ⟨2, ![688, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S4128x2048, .bf16⟩
  | .hbm, ⟨2, _⟩ => ⟨S2048x2048, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1024x1024, .f32⟩
  | .local _ .vmem, ⟨5, _⟩ => ⟨S1024x1024, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4128x2048 : Shape := ⟨2, ![4128, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S4128x2048, .bf16⟩
  | .hbm, ⟨2, _⟩ => ⟨S_, .f32⟩
  | .hbm, ⟨3, _⟩ => ⟨S2048x2048, .f32⟩
  | .hbm, ⟨4, _⟩ => ⟨S4128x2048, .f32⟩
  | .hbm, ⟨5, _⟩ => ⟨S4128x2048, .f32⟩
  | .hbm, ⟨6, _⟩ => ⟨S4128x2048, .f32⟩
  | .hbm, ⟨7, _⟩ => ⟨S2048x2048, .f32⟩
  | .hbm, ⟨8, _⟩ => ⟨S2048x2048, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4128x2048 : Shape := ⟨2, ![4128, 2048]⟩
abbrev S2048x2048 : Shape := ⟨2, ![2048, 2048]⟩
abbrev S1376x1024 : Shape := ⟨2, ![1376, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S2048x2048, .bf16⟩
  | .hbm, ⟨2, _⟩ => ⟨S4128x2048, .f32⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1376x1024, .f32⟩
  | .local _ .vmem, ⟨5, _⟩ => ⟨S1376x1024, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4128x2048 : Shape := ⟨2, ![4128, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S2048x2048, .bf16⟩
  | .hbm, ⟨2, _⟩ => ⟨S_, .f32⟩
  | .hbm, ⟨3, _⟩ => ⟨S4128x2048, .f32⟩
  | .hbm, ⟨4, _⟩ => ⟨S2048x2048, .f32⟩
  | .hbm, ⟨5, _⟩ => ⟨S4128x2048, .f32⟩
  | .hbm, ⟨6, _⟩ => ⟨S4128x2048, .f32⟩
  | .hbm, ⟨7, _⟩ => ⟨S4128x2048, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4128x12288 : Shape := ⟨2, ![4128, 12288]⟩
abbrev S4128x2048 : Shape := ⟨2, ![4128, 2048]⟩
abbrev S688x512 : Shape := ⟨2, ![688, 512]⟩

abbrev nBuf : Space → Nat
  | .hbm => 8
  | .vmem => 18
  | .smem => 0
  | _ => 0

abbrev bufTy : (tb : Table) → Fin (tcTables nBuf tb) → BufTy
  | .hbm, ⟨0, _⟩ => ⟨S4128x12288, .f32⟩
  | .hbm, ⟨1, _⟩ => ⟨S4128x2048, .f32⟩
  | .hbm, ⟨2, _⟩ => ⟨S4128x2048, .f32⟩
  | .hbm, ⟨3, _⟩ => ⟨S4128x2048, .f32⟩
  | .hbm, ⟨4, _⟩ => ⟨S4128x2048, .bf16⟩
  | .hbm, ⟨5, _⟩ => ⟨S4128x2048, .bf16⟩
  | .hbm, ⟨6, _⟩ => ⟨S4128x2048, .f32⟩
  | .hbm, ⟨7, _⟩ => ⟨S4128x2048, .bf16⟩
  | .local _ .vmem, ⟨0, _⟩ => ⟨S688x512, .f32⟩
  | .local _ .vmem, ⟨1, _⟩ => ⟨S688x512, .f32⟩
  | .local _ .vmem, ⟨2, _⟩ => ⟨S688x512, .f32⟩
  | .local _ .vmem, ⟨3, _⟩ => ⟨S688x512, .f32⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S688x512, .f32⟩
  | .local _ .vmem, ⟨9, _⟩ => ⟨S688x512, .f32⟩
  | .local _ .vmem, ⟨10, _⟩ => ⟨S688x512, .bf16⟩
  | .local _ .vmem, ⟨11, _⟩ => ⟨S688x512, .bf16⟩
  | .local _ .vmem, ⟨12, _⟩ => ⟨S688x512, .bf16⟩
  | .local _ .vmem, ⟨13, _⟩ => ⟨S688x512, .bf16⟩
  | .local _ .vmem, ⟨14, _⟩ => ⟨S688x512, .f32⟩
  | .local _ .vmem, ⟨15, _⟩ => ⟨S688x512, .f32⟩
  | .local _ .vmem, ⟨16, _⟩ => ⟨S688x512, .bf16⟩
  | .local _ .vmem, ⟨17, _⟩ => ⟨S688x512, .bf16⟩
  | _, _ => ⟨S4128x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c12_i32 : BitVec 32 := 12#32
  let v1 : BitVec 32 := Scalar.addi c12_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c16_i32 : BitVec 32 := 16#32
  let v1 : BitVec 32 := Scalar.addi c16_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S4128x12288 : Shape := ⟨2, ![4128, 12288]⟩
abbrev S4128x2048 : Shape := ⟨2, ![4128, 2048]⟩
abbrev S4128x4096 : Shape := ⟨2, ![4128, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4128x12288, .f32⟩
  | .hbm, ⟨1, _⟩ => ⟨S4128x2048, .f32⟩
  | .hbm, ⟨2, _⟩ => ⟨S4128x2048, .f32⟩
  | .hbm, ⟨3, _⟩ => ⟨S4128x2048, .f32⟩
  | .hbm, ⟨4, _⟩ => ⟨S4128x4096, .f32⟩
  | .hbm, ⟨5, _⟩ => ⟨S4128x4096, .f32⟩
  | .hbm, ⟨6, _⟩ => ⟨S4128x4096, .f32⟩
  | .hbm, ⟨7, _⟩ => ⟨S_, .f32⟩
  | .hbm, ⟨8, _⟩ => ⟨S4128x4096, .f32⟩
  | .hbm, ⟨9, _⟩ => ⟨S4128x4096, .f32⟩
  | .hbm, ⟨10, _⟩ => ⟨S_, .f32⟩
  | .hbm, ⟨11, _⟩ => ⟨S4128x4096, .f32⟩
  | .hbm, ⟨12, _⟩ => ⟨S4128x4096, .f32⟩
  | .hbm, ⟨13, _⟩ => ⟨S_, .f32⟩
  | .hbm, ⟨14, _⟩ => ⟨S4128x4096, .f32⟩
  | .hbm, ⟨15, _⟩ => ⟨S4128x4096, .f32⟩
  | .hbm, ⟨16, _⟩ => ⟨S4128x4096, .f32⟩
  | .hbm, ⟨17, _⟩ => ⟨S4128x2048, .f32⟩
  | .hbm, ⟨18, _⟩ => ⟨S4128x2048, .f32⟩
  | .hbm, ⟨19, _⟩ => ⟨S4128x2048, .f32⟩
  | .hbm, ⟨20, _⟩ => ⟨S4128x2048, .f32⟩
  | .hbm, ⟨21, _⟩ => ⟨S4128x2048, .f32⟩
  | .hbm, ⟨22, _⟩ => ⟨S4128x2048, .f32⟩
  | .hbm, ⟨23, _⟩ => ⟨S4128x2048, .f32⟩
  | .hbm, ⟨24, _⟩ => ⟨S4128x2048, .f32⟩
  | .hbm, ⟨25, _⟩ => ⟨S4128x2048, .f32⟩
  | .hbm, ⟨26, _⟩ => ⟨S4128x2048, .f32⟩
  | .hbm, ⟨27, _⟩ => ⟨S4128x2048, .f32⟩
  | .hbm, ⟨28, _⟩ => ⟨S4128x4096, .f32⟩
  | .hbm, ⟨29, _⟩ => ⟨S4128x4096, .f32⟩
  | .hbm, ⟨30, _⟩ => ⟨S4128x2048, .f32⟩
  | .hbm, ⟨31, _⟩ => ⟨S4128x2048, .bf16⟩
  | .hbm, ⟨32, _⟩ => ⟨S4128x2048, .f32⟩
  | .hbm, ⟨33, _⟩ => ⟨S4128x2048, .bf16⟩
  | .hbm, ⟨34, _⟩ => ⟨S4128x2048, .bf16⟩
  | _, _ => ⟨S4128x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel15.lean ====
abbrev S4128x2048 : Shape := ⟨2, ![4128, 2048]⟩
abbrev S2048x2048 : Shape := ⟨2, ![2048, 2048]⟩
abbrev S1376x1024 : Shape := ⟨2, ![1376, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4128x2048, .bf16⟩
  | .hbm, ⟨1, _⟩ => ⟨S2048x2048, .bf16⟩
  | .hbm, ⟨2, _⟩ => ⟨S4128x2048, .f32⟩
  | .hbm, ⟨3, _⟩ => ⟨S4128x2048, .f32⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1376x1024, .f32⟩
  | .local _ .vmem, ⟨5, _⟩ => ⟨S1376x1024, .f32⟩
  | .local _ .vmem, ⟨6, _⟩ => ⟨S1376x1024, .f32⟩
  | .local _ .vmem, ⟨7, _⟩ => ⟨S1376x1024, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4128x2048 : Shape := ⟨2, ![4128, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S2048x2048, .bf16⟩
  | .hbm, ⟨2, _⟩ => ⟨S4128x2048, .f32⟩
  | .hbm, ⟨3, _⟩ => ⟨S4128x2048, .f32⟩
  | .hbm, ⟨4, _⟩ => ⟨S2048x2048, .f32⟩
  | .hbm, ⟨5, _⟩ => ⟨S4128x2048, .f32⟩
  | .hbm, ⟨6, _⟩ => ⟨S4128x2048, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4128x2048 : Shape := ⟨2, ![4128, 2048]⟩
abbrev S1x2048 : Shape := ⟨2, ![1, 2048]⟩
abbrev S96x2048 : Shape := ⟨2, ![96, 2048]⟩
abbrev S96 : Shape := ⟨1, ![96]⟩
abbrev S96x1 : Shape := ⟨2, ![96, 1]⟩

abbrev nBuf : Space → Nat
  | .hbm => 3
  | .vmem => 5
  | .smem => 0
  | _ => 0

abbrev bufTy : (tb : Table) → Fin (tcTables nBuf tb) → BufTy
  | .hbm, ⟨0, _⟩ => ⟨S4128x2048, .f32⟩
  | .hbm, ⟨1, _⟩ => ⟨S1x2048, .f32⟩
  | .hbm, ⟨2, _⟩ => ⟨S4128x2048, .bf16⟩
  | .local _ .vmem, ⟨0, _⟩ => ⟨S96x2048, .f32⟩
  | .local _ .vmem, ⟨1, _⟩ => ⟨S96x2048, .f32⟩
  | .local _ .vmem, ⟨2, _⟩ => ⟨S1x2048, .f32⟩
  | .local _ .vmem, ⟨3, _⟩ => ⟨S96x2048, .bf16⟩
  | .local _ .vmem, ⟨4, _⟩ => ⟨S96x2048, .bf16⟩
  | _, _ => ⟨S4128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 43], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S96x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S96x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4128x2048 : Shape := ⟨2, ![4128, 2048]⟩
abbrev S1x2048 : Shape := ⟨2, ![1, 2048]⟩
abbrev S_ : Shape := ⟨0, ![]⟩
abbrev S4128 : Shape := ⟨1, ![4128]⟩
abbrev S4128x1 : Shape := ⟨2, ![4128, 1]⟩

abbrev nBuf : Space → Nat
  | .hbm => 18
  | .vmem => 0
  | .smem => 0
  | _ => 0

abbrev bufTy : (tb : Table) → Fin (tcTables nBuf tb) → BufTy
  | .hbm, ⟨0, _⟩ => ⟨S4128x2048, .f32⟩
  | .hbm, ⟨1, _⟩ => ⟨S1x2048, .f32⟩
  | .hbm, ⟨2, _⟩ => ⟨S4128x2048, .f32⟩
  | .hbm, ⟨3, _⟩ => ⟨S_, .f32⟩
  | .hbm, ⟨4, _⟩ => ⟨S4128, .f32⟩
  | .hbm, ⟨5, _⟩ => ⟨S4128x1, .f32⟩
  | .hbm, ⟨6, _⟩ => ⟨S_, .f32⟩
  | .hbm, ⟨7, _⟩ => ⟨S4128x1, .f32⟩
  | .hbm, ⟨8, _⟩ => ⟨S4128x1, .f32⟩
  | .hbm, ⟨9, _⟩ => ⟨S_, .f32⟩
  | .hbm, ⟨10, _⟩ => ⟨S4128x1, .f32⟩
  | .hbm, ⟨11, _⟩ => ⟨S4128x1, .f32⟩
  | .hbm, ⟨12, _⟩ => ⟨S4128x1, .f32⟩
  | .hbm, ⟨13, _⟩ => ⟨S4128x2048, .f32⟩
  | .hbm, ⟨14, _⟩ => ⟨S4128x2048, .f32⟩
  | .hbm, ⟨15, _⟩ => ⟨S4128x2048, .f32⟩
  | .hbm, ⟨16, _⟩ => ⟨S4128x2048, .f32⟩
  | .hbm, ⟨17, _⟩ => ⟨S4128x2048, .bf16⟩
  | _, _ => ⟨S4128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S4128x12288 : Shape := ⟨2, ![4128, 12288]⟩
abbrev S4128x2048 : Shape := ⟨2, ![4128, 2048]⟩
abbrev S688x512 : Shape := ⟨2, ![688, 512]⟩

abbrev nBuf : Space → Nat
  | .hbm => 4
  | .vmem => 10
  | .smem => 0
  | _ => 0

abbrev bufTy : (tb : Table) → Fin (tcTables nBuf tb) → BufTy
  | .hbm, ⟨0, _⟩ => ⟨S4128x12288, .f32⟩
  | .hbm, ⟨1, _⟩ => ⟨S4128x2048, .f32⟩
  | .hbm, ⟨2, _⟩ => ⟨S4128x2048, .f32⟩
  | .hbm, ⟨3, _⟩ => ⟨S4128x2048, .bf16⟩
  | .local _ .vmem, ⟨0, _⟩ => ⟨S688x512, .f32⟩
  | .local _ .vmem, ⟨1, _⟩ => ⟨S688x512, .f32⟩
  | .local _ .vmem, ⟨2, _⟩ => ⟨S688x512, .f32⟩
  | .local _ .vmem, ⟨3, _⟩ => ⟨S688x512, .f32⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S688x512, .bf16⟩
  | .local _ .vmem, ⟨9, _⟩ => ⟨S688x512, .bf16⟩
  | _, _ => ⟨S4128x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c12_i32 : BitVec 32 := 12#32
  let v1 : BitVec 32 := Scalar.addi c12_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c16_i32 : BitVec 32 := 16#32
  let v1 : BitVec 32 := Scalar.addi c16_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S4128x12288 : Shape := ⟨2, ![4128, 12288]⟩
abbrev S4128x2048 : Shape := ⟨2, ![4128, 2048]⟩
abbrev S4128x4096 : Shape := ⟨2, ![4128, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4128x12288, .f32⟩
  | .hbm, ⟨1, _⟩ => ⟨S4128x2048, .f32⟩
  | .hbm, ⟨2, _⟩ => ⟨S4128x2048, .f32⟩
  | .hbm, ⟨3, _⟩ => ⟨S4128x4096, .f32⟩
  | .hbm, ⟨4, _⟩ => ⟨S4128x4096, .f32⟩
  | .hbm, ⟨5, _⟩ => ⟨S4128x4096, .f32⟩
  | .hbm, ⟨6, _⟩ => ⟨S_, .f32⟩
  | .hbm, ⟨7, _⟩ => ⟨S4128x4096, .f32⟩
  | .hbm, ⟨8, _⟩ => ⟨S4128x4096, .f32⟩
  | .hbm, ⟨9, _⟩ => ⟨S_, .f32⟩
  | .hbm, ⟨10, _⟩ => ⟨S4128x4096, .f32⟩
  | .hbm, ⟨11, _⟩ => ⟨S4128x4096, .f32⟩
  | .hbm, ⟨12, _⟩ => ⟨S4128x2048, .f32⟩
  | .hbm, ⟨13, _⟩ => ⟨S4128x2048, .f32⟩
  | .hbm, ⟨14, _⟩ => ⟨S4128x2048, .f32⟩
  | .hbm, ⟨15, _⟩ => ⟨S4128x2048, .f32⟩
  | .hbm, ⟨16, _⟩ => ⟨S4128x2048, .f32⟩
  | .hbm, ⟨17, _⟩ => ⟨S4128x2048, .bf16⟩
  | _, _ => ⟨S4128x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S4096x512 : Shape := ⟨2, ![4096, 512]⟩
abbrev S4096x2048 : Shape := ⟨2, ![4096, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4128x512 : Shape := ⟨2, ![4128, 512]⟩
abbrev S4128x2048 : Shape := ⟨2, ![4128, 2048]⟩
abbrev S512x2048 : Shape := ⟨2, ![512, 2048]⟩
abbrev S688x512 : Shape := ⟨2, ![688, 512]⟩
abbrev S688x1024 : Shape := ⟨2, ![688, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x512, .bf16⟩
  | .hbm, ⟨1, _⟩ => ⟨S4128x2048, .bf16⟩
  | .hbm, ⟨2, _⟩ => ⟨S512x2048, .f32⟩
  | .local _ .vmem, ⟨0, _⟩ => ⟨S688x512, .bf16⟩
  | .local _ .vmem, ⟨1, _⟩ => ⟨S688x512, .bf16⟩
  | .local _ .vmem, ⟨2, _⟩ => ⟨S688x1024, .bf16⟩
  | .local _ .vmem, ⟨3, _⟩ => ⟨S688x1024, .bf16⟩
  | .local _ .vmem, ⟨4, _⟩ => ⟨S512x1024, .f32⟩
  | .local _ .vmem, ⟨5, _⟩ => ⟨S512x1024, .f32⟩
  | _, _ => ⟨S4128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4128x512 : Shape := ⟨2, ![4128, 512]⟩
abbrev S4128x2048 : Shape := ⟨2, ![4128, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4128x512, .bf16⟩
  | .hbm, ⟨1, _⟩ => ⟨S4128x2048, .bf16⟩
  | .hbm, ⟨2, _⟩ => ⟨S_, .f32⟩
  | .hbm, ⟨3, _⟩ => ⟨S512x2048, .f32⟩
  | .hbm, ⟨4, _⟩ => ⟨S4128x512, .f32⟩
  | .hbm, ⟨5, _⟩ => ⟨S4128x2048, .f32⟩
  | .hbm, ⟨6, _⟩ => ⟨S4128x2048, .f32⟩
  | .hbm, ⟨7, _⟩ => ⟨S2048x512, .f32⟩
  | .hbm, ⟨8, _⟩ => ⟨S512x2048, .f32⟩
  | _, _ => ⟨S4128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S4096x2048 : Shape := ⟨2, ![4096, 2048]⟩
abbrev S512x2048 : Shape := ⟨2, ![512, 2048]⟩
abbrev S4096x512 : Shape := ⟨2, ![4096, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x2048 : Shape := ⟨2, ![4096, 2048]⟩
abbrev S512x2048 : Shape := ⟨2, ![512, 2048]⟩
abbrev S4096x512 : Shape := ⟨2, ![4096, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x2048 : Shape := ⟨2, ![4096, 2048]⟩
abbrev S512x2048 : Shape := ⟨2, ![512, 2048]⟩
abbrev S4096x512 : Shape := ⟨2, ![4096, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S512x2048, .f32⟩
  | .hbm, ⟨6, _⟩ => ⟨S4096x2048, .f32⟩
  | .hbm, ⟨7, _⟩ => ⟨S4096x2048, .f32⟩
  | .hbm, ⟨8, _⟩ => ⟨S4096x512, .f32⟩
  | .hbm, ⟨9, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel22.lean ====
abbrev S4128x2048 : Shape := ⟨2, ![4128, 2048]⟩
abbrev S512x2048 : Shape := ⟨2, ![512, 2048]⟩
abbrev S4128x512 : Shape := ⟨2, ![4128, 512]⟩
abbrev S1376x1024 : Shape := ⟨2, ![1376, 1024]⟩
abbrev S512x1024 : Shape := ⟨2, ![512, 1024]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S512x2048, .bf16⟩
  | .hbm, ⟨2, _⟩ => ⟨S4128x512, .f32⟩
  | .local _ .vmem, ⟨0, _⟩ => ⟨S1376x1024, .bf16⟩
  | .local _ .vmem, ⟨1, _⟩ => ⟨S1376x1024, .bf16⟩
  | .local _ .vmem, ⟨2, _⟩ => ⟨S512x1024, .bf16⟩
  | .local _ .vmem, ⟨3, _⟩ => ⟨S512x1024, .bf16⟩
  | .local _ .vmem, ⟨4, _⟩ => ⟨S1376x512, .f32⟩
  | .local _ .vmem, ⟨5, _⟩ => ⟨S1376x512, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4128x2048 : Shape := ⟨2, ![4128, 2048]⟩
abbrev S512x2048 : Shape := ⟨2, ![512, 2048]⟩
abbrev S_ : Shape := ⟨0, ![]⟩
abbrev S4128x512 : Shape := ⟨2, ![4128, 512]⟩

abbrev nBuf : Space → Nat
  | .hbm => 8
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S512x2048, .bf16⟩
  | .hbm, ⟨2, _⟩ => ⟨S_, .f32⟩
  | .hbm, ⟨3, _⟩ => ⟨S4128x512, .f32⟩
  | .hbm, ⟨4, _⟩ => ⟨S512x2048, .f32⟩
  | .hbm, ⟨5, _⟩ => ⟨S4128x2048, .f32⟩
  | .hbm, ⟨6, _⟩ => ⟨S4128x2048, .f32⟩
  | .hbm, ⟨7, _⟩ => ⟨S4128x512, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4128x2048 : Shape := ⟨2, ![4128, 2048]⟩
abbrev S512x2048 : Shape := ⟨2, ![512, 2048]⟩
abbrev S4128x512 : Shape := ⟨2, ![4128, 512]⟩
abbrev S1376x1024 : Shape := ⟨2, ![1376, 1024]⟩
abbrev S512x1024 : Shape := ⟨2, ![512, 1024]⟩
abbrev S1376x512 : Shape := ⟨2, ![1376, 512]⟩

abbrev nBuf : Space → Nat
  | .hbm => 4
  | .vmem => 8
  | .smem => 0
  | _ => 0

abbrev bufTy : (tb : Table) → Fin (tcTables nBuf tb) → BufTy
  | .hbm, ⟨0, _⟩ => ⟨S4128x2048, .bf16⟩
  | .hbm, ⟨1, _⟩ => ⟨S512x2048, .bf16⟩
  | .hbm, ⟨2, _⟩ => ⟨S4128x512, .f32⟩
  | .hbm, ⟨3, _⟩ => ⟨S4128x512, .f32⟩
  | .local _ .vmem, ⟨0, _⟩ => ⟨S1376x1024, .bf16⟩
  | .local _ .vmem, ⟨1, _⟩ => ⟨S1376x1024, .bf16⟩
  | .local _ .vmem, ⟨2, _⟩ => ⟨S512x1024, .bf16⟩
  | .local _ .vmem, ⟨3, _⟩ => ⟨S512x1024, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4128x2048 : Shape := ⟨2, ![4128, 2048]⟩
abbrev S512x2048 : Shape := ⟨2, ![512, 2048]⟩
abbrev S4128x512 : Shape := ⟨2, ![4128, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S512x2048, .bf16⟩
  | .hbm, ⟨2, _⟩ => ⟨S4128x512, .f32⟩
  | .hbm, ⟨3, _⟩ => ⟨S_, .f32⟩
  | .hbm, ⟨4, _⟩ => ⟨S4128x512, .f32⟩
  | .hbm, ⟨5, _⟩ => ⟨S512x2048, .f32⟩
  | .hbm, ⟨6, _⟩ => ⟨S4128x2048, .f32⟩
  | .hbm, ⟨7, _⟩ => ⟨S4128x2048, .f32⟩
  | .hbm, ⟨8, _⟩ => ⟨S4128x512, .f32⟩
  | .hbm, ⟨9, _⟩ => ⟨S4128x512, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel24.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S4128x512 : Shape := ⟨2, ![4128, 512]⟩
abbrev S512x2048 : Shape := ⟨2, ![512, 2048]⟩
abbrev S4128x2048 : Shape := ⟨2, ![4128, 2048]⟩
abbrev S1376x512 : Shape := ⟨2, ![1376, 512]⟩
abbrev S512x1024 : Shape := ⟨2, ![512, 1024]⟩
abbrev S1376x1024 : Shape := ⟨2, ![1376, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4128x512, .bf16⟩
  | .hbm, ⟨1, _⟩ => ⟨S512x2048, .bf16⟩
  | .hbm, ⟨2, _⟩ => ⟨S4128x2048, .bf16⟩
  | .local _ .vmem, ⟨0, _⟩ => ⟨S1376x512, .bf16⟩
  | .local _ .vmem, ⟨1, _⟩ => ⟨S1376x512, .bf16⟩
  | .local _ .vmem, ⟨2, _⟩ => ⟨S512x1024, .bf16⟩
  | .local _ .vmem, ⟨3, _⟩ => ⟨S512x1024, .bf16⟩
  | .local _ .vmem, ⟨4, _⟩ => ⟨S1376x1024, .bf16⟩
  | .local _ .vmem, ⟨5, _⟩ => ⟨S1376x1024, .bf16⟩
  | .local _ .vmem, ⟨6, _⟩ => ⟨S1376x1024, .f32⟩
  | _, _ => ⟨S4128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4128x512 : Shape := ⟨2, ![4128, 512]⟩
abbrev S512x2048 : Shape := ⟨2, ![512, 2048]⟩
abbrev S4128x2048 : Shape := ⟨2, ![4128, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4128x512, .bf16⟩
  | .hbm, ⟨1, _⟩ => ⟨S512x2048, .bf16⟩
  | .hbm, ⟨2, _⟩ => ⟨S4128x512, .f32⟩
  | .hbm, ⟨3, _⟩ => ⟨S512x2048, .f32⟩
  | .hbm, ⟨4, _⟩ => ⟨S4128x2048, .f32⟩
  | .hbm, ⟨5, _⟩ => ⟨S4128x2048, .bf16⟩
  | _, _ => ⟨S4128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S4128x128 : Shape := ⟨2, ![4128, 128]⟩
abbrev S128x2048 : Shape := ⟨2, ![128, 2048]⟩
abbrev S4128x2048 : Shape := ⟨2, ![4128, 2048]⟩
abbrev S1376x128 : Shape := ⟨2, ![1376, 128]⟩
abbrev S128x1024 : Shape := ⟨2, ![128, 1024]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x128, .bf16⟩
  | .hbm, ⟨1, _⟩ => ⟨S128x2048, .bf16⟩
  | .hbm, ⟨2, _⟩ => ⟨S4128x2048, .f32⟩
  | .local _ .vmem, ⟨0, _⟩ => ⟨S1376x128, .bf16⟩
  | .local _ .vmem, ⟨1, _⟩ => ⟨S1376x128, .bf16⟩
  | .local _ .vmem, ⟨2, _⟩ => ⟨S128x1024, .bf16⟩
  | .local _ .vmem, ⟨3, _⟩ => ⟨S128x1024, .bf16⟩
  | .local _ .vmem, ⟨4, _⟩ => ⟨S1376x1024, .f32⟩
  | .local _ .vmem, ⟨5, _⟩ => ⟨S1376x1024, .f32⟩
  | _, _ => ⟨S4128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4128x128 : Shape := ⟨2, ![4128, 128]⟩
abbrev S128x2048 : Shape := ⟨2, ![128, 2048]⟩
abbrev S4128x2048 : Shape := ⟨2, ![4128, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4128x128, .bf16⟩
  | .hbm, ⟨1, _⟩ => ⟨S128x2048, .bf16⟩
  | .hbm, ⟨2, _⟩ => ⟨S4128x128, .f32⟩
  | .hbm, ⟨3, _⟩ => ⟨S128x2048, .f32⟩
  | .hbm, ⟨4, _⟩ => ⟨S4128x2048, .f32⟩
  | _, _ => ⟨S4128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S4128x256 : Shape := ⟨2, ![4128, 256]⟩
abbrev S256x2048 : Shape := ⟨2, ![256, 2048]⟩
abbrev S4128x2048 : Shape := ⟨2, ![4128, 2048]⟩
abbrev S1376x256 : Shape := ⟨2, ![1376, 256]⟩
abbrev S256x1024 : Shape := ⟨2, ![256, 1024]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x256, .bf16⟩
  | .hbm, ⟨1, _⟩ => ⟨S256x2048, .bf16⟩
  | .hbm, ⟨2, _⟩ => ⟨S4128x2048, .f32⟩
  | .local _ .vmem, ⟨0, _⟩ => ⟨S1376x256, .bf16⟩
  | .local _ .vmem, ⟨1, _⟩ => ⟨S1376x256, .bf16⟩
  | .local _ .vmem, ⟨2, _⟩ => ⟨S256x1024, .bf16⟩
  | .local _ .vmem, ⟨3, _⟩ => ⟨S256x1024, .bf16⟩
  | .local _ .vmem, ⟨4, _⟩ => ⟨S1376x1024, .f32⟩
  | .local _ .vmem, ⟨5, _⟩ => ⟨S1376x1024, .f32⟩
  | _, _ => ⟨S4128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4128x256 : Shape := ⟨2, ![4128, 256]⟩
abbrev S256x2048 : Shape := ⟨2, ![256, 2048]⟩
abbrev S4128x2048 : Shape := ⟨2, ![4128, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4128x256, .bf16⟩
  | .hbm, ⟨1, _⟩ => ⟨S256x2048, .bf16⟩
  | .hbm, ⟨2, _⟩ => ⟨S4128x256, .f32⟩
  | .hbm, ⟨3, _⟩ => ⟨S256x2048, .f32⟩
  | .hbm, ⟨4, _⟩ => ⟨S4128x2048, .f32⟩
  | _, _ => ⟨S4128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel29.lean ====
abbrev S4128x128 : Shape := ⟨2, ![4128, 128]⟩
abbrev S4128x2048 : Shape := ⟨2, ![4128, 2048]⟩
abbrev S128x2048 : Shape := ⟨2, ![128, 2048]⟩
abbrev S688x128 : Shape := ⟨2, ![688, 128]⟩
abbrev S688x1024 : Shape := ⟨2, ![688, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x128, .bf16⟩
  | .hbm, ⟨1, _⟩ => ⟨S4128x2048, .bf16⟩
  | .hbm, ⟨2, _⟩ => ⟨S128x2048, .f32⟩
  | .local _ .vmem, ⟨0, _⟩ => ⟨S688x128, .bf16⟩
  | .local _ .vmem, ⟨1, _⟩ => ⟨S688x128, .bf16⟩
  | .local _ .vmem, ⟨2, _⟩ => ⟨S688x1024, .bf16⟩
  | .local _ .vmem, ⟨3, _⟩ => ⟨S688x1024, .bf16⟩
  | .local _ .vmem, ⟨4, _⟩ => ⟨S128x1024, .f32⟩
  | .local _ .vmem, ⟨5, _⟩ => ⟨S128x1024, .f32⟩
  | _, _ => ⟨S4128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4128x128 : Shape := ⟨2, ![4128, 128]⟩
abbrev S4128x2048 : Shape := ⟨2, ![4128, 2048]⟩
abbrev S_ : Shape := ⟨0, ![]⟩
abbrev S128x2048 : Shape := ⟨2, ![128, 2048]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S4128x128, .bf16⟩
  | .hbm, ⟨1, _⟩ => ⟨S4128x2048, .bf16⟩
  | .hbm, ⟨2, _⟩ => ⟨S_, .f32⟩
  | .hbm, ⟨3, _⟩ => ⟨S128x2048, .f32⟩
  | .hbm, ⟨4, _⟩ => ⟨S4128x128, .f32⟩
  | .hbm, ⟨5, _⟩ => ⟨S4128x2048, .f32⟩
  | .hbm, ⟨6, _⟩ => ⟨S4128x2048, .f32⟩
  | .hbm, ⟨7, _⟩ => ⟨S2048x128, .f32⟩
  | .hbm, ⟨8, _⟩ => ⟨S128x2048, .f32⟩
  | _, _ => ⟨S4128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel30.lean ====
abbrev S4128x2048 : Shape := ⟨2, ![4128, 2048]⟩
abbrev S128x2048 : Shape := ⟨2, ![128, 2048]⟩
abbrev S4128x128 : Shape := ⟨2, ![4128, 128]⟩
abbrev S1376x1024 : Shape := ⟨2, ![1376, 1024]⟩
abbrev S128x1024 : Shape := ⟨2, ![128, 1024]⟩
abbrev S1376x128 : Shape := ⟨2, ![1376, 128]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S128x2048, .bf16⟩
  | .hbm, ⟨2, _⟩ => ⟨S4128x128, .f32⟩
  | .local _ .vmem, ⟨0, _⟩ => ⟨S1376x1024, .bf16⟩
  | .local _ .vmem, ⟨1, _⟩ => ⟨S1376x1024, .bf16⟩
  | .local _ .vmem, ⟨2, _⟩ => ⟨S128x1024, .bf16⟩
  | .local _ .vmem, ⟨3, _⟩ => ⟨S128x1024, .bf16⟩
  | .local _ .vmem, ⟨4, _⟩ => ⟨S1376x128, .f32⟩
  | .local _ .vmem, ⟨5, _⟩ => ⟨S1376x128, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4128x2048 : Shape := ⟨2, ![4128, 2048]⟩
abbrev S128x2048 : Shape := ⟨2, ![128, 2048]⟩
abbrev S_ : Shape := ⟨0, ![]⟩
abbrev S4128x128 : Shape := ⟨2, ![4128, 128]⟩

abbrev nBuf : Space → Nat
  | .hbm => 8
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S128x2048, .bf16⟩
  | .hbm, ⟨2, _⟩ => ⟨S_, .f32⟩
  | .hbm, ⟨3, _⟩ => ⟨S4128x128, .f32⟩
  | .hbm, ⟨4, _⟩ => ⟨S128x2048, .f32⟩
  | .hbm, ⟨5, _⟩ => ⟨S4128x2048, .f32⟩
  | .hbm, ⟨6, _⟩ => ⟨S4128x2048, .f32⟩
  | .hbm, ⟨7, _⟩ => ⟨S4128x128, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S4128x256 : Shape := ⟨2, ![4128, 256]⟩
abbrev S4128x2048 : Shape := ⟨2, ![4128, 2048]⟩
abbrev S256x2048 : Shape := ⟨2, ![256, 2048]⟩
abbrev S688x256 : Shape := ⟨2, ![688, 256]⟩
abbrev S688x1024 : Shape := ⟨2, ![688, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x256, .bf16⟩
  | .hbm, ⟨1, _⟩ => ⟨S4128x2048, .bf16⟩
  | .hbm, ⟨2, _⟩ => ⟨S256x2048, .f32⟩
  | .local _ .vmem, ⟨0, _⟩ => ⟨S688x256, .bf16⟩
  | .local _ .vmem, ⟨1, _⟩ => ⟨S688x256, .bf16⟩
  | .local _ .vmem, ⟨2, _⟩ => ⟨S688x1024, .bf16⟩
  | .local _ .vmem, ⟨3, _⟩ => ⟨S688x1024, .bf16⟩
  | .local _ .vmem, ⟨4, _⟩ => ⟨S256x1024, .f32⟩
  | .local _ .vmem, ⟨5, _⟩ => ⟨S256x1024, .f32⟩
  | _, _ => ⟨S4128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4128x256 : Shape := ⟨2, ![4128, 256]⟩
abbrev S4128x2048 : Shape := ⟨2, ![4128, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4128x256, .bf16⟩
  | .hbm, ⟨1, _⟩ => ⟨S4128x2048, .bf16⟩
  | .hbm, ⟨2, _⟩ => ⟨S_, .f32⟩
  | .hbm, ⟨3, _⟩ => ⟨S256x2048, .f32⟩
  | .hbm, ⟨4, _⟩ => ⟨S4128x256, .f32⟩
  | .hbm, ⟨5, _⟩ => ⟨S4128x2048, .f32⟩
  | .hbm, ⟨6, _⟩ => ⟨S4128x2048, .f32⟩
  | .hbm, ⟨7, _⟩ => ⟨S2048x256, .f32⟩
  | .hbm, ⟨8, _⟩ => ⟨S256x2048, .f32⟩
  | _, _ => ⟨S4128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel32.lean ====
abbrev S4128x2048 : Shape := ⟨2, ![4128, 2048]⟩
abbrev S256x2048 : Shape := ⟨2, ![256, 2048]⟩
abbrev S4128x256 : Shape := ⟨2, ![4128, 256]⟩
abbrev S1376x1024 : Shape := ⟨2, ![1376, 1024]⟩
abbrev S256x1024 : Shape := ⟨2, ![256, 1024]⟩
abbrev S1376x256 : Shape := ⟨2, ![1376, 256]⟩

abbrev nBuf : Space → Nat
  | .hbm => 3
  | .vmem => 6
  | .smem => 0
  | _ => 0

abbrev bufTy : (tb : Table) → Fin (tcTables nBuf tb) → BufTy
  | .hbm, ⟨0, _⟩ => ⟨S4128x2048, .bf16⟩
  | .hbm, ⟨1, _⟩ => ⟨S256x2048, .bf16⟩
  | .hbm, ⟨2, _⟩ => ⟨S4128x256, .f32⟩
  | .local _ .vmem, ⟨0, _⟩ => ⟨S1376x1024, .bf16⟩
  | .local _ .vmem, ⟨1, _⟩ => ⟨S1376x1024, .bf16⟩
  | .local _ .vmem, ⟨2, _⟩ => ⟨S256x1024, .bf16⟩
  | .local _ .vmem, ⟨3, _⟩ => ⟨S256x1024, .bf16⟩
  | .local _ .vmem, ⟨4, _⟩ => ⟨S1376x256, .f32⟩
  | .local _ .vmem, ⟨5, _⟩ => ⟨S1376x256, .f32⟩
  | _, _ => ⟨S4128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4128x2048 : Shape := ⟨2, ![4128, 2048]⟩
abbrev S256x2048 : Shape := ⟨2, ![256, 2048]⟩
abbrev S_ : Shape := ⟨0, ![]⟩
abbrev S4128x256 : Shape := ⟨2, ![4128, 256]⟩

abbrev nBuf : Space → Nat
  | .hbm => 8
  | .vmem => 0
  | .smem => 0
  | _ => 0

abbrev bufTy : (tb : Table) → Fin (tcTables nBuf tb) → BufTy
  | .hbm, ⟨0, _⟩ => ⟨S4128x2048, .bf16⟩
  | .hbm, ⟨1, _⟩ => ⟨S256x2048, .bf16⟩
  | .hbm, ⟨2, _⟩ => ⟨S_, .f32⟩
  | .hbm, ⟨3, _⟩ => ⟨S4128x256, .f32⟩
  | .hbm, ⟨4, _⟩ => ⟨S256x2048, .f32⟩
  | .hbm, ⟨5, _⟩ => ⟨S4128x2048, .f32⟩
  | .hbm, ⟨6, _⟩ => ⟨S4128x2048, .f32⟩
  | .hbm, ⟨7, _⟩ => ⟨S4128x256, .f32⟩
  | _, _ => ⟨S4128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel33.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel33Ideal.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference33Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel34Ideal.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference34Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S2048x2944 : Shape := ⟨2, ![2048, 2944]⟩
abbrev S128x2944 : Shape := ⟨2, ![128, 2944]⟩

abbrev nBuf : Space → Nat
  | .hbm => 7
  | .vmem => 14
  | .smem => 0
  | _ => 0

abbrev bufTy : (tb : Table) → Fin (tcTables nBuf tb) → BufTy
  | .hbm, ⟨0, _⟩ => ⟨S2048x2944, .f32⟩
  | .hbm, ⟨1, _⟩ => ⟨S2048x2944, .f32⟩
  | .hbm, ⟨2, _⟩ => ⟨S2048x2944, .f32⟩
  | .hbm, ⟨3, _⟩ => ⟨S2048x2944, .f32⟩
  | .hbm, ⟨4, _⟩ => ⟨S2048x2944, .f32⟩
  | .hbm, ⟨5, _⟩ => ⟨S2048x2944, .f32⟩
  | .hbm, ⟨6, _⟩ => ⟨S2048x2944, .f32⟩
  | .local _ .vmem, ⟨0, _⟩ => ⟨S128x2944, .f32⟩
  | .local _ .vmem, ⟨1, _⟩ => ⟨S128x2944, .f32⟩
  | .local _ .vmem, ⟨2, _⟩ => ⟨S128x2944, .f32⟩
  | .local _ .vmem, ⟨3, _⟩ => ⟨S128x2944, .f32⟩
  | .local _ .vmem, ⟨4, _⟩ => ⟨S128x2944, .f32⟩
  | .local _ .vmem, ⟨5, _⟩ => ⟨S128x2944, .f32⟩
  | .local _ .vmem, ⟨6, _⟩ => ⟨S128x2944, .f32⟩
  | .local _ .vmem, ⟨7, _⟩ => ⟨S128x2944, .f32⟩
  | .local _ .vmem, ⟨8, _⟩ => ⟨S128x2944, .f32⟩
  | .local _ .vmem, ⟨9, _⟩ => ⟨S128x2944, .f32⟩
  | .local _ .vmem, ⟨10, _⟩ => ⟨S128x2944, .f32⟩
  | .local _ .vmem, ⟨11, _⟩ => ⟨S128x2944, .f32⟩
  | .local _ .vmem, ⟨12, _⟩ => ⟨S128x2944, .f32⟩
  | .local _ .vmem, ⟨13, _⟩ => ⟨S128x2944, .f32⟩
  | _, _ => ⟨S2048x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel35Ideal.lean ====
abbrev S2048x2944 : Shape := ⟨2, ![2048, 2944]⟩
abbrev S128x2944 : Shape := ⟨2, ![128, 2944]⟩

abbrev nBuf : Space → Nat
  | .hbm => 7
  | .vmem => 14
  | .smem => 0
  | _ => 0

abbrev bufTy : (tb : Table) → Fin (tcTables nBuf tb) → BufTy
  | .hbm, ⟨0, _⟩ => ⟨S2048x2944, .f32⟩
  | .hbm, ⟨1, _⟩ => ⟨S2048x2944, .f32⟩
  | .hbm, ⟨2, _⟩ => ⟨S2048x2944, .f32⟩
  | .hbm, ⟨3, _⟩ => ⟨S2048x2944, .f32⟩
  | .hbm, ⟨4, _⟩ => ⟨S2048x2944, .f32⟩
  | .hbm, ⟨5, _⟩ => ⟨S2048x2944, .f32⟩
  | .hbm, ⟨6, _⟩ => ⟨S2048x2944, .f32⟩
  | .local _ .vmem, ⟨0, _⟩ => ⟨S128x2944, .f32⟩
  | .local _ .vmem, ⟨1, _⟩ => ⟨S128x2944, .f32⟩
  | .local _ .vmem, ⟨2, _⟩ => ⟨S128x2944, .f32⟩
  | .local _ .vmem, ⟨3, _⟩ => ⟨S128x2944, .f32⟩
  | .local _ .vmem, ⟨4, _⟩ => ⟨S128x2944, .f32⟩
  | .local _ .vmem, ⟨5, _⟩ => ⟨S128x2944, .f32⟩
  | .local _ .vmem, ⟨6, _⟩ => ⟨S128x2944, .f32⟩
  | .local _ .vmem, ⟨7, _⟩ => ⟨S128x2944, .f32⟩
  | .local _ .vmem, ⟨8, _⟩ => ⟨S128x2944, .f32⟩
  | .local _ .vmem, ⟨9, _⟩ => ⟨S128x2944, .f32⟩
  | .local _ .vmem, ⟨10, _⟩ => ⟨S128x2944, .f32⟩
  | .local _ .vmem, ⟨11, _⟩ => ⟨S128x2944, .f32⟩
  | .local _ .vmem, ⟨12, _⟩ => ⟨S128x2944, .f32⟩
  | .local _ .vmem, ⟨13, _⟩ => ⟨S128x2944, .f32⟩
  | _, _ => ⟨S2048x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference35Ideal.lean ====
abbrev S2048x2944 : Shape := ⟨2, ![2048, 2944]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2944, .f32⟩
  | .hbm, ⟨1, _⟩ => ⟨S2048x2944, .f32⟩
  | .hbm, ⟨2, _⟩ => ⟨S2048x2944, .f32⟩
  | .hbm, ⟨3, _⟩ => ⟨S2048x2944, .f32⟩
  | .hbm, ⟨4, _⟩ => ⟨S_, .f32⟩
  | .hbm, ⟨5, _⟩ => ⟨S2048x2944, .f32⟩
  | .hbm, ⟨6, _⟩ => ⟨S2048x2944, .f32⟩
  | .hbm, ⟨7, _⟩ => ⟨S_, .f32⟩
  | .hbm, ⟨8, _⟩ => ⟨S2048x2944, .f32⟩
  | .hbm, ⟨9, _⟩ => ⟨S2048x2944, .f32⟩
  | .hbm, ⟨10, _⟩ => ⟨S2048x2944, .f32⟩
  | .hbm, ⟨11, _⟩ => ⟨S_, .f32⟩
  | .hbm, ⟨12, _⟩ => ⟨S2048x2944, .f32⟩
  | .hbm, ⟨13, _⟩ => ⟨S2048x2944, .f32⟩
  | .hbm, ⟨14, _⟩ => ⟨S2048x2944, .f32⟩
  | .hbm, ⟨15, _⟩ => ⟨S_, .f32⟩
  | .hbm, ⟨16, _⟩ => ⟨S2048x2944, .f32⟩
  | .hbm, ⟨17, _⟩ => ⟨S2048x2944, .f32⟩
  | .hbm, ⟨18, _⟩ => ⟨S2048x2944, .f32⟩
  | .hbm, ⟨19, _⟩ => ⟨S_, .f32⟩
  | .hbm, ⟨20, _⟩ => ⟨S2048x2944, .f32⟩
  | .hbm, ⟨21, _⟩ => ⟨S2048x2944, .f32⟩
  | .hbm, ⟨22, _⟩ => ⟨S_, .f32⟩
  | .hbm, ⟨23, _⟩ => ⟨S2048x2944, .f32⟩
  | .hbm, ⟨24, _⟩ => ⟨S2048x2944, .f32⟩
  | .hbm, ⟨25, _⟩ => ⟨S2048x2944, .f32⟩
  | .hbm, ⟨26, _⟩ => ⟨S_, .f32⟩
  | .hbm, ⟨27, _⟩ => ⟨S2048x2944, .f32⟩
  | .hbm, ⟨28, _⟩ => ⟨S2048x2944, .f32⟩
  | .hbm, ⟨29, _⟩ => ⟨S2048x2944, .f32⟩
  | .hbm, ⟨30, _⟩ => ⟨S_, .f32⟩
  | .hbm, ⟨31, _⟩ => ⟨S2048x2944, .f32⟩
  | .hbm, ⟨32, _⟩ => ⟨S2048x2944, .f32⟩
  | .hbm, ⟨33, _⟩ => ⟨S2048x2944, .f32⟩
  | .hbm, ⟨34, _⟩ => ⟨S_, .f32⟩
  | .hbm, ⟨35, _⟩ => ⟨S2048x2944, .f32⟩
  | .hbm, ⟨36, _⟩ => ⟨S2048x2944, .f32⟩
  | _, _ => ⟨S2048x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel36Ideal.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference36Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel37Ideal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference37Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S512x768 : Shape := ⟨2, ![512, 768]⟩

abbrev nBuf : Space → Nat
  | .hbm => 7
  | .vmem => 7
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S512x768, .f32⟩
  | .hbm, ⟨6, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel38Ideal.lean ====
abbrev S512x768 : Shape := ⟨2, ![512, 768]⟩

abbrev nBuf : Space → Nat
  | .hbm => 7
  | .vmem => 7
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S512x768, .f32⟩
  | .hbm, ⟨6, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference38Ideal.lean ====
abbrev S512x768 : Shape := ⟨2, ![512, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S_, .f32⟩
  | .hbm, ⟨5, _⟩ => ⟨S512x768, .f32⟩
  | .hbm, ⟨6, _⟩ => ⟨S512x768, .f32⟩
  | .hbm, ⟨7, _⟩ => ⟨S_, .f32⟩
  | .hbm, ⟨8, _⟩ => ⟨S512x768, .f32⟩
  | .hbm, ⟨9, _⟩ => ⟨S512x768, .f32⟩
  | .hbm, ⟨10, _⟩ => ⟨S512x768, .f32⟩
  | .hbm, ⟨11, _⟩ => ⟨S_, .f32⟩
  | .hbm, ⟨12, _⟩ => ⟨S512x768, .f32⟩
  | .hbm, ⟨13, _⟩ => ⟨S512x768, .f32⟩
  | .hbm, ⟨14, _⟩ => ⟨S512x768, .f32⟩
  | .hbm, ⟨15, _⟩ => ⟨S_, .f32⟩
  | .hbm, ⟨16, _⟩ => ⟨S512x768, .f32⟩
  | .hbm, ⟨17, _⟩ => ⟨S512x768, .f32⟩
  | .hbm, ⟨18, _⟩ => ⟨S512x768, .f32⟩
  | .hbm, ⟨19, _⟩ => ⟨S_, .f32⟩
  | .hbm, ⟨20, _⟩ => ⟨S512x768, .f32⟩
  | .hbm, ⟨21, _⟩ => ⟨S512x768, .f32⟩
  | .hbm, ⟨22, _⟩ => ⟨S_, .f32⟩
  | .hbm, ⟨23, _⟩ => ⟨S512x768, .f32⟩
  | .hbm, ⟨24, _⟩ => ⟨S512x768, .f32⟩
  | .hbm, ⟨25, _⟩ => ⟨S512x768, .f32⟩
  | .hbm, ⟨26, _⟩ => ⟨S_, .f32⟩
  | .hbm, ⟨27, _⟩ => ⟨S512x768, .f32⟩
  | .hbm, ⟨28, _⟩ => ⟨S512x768, .f32⟩
  | .hbm, ⟨29, _⟩ => ⟨S512x768, .f32⟩
  | .hbm, ⟨30, _⟩ => ⟨S_, .f32⟩
  | .hbm, ⟨31, _⟩ => ⟨S512x768, .f32⟩
  | .hbm, ⟨32, _⟩ => ⟨S512x768, .f32⟩
  | .hbm, ⟨33, _⟩ => ⟨S512x768, .f32⟩
  | .hbm, ⟨34, _⟩ => ⟨S_, .f32⟩
  | .hbm, ⟨35, _⟩ => ⟨S512x768, .f32⟩
  | .hbm, ⟨36, _⟩ => ⟨S512x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel39Ideal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference39Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S96x512 : Shape := ⟨2, ![96, 512]⟩

abbrev nBuf : Space → Nat
  | .hbm => 7
  | .vmem => 7
  | .smem => 0
  | _ => 0

abbrev bufTy : (tb : Table) → Fin (tcTables nBuf tb) → BufTy
  | .hbm, ⟨0, _⟩ => ⟨S96x512, .f32⟩
  | .hbm, ⟨1, _⟩ => ⟨S96x512, .f32⟩
  | .hbm, ⟨2, _⟩ => ⟨S96x512, .f32⟩
  | .hbm, ⟨3, _⟩ => ⟨S96x512, .f32⟩
  | .hbm, ⟨4, _⟩ => ⟨S96x512, .f32⟩
  | .hbm, ⟨5, _⟩ => ⟨S96x512, .f32⟩
  | .hbm, ⟨6, _⟩ => ⟨S96x512, .f32⟩
  | .local _ .vmem, ⟨0, _⟩ => ⟨S96x512, .f32⟩
  | .local _ .vmem, ⟨1, _⟩ => ⟨S96x512, .f32⟩
  | .local _ .vmem, ⟨2, _⟩ => ⟨S96x512, .f32⟩
  | .local _ .vmem, ⟨3, _⟩ => ⟨S96x512, .f32⟩
  | .local _ .vmem, ⟨4, _⟩ => ⟨S96x512, .f32⟩
  | .local _ .vmem, ⟨5, _⟩ => ⟨S96x512, .f32⟩
  | .local _ .vmem, ⟨6, _⟩ => ⟨S96x512, .f32⟩
  | _, _ => ⟨S96x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S96x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S96x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S96x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S96x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S96x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S96x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel40Ideal.lean ====
abbrev S96x512 : Shape := ⟨2, ![96, 512]⟩

abbrev nBuf : Space → Nat
  | .hbm => 7
  | .vmem => 7
  | .smem => 0
  | _ => 0

abbrev bufTy : (tb : Table) → Fin (tcTables nBuf tb) → BufTy
  | .hbm, ⟨0, _⟩ => ⟨S96x512, .f32⟩
  | .hbm, ⟨1, _⟩ => ⟨S96x512, .f32⟩
  | .hbm, ⟨2, _⟩ => ⟨S96x512, .f32⟩
  | .hbm, ⟨3, _⟩ => ⟨S96x512, .f32⟩
  | .hbm, ⟨4, _⟩ => ⟨S96x512, .f32⟩
  | .hbm, ⟨5, _⟩ => ⟨S96x512, .f32⟩
  | .hbm, ⟨6, _⟩ => ⟨S96x512, .f32⟩
  | .local _ .vmem, ⟨0, _⟩ => ⟨S96x512, .f32⟩
  | .local _ .vmem, ⟨1, _⟩ => ⟨S96x512, .f32⟩
  | .local _ .vmem, ⟨2, _⟩ => ⟨S96x512, .f32⟩
  | .local _ .vmem, ⟨3, _⟩ => ⟨S96x512, .f32⟩
  | .local _ .vmem, ⟨4, _⟩ => ⟨S96x512, .f32⟩
  | .local _ .vmem, ⟨5, _⟩ => ⟨S96x512, .f32⟩
  | .local _ .vmem, ⟨6, _⟩ => ⟨S96x512, .f32⟩
  | _, _ => ⟨S96x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S96x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S96x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S96x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S96x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S96x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S96x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference40Ideal.lean ====
abbrev S96x512 : Shape := ⟨2, ![96, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x512, .f32⟩
  | .hbm, ⟨1, _⟩ => ⟨S96x512, .f32⟩
  | .hbm, ⟨2, _⟩ => ⟨S96x512, .f32⟩
  | .hbm, ⟨3, _⟩ => ⟨S96x512, .f32⟩
  | .hbm, ⟨4, _⟩ => ⟨S_, .f32⟩
  | .hbm, ⟨5, _⟩ => ⟨S96x512, .f32⟩
  | .hbm, ⟨6, _⟩ => ⟨S96x512, .f32⟩
  | .hbm, ⟨7, _⟩ => ⟨S_, .f32⟩
  | .hbm, ⟨8, _⟩ => ⟨S96x512, .f32⟩
  | .hbm, ⟨9, _⟩ => ⟨S96x512, .f32⟩
  | .hbm, ⟨10, _⟩ => ⟨S96x512, .f32⟩
  | .hbm, ⟨11, _⟩ => ⟨S_, .f32⟩
  | .hbm, ⟨12, _⟩ => ⟨S96x512, .f32⟩
  | .hbm, ⟨13, _⟩ => ⟨S96x512, .f32⟩
  | .hbm, ⟨14, _⟩ => ⟨S96x512, .f32⟩
  | .hbm, ⟨15, _⟩ => ⟨S_, .f32⟩
  | .hbm, ⟨16, _⟩ => ⟨S96x512, .f32⟩
  | .hbm, ⟨17, _⟩ => ⟨S96x512, .f32⟩
  | .hbm, ⟨18, _⟩ => ⟨S96x512, .f32⟩
  | .hbm, ⟨19, _⟩ => ⟨S_, .f32⟩
  | .hbm, ⟨20, _⟩ => ⟨S96x512, .f32⟩
  | .hbm, ⟨21, _⟩ => ⟨S96x512, .f32⟩
  | .hbm, ⟨22, _⟩ => ⟨S_, .f32⟩
  | .hbm, ⟨23, _⟩ => ⟨S96x512, .f32⟩
  | .hbm, ⟨24, _⟩ => ⟨S96x512, .f32⟩
  | .hbm, ⟨25, _⟩ => ⟨S96x512, .f32⟩
  | .hbm, ⟨26, _⟩ => ⟨S_, .f32⟩
  | .hbm, ⟨27, _⟩ => ⟨S96x512, .f32⟩
  | .hbm, ⟨28, _⟩ => ⟨S96x512, .f32⟩
  | .hbm, ⟨29, _⟩ => ⟨S96x512, .f32⟩
  | .hbm, ⟨30, _⟩ => ⟨S_, .f32⟩
  | .hbm, ⟨31, _⟩ => ⟨S96x512, .f32⟩
  | .hbm, ⟨32, _⟩ => ⟨S96x512, .f32⟩
  | .hbm, ⟨33, _⟩ => ⟨S96x512, .f32⟩
  | .hbm, ⟨34, _⟩ => ⟨S_, .f32⟩
  | .hbm, ⟨35, _⟩ => ⟨S96x512, .f32⟩
  | .hbm, ⟨36, _⟩ => ⟨S96x512, .f32⟩
  | _, _ => ⟨S96x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel41Ideal.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference41Ideal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel42.lean ====
abbrev S1x6592 : Shape := ⟨2, ![1, 6592]⟩

abbrev nBuf : Space → Nat
  | .hbm => 7
  | .vmem => 7
  | .smem => 0
  | _ => 0

abbrev bufTy : (tb : Table) → Fin (tcTables nBuf tb) → BufTy
  | .hbm, ⟨0, _⟩ => ⟨S1x6592, .f32⟩
  | .hbm, ⟨1, _⟩ => ⟨S1x6592, .f32⟩
  | .hbm, ⟨2, _⟩ => ⟨S1x6592, .f32⟩
  | .hbm, ⟨3, _⟩ => ⟨S1x6592, .f32⟩
  | .hbm, ⟨4, _⟩ => ⟨S1x6592, .f32⟩
  | .hbm, ⟨5, _⟩ => ⟨S1x6592, .f32⟩
  | .hbm, ⟨6, _⟩ => ⟨S1x6592, .f32⟩
  | .local _ .vmem, ⟨0, _⟩ => ⟨S1x6592, .f32⟩
  | .local _ .vmem, ⟨1, _⟩ => ⟨S1x6592, .f32⟩
  | .local _ .vmem, ⟨2, _⟩ => ⟨S1x6592, .f32⟩
  | .local _ .vmem, ⟨3, _⟩ => ⟨S1x6592, .f32⟩
  | .local _ .vmem, ⟨4, _⟩ => ⟨S1x6592, .f32⟩
  | .local _ .vmem, ⟨5, _⟩ => ⟨S1x6592, .f32⟩
  | .local _ .vmem, ⟨6, _⟩ => ⟨S1x6592, .f32⟩
  | _, _ => ⟨S1x6592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x6592 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6592 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6592 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6592 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6592 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6592 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6592 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel42Ideal.lean ====
abbrev S1x6592 : Shape := ⟨2, ![1, 6592]⟩

abbrev nBuf : Space → Nat
  | .hbm => 7
  | .vmem => 7
  | .smem => 0
  | _ => 0

abbrev bufTy : (tb : Table) → Fin (tcTables nBuf tb) → BufTy
  | .hbm, ⟨0, _⟩ => ⟨S1x6592, .f32⟩
  | .hbm, ⟨1, _⟩ => ⟨S1x6592, .f32⟩
  | .hbm, ⟨2, _⟩ => ⟨S1x6592, .f32⟩
  | .hbm, ⟨3, _⟩ => ⟨S1x6592, .f32⟩
  | .hbm, ⟨4, _⟩ => ⟨S1x6592, .f32⟩
  | .hbm, ⟨5, _⟩ => ⟨S1x6592, .f32⟩
  | .hbm, ⟨6, _⟩ => ⟨S1x6592, .f32⟩
  | .local _ .vmem, ⟨0, _⟩ => ⟨S1x6592, .f32⟩
  | .local _ .vmem, ⟨1, _⟩ => ⟨S1x6592, .f32⟩
  | .local _ .vmem, ⟨2, _⟩ => ⟨S1x6592, .f32⟩
  | .local _ .vmem, ⟨3, _⟩ => ⟨S1x6592, .f32⟩
  | .local _ .vmem, ⟨4, _⟩ => ⟨S1x6592, .f32⟩
  | .local _ .vmem, ⟨5, _⟩ => ⟨S1x6592, .f32⟩
  | .local _ .vmem, ⟨6, _⟩ => ⟨S1x6592, .f32⟩
  | _, _ => ⟨S1x6592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x6592 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6592 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6592 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6592 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6592 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6592 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6592 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference42Ideal.lean ====
abbrev S1x6592 : Shape := ⟨2, ![1, 6592]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x6592, .f32⟩
  | .hbm, ⟨1, _⟩ => ⟨S1x6592, .f32⟩
  | .hbm, ⟨2, _⟩ => ⟨S1x6592, .f32⟩
  | .hbm, ⟨3, _⟩ => ⟨S1x6592, .f32⟩
  | .hbm, ⟨4, _⟩ => ⟨S_, .f32⟩
  | .hbm, ⟨5, _⟩ => ⟨S1x6592, .f32⟩
  | .hbm, ⟨6, _⟩ => ⟨S1x6592, .f32⟩
  | .hbm, ⟨7, _⟩ => ⟨S_, .f32⟩
  | .hbm, ⟨8, _⟩ => ⟨S1x6592, .f32⟩
  | .hbm, ⟨9, _⟩ => ⟨S1x6592, .f32⟩
  | .hbm, ⟨10, _⟩ => ⟨S1x6592, .f32⟩
  | .hbm, ⟨11, _⟩ => ⟨S_, .f32⟩
  | .hbm, ⟨12, _⟩ => ⟨S1x6592, .f32⟩
  | .hbm, ⟨13, _⟩ => ⟨S1x6592, .f32⟩
  | .hbm, ⟨14, _⟩ => ⟨S1x6592, .f32⟩
  | .hbm, ⟨15, _⟩ => ⟨S_, .f32⟩
  | .hbm, ⟨16, _⟩ => ⟨S1x6592, .f32⟩
  | .hbm, ⟨17, _⟩ => ⟨S1x6592, .f32⟩
  | .hbm, ⟨18, _⟩ => ⟨S1x6592, .f32⟩
  | .hbm, ⟨19, _⟩ => ⟨S_, .f32⟩
  | .hbm, ⟨20, _⟩ => ⟨S1x6592, .f32⟩
  | .hbm, ⟨21, _⟩ => ⟨S1x6592, .f32⟩
  | .hbm, ⟨22, _⟩ => ⟨S_, .f32⟩
  | .hbm, ⟨23, _⟩ => ⟨S1x6592, .f32⟩
  | .hbm, ⟨24, _⟩ => ⟨S1x6592, .f32⟩
  | .hbm, ⟨25, _⟩ => ⟨S1x6592, .f32⟩
  | .hbm, ⟨26, _⟩ => ⟨S_, .f32⟩
  | .hbm, ⟨27, _⟩ => ⟨S1x6592, .f32⟩
  | .hbm, ⟨28, _⟩ => ⟨S1x6592, .f32⟩
  | .hbm, ⟨29, _⟩ => ⟨S1x6592, .f32⟩
  | .hbm, ⟨30, _⟩ => ⟨S_, .f32⟩
  | .hbm, ⟨31, _⟩ => ⟨S1x6592, .f32⟩
  | .hbm, ⟨32, _⟩ => ⟨S1x6592, .f32⟩
  | .hbm, ⟨33, _⟩ => ⟨S1x6592, .f32⟩
  | .hbm, ⟨34, _⟩ => ⟨S_, .f32⟩
  | .hbm, ⟨35, _⟩ => ⟨S1x6592, .f32⟩
  | .hbm, ⟨36, _⟩ => ⟨S1x6592, .f32⟩
  | _, _ => ⟨S1x6592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel43.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel43Ideal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference43Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel44.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference44Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel45.lean ====
abbrev S4128x12288 : Shape := ⟨2, ![4128, 12288]⟩
abbrev S2048x12288 : Shape := ⟨2, ![2048, 12288]⟩
abbrev S4128x2048 : Shape := ⟨2, ![4128, 2048]⟩
abbrev S1376x1536 : Shape := ⟨2, ![1376, 1536]⟩
abbrev S1024x1536 : Shape := ⟨2, ![1024, 1536]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4128x12288, .bf16⟩
  | .hbm, ⟨1, _⟩ => ⟨S2048x12288, .bf16⟩
  | .hbm, ⟨2, _⟩ => ⟨S4128x2048, .f32⟩
  | .local _ .vmem, ⟨0, _⟩ => ⟨S1376x1536, .bf16⟩
  | .local _ .vmem, ⟨1, _⟩ => ⟨S1376x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1376x1024, .f32⟩
  | .local _ .vmem, ⟨5, _⟩ => ⟨S1376x1024, .f32⟩
  | _, _ => ⟨S4128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference45Ideal.lean ====
abbrev S4128x12288 : Shape := ⟨2, ![4128, 12288]⟩
abbrev S2048x12288 : Shape := ⟨2, ![2048, 12288]⟩
abbrev S_ : Shape := ⟨0, ![]⟩
abbrev S4128x2048 : Shape := ⟨2, ![4128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4128x12288, .bf16⟩
  | .hbm, ⟨1, _⟩ => ⟨S2048x12288, .bf16⟩
  | .hbm, ⟨2, _⟩ => ⟨S_, .f32⟩
  | .hbm, ⟨3, _⟩ => ⟨S4128x2048, .f32⟩
  | .hbm, ⟨4, _⟩ => ⟨S2048x12288, .f32⟩
  | .hbm, ⟨5, _⟩ => ⟨S4128x12288, .f32⟩
  | .hbm, ⟨6, _⟩ => ⟨S4128x12288, .f32⟩
  | .hbm, ⟨7, _⟩ => ⟨S4128x2048, .f32⟩
  | _, _ => ⟨S4128x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Trip.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.WkvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources a trip speaks of: points-tos alone. -/
local notation "𝕄" => MT nD τ sig Unit (Elt F) ℕ (UR sig nD τ) ℕ

variable (c : Dev nD) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S16x32x64x128 .f32) (harg8 : arg8.IsWhole) (arg9 : Memref sig .tc .vmem S16x32x128 .f32) (harg9 : arg9.IsWhole) (arg10 : Memref sig .tc .vmem S16x64x64 .f32) (harg10 : arg10.IsWhole) (arg11 : Memref sig .tc .vmem S16x64x64 .f32) (harg11 : arg11.IsWhole) (arg12 : Memref sig .tc .vmem S16x64x64 .f32) (harg12 : arg12.IsWhole) (arg13 : Memref sig .tc .vmem S16x64x64 .f32) (harg13 : arg13.IsWhole) (arg14 : Memref sig .tc .vmem S16x64x64 .f32) (harg14 : arg14.IsWhole) (arg15 : Memref sig .tc .vmem S16x32x128 .f32) (harg15 : arg15.IsWhole) (arg16 : Memref sig .tc .vmem S32x64x128 .f32) (harg16 : arg16.IsWhole)

variable (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)

/-- What one token's turn of the loop touches: the nine inputs at their contents, the six gradients' blocks and the
    carried state gradient at the contents it finds. -/
abbrev Trip (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 40000000 in
/-- One token's turn at a symbolic trip: what it stores into each block, as functions of the carried state gradient's
    contents, found by running it. -/
@[irreducible] def trip (k : Fin k0_t1_loop.trips) :
    Σ' (L10 : BufTy.Contents (Elt F) arg16.view.ty → List (View.Piece (Elt F) S16x64x64 .f32)) (L11 : BufTy.Contents (Elt F) arg16.view.ty → List (View.Piece (Elt F) S16x64x64 .f32)) (L12 : BufTy.Contents (Elt F) arg16.view.ty → List (View.Piece (Elt F) S16x64x64 .f32)) (L13 : BufTy.Contents (Elt F) arg16.view.ty → List (View.Piece (Elt F) S16x64x64 .f32)) (L14 : BufTy.Contents (Elt F) arg16.view.ty → List (View.Piece (Elt F) S16x64x64 .f32)) (L15 : BufTy.Contents (Elt F) arg16.view.ty → List (View.Piece (Elt F) S16x32x128 .f32)), { L16 : BufTy.Contents (Elt F) arg16.view.ty → List (View.Piece (Elt F) S32x64x128 .f32) // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      Trip (F := F) c arg1 arg2 arg3 arg4 arg5 arg6 arg7 arg8 arg9 arg10 arg11 arg12 arg13 arg14 arg15 arg16 X1 X2 X3 X4 X5 X6 X7 X8 X9 f10 f11 f12 f13 f14 f15 f16
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k PUnit.unit)
          (fun _ => Trip (F := F) c arg1 arg2 arg3 arg4 arg5 arg6 arg7 arg8 arg9 arg10 arg11 arg12 arg13 arg14 arg15 arg16 X1 X2 X3 X4 X5 X6 X7 X8 X9 (arg10.view.writes (Elt F) f10 (L10 f16)) (arg11.view.writes (Elt F) f11 (L11 f16)) (arg12.view.writes (Elt F) f12 (L12 f16)) (arg13.view.writes (Elt F) f13 (L13 f16)) (arg14.view.writes (Elt F) f14 (L14 f16)) (arg15.view.writes (Elt F) f15 (L15 f16)) (arg16.view.writes (Elt F) f16 (L16 f16))) } := by
  have hk : k.val < 16 := Nat.lt_of_lt_of_le k.isLt k0_t1_abs.2.1
  refine ⟨?_, ?_, ?_, ?_, ?_, ?_, ?_, fun E f10 f11 f12 f13 f14 f15 f16 => ?run⟩
  case run =>
    unfold k0_t1_body
    iintro ⟨H1, H2, H3, H4, H5, H6, H7, H8, H9, H10, H11, H12, H13, H14, H15, H16⟩
    sl_exec_parts
    sl_step
    sl_close

end Cert.Proof.WkvBwd

end
-- ==== Proof.Loop.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Trip

@[expose] public section

set_option maxRecDepth 16384
set_option maxHeartbeats 4000000

noncomputable section

namespace Cert.Proof.WkvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources a trip speaks of: points-tos alone. -/
local notation "𝕄" => MT nD τ sig Unit (Elt F) ℕ (UR sig nD τ) ℕ

variable (c : Dev nD) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S16x32x64x128 .f32) (harg8 : arg8.IsWhole) (arg9 : Memref sig .tc .vmem S16x32x128 .f32) (harg9 : arg9.IsWhole) (arg10 : Memref sig .tc .vmem S16x64x64 .f32) (harg10 : arg10.IsWhole) (arg11 : Memref sig .tc .vmem S16x64x64 .f32) (harg11 : arg11.IsWhole) (arg12 : Memref sig .tc .vmem S16x64x64 .f32) (harg12 : arg12.IsWhole) (arg13 : Memref sig .tc .vmem S16x64x64 .f32) (harg13 : arg13.IsWhole) (arg14 : Memref sig .tc .vmem S16x64x64 .f32) (harg14 : arg14.IsWhole) (arg15 : Memref sig .tc .vmem S16x32x128 .f32) (harg15 : arg15.IsWhole) (arg16 : Memref sig .tc .vmem S32x64x128 .f32) (harg16 : arg16.IsWhole)
variable (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
variable (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty)

/-- What turn `k` leaves in the seven written buffers, given what it finds. -/
@[irreducible] def stStep (k : ℕ) (p : BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty) : BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty :=
  if h : k < k0_t1_loop.trips then (arg10.view.writes (Elt F) p.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 ⟨k, h⟩).1 p.2.2.2.2.2.2), arg11.view.writes (Elt F) p.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 ⟨k, h⟩).2.1 p.2.2.2.2.2.2), arg12.view.writes (Elt F) p.2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 ⟨k, h⟩).2.2.1 p.2.2.2.2.2.2), arg13.view.writes (Elt F) p.2.2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 ⟨k, h⟩).2.2.2.1 p.2.2.2.2.2.2), arg14.view.writes (Elt F) p.2.2.2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 ⟨k, h⟩).2.2.2.2.1 p.2.2.2.2.2.2), arg15.view.writes (Elt F) p.2.2.2.2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 ⟨k, h⟩).2.2.2.2.2.1 p.2.2.2.2.2.2), arg16.view.writes (Elt F) p.2.2.2.2.2.2 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 ⟨k, h⟩).2.2.2.2.2.2.1 p.2.2.2.2.2.2)) else p

/-- What the seven written buffers hold before turn `k`. -/
def st : ℕ → BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty
  | 0 => (G10, G11, G12, G13, G14, G15, G16)
  | k + 1 => stStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k (st k)

theorem st_succ (k : Fin k0_t1_loop.trips) : st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 (k.val + 1) =
    (arg10.view.writes (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).1 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2), arg11.view.writes (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.1 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2), arg12.view.writes (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.1 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2), arg13.view.writes (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.1 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2), arg14.view.writes (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.2.1 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2), arg15.view.writes (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.1 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.2.2.1 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2), arg16.view.writes (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2 ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.2.2.2.1 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k.val).2.2.2.2.2.2)) := by
  rw [st]; unfold stStep; exact dif_pos k.isLt

/-- Before turn `k`: the inputs as they were, the written buffers as the earlier turns left them. -/
abbrev inv (k : ℕ) (_ : PUnit) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f) ∗ ⌜f = (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).1⌝) ∗ (∃ f, (arg11.view.loc (c : Thread nD τ) ↦[arg11.view.set]{fullShare} f) ∗ ⌜f = (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.1⌝) ∗ (∃ f, (arg12.view.loc (c : Thread nD τ) ↦[arg12.view.set]{fullShare} f) ∗ ⌜f = (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.1⌝) ∗ (∃ f, (arg13.view.loc (c : Thread nD τ) ↦[arg13.view.set]{fullShare} f) ∗ ⌜f = (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.1⌝) ∗ (∃ f, (arg14.view.loc (c : Thread nD τ) ↦[arg14.view.set]{fullShare} f) ∗ ⌜f = (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.2.1⌝) ∗ (∃ f, (arg15.view.loc (c : Thread nD τ) ↦[arg15.view.set]{fullShare} f) ∗ ⌜f = (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.2.2.1⌝) ∗ (∃ f, (arg16.view.loc (c : Thread nD τ) ↦[arg16.view.set]{fullShare} f) ∗ ⌜f = (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.2.2.2⌝))

set_option warn.classDefReducibility false in
/-- The sixteen tokens of a block, by that invariant. -/
@[sl_loop] def loopInv (E : Set ℕ) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := inv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16
  step k acc := by
    iintro ⟨H1, H2, H3, H4, H5, H6, H7, H8, H9, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩⟩
    iapply (wp_wand_r Idealize.ShloMosaic.frame (wpE (defs₀ (F := F)) Variants.none (c : Thread nD τ) none) E)
    isplitl [H1 H2 H3 H4 H5 H6 H7 H8 H9 H10 H11 H12 H13 H14 H15 H16]
    · iapply ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.2.2.2.2 E f10 f11 f12 f13 f14 f15 f16)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iintro %_ ⟨H1, H2, H3, H4, H5, H6, H7, H8, H9, H10, H11, H12, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      rw [st_succ]
      isplitl [H10]
      · iexists _; isplitl [H10]; · iexact H10
        ipureintro; rw [h10, h16]
      isplitl [H11]
      · iexists _; isplitl [H11]; · iexact H11
        ipureintro; rw [h11, h16]
      isplitl [H12]
      · iexists _; isplitl [H12]; · iexact H12
        ipureintro; rw [h12, h16]
      isplitl [H13]
      · iexists _; isplitl [H13]; · iexact H13
        ipureintro; rw [h13, h16]
      isplitl [H14]
      · iexists _; isplitl [H14]; · iexact H14
        ipureintro; rw [h14, h16]
      isplitl [H15]
      · iexists _; isplitl [H15]; · iexact H15
        ipureintro; rw [h15, h16]
      iexists _; isplitl [H16]; · iexact H16
      ipureintro; rw [h16]

end Cert.Proof.WkvBwd

end
-- ==== Proof.Rows.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Trip

@[expose] public section

set_option maxRecDepth 16384
set_option maxHeartbeats 8000000

noncomputable section

namespace Cert.Proof.WkvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources a trip speaks of: points-tos alone. -/
local notation "𝕄" => MT nD τ sig Unit (Elt F) ℕ (UR sig nD τ) ℕ

/-! ## One token's arithmetic, row by row of the value index -/

section
variable (k : Fin k0_t1_loop.trips)

/-- Where row `n` of the token's value-indexed rows stands in a block of sixteen tokens. -/
def offI (n : Fin 32) : Fin 3 → ℕ := ![k0_off1 k 0, n.val, 0]
/-- Where row `n` of the token's saved state stands. -/
def offS (n : Fin 32) : Fin 4 → ℕ := ![k0_off1 k 0, n.val, 0, 0]
/-- Where row `n` of the carried state gradient stands. -/
def offD (n : Fin 32) : Fin 3 → ℕ := ![n.val, 0, 0]

theorem offI_inb (n : Fin 32) : ∀ a, offI k n a + S1x1x128.size a ≤ S16x32x128.size a := by
  intro a
  have h := k0_off1_inb k 0
  fin_cases a
  · exact h
  · show n.val + 1 ≤ 32; omega
  · show 0 + 128 ≤ 128; omega

theorem offS_inb (n : Fin 32) : ∀ a, offS k n a + S1x1x64x128.size a ≤ S16x32x64x128.size a := by
  intro a
  have h := k0_off1_inb k 0
  fin_cases a
  · exact h
  · show n.val + 1 ≤ 32; omega
  · show 0 + 64 ≤ 64; omega
  · show 0 + 128 ≤ 128; omega

theorem offD_inb (n : Fin 32) : ∀ a, offD n a + S1x64x128.size a ≤ S32x64x128.size a := by
  intro a
  fin_cases a
  · show n.val + 1 ≤ 32; omega
  · show 0 + 64 ≤ 64; omega
  · show 0 + 128 ≤ 128; omega

/-- The token's key-indexed tile. -/
def tok (a : Memref sig .tc .vmem S16x64x128 .f32) (X : BufTy.Contents (Elt F) a.view.ty) : FVec F S64x128 .f32 :=
  shapeCast S64x128 (View.readAt (Elt F) a.view (Rect.unit (s := S16x64x128) (k0_off1 k) S1x64x128.size (k0_off1_inb k)).toLoadRect X) shapeCasts_S1x64x128_S64x128
/-- Row `n` of the token's value-indexed tile. -/
def row (a : Memref sig .tc .vmem S16x32x128 .f32) (X : BufTy.Contents (Elt F) a.view.ty) (n : Fin 32) : FVec F S1x128 .f32 :=
  shapeCast S1x128 (View.readAt (Elt F) a.view (Rect.unit (s := S16x32x128) (offI k n) S1x1x128.size (offI_inb k n)).toLoadRect X) shapeCasts_S1x1x128_S1x128
/-- Row `n` of the token's saved state. -/
def sta (a : Memref sig .tc .vmem S16x32x64x128 .f32) (X : BufTy.Contents (Elt F) a.view.ty) (n : Fin 32) : FVec F S64x128 .f32 :=
  shapeCast S64x128 (View.readAt (Elt F) a.view (Rect.unit (s := S16x32x64x128) (offS k n) S1x1x64x128.size (offS_inb k n)).toLoadRect X) shapeCasts_S1x1x64x128_S64x128
end

/-- Row `n` of the carried state gradient. -/
def car (a : Memref sig .tc .vmem S32x64x128 .f32) (X : BufTy.Contents (Elt F) a.view.ty) (n : Fin 32) : FVec F S64x128 .f32 :=
  shapeCast S64x128 (View.readAt (Elt F) a.view (Rect.unit (s := S32x64x128) (offD n) S1x64x128.size (offD_inb n)).toLoadRect X) shapeCasts_S1x64x128_S64x128

/-- A running sum over the first `n` rows, from zero. -/
def acc {s : Shape} (g : Fin 32 → FVec F s .f32) : (n : ℕ) → n ≤ 32 → FVec F s .f32
  | 0, _ => broadcast s (Scalar.ofBits .f32 0x00000000#32)
  | n + 1, h => addf (acc g n (Nat.le_of_succ_le h)) (g ⟨n, h⟩)

/-- One row laid under all sixty-four keys. -/
abbrev down (x : FVec F S1x128 .f32) : FVec F S64x128 .f32 := broadcastTo S64x128 x broadcasts_S1x128_S64x128
/-- The sum over the keys, as one row. -/
abbrev colsum (x : FVec F S64x128 .f32) : FVec F S1x128 .f32 :=
  shapeCast S1x128 (multiReduction .add [0] S128 x 0x00000000#32 reduces_S64x128_S128 (.inl rfl) rfl) shapeCasts_S128_S1x128
/-- The two halves of the lanes added, and the first half kept. -/
abbrev fold2 (x : FVec F S64x128 .f32) : FVec F S1x64x64 .f32 :=
  shapeCast S1x64x64 (extractStridedSlice S64x64 ![0, 0] (addf x (dynamicRotate 1 64#32 none x rotates_S64x128_d1)) slices_S64x128_o0_0_S64x64) shapeCasts_S64x64_S1x64x64

/-- What the kernel reads of one token: the key-indexed tiles, the value-indexed rows and the saved state's rows. -/
structure Tk (F : FTy → Type) where
  w : FVec F S64x128 .f32
  kn : FVec F S64x128 .f32
  b : FVec F S64x128 .f32
  k : FVec F S64x128 .f32
  r : FVec F S64x128 .f32
  v : Fin 32 → FVec F S1x128 .f32
  dy : Fin 32 → FVec F S1x128 .f32
  sp : Fin 32 → FVec F S64x128 .f32
  sa : Fin 32 → FVec F S1x128 .f32

namespace Tk

variable (x : Tk F) (D : Fin 32 → FVec F S64x128 .f32)

/-- The state gradient after the token's read, row `n`. -/
def dS (n : Fin 32) : FVec F S64x128 .f32 := addf (D n) (mulf (down (x.dy n)) x.r)
/-- The gradient of the state's product with `kn`, row `n`. -/
def dsa (n : Fin 32) : FVec F S1x128 .f32 := colsum (mulf (x.dS D n) x.b)
/-- What the token hands to the one before it, row `n`. -/
def next (n : Fin 32) : FVec F S64x128 .f32 := addf (mulf (x.dS D n) x.w) (mulf (down (x.dsa D n)) x.kn)
def dW : FVec F S64x128 .f32 := acc (fun n => mulf (x.dS D n) (x.sp n)) 32 le_rfl
def dKN : FVec F S64x128 .f32 := acc (fun n => mulf (x.sp n) (down (x.dsa D n))) 32 le_rfl
def dB : FVec F S64x128 .f32 := acc (fun n => mulf (x.dS D n) (down (x.sa n))) 32 le_rfl
def dK : FVec F S64x128 .f32 := acc (fun n => mulf (x.dS D n) (down (x.v n))) 32 le_rfl
def T1 : FVec F S64x128 .f32 := acc (fun n => mulf (x.sp n) (down (x.dy n))) 32 le_rfl
def al : FVec F S1x128 .f32 := acc (fun n => mulf (x.sa n) (x.dy n)) 32 le_rfl
def be : FVec F S1x128 .f32 := acc (fun n => mulf (x.v n) (x.dy n)) 32 le_rfl
/-- The read vector's gradient, through the token's step written out. -/
def dR : FVec F S64x128 .f32 := addf (addf (mulf x.w x.T1) (mulf x.b (down x.al))) (mulf x.k (down x.be))
def dV (n : Fin 32) : FVec F S1x128 .f32 := colsum (mulf (x.dS D n) x.k)

end Tk

variable (k : Fin k0_t1_loop.trips)

/-- The value gradient's rows as they are stored, the last in front. -/
def dvL (x : Tk F) (D : Fin 32 → FVec F S64x128 .f32) : (n : ℕ) → n ≤ 32 → List (View.Piece (Elt F) S16x32x128 .f32)
  | 0, _ => []
  | n + 1, h => ⟨Rect.unit (offI k ⟨n, h⟩) S1x1x128.size (offI_inb k ⟨n, h⟩),
      shapeCast S1x1x128 (x.dV D ⟨n, h⟩) shapeCasts_S1x128_S1x1x128⟩ :: dvL x D n (Nat.le_of_succ_le h)
/-- The carried state gradient's rows as they are stored, the last in front. -/
def dsL (x : Tk F) (D : Fin 32 → FVec F S64x128 .f32) : (n : ℕ) → n ≤ 32 → List (View.Piece (Elt F) S32x64x128 .f32)
  | 0, _ => []
  | n + 1, h => ⟨Rect.unit (offD ⟨n, h⟩) S1x64x128.size (offD_inb ⟨n, h⟩),
      shapeCast S1x64x128 (x.next D ⟨n, h⟩) shapeCasts_S64x128_S1x64x128⟩ :: dsL x D n (Nat.le_of_succ_le h)
/-- A token's tile of a key-indexed gradient as it is stored. -/
abbrev gL (x : FVec F S64x128 .f32) : List (View.Piece (Elt F) S16x64x64 .f32) :=
  [⟨Rect.unit (k0_off66 k) S1x64x64.size (k0_off66_inb k), fold2 x⟩]

variable (arg1 : Memref sig .tc .vmem S16x64x128 .f32) (arg2 : Memref sig .tc .vmem S16x64x128 .f32) (arg3 : Memref sig .tc .vmem S16x64x128 .f32) (arg4 : Memref sig .tc .vmem S16x64x128 .f32) (arg5 : Memref sig .tc .vmem S16x64x128 .f32) (arg6 : Memref sig .tc .vmem S16x32x128 .f32) (arg7 : Memref sig .tc .vmem S16x32x128 .f32) (arg8 : Memref sig .tc .vmem S16x32x64x128 .f32) (arg9 : Memref sig .tc .vmem S16x32x128 .f32) (arg16 : Memref sig .tc .vmem S32x64x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f16 : BufTy.Contents (Elt F) arg16.view.ty)

/-- The token a turn works on. -/
def tk : Tk F where
  w := tok k arg1 X1
  kn := tok k arg2 X2
  b := tok k arg3 X3
  k := tok k arg4 X4
  r := tok k arg5 X5
  v := row k arg6 X6
  dy := row k arg7 X7
  sp := sta k arg8 X8
  sa := row k arg9 X9

variable (c : Dev nD) (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg16 : arg16.IsWhole) (arg10 : Memref sig .tc .vmem S16x64x64 .f32) (harg10 : arg10.IsWhole) (arg11 : Memref sig .tc .vmem S16x64x64 .f32) (harg11 : arg11.IsWhole) (arg12 : Memref sig .tc .vmem S16x64x64 .f32) (harg12 : arg12.IsWhole) (arg13 : Memref sig .tc .vmem S16x64x64 .f32) (harg13 : arg13.IsWhole) (arg14 : Memref sig .tc .vmem S16x64x64 .f32) (harg14 : arg14.IsWhole) (arg15 : Memref sig .tc .vmem S16x32x128 .f32) (harg15 : arg15.IsWhole)

theorem trip_L10 : (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).1 f16 = gL k ((tk k arg1 arg2 arg3 arg4 arg5 arg6 arg7 arg8 arg9 X1 X2 X3 X4 X5 X6 X7 X8 X9).dW (car arg16 f16)) := by
  unfold trip; rfl
theorem trip_L11 : (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.1 f16 = gL k ((tk k arg1 arg2 arg3 arg4 arg5 arg6 arg7 arg8 arg9 X1 X2 X3 X4 X5 X6 X7 X8 X9).dKN (car arg16 f16)) := by
  unfold trip; rfl
theorem trip_L12 : (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.1 f16 = gL k ((tk k arg1 arg2 arg3 arg4 arg5 arg6 arg7 arg8 arg9 X1 X2 X3 X4 X5 X6 X7 X8 X9).dB (car arg16 f16)) := by
  unfold trip; rfl
theorem trip_L13 : (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.1 f16 = gL k ((tk k arg1 arg2 arg3 arg4 arg5 arg6 arg7 arg8 arg9 X1 X2 X3 X4 X5 X6 X7 X8 X9).dK (car arg16 f16)) := by
  unfold trip; rfl
theorem trip_L14 : (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.2.1 f16 = gL k (tk k arg1 arg2 arg3 arg4 arg5 arg6 arg7 arg8 arg9 X1 X2 X3 X4 X5 X6 X7 X8 X9).dR := by
  unfold trip; rfl
theorem trip_L15 : (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.2.2.1 f16 = dvL k (tk k arg1 arg2 arg3 arg4 arg5 arg6 arg7 arg8 arg9 X1 X2 X3 X4 X5 X6 X7 X8 X9) (car arg16 f16) 32 le_rfl := by
  unfold trip; rfl
theorem trip_L16 : (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 k).2.2.2.2.2.2.1 f16 = dsL (tk k arg1 arg2 arg3 arg4 arg5 arg6 arg7 arg8 arg9 X1 X2 X3 X4 X5 X6 X7 X8 X9) (car arg16 f16) 32 le_rfl := by
  unfold trip; rfl

end Cert.Proof.WkvBwd

end
-- ==== Proof.Reads.lean ====
module

public import proofs.«01_k».proof.Proof.Rows
public import Idealize.ShloMosaic.Lib.Pointwise
public import Idealize.ShloMosaic.Lib.WholeRead
public import Idealize.ShloMosaic.Lib.Pipeline.Value

@[expose] public section

set_option maxRecDepth 16384

noncomputable section

namespace Cert.Proof.WkvBwd

open Cert.KernelIdeal Cert.KernelIdeal.Gen
open Idealize.ShloMosaic Idealize.ShloMosaic.TcCoe

variable {F : FTy → Type} [FloatOps F]

/-! ## Where the turns of the loop read and write -/

theorem trips_eq : k0_t1_loop.trips = 16 := by decide

/-- The token of a block that turn `k` works on: the last first. -/
def tokOf (k : Fin k0_t1_loop.trips) : Fin 16 := ⟨15 - k.val, by omega⟩

theorem off1_zero (k : Fin k0_t1_loop.trips) : k0_off1 k 0 = 15 - k.val := by
  have hk : k.val < 16 := trips_eq ▸ k.isLt
  show (Scalar.indexCast (Scalar.subi 15#32 (Scf.iv 0#32 1#32 k.val))).toNat = _
  show (15#32 - (0#32 + BitVec.ofNat 32 k.val * 1#32)).toNat = _
  simp only [BitVec.zero_add, BitVec.mul_one, BitVec.toNat_sub, BitVec.toNat_ofNat]
  omega

theorem off1_eq (k : Fin k0_t1_loop.trips) : k0_off1 k = ![15 - k.val, 0, 0] := by
  funext a; fin_cases a
  · exact off1_zero k
  · rfl
  · rfl

theorem off66_eq (k : Fin k0_t1_loop.trips) : k0_off66 k = ![15 - k.val, 0, 0] := off1_eq k

theorem tok_apply (k : Fin k0_t1_loop.trips) (a : Memref sig .tc .vmem S16x64x128 .f32)
    (X : BufTy.Contents (Elt F) a.view.ty) (j : Fin 64) (l : Fin 128) :
    tok k a X (ix2 j l) = a.view.read (Elt F) X (ix3 (tokOf k) j l) := by
  unfold tok
  rw [shapeCast_apply _ _ (ix2 j l) (ix3 (0 : Fin 1) j l) (by simp [Shape.rowMajor_val_three, Shape.rowMajor_val_two])]
  rw [View.readAt_apply]
  refine congrArg (a.view.read (Elt F) X) ?_
  funext d; fin_cases d <;> refine Fin.ext ?_
  · simp [LoadRect.idx, off1_eq, tokOf]
  · simp [LoadRect.idx, off1_eq, tokOf]
  · simp [LoadRect.idx, off1_eq, tokOf]

theorem row_apply (k : Fin k0_t1_loop.trips) (a : Memref sig .tc .vmem S16x32x128 .f32)
    (X : BufTy.Contents (Elt F) a.view.ty) (n : Fin 32) (l : Fin 128) :
    row k a X n (ix2 (0 : Fin 1) l) = a.view.read (Elt F) X (ix3 (tokOf k) n l) := by
  unfold row
  rw [shapeCast_apply _ _ (ix2 (0 : Fin 1) l) (ix3 (0 : Fin 1) (0 : Fin 1) l) (by simp [Shape.rowMajor_val_three, Shape.rowMajor_val_two])]
  rw [View.readAt_apply]
  refine congrArg (a.view.read (Elt F) X) ?_
  funext d; fin_cases d <;> refine Fin.ext ?_
  · simp [LoadRect.idx, offI, off1_zero, tokOf]
  · simp [LoadRect.idx, offI, off1_zero, tokOf]
  · simp [LoadRect.idx, offI, off1_zero, tokOf]

theorem sta_apply (k : Fin k0_t1_loop.trips) (a : Memref sig .tc .vmem S16x32x64x128 .f32)
    (X : BufTy.Contents (Elt F) a.view.ty) (n : Fin 32) (j : Fin 64) (l : Fin 128) :
    sta k a X n (ix2 j l) = a.view.read (Elt F) X (ix4 (tokOf k) n j l) := by
  unfold sta
  rw [shapeCast_apply _ _ (ix2 j l) (ix4 (0 : Fin 1) (0 : Fin 1) j l) (by simp [Shape.rowMajor_val_four, Shape.rowMajor_val_two])]
  rw [View.readAt_apply]
  refine congrArg (a.view.read (Elt F) X) ?_
  funext d; fin_cases d <;> refine Fin.ext ?_
  · simp [LoadRect.idx, offS, off1_zero, tokOf]
  · simp [LoadRect.idx, offS, off1_zero, tokOf]
  · simp [LoadRect.idx, offS, off1_zero, tokOf]
  · simp [LoadRect.idx, offS, off1_zero, tokOf]

theorem car_apply (a : Memref sig .tc .vmem S32x64x128 .f32)
    (X : BufTy.Contents (Elt F) a.view.ty) (n : Fin 32) (j : Fin 64) (l : Fin 128) :
    car a X n (ix2 j l) = a.view.read (Elt F) X (ix3 n j l) := by
  unfold car
  rw [shapeCast_apply _ _ (ix2 j l) (ix3 (0 : Fin 1) j l) (by simp [Shape.rowMajor_val_three, Shape.rowMajor_val_two])]
  rw [View.readAt_apply]
  refine congrArg (a.view.read (Elt F) X) ?_
  funext d; fin_cases d <;> refine Fin.ext ?_
  · simp [LoadRect.idx, offD]
  · simp [LoadRect.idx, offD]
  · simp [LoadRect.idx, offD]

/-! ## What the stores of one turn leave -/

theorem dsL_read (a : Memref sig .tc .vmem S32x64x128 .f32) (f : BufTy.Contents (Elt F) a.view.ty) (x : Tk F)
    (D : Fin 32 → FVec F S64x128 .f32) (m : ℕ) (hm : m ≤ 32) (n : Fin 32) (h : n.val < m) (j : Fin 64) (l : Fin 128) :
    a.view.read (Elt F) (a.view.writes (Elt F) f (dsL x D m hm)) (ix3 n j l) = x.next D n (ix2 j l) := by
  induction m with
  | zero => omega
  | succ m ih =>
    rw [dsL]
    by_cases e : n.val = m
    · obtain rfl : n = ⟨m, hm⟩ := Fin.ext e
      rw [View.read_writes_cons_hit_of_coords a.view f _ _ _ (ix3 (0 : Fin 1) j l)]
      · exact shapeCast_apply _ _ _ (ix2 j l) (by simp [Shape.rowMajor_val_three, Shape.rowMajor_val_two])
      · intro d; fin_cases d <;> simp [offD]
    · rw [View.read_writes_cons_miss_of_axis a.view f _ _ _ 0 m 1 rfl rfl rfl (by
        show n.val < m ∨ m + 1 ≤ n.val; omega)]
      exact ih (Nat.le_of_succ_le hm) (by omega)

theorem car_dsL (a : Memref sig .tc .vmem S32x64x128 .f32) (f : BufTy.Contents (Elt F) a.view.ty) (x : Tk F)
    (D : Fin 32 → FVec F S64x128 .f32) : car a (a.view.writes (Elt F) f (dsL x D 32 le_rfl)) = x.next D := by
  funext n q
  obtain ⟨j, l, rfl⟩ : ∃ j l, q = ix2 j l := ⟨q 0, q 1, eq_ix2 q⟩
  rw [car_apply, dsL_read a f x D 32 le_rfl n n.isLt]

theorem dvL_hit (a : Memref sig .tc .vmem S16x32x128 .f32) (f : BufTy.Contents (Elt F) a.view.ty) (x : Tk F)
    (D : Fin 32 → FVec F S64x128 .f32) (k : Fin k0_t1_loop.trips) (m : ℕ) (hm : m ≤ 32) (n : Fin 32) (h : n.val < m) (l : Fin 128) :
    a.view.read (Elt F) (a.view.writes (Elt F) f (dvL k x D m hm)) (ix3 (tokOf k) n l) = x.dV D n (ix2 (0 : Fin 1) l) := by
  induction m with
  | zero => omega
  | succ m ih =>
    rw [dvL]
    by_cases e : n.val = m
    · obtain rfl : n = ⟨m, hm⟩ := Fin.ext e
      rw [View.read_writes_cons_hit_of_coords a.view f _ _ _ (ix3 (0 : Fin 1) (0 : Fin 1) l)]
      · exact shapeCast_apply _ _ _ (ix2 (0 : Fin 1) l) (by simp [Shape.rowMajor_val_three, Shape.rowMajor_val_two])
      · intro d; fin_cases d <;> simp [offI, off1_zero, tokOf]
    · rw [View.read_writes_cons_miss_of_axis a.view f _ _ _ 1 m 1 rfl rfl rfl (by
        show n.val < m ∨ m + 1 ≤ n.val; omega)]
      exact ih (Nat.le_of_succ_le hm) (by omega)

theorem dvL_miss (a : Memref sig .tc .vmem S16x32x128 .f32) (f : BufTy.Contents (Elt F) a.view.ty) (x : Tk F)
    (D : Fin 32 → FVec F S64x128 .f32) (k : Fin k0_t1_loop.trips) (m : ℕ) (hm : m ≤ 32) (s : Fin 16) (hs : s ≠ tokOf k)
    (n : Fin 32) (l : Fin 128) :
    a.view.read (Elt F) (a.view.writes (Elt F) f (dvL k x D m hm)) (ix3 s n l) = a.view.read (Elt F) f (ix3 s n l) := by
  induction m with
  | zero => rfl
  | succ m ih =>
    rw [dvL, View.read_writes_cons_miss_of_axis a.view f _ _ _ 0 (15 - k.val) 1 (off1_zero k) rfl rfl (by
        have : s.val ≠ 15 - k.val := fun h => hs (Fin.ext h)
        show s.val < 15 - k.val ∨ 15 - k.val + 1 ≤ s.val; omega)]
    exact ih (Nat.le_of_succ_le hm)

theorem tile_hit (a : Memref sig .tc .vmem S16x64x64 .f32) (f : BufTy.Contents (Elt F) a.view.ty) (w : FVec F S1x64x64 .f32)
    (k : Fin k0_t1_loop.trips) (j p : Fin 64) :
    a.view.read (Elt F) (a.view.writes (Elt F) f [⟨Rect.unit (k0_off66 k) S1x64x64.size (k0_off66_inb k), w⟩]) (ix3 (tokOf k) j p)
      = w (ix3 (0 : Fin 1) j p) := by
  apply View.read_writes_cons_hit_of_coords a.view f
  intro d; fin_cases d <;> simp [off66_eq, tokOf]

theorem gL_hit (a : Memref sig .tc .vmem S16x64x64 .f32) (f : BufTy.Contents (Elt F) a.view.ty) (x : FVec F S64x128 .f32)
    (k : Fin k0_t1_loop.trips) (j p : Fin 64) :
    a.view.read (Elt F) (a.view.writes (Elt F) f (gL k x)) (ix3 (tokOf k) j p) = fold2 x (ix3 (0 : Fin 1) j p) :=
  tile_hit a f (fold2 x) k j p

theorem gL_miss (a : Memref sig .tc .vmem S16x64x64 .f32) (f : BufTy.Contents (Elt F) a.view.ty) (x : FVec F S64x128 .f32)
    (k : Fin k0_t1_loop.trips) (s : Fin 16) (hs : s ≠ tokOf k) (j p : Fin 64) :
    a.view.read (Elt F) (a.view.writes (Elt F) f (gL k x)) (ix3 s j p) = a.view.read (Elt F) f (ix3 s j p) := by
  refine (View.read_writes_cons_miss_of_axis a.view f _ _ _ 0 (15 - k.val) 1 (off1_zero k) rfl rfl ?_).trans rfl
  have : s.val ≠ 15 - k.val := fun h => hs (Fin.ext h)
  show s.val < 15 - k.val ∨ 15 - k.val + 1 ≤ s.val; omega

/-! ## The sixteen turns -/

/-- The carried state gradient before turn `k`, the turns' tokens being `y 0, y 1, …`. -/
def carry (y : ℕ → Tk F) (D : Fin 32 → FVec F S64x128 .f32) : ℕ → Fin 32 → FVec F S64x128 .f32
  | 0 => D
  | k + 1 => (y k).next (carry y D k)

theorem carry_add (y : ℕ → Tk F) (D : Fin 32 → FVec F S64x128 .f32) (n k : ℕ) :
    carry y D (n + k) = carry (fun i => y (n + i)) (carry y D n) k := by
  induction k with
  | zero => rfl
  | succ k ih => rw [← Nat.add_assoc, carry, ih]; rfl

/-- A block of a key-indexed gradient after `k` turns holds the last `k` tokens' tiles. -/
theorem tiles_read (a : Memref sig .tc .vmem S16x64x64 .f32) (B : ℕ → BufTy.Contents (Elt F) a.view.ty) (val : ℕ → FVec F S64x128 .f32)
    (hB : ∀ k : Fin k0_t1_loop.trips, B (k.val + 1) = a.view.writes (Elt F) (B k.val) (gL k (val k.val)))
    (k : ℕ) (hk : k ≤ 16) (s : Fin 16) (hs : 15 - s.val < k) (j p : Fin 64) :
    a.view.read (Elt F) (B k) (ix3 s j p) = fold2 (val (15 - s.val)) (ix3 (0 : Fin 1) j p) := by
  induction k with
  | zero => omega
  | succ k ih =>
    have hk' : k < k0_t1_loop.trips := trips_eq ▸ hk
    rw [hB ⟨k, hk'⟩]
    by_cases e : s = tokOf ⟨k, hk'⟩
    · subst e
      rw [gL_hit]
      have : 15 - (tokOf ⟨k, hk'⟩).val = k := by show 15 - (15 - k) = k; omega
      rw [this]
    · rw [gL_miss _ _ _ _ _ e]
      refine ih (by omega) ?_
      have : s.val ≠ 15 - k := fun h => e (Fin.ext h)
      have := s.isLt; omega

/-- A block of the value gradient after `k` turns holds the last `k` tokens' rows. -/
theorem rows_read (a : Memref sig .tc .vmem S16x32x128 .f32) (B : ℕ → BufTy.Contents (Elt F) a.view.ty) (y : ℕ → Tk F)
    (D : ℕ → Fin 32 → FVec F S64x128 .f32)
    (hB : ∀ k : Fin k0_t1_loop.trips, B (k.val + 1) = a.view.writes (Elt F) (B k.val) (dvL k (y k.val) (D k.val) 32 le_rfl))
    (k : ℕ) (hk : k ≤ 16) (s : Fin 16) (hs : 15 - s.val < k) (n : Fin 32) (l : Fin 128) :
    a.view.read (Elt F) (B k) (ix3 s n l) = (y (15 - s.val)).dV (D (15 - s.val)) n (ix2 (0 : Fin 1) l) := by
  induction k with
  | zero => omega
  | succ k ih =>
    have hk' : k < k0_t1_loop.trips := trips_eq ▸ hk
    rw [hB ⟨k, hk'⟩]
    by_cases e : s = tokOf ⟨k, hk'⟩
    · subst e
      rw [dvL_hit _ _ _ _ _ _ _ n n.isLt]
      have : 15 - (tokOf ⟨k, hk'⟩).val = k := by show 15 - (15 - k) = k; omega
      rw [this]
    · rw [dvL_miss _ _ _ _ _ _ _ _ e]
      refine ih (by omega) ?_
      have : s.val ≠ 15 - k := fun h => e (Fin.ext h)
      have := s.isLt; omega

end Cert.Proof.WkvBwd

end
-- ==== Proof.Body.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Loop
public import proofs.«01_k».proof.Proof.Reads

@[expose] public section

set_option maxRecDepth 16384
set_option maxHeartbeats 4000000

noncomputable section

namespace Cert.Proof.WkvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources a trip speaks of: points-tos alone. -/
local notation "𝕄" => MT nD τ sig Unit (Elt F) ℕ (UR sig nD τ) ℕ

/-- A block of a key-indexed gradient, its tokens worked on last first. -/
def outG (val : ℕ → FVec F S64x128 .f32) : FVec F S16x64x64 .f32 := fun q => fold2 (val (15 - (q 0).val)) (ix3 (0 : Fin 1) (q 1) (q 2))
/-- A block of the value gradient. -/
def outV (y : ℕ → Tk F) (D : Fin 32 → FVec F S64x128 .f32) : FVec F S16x32x128 .f32 :=
  fun q => (y (15 - (q 0).val)).dV (carry y D (15 - (q 0).val)) (q 1) (ix2 (0 : Fin 1) (q 2))
/-- The carried state gradient as the scratch holds it. -/
def outD (D : Fin 32 → FVec F S64x128 .f32) : FVec F S32x64x128 .f32 := fun q => D (q 0) (ix2 (q 1) (q 2))
/-- No state gradient yet. -/
def D0 : Fin 32 → FVec F S64x128 .f32 := fun _ _ => FloatOps.ofBits .f32 0x00000000#32

section
variable (c : Dev nD) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S16x32x64x128 .f32) (harg8 : arg8.IsWhole) (arg9 : Memref sig .tc .vmem S16x32x128 .f32) (harg9 : arg9.IsWhole) (arg10 : Memref sig .tc .vmem S16x64x64 .f32) (harg10 : arg10.IsWhole) (arg11 : Memref sig .tc .vmem S16x64x64 .f32) (harg11 : arg11.IsWhole) (arg12 : Memref sig .tc .vmem S16x64x64 .f32) (harg12 : arg12.IsWhole) (arg13 : Memref sig .tc .vmem S16x64x64 .f32) (harg13 : arg13.IsWhole) (arg14 : Memref sig .tc .vmem S16x64x64 .f32) (harg14 : arg14.IsWhole) (arg15 : Memref sig .tc .vmem S16x32x128 .f32) (harg15 : arg15.IsWhole) (arg16 : Memref sig .tc .vmem S32x64x128 .f32) (harg16 : arg16.IsWhole)
variable (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
variable (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty)
variable (y : ℕ → Tk F) (hy : ∀ k : Fin k0_t1_loop.trips, tk k arg1 arg2 arg3 arg4 arg5 arg6 arg7 arg8 arg9 X1 X2 X3 X4 X5 X6 X7 X8 X9 = y k.val)
include hy

theorem st_car (k : ℕ) (hk : k ≤ 16) : car arg16 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.2.2.2 = carry y (car arg16 G16) k := by
  induction k with
  | zero => rfl
  | succ k ih =>
    rw [st_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 ⟨k, trips_eq ▸ hk⟩]
    show car arg16 (arg16.view.writes (Elt F) _ _) = _
    rw [trip_L16, car_dsL, ih (by omega), hy]; rfl

theorem st_10 : arg10.view.read (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 16).1 = outG (fun k => (y k).dW (carry y (car arg16 G16) k)) := by
  funext q
  obtain ⟨s, j, p, rfl⟩ : ∃ s j p, q = ix3 s j p := ⟨q 0, q 1, q 2, eq_ix3 q⟩
  refine (tiles_read arg10 (fun k => (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).1) (fun k => (y k).dW (carry y (car arg16 G16) k)) (fun k => ?_) 16 le_rfl s (by omega) j p).trans rfl
  show (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 (k.val + 1)).1 = _
  rw [st_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k]
  show arg10.view.writes (Elt F) _ _ = _
  have hk : k.val ≤ 16 := trips_eq ▸ k.isLt.le
  rw [trip_L10, st_car (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 y hy k.val hk, hy]

theorem st_11 : arg11.view.read (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 16).2.1 = outG (fun k => (y k).dKN (carry y (car arg16 G16) k)) := by
  funext q
  obtain ⟨s, j, p, rfl⟩ : ∃ s j p, q = ix3 s j p := ⟨q 0, q 1, q 2, eq_ix3 q⟩
  refine (tiles_read arg11 (fun k => (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.1) (fun k => (y k).dKN (carry y (car arg16 G16) k)) (fun k => ?_) 16 le_rfl s (by omega) j p).trans rfl
  show (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 (k.val + 1)).2.1 = _
  rw [st_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k]
  show arg11.view.writes (Elt F) _ _ = _
  have hk : k.val ≤ 16 := trips_eq ▸ k.isLt.le
  rw [trip_L11, st_car (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 y hy k.val hk, hy]

theorem st_12 : arg12.view.read (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 16).2.2.1 = outG (fun k => (y k).dB (carry y (car arg16 G16) k)) := by
  funext q
  obtain ⟨s, j, p, rfl⟩ : ∃ s j p, q = ix3 s j p := ⟨q 0, q 1, q 2, eq_ix3 q⟩
  refine (tiles_read arg12 (fun k => (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.1) (fun k => (y k).dB (carry y (car arg16 G16) k)) (fun k => ?_) 16 le_rfl s (by omega) j p).trans rfl
  show (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 (k.val + 1)).2.2.1 = _
  rw [st_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k]
  show arg12.view.writes (Elt F) _ _ = _
  have hk : k.val ≤ 16 := trips_eq ▸ k.isLt.le
  rw [trip_L12, st_car (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 y hy k.val hk, hy]

theorem st_13 : arg13.view.read (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 16).2.2.2.1 = outG (fun k => (y k).dK (carry y (car arg16 G16) k)) := by
  funext q
  obtain ⟨s, j, p, rfl⟩ : ∃ s j p, q = ix3 s j p := ⟨q 0, q 1, q 2, eq_ix3 q⟩
  refine (tiles_read arg13 (fun k => (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.1) (fun k => (y k).dK (carry y (car arg16 G16) k)) (fun k => ?_) 16 le_rfl s (by omega) j p).trans rfl
  show (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 (k.val + 1)).2.2.2.1 = _
  rw [st_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k]
  show arg13.view.writes (Elt F) _ _ = _
  have hk : k.val ≤ 16 := trips_eq ▸ k.isLt.le
  rw [trip_L13, st_car (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 y hy k.val hk, hy]

theorem st_14 : arg14.view.read (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 16).2.2.2.2.1 = outG (fun k => (y k).dR) := by
  funext q
  obtain ⟨s, j, p, rfl⟩ : ∃ s j p, q = ix3 s j p := ⟨q 0, q 1, q 2, eq_ix3 q⟩
  refine (tiles_read arg14 (fun k => (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.2.1) (fun k => (y k).dR) (fun k => ?_) 16 le_rfl s (by omega) j p).trans rfl
  show (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 (k.val + 1)).2.2.2.2.1 = _
  rw [st_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k]
  show arg14.view.writes (Elt F) _ _ = _
  have hk : k.val ≤ 16 := trips_eq ▸ k.isLt.le
  rw [trip_L14, hy]

theorem st_15 : arg15.view.read (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 16).2.2.2.2.2.1 = outV y (car arg16 G16) := by
  funext q
  obtain ⟨s, j, p, rfl⟩ : ∃ s j p, q = ix3 s j p := ⟨q 0, q 1, q 2, eq_ix3 q⟩
  refine (rows_read arg15 (fun k => (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k).2.2.2.2.2.1) y (carry y (car arg16 G16)) (fun k => ?_) 16 le_rfl s (by omega) j p).trans rfl
  show (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 (k.val + 1)).2.2.2.2.2.1 = _
  rw [st_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 k]
  show arg15.view.writes (Elt F) _ _ = _
  have hk : k.val ≤ 16 := trips_eq ▸ k.isLt.le
  rw [trip_L15, st_car (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 y hy k.val hk, hy]

theorem st_16 : arg16.view.read (Elt F) (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 16).2.2.2.2.2.2 = outD (carry y (car arg16 G16) 16) := by
  funext q
  obtain ⟨n, j, p, rfl⟩ : ∃ s j p, q = ix3 s j p := ⟨q 0, q 1, q 2, eq_ix3 q⟩
  rw [← car_apply, st_car (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 G10 G11 G12 G13 G14 G15 G16 y hy 16 le_rfl]; rfl
end

/-- The grid's first point: the block of the last sixteen tokens. -/
abbrev cond0_0 (i : grid0.Coords) : Prop := (Scalar.cmpi .ne (Scalar.extui (Scalar.cmpi .eq (BitVec.ofNat 32 (i 0).val) 0#32)) 0#32) = 1#1

theorem hcond0_0 (t : Fin cfg0.N) : cond0_0 (grid0.coords t) ↔ t.val = 0 := by
  have ht : t.val < 129 := Nat.lt_of_lt_of_eq t.isLt N_0
  have e0 : (grid0.coords t 0).val = t.val / 1 % 129 := Pipeline.Grid.coords_val t 0 (by decide) rfl
  have e1 : t.val / 1 % 129 = t.val := by omega
  rw [e1] at e0
  simp only [cond0_0, e0]
  have : t.val = 0 ↔ t.val % 129 = 0 := by omega
  rw [this]
  word_cmp

/-- One block of sixteen tokens, the first to be worked on: no state gradient has come in. -/
theorem body_A (c : Dev nD) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S16x32x64x128 .f32) (harg8 : arg8.IsWhole) (arg9 : Memref sig .tc .vmem S16x32x128 .f32) (harg9 : arg9.IsWhole) (arg10 : Memref sig .tc .vmem S16x64x64 .f32) (harg10 : arg10.IsWhole) (arg11 : Memref sig .tc .vmem S16x64x64 .f32) (harg11 : arg11.IsWhole) (arg12 : Memref sig .tc .vmem S16x64x64 .f32) (harg12 : arg12.IsWhole) (arg13 : Memref sig .tc .vmem S16x64x64 .f32) (harg13 : arg13.IsWhole) (arg14 : Memref sig .tc .vmem S16x64x64 .f32) (harg14 : arg14.IsWhole) (arg15 : Memref sig .tc .vmem S16x32x128 .f32) (harg15 : arg15.IsWhole) (arg16 : Memref sig .tc .vmem S32x64x128 .f32) (harg16 : arg16.IsWhole) (hc0 : cond0_0 i)
    (x1 : Vec F S16x64x128 .f32) (x2 : Vec F S16x64x128 .f32) (x3 : Vec F S16x64x128 .f32) (x4 : Vec F S16x64x128 .f32) (x5 : Vec F S16x64x128 .f32) (x6 : Vec F S16x32x128 .f32) (x7 : Vec F S16x32x128 .f32) (x8 : Vec F S16x32x64x128 .f32) (x9 : Vec F S16x32x128 .f32) (y : ℕ → Tk F) (hy : ∀ k : Fin k0_t1_loop.trips, tk k arg1 arg2 arg3 arg4 arg5 arg6 arg7 arg8 arg9 (harg1.unread x1) (harg2.unread x2) (harg3.unread x3) (harg4.unread x4) (harg5.unread x5) (harg6.unread x6) (harg7.unread x7) (harg8.unread x8) (harg9.unread x9) = y k.val)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outG (fun k => (y k).dW (carry y D0 k))) ∗ owns (c : Thread nD τ) arg11 fullShare (outG (fun k => (y k).dKN (carry y D0 k))) ∗ owns (c : Thread nD τ) arg12 fullShare (outG (fun k => (y k).dB (carry y D0 k))) ∗ owns (c : Thread nD τ) arg13 fullShare (outG (fun k => (y k).dK (carry y D0 k))) ∗ owns (c : Thread nD τ) arg14 fullShare (outG (fun k => (y k).dR)) ∗ owns (c : Thread nD τ) arg15 fullShare (outV y D0) ∗ owns (c : Thread nD τ) arg16 fullShare (outD (carry y D0 16))) -∗ K ⟨⟩))
      ⊢ wp frame (wpE (defs₀ (F := F)) Variants.none (c : Thread nD τ) none) E (cc0_wkv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_wkv_bwd_eq_skeleton]; unfold cc0_wkv_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0)
  generalize hg : arg16.view.writes (Elt F) arg16.view.junk _ = g
  have hD : car arg16 g = D0 := by
    rw [← hg]; funext n q
    obtain ⟨j, l, rfl⟩ : ∃ j l, q = ix2 j l := ⟨q 0, q 1, eq_ix2 q⟩
    rw [car_apply]
    unfold body_A.sl.H16_1
    refine (View.read_writes_cons_hit_of_coords arg16.view _ _ _ _ (ix3 n j l) (ix3 n j l) ?_).trans rfl
    intro d; fin_cases d <;> simp
  have e10 := st_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 g y hy
  have e11 := st_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 g y hy
  have e12 := st_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 g y hy
  have e13 := st_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 g y hy
  have e14 := st_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 g y hy
  have e15 := st_15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 g y hy
  have e16 := st_16 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 g y hy
  rw [hD] at e10 e11 e12 e13 e15 e16
  sl_exec
  sl_step
  rw [show Scf.trips k0_t1_loop.lb k0_t1_loop.ub k0_t1_loop.st = 16 from trips_eq]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [H14]
  · iexists _; isplitr; · ipureintro; exact e14
    iexact H14
  isplitl [H15]
  · iexists _; isplitr; · ipureintro; exact e15
    iexact H15
  iexists _; isplitr; · ipureintro; exact e16
  iexact H16
/-- One block of sixteen tokens, the state gradient D having come in. -/
theorem body_B (c : Dev nD) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S16x32x64x128 .f32) (harg8 : arg8.IsWhole) (arg9 : Memref sig .tc .vmem S16x32x128 .f32) (harg9 : arg9.IsWhole) (arg10 : Memref sig .tc .vmem S16x64x64 .f32) (harg10 : arg10.IsWhole) (arg11 : Memref sig .tc .vmem S16x64x64 .f32) (harg11 : arg11.IsWhole) (arg12 : Memref sig .tc .vmem S16x64x64 .f32) (harg12 : arg12.IsWhole) (arg13 : Memref sig .tc .vmem S16x64x64 .f32) (harg13 : arg13.IsWhole) (arg14 : Memref sig .tc .vmem S16x64x64 .f32) (harg14 : arg14.IsWhole) (arg15 : Memref sig .tc .vmem S16x32x128 .f32) (harg15 : arg15.IsWhole) (arg16 : Memref sig .tc .vmem S32x64x128 .f32) (harg16 : arg16.IsWhole) (hc0 : ¬cond0_0 i)
    (x1 : Vec F S16x64x128 .f32) (x2 : Vec F S16x64x128 .f32) (x3 : Vec F S16x64x128 .f32) (x4 : Vec F S16x64x128 .f32) (x5 : Vec F S16x64x128 .f32) (x6 : Vec F S16x32x128 .f32) (x7 : Vec F S16x32x128 .f32) (x8 : Vec F S16x32x64x128 .f32) (x9 : Vec F S16x32x128 .f32) (y : ℕ → Tk F) (hy : ∀ k : Fin k0_t1_loop.trips, tk k arg1 arg2 arg3 arg4 arg5 arg6 arg7 arg8 arg9 (harg1.unread x1) (harg2.unread x2) (harg3.unread x3) (harg4.unread x4) (harg5.unread x5) (harg6.unread x6) (harg7.unread x7) (harg8.unread x8) (harg9.unread x9) = y k.val) (D : Fin 32 → FVec F S64x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (outD D) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outG (fun k => (y k).dW (carry y D k))) ∗ owns (c : Thread nD τ) arg11 fullShare (outG (fun k => (y k).dKN (carry y D k))) ∗ owns (c : Thread nD τ) arg12 fullShare (outG (fun k => (y k).dB (carry y D k))) ∗ owns (c : Thread nD τ) arg13 fullShare (outG (fun k => (y k).dK (carry y D k))) ∗ owns (c : Thread nD τ) arg14 fullShare (outG (fun k => (y k).dR)) ∗ owns (c : Thread nD τ) arg15 fullShare (outV y D) ∗ owns (c : Thread nD τ) arg16 fullShare (outD (carry y D 16))) -∗ K ⟨⟩))
      ⊢ wp frame (wpE (defs₀ (F := F)) Variants.none (c : Thread nD τ) none) E (cc0_wkv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_wkv_bwd_eq_skeleton]; unfold cc0_wkv_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0)
  have e10 := st_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 f16 y hy
  have e11 := st_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 f16 y hy
  have e12 := st_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 f16 y hy
  have e13 := st_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 f16 y hy
  have e14 := st_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 f16 y hy
  have e15 := st_15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 f16 y hy
  have e16 := st_16 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg3.unread x3) (harg4.unread x4) (harg5.unread x5) (harg6.unread x6) (harg7.unread x7) (harg8.unread x8) (harg9.unread x9) f10 f11 f12 f13 f14 f15 f16 y hy
  have hD : car arg16 f16 = D := by
    funext n q
    obtain ⟨j, l, rfl⟩ : ∃ j l, q = ix2 j l := ⟨q 0, q 1, eq_ix2 q⟩
    rw [car_apply, hf16]; rfl
  rw [hD] at e10 e11 e12 e13 e15 e16
  sl_step
  rw [show Scf.trips k0_t1_loop.lb k0_t1_loop.ub k0_t1_loop.st = 16 from trips_eq]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [H14]
  · iexists _; isplitr; · ipureintro; exact e14
    iexact H14
  isplitl [H15]
  · iexists _; isplitr; · ipureintro; exact e15
    iexact H15
  iexists _; isplitr; · ipureintro; exact e16
  iexact H16

end Cert.Proof.WkvBwd

end
-- ==== Proof.Spec.lean ====
module

public import Idealize.ShloMosaic.PureOps.Ideal

@[expose] public section

noncomputable section

namespace Cert.Proof.WkvBwd

/-- The recurrence's inputs over the extended reals: the vectors of each batch entry, token, head and channel, the
    gradient of what each token reads, and the state each token finds. -/
structure Args where
  r : Fin 2 → Fin 2064 → Fin 32 → Fin 64 → EReal
  w : Fin 2 → Fin 2064 → Fin 32 → Fin 64 → EReal
  k : Fin 2 → Fin 2064 → Fin 32 → Fin 64 → EReal
  v : Fin 2 → Fin 2064 → Fin 32 → Fin 64 → EReal
  kn : Fin 2 → Fin 2064 → Fin 32 → Fin 64 → EReal
  b : Fin 2 → Fin 2064 → Fin 32 → Fin 64 → EReal
  dy : Fin 2 → Fin 2064 → Fin 32 → Fin 64 → EReal
  sp : Fin 2064 → Fin 2 → Fin 32 → Fin 64 → Fin 64 → EReal

/-- The token that step `q` of the whole pass works on: the last first. -/
def rev (q : ℕ) : Fin 2064 := ⟨2063 - q, by omega⟩

namespace Args

variable (a : Args) (e : Fin 2) (h : Fin 32) (t : Fin 2064)

/-- The state's product with `kn`. -/
def sa (i : Fin 64) : EReal := ∑ j : Fin 64, a.sp t e h i j * a.kn e t h j
/-- The state after the token. -/
def st (i j : Fin 64) : EReal := a.sp t e h i j * a.w e t h j + a.sa e h t i * a.b e t h j + a.v e t h i * a.k e t h j

variable (D : Fin 64 → Fin 64 → EReal)

/-- The gradient of the state after the token, `D` being what the later tokens hand back. -/
def g (i j : Fin 64) : EReal := D i j + a.dy e t h i * a.r e t h j
/-- The gradient of the state's product with `kn`. -/
def ds (i : Fin 64) : EReal := ∑ j : Fin 64, a.g e h t D i j * a.b e t h j
/-- The gradient of the state the token finds. -/
def prev (i j : Fin 64) : EReal := a.g e h t D i j * a.w e t h j + a.ds e h t D i * a.kn e t h j

/-- What the last `q` tokens hand back. -/
def dS : ℕ → Fin 64 → Fin 64 → EReal
  | 0 => fun _ _ => 0
  | q + 1 => a.prev e h (rev q) (dS q)

/-! ## The six gradients -/

/-- What the tokens after `t` hand back to it. -/
def later : Fin 64 → Fin 64 → EReal := a.dS e h (2063 - t.val)

def dr (j : Fin 64) : EReal := ∑ i : Fin 64, a.st e h t i j * a.dy e t h i
def dw (j : Fin 64) : EReal := ∑ i : Fin 64, a.sp t e h i j * a.g e h t (a.later e h t) i j
def dk (j : Fin 64) : EReal := ∑ i : Fin 64, a.v e t h i * a.g e h t (a.later e h t) i j
def dv (i : Fin 64) : EReal := ∑ j : Fin 64, a.g e h t (a.later e h t) i j * a.k e t h j
def dkn (j : Fin 64) : EReal := ∑ i : Fin 64, a.sp t e h i j * a.ds e h t (a.later e h t) i
def db (j : Fin 64) : EReal := ∑ i : Fin 64, a.sa e h t i * a.g e h t (a.later e h t) i j

end Args

end Cert.Proof.WkvBwd

end
-- ==== Proof.Launch.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Body
public import proofs.«01_k».proof.Proof.Spec
public import Idealize.ShloMosaic.Lib.Pipeline.ValueKit

@[expose] public section

set_option maxRecDepth 16384

noncomputable section

namespace Cert.Proof.WkvBwd

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the launch speaks of. -/
local notation "𝕄" => MT nD τ sig Unit (Elt F) ℕ (UR sig nD τ) ℕ

/-! ## The tokens -/

/-- Step `q`'s token, read from the nine arrays. -/
def toks (w kn b k r : FVec F S2064x64x128 .f32) (v dy : FVec F S2064x32x128 .f32) (sp : FVec F S2064x32x64x128 .f32)
    (sa : FVec F S2064x32x128 .f32) (q : ℕ) : Tk F where
  w := fun p => w (ix3 (rev q) (p 0) (p 1))
  kn := fun p => kn (ix3 (rev q) (p 0) (p 1))
  b := fun p => b (ix3 (rev q) (p 0) (p 1))
  k := fun p => k (ix3 (rev q) (p 0) (p 1))
  r := fun p => r (ix3 (rev q) (p 0) (p 1))
  v := fun n p => v (ix3 (rev q) n (p 1))
  dy := fun n p => dy (ix3 (rev q) n (p 1))
  sa := fun n p => sa (ix3 (rev q) n (p 1))
  sp := fun n p => sp (ix4 (rev q) n (p 0) (p 1))

variable (m : (ℓ : Loc nD τ sig) → Buf (Elt F) ℓ) (ρ : Dev nD → PrngReg)

/-- The tokens of the arrays the kernel is called with. -/
def gY (c : Dev nD) : ℕ → Tk F :=
  toks (V m c main_v16) (V m c main_v25) (V m c main_v34) (V m c main_v43) (V m c main_v52) (V m c main_v59) (V m c main_v66) (V m c main_v4) (V m c main_v7)

/-- The tokens of grid point `t`'s blocks. -/
def yb (c : Dev nD) (t : ℕ) : ℕ → Tk F := fun k => gY m c (16 * t + k)
/-- The state gradient that grid point `t` finds. -/
def cb (c : Dev nD) (t : ℕ) : Fin 32 → FVec F S64x128 .f32 := carry (gY m c) D0 (16 * t)

theorem cb_zero (c : Dev nD) : cb m c 0 = D0 := rfl
theorem cb_succ (c : Dev nD) (t : ℕ) : cb m c (t + 1) = carry (yb m c t) (cb m c t) 16 := carry_add (gY m c) D0 (16 * t) 16

theorem idx0_0 : ∀ t : Fin cfg0.N, win0_0.index t = ![128 - t.val, 0, 0] := (by decide +kernel : ∀ t : Fin grid0.N, win0_0.index t = ![128 - t.val, 0, 0])
theorem idx0_1 : ∀ t : Fin cfg0.N, win0_1.index t = ![128 - t.val, 0, 0] := (by decide +kernel : ∀ t : Fin grid0.N, win0_1.index t = ![128 - t.val, 0, 0])
theorem idx0_2 : ∀ t : Fin cfg0.N, win0_2.index t = ![128 - t.val, 0, 0] := (by decide +kernel : ∀ t : Fin grid0.N, win0_2.index t = ![128 - t.val, 0, 0])
theorem idx0_3 : ∀ t : Fin cfg0.N, win0_3.index t = ![128 - t.val, 0, 0] := (by decide +kernel : ∀ t : Fin grid0.N, win0_3.index t = ![128 - t.val, 0, 0])
theorem idx0_4 : ∀ t : Fin cfg0.N, win0_4.index t = ![128 - t.val, 0, 0] := (by decide +kernel : ∀ t : Fin grid0.N, win0_4.index t = ![128 - t.val, 0, 0])
theorem idx0_5 : ∀ t : Fin cfg0.N, win0_5.index t = ![128 - t.val, 0, 0] := (by decide +kernel : ∀ t : Fin grid0.N, win0_5.index t = ![128 - t.val, 0, 0])
theorem idx0_6 : ∀ t : Fin cfg0.N, win0_6.index t = ![128 - t.val, 0, 0] := (by decide +kernel : ∀ t : Fin grid0.N, win0_6.index t = ![128 - t.val, 0, 0])
theorem idx0_7 : ∀ t : Fin cfg0.N, win0_7.index t = ![128 - t.val, 0, 0, 0] := (by decide +kernel : ∀ t : Fin grid0.N, win0_7.index t = ![128 - t.val, 0, 0, 0])
theorem idx0_8 : ∀ t : Fin cfg0.N, win0_8.index t = ![128 - t.val, 0, 0] := (by decide +kernel : ∀ t : Fin grid0.N, win0_8.index t = ![128 - t.val, 0, 0])
theorem idx0_9 : ∀ t : Fin cfg0.N, win0_9.index t = ![128 - t.val, 0, 0] := (by decide +kernel : ∀ t : Fin grid0.N, win0_9.index t = ![128 - t.val, 0, 0])
theorem idx0_10 : ∀ t : Fin cfg0.N, win0_10.index t = ![128 - t.val, 0, 0] := (by decide +kernel : ∀ t : Fin grid0.N, win0_10.index t = ![128 - t.val, 0, 0])
theorem idx0_11 : ∀ t : Fin cfg0.N, win0_11.index t = ![128 - t.val, 0, 0] := (by decide +kernel : ∀ t : Fin grid0.N, win0_11.index t = ![128 - t.val, 0, 0])
theorem idx0_12 : ∀ t : Fin cfg0.N, win0_12.index t = ![128 - t.val, 0, 0] := (by decide +kernel : ∀ t : Fin grid0.N, win0_12.index t = ![128 - t.val, 0, 0])
theorem idx0_13 : ∀ t : Fin cfg0.N, win0_13.index t = ![128 - t.val, 0, 0] := (by decide +kernel : ∀ t : Fin grid0.N, win0_13.index t = ![128 - t.val, 0, 0])
theorem idx0_14 : ∀ t : Fin cfg0.N, win0_14.index t = ![128 - t.val, 0, 0] := (by decide +kernel : ∀ t : Fin grid0.N, win0_14.index t = ![128 - t.val, 0, 0])

theorem blk_0 (c : Dev nD) (t : Fin cfg0.N) (X : Buf (Elt F) (((cfg0.win 0).blk t).view.loc (c : Thread nD τ))) (s : Fin 16) (j : Fin 64) (l : Fin 128) (r : Fin 2064) (h : r.val = (128 - t.val) * 16 + s.val) :
    (((cfg0.win 0).blk t).view.read (Elt F) X : FVec F S16x64x128 .f32) (ix3 s j l) = (X : FVec F S2064x64x128 .f32) (ix3 r j l) := by
  rw [View.read_apply]
  congr 1
  blk_ext [idx0_0 t]
theorem iblk_0 (c : Dev nD) (t : Fin cfg0.N) (s : Fin 16) (j : Fin 64) (l : Fin 128) (r : Fin 2064) (h : r.val = (128 - t.val) * 16 + s.val) :
    (iblk m c 0 t : FVec F S16x64x128 .f32) (ix3 s j l) = (V m c main_v16 : FVec F S2064x64x128 .f32) (ix3 r j l) :=
  blk_0 c t (V m c main_v16) s j l r h
theorem blk_1 (c : Dev nD) (t : Fin cfg0.N) (X : Buf (Elt F) (((cfg0.win 1).blk t).view.loc (c : Thread nD τ))) (s : Fin 16) (j : Fin 64) (l : Fin 128) (r : Fin 2064) (h : r.val = (128 - t.val) * 16 + s.val) :
    (((cfg0.win 1).blk t).view.read (Elt F) X : FVec F S16x64x128 .f32) (ix3 s j l) = (X : FVec F S2064x64x128 .f32) (ix3 r j l) := by
  rw [View.read_apply]
  congr 1
  blk_ext [idx0_1 t]
theorem iblk_1 (c : Dev nD) (t : Fin cfg0.N) (s : Fin 16) (j : Fin 64) (l : Fin 128) (r : Fin 2064) (h : r.val = (128 - t.val) * 16 + s.val) :
    (iblk m c 1 t : FVec F S16x64x128 .f32) (ix3 s j l) = (V m c main_v25 : FVec F S2064x64x128 .f32) (ix3 r j l) :=
  blk_1 c t (V m c main_v25) s j l r h
theorem blk_2 (c : Dev nD) (t : Fin cfg0.N) (X : Buf (Elt F) (((cfg0.win 2).blk t).view.loc (c : Thread nD τ))) (s : Fin 16) (j : Fin 64) (l : Fin 128) (r : Fin 2064) (h : r.val = (128 - t.val) * 16 + s.val) :
    (((cfg0.win 2).blk t).view.read (Elt F) X : FVec F S16x64x128 .f32) (ix3 s j l) = (X : FVec F S2064x64x128 .f32) (ix3 r j l) := by
  rw [View.read_apply]
  congr 1
  blk_ext [idx0_2 t]
theorem iblk_2 (c : Dev nD) (t : Fin cfg0.N) (s : Fin 16) (j : Fin 64) (l : Fin 128) (r : Fin 2064) (h : r.val = (128 - t.val) * 16 + s.val) :
    (iblk m c 2 t : FVec F S16x64x128 .f32) (ix3 s j l) = (V m c main_v34 : FVec F S2064x64x128 .f32) (ix3 r j l) :=
  blk_2 c t (V m c main_v34) s j l r h
theorem blk_3 (c : Dev nD) (t : Fin cfg0.N) (X : Buf (Elt F) (((cfg0.win 3).blk t).view.loc (c : Thread nD τ))) (s : Fin 16) (j : Fin 64) (l : Fin 128) (r : Fin 2064) (h : r.val = (128 - t.val) * 16 + s.val) :
    (((cfg0.win 3).blk t).view.read (Elt F) X : FVec F S16x64x128 .f32) (ix3 s j l) = (X : FVec F S2064x64x128 .f32) (ix3 r j l) := by
  rw [View.read_apply]
  congr 1
  blk_ext [idx0_3 t]
theorem iblk_3 (c : Dev nD) (t : Fin cfg0.N) (s : Fin 16) (j : Fin 64) (l : Fin 128) (r : Fin 2064) (h : r.val = (128 - t.val) * 16 + s.val) :
    (iblk m c 3 t : FVec F S16x64x128 .f32) (ix3 s j l) = (V m c main_v43 : FVec F S2064x64x128 .f32) (ix3 r j l) :=
  blk_3 c t (V m c main_v43) s j l r h
theorem blk_4 (c : Dev nD) (t : Fin cfg0.N) (X : Buf (Elt F) (((cfg0.win 4).blk t).view.loc (c : Thread nD τ))) (s : Fin 16) (j : Fin 64) (l : Fin 128) (r : Fin 2064) (h : r.val = (128 - t.val) * 16 + s.val) :
    (((cfg0.win 4).blk t).view.read (Elt F) X : FVec F S16x64x128 .f32) (ix3 s j l) = (X : FVec F S2064x64x128 .f32) (ix3 r j l) := by
  rw [View.read_apply]
  congr 1
  blk_ext [idx0_4 t]
theorem iblk_4 (c : Dev nD) (t : Fin cfg0.N) (s : Fin 16) (j : Fin 64) (l : Fin 128) (r : Fin 2064) (h : r.val = (128 - t.val) * 16 + s.val) :
    (iblk m c 4 t : FVec F S16x64x128 .f32) (ix3 s j l) = (V m c main_v52 : FVec F S2064x64x128 .f32) (ix3 r j l) :=
  blk_4 c t (V m c main_v52) s j l r h
theorem blk_5 (c : Dev nD) (t : Fin cfg0.N) (X : Buf (Elt F) (((cfg0.win 5).blk t).view.loc (c : Thread nD τ))) (s : Fin 16) (j : Fin 32) (l : Fin 128) (r : Fin 2064) (h : r.val = (128 - t.val) * 16 + s.val) :
    (((cfg0.win 5).blk t).view.read (Elt F) X : FVec F S16x32x128 .f32) (ix3 s j l) = (X : FVec F S2064x32x128 .f32) (ix3 r j l) := by
  rw [View.read_apply]
  congr 1
  blk_ext [idx0_5 t]
theorem iblk_5 (c : Dev nD) (t : Fin cfg0.N) (s : Fin 16) (j : Fin 32) (l : Fin 128) (r : Fin 2064) (h : r.val = (128 - t.val) * 16 + s.val) :
    (iblk m c 5 t : FVec F S16x32x128 .f32) (ix3 s j l) = (V m c main_v59 : FVec F S2064x32x128 .f32) (ix3 r j l) :=
  blk_5 c t (V m c main_v59) s j l r h
theorem blk_6 (c : Dev nD) (t : Fin cfg0.N) (X : Buf (Elt F) (((cfg0.win 6).blk t).view.loc (c : Thread nD τ))) (s : Fin 16) (j : Fin 32) (l : Fin 128) (r : Fin 2064) (h : r.val = (128 - t.val) * 16 + s.val) :
    (((cfg0.win 6).blk t).view.read (Elt F) X : FVec F S16x32x128 .f32) (ix3 s j l) = (X : FVec F S2064x32x128 .f32) (ix3 r j l) := by
  rw [View.read_apply]
  congr 1
  blk_ext [idx0_6 t]
theorem iblk_6 (c : Dev nD) (t : Fin cfg0.N) (s : Fin 16) (j : Fin 32) (l : Fin 128) (r : Fin 2064) (h : r.val = (128 - t.val) * 16 + s.val) :
    (iblk m c 6 t : FVec F S16x32x128 .f32) (ix3 s j l) = (V m c main_v66 : FVec F S2064x32x128 .f32) (ix3 r j l) :=
  blk_6 c t (V m c main_v66) s j l r h
theorem blk_7 (c : Dev nD) (t : Fin cfg0.N) (X : Buf (Elt F) (((cfg0.win 7).blk t).view.loc (c : Thread nD τ))) (s : Fin 16) (n : Fin 32) (j : Fin 64) (l : Fin 128) (r : Fin 2064) (h : r.val = (128 - t.val) * 16 + s.val) :
    (((cfg0.win 7).blk t).view.read (Elt F) X : FVec F S16x32x64x128 .f32) (ix4 s n j l) = (X : FVec F S2064x32x64x128 .f32) (ix4 r n j l) := by
  rw [View.read_apply]
  congr 1
  blk_ext [idx0_7 t]
theorem iblk_7 (c : Dev nD) (t : Fin cfg0.N) (s : Fin 16) (n : Fin 32) (j : Fin 64) (l : Fin 128) (r : Fin 2064) (h : r.val = (128 - t.val) * 16 + s.val) :
    (iblk m c 7 t : FVec F S16x32x64x128 .f32) (ix4 s n j l) = (V m c main_v4 : FVec F S2064x32x64x128 .f32) (ix4 r n j l) :=
  blk_7 c t (V m c main_v4) s n j l r h
theorem blk_8 (c : Dev nD) (t : Fin cfg0.N) (X : Buf (Elt F) (((cfg0.win 8).blk t).view.loc (c : Thread nD τ))) (s : Fin 16) (j : Fin 32) (l : Fin 128) (r : Fin 2064) (h : r.val = (128 - t.val) * 16 + s.val) :
    (((cfg0.win 8).blk t).view.read (Elt F) X : FVec F S16x32x128 .f32) (ix3 s j l) = (X : FVec F S2064x32x128 .f32) (ix3 r j l) := by
  rw [View.read_apply]
  congr 1
  blk_ext [idx0_8 t]
theorem iblk_8 (c : Dev nD) (t : Fin cfg0.N) (s : Fin 16) (j : Fin 32) (l : Fin 128) (r : Fin 2064) (h : r.val = (128 - t.val) * 16 + s.val) :
    (iblk m c 8 t : FVec F S16x32x128 .f32) (ix3 s j l) = (V m c main_v7 : FVec F S2064x32x128 .f32) (ix3 r j l) :=
  blk_8 c t (V m c main_v7) s j l r h

theorem rev_val (t : Fin cfg0.N) (k : Fin k0_t1_loop.trips) : (rev (16 * t.val + k.val)).val = (128 - t.val) * 16 + (tokOf k).val := by
  have hk : k.val < 16 := trips_eq ▸ k.isLt
  have ht : t.val < 129 := lt_of_lt_of_eq t.isLt (show cfg0.N = 129 from N_0)
  show 2063 - _ = _ * 16 + (15 - k.val)
  omega

/-- Window 0's current staging buffer at point `t`. -/
abbrev ms_0 (t : Fin cfg0.N) : Memref sig .tc .vmem S16x64x128 .f32 := win0_0.stage (cfg0.slots t 0)
theorem hs_0 (t : Fin cfg0.N) : (ms_0 t).IsWhole := hstage0_0 ((cfg0.slots t 0).cast nbuf0_0)
/-- Window 1's current staging buffer at point `t`. -/
abbrev ms_1 (t : Fin cfg0.N) : Memref sig .tc .vmem S16x64x128 .f32 := win0_1.stage (cfg0.slots t 1)
theorem hs_1 (t : Fin cfg0.N) : (ms_1 t).IsWhole := hstage0_1 ((cfg0.slots t 1).cast nbuf0_1)
/-- Window 2's current staging buffer at point `t`. -/
abbrev ms_2 (t : Fin cfg0.N) : Memref sig .tc .vmem S16x64x128 .f32 := win0_2.stage (cfg0.slots t 2)
theorem hs_2 (t : Fin cfg0.N) : (ms_2 t).IsWhole := hstage0_2 ((cfg0.slots t 2).cast nbuf0_2)
/-- Window 3's current staging buffer at point `t`. -/
abbrev ms_3 (t : Fin cfg0.N) : Memref sig .tc .vmem S16x64x128 .f32 := win0_3.stage (cfg0.slots t 3)
theorem hs_3 (t : Fin cfg0.N) : (ms_3 t).IsWhole := hstage0_3 ((cfg0.slots t 3).cast nbuf0_3)
/-- Window 4's current staging buffer at point `t`. -/
abbrev ms_4 (t : Fin cfg0.N) : Memref sig .tc .vmem S16x64x128 .f32 := win0_4.stage (cfg0.slots t 4)
theorem hs_4 (t : Fin cfg0.N) : (ms_4 t).IsWhole := hstage0_4 ((cfg0.slots t 4).cast nbuf0_4)
/-- Window 5's current staging buffer at point `t`. -/
abbrev ms_5 (t : Fin cfg0.N) : Memref sig .tc .vmem S16x32x128 .f32 := win0_5.stage (cfg0.slots t 5)
theorem hs_5 (t : Fin cfg0.N) : (ms_5 t).IsWhole := hstage0_5 ((cfg0.slots t 5).cast nbuf0_5)
/-- Window 6's current staging buffer at point `t`. -/
abbrev ms_6 (t : Fin cfg0.N) : Memref sig .tc .vmem S16x32x128 .f32 := win0_6.stage (cfg0.slots t 6)
theorem hs_6 (t : Fin cfg0.N) : (ms_6 t).IsWhole := hstage0_6 ((cfg0.slots t 6).cast nbuf0_6)
/-- Window 7's current staging buffer at point `t`. -/
abbrev ms_7 (t : Fin cfg0.N) : Memref sig .tc .vmem S16x32x64x128 .f32 := win0_7.stage (cfg0.slots t 7)
theorem hs_7 (t : Fin cfg0.N) : (ms_7 t).IsWhole := hstage0_7 ((cfg0.slots t 7).cast nbuf0_7)
/-- Window 8's current staging buffer at point `t`. -/
abbrev ms_8 (t : Fin cfg0.N) : Memref sig .tc .vmem S16x32x128 .f32 := win0_8.stage (cfg0.slots t 8)
theorem hs_8 (t : Fin cfg0.N) : (ms_8 t).IsWhole := hstage0_8 ((cfg0.slots t 8).cast nbuf0_8)
/-- Window 9's current staging buffer at point `t`. -/
abbrev ms_9 (t : Fin cfg0.N) : Memref sig .tc .vmem S16x64x64 .f32 := win0_9.stage (cfg0.slots t 9)
theorem hs_9 (t : Fin cfg0.N) : (ms_9 t).IsWhole := hstage0_9 ((cfg0.slots t 9).cast nbuf0_9)
/-- Window 10's current staging buffer at point `t`. -/
abbrev ms_10 (t : Fin cfg0.N) : Memref sig .tc .vmem S16x64x64 .f32 := win0_10.stage (cfg0.slots t 10)
theorem hs_10 (t : Fin cfg0.N) : (ms_10 t).IsWhole := hstage0_10 ((cfg0.slots t 10).cast nbuf0_10)
/-- Window 11's current staging buffer at point `t`. -/
abbrev ms_11 (t : Fin cfg0.N) : Memref sig .tc .vmem S16x64x64 .f32 := win0_11.stage (cfg0.slots t 11)
theorem hs_11 (t : Fin cfg0.N) : (ms_11 t).IsWhole := hstage0_11 ((cfg0.slots t 11).cast nbuf0_11)
/-- Window 12's current staging buffer at point `t`. -/
abbrev ms_12 (t : Fin cfg0.N) : Memref sig .tc .vmem S16x64x64 .f32 := win0_12.stage (cfg0.slots t 12)
theorem hs_12 (t : Fin cfg0.N) : (ms_12 t).IsWhole := hstage0_12 ((cfg0.slots t 12).cast nbuf0_12)
/-- Window 13's current staging buffer at point `t`. -/
abbrev ms_13 (t : Fin cfg0.N) : Memref sig .tc .vmem S16x64x64 .f32 := win0_13.stage (cfg0.slots t 13)
theorem hs_13 (t : Fin cfg0.N) : (ms_13 t).IsWhole := hstage0_13 ((cfg0.slots t 13).cast nbuf0_13)
/-- Window 14's current staging buffer at point `t`. -/
abbrev ms_14 (t : Fin cfg0.N) : Memref sig .tc .vmem S16x32x128 .f32 := win0_14.stage (cfg0.slots t 14)
theorem hs_14 (t : Fin cfg0.N) : (ms_14 t).IsWhole := hstage0_14 ((cfg0.slots t 14).cast nbuf0_14)
/-- The scratch that carries the state gradient. -/
abbrev scM : Memref sig .tc .vmem S32x64x128 .f32 := Memref.whole cc0_scratch0

theorem PhiA_eq (c : Dev nD) : Pipeline.ΦA (Val := Elt F) spec0 c = (iprop((∃ d, owns (c : Thread nD τ) scM fullShare d) ∗ (∃ r, prngReg c r)) : sProp 𝕄) := by
  unfold Pipeline.ΦA; rw [scopedRest0_eq]; simp only [scM, owns_whole]; try rfl

/-- Blocks that hold the arrays' rows hold the arrays' tokens. -/
theorem tk_toks (t : Fin cfg0.N) (k : Fin k0_t1_loop.trips) (a0 : Memref sig .tc .vmem S16x64x128 .f32) (h0 : a0.IsWhole) (a1 : Memref sig .tc .vmem S16x64x128 .f32) (h1 : a1.IsWhole) (a2 : Memref sig .tc .vmem S16x64x128 .f32) (h2 : a2.IsWhole) (a3 : Memref sig .tc .vmem S16x64x128 .f32) (h3 : a3.IsWhole) (a4 : Memref sig .tc .vmem S16x64x128 .f32) (h4 : a4.IsWhole) (a5 : Memref sig .tc .vmem S16x32x128 .f32) (h5 : a5.IsWhole) (a6 : Memref sig .tc .vmem S16x32x128 .f32) (h6 : a6.IsWhole) (a7 : Memref sig .tc .vmem S16x32x64x128 .f32) (h7 : a7.IsWhole) (a8 : Memref sig .tc .vmem S16x32x128 .f32) (h8 : a8.IsWhole)
    (x0 : FVec F S16x64x128 .f32) (x1 : FVec F S16x64x128 .f32) (x2 : FVec F S16x64x128 .f32) (x3 : FVec F S16x64x128 .f32) (x4 : FVec F S16x64x128 .f32) (x5 : FVec F S16x32x128 .f32) (x6 : FVec F S16x32x128 .f32) (x7 : FVec F S16x32x64x128 .f32) (x8 : FVec F S16x32x128 .f32)
    (A0 : FVec F S2064x64x128 .f32) (A1 : FVec F S2064x64x128 .f32) (A2 : FVec F S2064x64x128 .f32) (A3 : FVec F S2064x64x128 .f32) (A4 : FVec F S2064x64x128 .f32) (A5 : FVec F S2064x32x128 .f32) (A6 : FVec F S2064x32x128 .f32) (A7 : FVec F S2064x32x64x128 .f32) (A8 : FVec F S2064x32x128 .f32)
    (e0 : ∀ (s : Fin 16) (j : Fin 64) (l : Fin 128) (r : Fin 2064), r.val = (128 - t.val) * 16 + s.val → x0 (ix3 s j l) = A0 (ix3 r j l))
    (e1 : ∀ (s : Fin 16) (j : Fin 64) (l : Fin 128) (r : Fin 2064), r.val = (128 - t.val) * 16 + s.val → x1 (ix3 s j l) = A1 (ix3 r j l))
    (e2 : ∀ (s : Fin 16) (j : Fin 64) (l : Fin 128) (r : Fin 2064), r.val = (128 - t.val) * 16 + s.val → x2 (ix3 s j l) = A2 (ix3 r j l))
    (e3 : ∀ (s : Fin 16) (j : Fin 64) (l : Fin 128) (r : Fin 2064), r.val = (128 - t.val) * 16 + s.val → x3 (ix3 s j l) = A3 (ix3 r j l))
    (e4 : ∀ (s : Fin 16) (j : Fin 64) (l : Fin 128) (r : Fin 2064), r.val = (128 - t.val) * 16 + s.val → x4 (ix3 s j l) = A4 (ix3 r j l))
    (e5 : ∀ (s : Fin 16) (j : Fin 32) (l : Fin 128) (r : Fin 2064), r.val = (128 - t.val) * 16 + s.val → x5 (ix3 s j l) = A5 (ix3 r j l))
    (e6 : ∀ (s : Fin 16) (j : Fin 32) (l : Fin 128) (r : Fin 2064), r.val = (128 - t.val) * 16 + s.val → x6 (ix3 s j l) = A6 (ix3 r j l))
    (e7 : ∀ (s : Fin 16) (n : Fin 32) (j : Fin 64) (l : Fin 128) (r : Fin 2064), r.val = (128 - t.val) * 16 + s.val → x7 (ix4 s n j l) = A7 (ix4 r n j l))
    (e8 : ∀ (s : Fin 16) (j : Fin 32) (l : Fin 128) (r : Fin 2064), r.val = (128 - t.val) * 16 + s.val → x8 (ix3 s j l) = A8 (ix3 r j l))
    : tk k a0 a1 a2 a3 a4 a5 a6 a7 a8 (h0.unread x0) (h1.unread x1) (h2.unread x2) (h3.unread x3) (h4.unread x4) (h5.unread x5) (h6.unread x6) (h7.unread x7) (h8.unread x8) = toks A0 A1 A2 A3 A4 A5 A6 A7 A8 (16 * t.val + k.val) := by
  have hr := rev_val t k
  have f0 : tok k a0 (h0.unread x0) = (toks A0 A1 A2 A3 A4 A5 A6 A7 A8 (16 * t.val + k.val)).w := by
    funext p; obtain ⟨j, l, rfl⟩ : ∃ j l, p = ix2 j l := ⟨p 0, p 1, eq_ix2 p⟩
    rw [tok_apply, Memref.IsWhole.read_unread]; exact e0 _ j l _ hr
  have f1 : tok k a1 (h1.unread x1) = (toks A0 A1 A2 A3 A4 A5 A6 A7 A8 (16 * t.val + k.val)).kn := by
    funext p; obtain ⟨j, l, rfl⟩ : ∃ j l, p = ix2 j l := ⟨p 0, p 1, eq_ix2 p⟩
    rw [tok_apply, Memref.IsWhole.read_unread]; exact e1 _ j l _ hr
  have f2 : tok k a2 (h2.unread x2) = (toks A0 A1 A2 A3 A4 A5 A6 A7 A8 (16 * t.val + k.val)).b := by
    funext p; obtain ⟨j, l, rfl⟩ : ∃ j l, p = ix2 j l := ⟨p 0, p 1, eq_ix2 p⟩
    rw [tok_apply, Memref.IsWhole.read_unread]; exact e2 _ j l _ hr
  have f3 : tok k a3 (h3.unread x3) = (toks A0 A1 A2 A3 A4 A5 A6 A7 A8 (16 * t.val + k.val)).k := by
    funext p; obtain ⟨j, l, rfl⟩ : ∃ j l, p = ix2 j l := ⟨p 0, p 1, eq_ix2 p⟩
    rw [tok_apply, Memref.IsWhole.read_unread]; exact e3 _ j l _ hr
  have f4 : tok k a4 (h4.unread x4) = (toks A0 A1 A2 A3 A4 A5 A6 A7 A8 (16 * t.val + k.val)).r := by
    funext p; obtain ⟨j, l, rfl⟩ : ∃ j l, p = ix2 j l := ⟨p 0, p 1, eq_ix2 p⟩
    rw [tok_apply, Memref.IsWhole.read_unread]; exact e4 _ j l _ hr
  have f5 : row k a5 (h5.unread x5) = (toks A0 A1 A2 A3 A4 A5 A6 A7 A8 (16 * t.val + k.val)).v := by
    funext n p; obtain ⟨u, l, rfl⟩ : ∃ (u : Fin 1) (l : Fin 128), p = ix2 u l := ⟨p 0, p 1, eq_ix2 p⟩; obtain rfl : u = 0 := Subsingleton.elim _ _
    rw [row_apply, Memref.IsWhole.read_unread]; exact e5 _ n l _ hr
  have f6 : row k a6 (h6.unread x6) = (toks A0 A1 A2 A3 A4 A5 A6 A7 A8 (16 * t.val + k.val)).dy := by
    funext n p; obtain ⟨u, l, rfl⟩ : ∃ (u : Fin 1) (l : Fin 128), p = ix2 u l := ⟨p 0, p 1, eq_ix2 p⟩; obtain rfl : u = 0 := Subsingleton.elim _ _
    rw [row_apply, Memref.IsWhole.read_unread]; exact e6 _ n l _ hr
  have f7 : sta k a7 (h7.unread x7) = (toks A0 A1 A2 A3 A4 A5 A6 A7 A8 (16 * t.val + k.val)).sp := by
    funext n p; obtain ⟨j, l, rfl⟩ : ∃ j l, p = ix2 j l := ⟨p 0, p 1, eq_ix2 p⟩
    rw [sta_apply, Memref.IsWhole.read_unread]; exact e7 _ n j l _ hr
  have f8 : row k a8 (h8.unread x8) = (toks A0 A1 A2 A3 A4 A5 A6 A7 A8 (16 * t.val + k.val)).sa := by
    funext n p; obtain ⟨u, l, rfl⟩ : ∃ (u : Fin 1) (l : Fin 128), p = ix2 u l := ⟨p 0, p 1, eq_ix2 p⟩; obtain rfl : u = 0 := Subsingleton.elim _ _
    rw [row_apply, Memref.IsWhole.read_unread]; exact e8 _ n l _ hr
  unfold tk
  rw [f0, f1, f2, f3, f4, f5, f6, f7, f8]

/-- The blocks hold the arrays' tokens. -/
theorem hy (c : Dev nD) (t : Fin cfg0.N) (k : Fin k0_t1_loop.trips) : tk k (ms_0 t) (ms_1 t) (ms_2 t) (ms_3 t) (ms_4 t) (ms_5 t) (ms_6 t) (ms_7 t) (ms_8 t) ((hs_0 t).unread (iblk m c 0 t)) ((hs_1 t).unread (iblk m c 1 t)) ((hs_2 t).unread (iblk m c 2 t)) ((hs_3 t).unread (iblk m c 3 t)) ((hs_4 t).unread (iblk m c 4 t)) ((hs_5 t).unread (iblk m c 5 t)) ((hs_6 t).unread (iblk m c 6 t)) ((hs_7 t).unread (iblk m c 7 t)) ((hs_8 t).unread (iblk m c 8 t)) = yb m c t.val k.val :=
  tk_toks t k _ _ _ _ _ _ _ _ _ _ _ _ _ _ _ _ _ _ _ _ _ _ _ _ _ _ _ _ _ _ _ _ _ _ _ _ (iblk_0 m c t) (iblk_1 m c t) (iblk_2 m c t) (iblk_3 m c t) (iblk_4 m c t) (iblk_5 m c t) (iblk_6 m c t) (iblk_7 m c t) (iblk_8 m c t)

/-- The region's invariant: the scratch holds the state gradient of the tokens passed so far. -/
def PhiS (c : Dev nD) : (n : ℕ) → n ≤ cfg0.N → sProp 𝕄
  | 0, _ => Pipeline.ΦA spec0 c
  | n + 1, _ => iprop(owns (c : Thread nD τ) scM fullShare (outD (cb m c (n + 1))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (h : n + 1 ≤ cfg0.N) :
    PhiS m c (n + 1) h = iprop(owns (c : Thread nD τ) scM fullShare (outD (cb m c (n + 1))) ∗ (∃ r, prngReg c r)) := rfl
theorem PhiS_pos (c : Dev nD) (n : ℕ) (h : n ≤ cfg0.N) (hz : n ≠ 0) :
    PhiS m c n h = iprop(owns (c : Thread nD τ) scM fullShare (outD (cb m c n)) ∗ (∃ r, prngReg c r)) := by
  cases n with
  | zero => exact absurd rfl hz
  | succ n => rfl

/-- The proof data: inputs at their blocks, outputs at the gradients of the block's tokens. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outG (fun k => (yb m c t.val k).dW (carry (yb m c t.val) (cb m c t.val) k))
    | ⟨10, _⟩ => outG (fun k => (yb m c t.val k).dKN (carry (yb m c t.val) (cb m c t.val) k))
    | ⟨11, _⟩ => outG (fun k => (yb m c t.val k).dB (carry (yb m c t.val) (cb m c t.val) k))
    | ⟨12, _⟩ => outG (fun k => (yb m c t.val k).dK (carry (yb m c t.val) (cb m c t.val) k))
    | ⟨13, _⟩ => outG (fun k => (yb m c t.val k).dR)
    | ⟨14, _⟩ => outV (yb m c t.val) (cb m c t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outG (fun k => (yb m c t.val k).dW (carry (yb m c t.val) (cb m c t.val) k)) := by dsimp only [dats]
theorem after_10 (c : Dev nD) (t : Fin cfg0.N) : (dats m 0 c).after 10 t = outG (fun k => (yb m c t.val k).dKN (carry (yb m c t.val) (cb m c t.val) k)) := by dsimp only [dats]
theorem after_11 (c : Dev nD) (t : Fin cfg0.N) : (dats m 0 c).after 11 t = outG (fun k => (yb m c t.val k).dB (carry (yb m c t.val) (cb m c t.val) k)) := by dsimp only [dats]
theorem after_12 (c : Dev nD) (t : Fin cfg0.N) : (dats m 0 c).after 12 t = outG (fun k => (yb m c t.val k).dK (carry (yb m c t.val) (cb m c t.val) k)) := by dsimp only [dats]
theorem after_13 (c : Dev nD) (t : Fin cfg0.N) : (dats m 0 c).after 13 t = outG (fun k => (yb m c t.val k).dR) := by dsimp only [dats]
theorem after_14 (c : Dev nD) (t : Fin cfg0.N) : (dats m 0 c).after 14 t = outV (yb m c t.val) (cb m c t.val) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t)
    ∗ owns (c : Thread nD τ) (ms_13 t) fullShare ((dats m 0 c).after 13 t)
    ∗ owns (c : Thread nD τ) (ms_14 t) fullShare ((dats m 0 c).after 14 t))

set_option maxHeartbeats 4000000 in
/-- The body at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl, after_0, after_1, after_2, after_3, after_4, after_5, after_6, after_7, after_8, after_9, after_10, after_11, after_12, after_13, after_14]
  rw [show (dats m 0 c).Φ t.succ = PhiS m c (t.val + 1) t.isLt from rfl, PhiS_succ, PhiS_castSucc m c t]
  by_cases hz : t.val = 0
  · rw [PhiS_zero m c _ _ hz, PhiA_eq]
    rw [show cb m c t.val = D0 from hz ▸ rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) scM (Memref.isWhole_whole _) ((hcond0_0 t).mpr hz) (iblk m c 0 t) (iblk m c 1 t) (iblk m c 2 t) (iblk m c 3 t) (iblk m c 4 t) (iblk m c 5 t) (iblk m c 6 t) (iblk m c 7 t) (iblk m c 8 t) (yb m c t.val) (hy m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS Hg]
    · isplitl [HS]
      · rw [cb_succ m c t.val, show cb m c t.val = D0 from hz ▸ rfl]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) scM (Memref.isWhole_whole _) (fun h => hz ((hcond0_0 t).mp h)) (iblk m c 0 t) (iblk m c 1 t) (iblk m c 2 t) (iblk m c 3 t) (iblk m c 4 t) (iblk m c 5 t) (iblk m c 6 t) (iblk m c 7 t) (iblk m c 8 t) (yb m c t.val) (hy m c t) (cb m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS Hg]
    · isplitl [HS]
      · rw [cb_succ m c t.val]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 129 := N_0; omega), PhiA_eq]
  iintro ⟨HS, Hg⟩
  isplitl [HS]
  · iexists _; iexact HS
  iexact Hg

set_option backward.isDefEq.respectTransparency.types false in
set_option maxHeartbeats 800000 in
/-- The run: every array of the launch at what the grid writes, every other buffer at what the host leaves, all counters zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Proof.WkvBwd

end
-- ==== Proof.Frames.lean ====
module

public import proofs.«01_k».proof.Proof.Gen.Kernel.Skeleton
public import proofs.«01_k».proof.Proof.Gen.Pre_finite
public import proofs.«01_k».proof.Proof.Gen.ReferenceIdeal.Run
public import proofs.«01_k».proof.Proof.Launch
public import proofs.«01_k».proof.Defs
public import Idealize.ShloMosaic.Lib.Claim

@[expose] public section

set_option maxRecDepth 16384

noncomputable section

namespace Cert.Proof.WkvBwd

open Idealize.ShloMosaic Idealize.ShloMosaic.TcCoe Idealize.ShloMosaic.Pipeline Idealize.SL.Sem

/-- The kernel's run, with its argument arrays and every counter read at the end. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) ∧ r.2.sem = fun _ => 0) :=
  θ_run_and (Cert.KernelIdeal.Gen.frame_of m ρ (dats m) (A_eq m) ((θ_run Cert.KernelIdeal.defs _ _).mono (fun _ h => h.1) (run_main m ρ)))
    ((θ_run Cert.KernelIdeal.defs _ _).mono (fun _ h => h.2) (run_main m ρ))

set_option maxHeartbeats 0 in
/-- The two programs are one text: their bodies are equal. -/
theorem body_eq : Cert.Kernel.cc0_wkv_bwd (F := Bits) = Cert.KernelIdeal.cc0_wkv_bwd (F := Bits) := rfl

set_option maxHeartbeats 4000000 in
/-- So are their tables of bodies, label by label. -/
theorem defs₀_eq : Cert.Kernel.defs₀ (F := Bits) = Cert.KernelIdeal.defs₀ (F := Bits) := by
  unfold Cert.Kernel.defs₀ Cert.KernelIdeal.defs₀
  rw [body_eq]
  refine congrArg Defs.onTc ?_
  funext ℓ a
  match ℓ, a with
  | ⟨0, _⟩, (t, s) => rfl
  | ⟨_ + 1, h⟩, _ => exact absurd h (Nat.not_lt.2 (Nat.le_add_left _ _))

set_option maxHeartbeats 4000000 in
theorem defs_eq : Cert.Kernel.defs (F := Bits) = Cert.KernelIdeal.defs (F := Bits) :=
  congrArg (Pipeline.defs (Cert.KernelIdeal.pcfgs (F := Bits))) defs₀_eq

set_option maxHeartbeats 0 in
theorem main_eq : Cert.Kernel.main (F := Bits) = Cert.KernelIdeal.main (F := Bits) := rfl

set_option maxHeartbeats 4000000 in
/-- The kernel as it stands keeps its arguments and ends with every counter at zero. -/
theorem frame_kernel : Cert.quiescent_Kernel := by
  intro m ρ _
  rw [defs_eq, main_eq]
  exact run_args (F := Bits) m ρ

/-- So does the kernel over the extended reals. -/
theorem frame_kernelIdeal : Cert.quiescent_KernelIdeal := fun m ρ _ => run_args (F := Ideal) m ρ

/-- And under the precondition. -/
theorem frame_kernelIdeal_pre : Cert.quiescent_KernelIdeal_pre_finite := fun m ρ _ => run_args (F := Ideal) m ρ

/-- The reference's run keeps its arguments; the reference has no counter. -/
theorem run_ref_args (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) ∧ r.2.sem = fun _ => 0) :=
  (θ_run Cert.ReferenceIdeal.defs _ _).mono
    (fun r h => And.intro (fun c => (h c).2.2.2.2.2.2) (Idealize.ShloMosaic.sem_eq_zero_of_no_sems (by decide) r.2))
    (Cert.ReferenceIdeal.Value.run (F := Ideal) m ρ)

/-- The reference keeps its arguments and ends with every counter at zero. -/
theorem frame_ref : Cert.quiescent_ReferenceIdeal := fun m ρ _ => run_ref_args m ρ

/-- And under the precondition. -/
theorem frame_ref_pre : Cert.quiescent_ReferenceIdeal_pre_finite := fun m ρ _ => run_ref_args m ρ

end Cert.Proof.WkvBwd

end
-- ==== Proof.KernelAt.lean ====
module

public import proofs.«01_k».proof.Proof.Launch
public import Idealize.ShloMosaic.Lib.Claim
public import Idealize.ShloMosaic.Lib.Pointwise
public import Idealize.ShloMosaic.Lib.StableHlo.ReadAt
public import Idealize.ShloMosaic.PureOps.Ideal

@[expose] public section

set_option maxRecDepth 16384

noncomputable section

namespace Cert.Proof.WkvBwd
open Cert.KernelIdeal Cert.KernelIdeal.Gen
open Idealize.ShloMosaic Idealize.ShloMosaic.TcCoe Idealize.ShloMosaic.Pipeline Idealize.SL.Sem

/-! ## One token's arithmetic at an index -/

variable (x : Tk Ideal) (D : Fin 32 → FVec Ideal S64x128 .f32) (n : Fin 32) (j : Fin 64) (l : Fin 128)

theorem acc_at {s : Shape} (g : Fin 32 → FVec Ideal s .f32) (p : s.Idx) (n : ℕ) (h : n ≤ 32) :
    (acc g n h p : EReal) = ∑ i : Fin n, (g ⟨i.val, by omega⟩ p : EReal) := by
  induction n with
  | zero => rw [acc]; pointwise; rfl
  | succ n ih =>
    rw [Fin.sum_univ_castSucc, acc]
    show acc g n _ p + _ = _
    rw [ih]; rfl

theorem dS_at : (x.dS D n (ix2 j l) : EReal) = D n (ix2 j l) + x.dy n (ix2 0 l) * x.r (ix2 j l) := by
  unfold Tk.dS; pointwise

theorem dsa_at : (x.dsa D n (ix2 0 l) : EReal) = ∑ j : Fin 64, (x.dS D n (ix2 j l) * x.b (ix2 j l) : EReal) := by
  unfold Tk.dsa; pointwise

theorem dV_at : (x.dV D n (ix2 0 l) : EReal) = ∑ j : Fin 64, (x.dS D n (ix2 j l) * x.k (ix2 j l) : EReal) := by
  unfold Tk.dV; pointwise

theorem next_at : (x.next D n (ix2 j l) : EReal) = x.dS D n (ix2 j l) * x.w (ix2 j l) + x.dsa D n (ix2 0 l) * x.kn (ix2 j l) := by
  unfold Tk.next; pointwise

theorem fold2_at (y : FVec Ideal S64x128 .f32) (s : Fin 64) : (fold2 y (ix3 0 j s) : EReal) = y (ix2 j ⟨s.val, by omega⟩) + y (ix2 j ⟨s.val + 64, by omega⟩) := by
  unfold fold2
  pointwise
  rw [show (⟨(s.val + 128 - 64) % 128, by omega⟩ : Fin 128) = ⟨s.val + 64, by omega⟩ from Fin.ext (by show (s.val + 128 - 64) % 128 = s.val + 64; omega)]

theorem ix4_ext {n0 n1 n2 n3 : ℕ} {a0 b0 : Fin n0} {a1 b1 : Fin n1} {a2 b2 : Fin n2} {a3 b3 : Fin n3} (h0 : a0.val = b0.val) (h1 : a1.val = b1.val)
    (h2 : a2.val = b2.val) (h3 : a3.val = b3.val) : ix4 a0 a1 a2 a3 = ix4 b0 b1 b2 b3 := by
  rw [Fin.ext h0, Fin.ext h1, Fin.ext h2, Fin.ext h3]

theorem ix5_ext {n0 n1 n2 n3 n4 : ℕ} {a0 b0 : Fin n0} {a1 b1 : Fin n1} {a2 b2 : Fin n2} {a3 b3 : Fin n3} {a4 b4 : Fin n4} (h0 : a0.val = b0.val) (h1 : a1.val = b1.val)
    (h2 : a2.val = b2.val) (h3 : a3.val = b3.val) (h4 : a4.val = b4.val) : ix5 a0 a1 a2 a3 a4 = ix5 b0 b1 b2 b3 b4 := by
  rw [Fin.ext h0, Fin.ext h1, Fin.ext h2, Fin.ext h3, Fin.ext h4]

/-! ## The arrays the kernel is called with -/

/-- The batch entry, the head and the value index that a lane stands for. -/
def eL (l : Fin 128) : Fin 2 := ⟨l.val % 64 / 32, by omega⟩
def hL (l : Fin 128) : Fin 32 := ⟨l.val % 32, by omega⟩
def iL (l : Fin 128) (n : Fin 32) : Fin 64 := ⟨l.val / 64 * 32 + n.val, by omega⟩

variable (m : (ℓ : Loc nD τ sig) → Buf (Elt Ideal) ℓ) (c : Dev nD)

/-- The recurrence's inputs as the kernel's arguments hold them. -/
def kArgs : Args where
  r e t h j := (m ((c : Thread nD τ).loc main_arg0) : FVec Ideal S2x2064x32x64 .f32) (ix4 e t h j)
  w e t h j := (m ((c : Thread nD τ).loc main_arg1) : FVec Ideal S2x2064x32x64 .f32) (ix4 e t h j)
  k e t h j := (m ((c : Thread nD τ).loc main_arg2) : FVec Ideal S2x2064x32x64 .f32) (ix4 e t h j)
  v e t h j := (m ((c : Thread nD τ).loc main_arg3) : FVec Ideal S2x2064x32x64 .f32) (ix4 e t h j)
  kn e t h j := (m ((c : Thread nD τ).loc main_arg4) : FVec Ideal S2x2064x32x64 .f32) (ix4 e t h j)
  b e t h j := (m ((c : Thread nD τ).loc main_arg5) : FVec Ideal S2x2064x32x64 .f32) (ix4 e t h j)
  dy e t h j := (m ((c : Thread nD τ).loc main_arg6) : FVec Ideal S2x2064x32x64 .f32) (ix4 e t h j)
  sp t e h i j := (m ((c : Thread nD τ).loc main_arg7) : FVec Ideal S2064x2x32x64x64 .f32) (ix5 t e h i j)

variable (t : Fin 2064)

theorem at_w : ((V m c main_v16 : FVec Ideal S2064x64x128 .f32) (ix3 t j l) : EReal) = (kArgs m c).w (eL l) t (hL l) j := by
  unfold V V0 kArgs eL hL
  after_reads_at
  try simp only [id_eq]
  try pointwise
  exact congrArg (m ((c : Thread nD τ).loc main_arg1)) (ix4_ext (by (try dsimp only); omega) (by (try dsimp only); omega) (by (try dsimp only); omega) (by (try dsimp only); omega))

theorem at_kn : ((V m c main_v25 : FVec Ideal S2064x64x128 .f32) (ix3 t j l) : EReal) = (kArgs m c).kn (eL l) t (hL l) j := by
  unfold V V0 kArgs eL hL
  after_reads_at
  try simp only [id_eq]
  try pointwise
  exact congrArg (m ((c : Thread nD τ).loc main_arg4)) (ix4_ext (by (try dsimp only); omega) (by (try dsimp only); omega) (by (try dsimp only); omega) (by (try dsimp only); omega))

theorem at_b : ((V m c main_v34 : FVec Ideal S2064x64x128 .f32) (ix3 t j l) : EReal) = (kArgs m c).b (eL l) t (hL l) j := by
  unfold V V0 kArgs eL hL
  after_reads_at
  try simp only [id_eq]
  try pointwise
  exact congrArg (m ((c : Thread nD τ).loc main_arg5)) (ix4_ext (by (try dsimp only); omega) (by (try dsimp only); omega) (by (try dsimp only); omega) (by (try dsimp only); omega))

theorem at_k : ((V m c main_v43 : FVec Ideal S2064x64x128 .f32) (ix3 t j l) : EReal) = (kArgs m c).k (eL l) t (hL l) j := by
  unfold V V0 kArgs eL hL
  after_reads_at
  try simp only [id_eq]
  try pointwise
  exact congrArg (m ((c : Thread nD τ).loc main_arg2)) (ix4_ext (by (try dsimp only); omega) (by (try dsimp only); omega) (by (try dsimp only); omega) (by (try dsimp only); omega))

theorem at_r : ((V m c main_v52 : FVec Ideal S2064x64x128 .f32) (ix3 t j l) : EReal) = (kArgs m c).r (eL l) t (hL l) j := by
  unfold V V0 kArgs eL hL
  after_reads_at
  try simp only [id_eq]
  try pointwise
  exact congrArg (m ((c : Thread nD τ).loc main_arg0)) (ix4_ext (by (try dsimp only); omega) (by (try dsimp only); omega) (by (try dsimp only); omega) (by (try dsimp only); omega))

theorem lane_div (l : Fin 128) (n : Fin 32) : (l.val % 64 % 32 * 64 + l.val / 64 * 32 + n.val) / 64 = l.val % 32 := by
  have h : l.val % 64 % 32 = l.val % 32 := by omega
  have h' : l.val / 64 * 32 + n.val < 64 := by omega
  rw [h]
  generalize l.val % 32 = x
  generalize l.val / 64 * 32 = y at h' ⊢
  omega

theorem at_v : ((V m c main_v59 : FVec Ideal S2064x32x128 .f32) (ix3 t n l) : EReal) = (kArgs m c).v (eL l) t (hL l) (iL l n) := by
  unfold V V0 kArgs eL hL iL
  after_reads_at
  try simp only [id_eq]
  try pointwise
  exact congrArg (m ((c : Thread nD τ).loc main_arg3)) (ix4_ext (by (try dsimp only); omega) (by (try dsimp only); omega) (lane_div l n) (by (try dsimp only); omega))

theorem at_dy : ((V m c main_v66 : FVec Ideal S2064x32x128 .f32) (ix3 t n l) : EReal) = (kArgs m c).dy (eL l) t (hL l) (iL l n) := by
  unfold V V0 kArgs eL hL iL
  after_reads_at
  try simp only [id_eq]
  try pointwise
  exact congrArg (m ((c : Thread nD τ).loc main_arg6)) (ix4_ext (by (try dsimp only); omega) (by (try dsimp only); omega) (lane_div l n) (by (try dsimp only); omega))

theorem at_sp : ((V m c main_v4 : FVec Ideal S2064x32x64x128 .f32) (ix4 t n j l) : EReal) = (kArgs m c).sp t (eL l) (hL l) (iL l n) j := by
  unfold V V0 kArgs eL hL iL
  after_reads_at
  try simp only [id_eq]
  try pointwise
  exact congrArg (m ((c : Thread nD τ).loc main_arg7)) (ix5_ext rfl rfl (by (try dsimp only); omega) rfl rfl)

theorem at_sa : ((V m c main_v7 : FVec Ideal S2064x32x128 .f32) (ix3 t n l) : EReal) = (kArgs m c).sa (eL l) (hL l) t (iL l n) := by
  unfold V V0 Args.sa kArgs eL hL iL
  after_reads_at
  try simp only [id_eq]
  try pointwise
  have h : l.val % 64 % 32 = l.val % 32 := by omega
  simp only [h]

end Cert.Proof.WkvBwd

end
-- ==== Proof.KernelSum.lean ====
module

public import proofs.«01_k».proof.Proof.KernelAt

@[expose] public section

set_option maxRecDepth 16384

noncomputable section

namespace Cert.Proof.WkvBwd

open Cert.KernelIdeal Cert.KernelIdeal.Gen
open Idealize.ShloMosaic Idealize.ShloMosaic.TcCoe Idealize.ShloMosaic.Pipeline Idealize.SL.Sem

variable (m : (ℓ : Loc nD τ sig) → Buf (Elt Ideal) ℓ) (c : Dev nD) (q : ℕ) (n : Fin 32) (j : Fin 64) (l : Fin 128)

/-! ## A token read from the nine arrays -/

theorem toks_w (aw akn ab ak ar : FVec Ideal S2064x64x128 .f32) (av ady : FVec Ideal S2064x32x128 .f32) (asp : FVec Ideal S2064x32x64x128 .f32) (asa : FVec Ideal S2064x32x128 .f32) : (toks aw akn ab ak ar av ady asp asa q).w (ix2 j l) = aw (ix3 (rev q) j l) := rfl
theorem toks_kn (aw akn ab ak ar : FVec Ideal S2064x64x128 .f32) (av ady : FVec Ideal S2064x32x128 .f32) (asp : FVec Ideal S2064x32x64x128 .f32) (asa : FVec Ideal S2064x32x128 .f32) : (toks aw akn ab ak ar av ady asp asa q).kn (ix2 j l) = akn (ix3 (rev q) j l) := rfl
theorem toks_b (aw akn ab ak ar : FVec Ideal S2064x64x128 .f32) (av ady : FVec Ideal S2064x32x128 .f32) (asp : FVec Ideal S2064x32x64x128 .f32) (asa : FVec Ideal S2064x32x128 .f32) : (toks aw akn ab ak ar av ady asp asa q).b (ix2 j l) = ab (ix3 (rev q) j l) := rfl
theorem toks_k (aw akn ab ak ar : FVec Ideal S2064x64x128 .f32) (av ady : FVec Ideal S2064x32x128 .f32) (asp : FVec Ideal S2064x32x64x128 .f32) (asa : FVec Ideal S2064x32x128 .f32) : (toks aw akn ab ak ar av ady asp asa q).k (ix2 j l) = ak (ix3 (rev q) j l) := rfl
theorem toks_r (aw akn ab ak ar : FVec Ideal S2064x64x128 .f32) (av ady : FVec Ideal S2064x32x128 .f32) (asp : FVec Ideal S2064x32x64x128 .f32) (asa : FVec Ideal S2064x32x128 .f32) : (toks aw akn ab ak ar av ady asp asa q).r (ix2 j l) = ar (ix3 (rev q) j l) := rfl

/-! ## A step's token is the recurrence's token -/

theorem gY_w : ((gY m c q).w (ix2 j l) : EReal) = (kArgs m c).w (eL l) (rev q) (hL l) j :=
  (toks_w q j l (V m c main_v16) (V m c main_v25) (V m c main_v34) (V m c main_v43) (V m c main_v52) (V m c main_v59) (V m c main_v66) (V m c main_v4) (V m c main_v7)).trans (at_w j l m c (rev q))
theorem gY_kn : ((gY m c q).kn (ix2 j l) : EReal) = (kArgs m c).kn (eL l) (rev q) (hL l) j :=
  (toks_kn q j l (V m c main_v16) (V m c main_v25) (V m c main_v34) (V m c main_v43) (V m c main_v52) (V m c main_v59) (V m c main_v66) (V m c main_v4) (V m c main_v7)).trans (at_kn j l m c (rev q))
theorem gY_b : ((gY m c q).b (ix2 j l) : EReal) = (kArgs m c).b (eL l) (rev q) (hL l) j :=
  (toks_b q j l (V m c main_v16) (V m c main_v25) (V m c main_v34) (V m c main_v43) (V m c main_v52) (V m c main_v59) (V m c main_v66) (V m c main_v4) (V m c main_v7)).trans (at_b j l m c (rev q))
theorem gY_k : ((gY m c q).k (ix2 j l) : EReal) = (kArgs m c).k (eL l) (rev q) (hL l) j :=
  (toks_k q j l (V m c main_v16) (V m c main_v25) (V m c main_v34) (V m c main_v43) (V m c main_v52) (V m c main_v59) (V m c main_v66) (V m c main_v4) (V m c main_v7)).trans (at_k j l m c (rev q))
theorem gY_r : ((gY m c q).r (ix2 j l) : EReal) = (kArgs m c).r (eL l) (rev q) (hL l) j :=
  (toks_r q j l (V m c main_v16) (V m c main_v25) (V m c main_v34) (V m c main_v43) (V m c main_v52) (V m c main_v59) (V m c main_v66) (V m c main_v4) (V m c main_v7)).trans (at_r j l m c (rev q))
theorem gY_v : ((gY m c q).v n (ix2 0 l) : EReal) = (kArgs m c).v (eL l) (rev q) (hL l) (iL l n) := at_v n l m c (rev q)
theorem gY_dy : ((gY m c q).dy n (ix2 0 l) : EReal) = (kArgs m c).dy (eL l) (rev q) (hL l) (iL l n) := at_dy n l m c (rev q)
theorem gY_sp : ((gY m c q).sp n (ix2 j l) : EReal) = (kArgs m c).sp (rev q) (eL l) (hL l) (iL l n) j := at_sp n j l m c (rev q)
theorem gY_sa : ((gY m c q).sa n (ix2 0 l) : EReal) = (kArgs m c).sa (eL l) (hL l) (rev q) (iL l n) := at_sa n l m c (rev q)

section
variable (D : Fin 32 → FVec Ideal S64x128 .f32) (E : Fin 2 → Fin 32 → Fin 64 → Fin 64 → EReal)
variable (hD : ∀ n j l, (D n (ix2 j l) : EReal) = E (eL l) (hL l) (iL l n) j)
include hD

theorem gY_dS : ((gY m c q).dS D n (ix2 j l) : EReal) = (kArgs m c).g (eL l) (hL l) (rev q) (E (eL l) (hL l)) (iL l n) j := by
  rw [dS_at, hD, gY_dy, gY_r]; rfl

theorem gY_dsa : ((gY m c q).dsa D n (ix2 0 l) : EReal) = (kArgs m c).ds (eL l) (hL l) (rev q) (E (eL l) (hL l)) (iL l n) := by
  rw [dsa_at]
  exact Finset.sum_congr rfl fun j _ => by rw [gY_dS m c q n j l D E hD, gY_b]

theorem gY_next : ((gY m c q).next D n (ix2 j l) : EReal) = (kArgs m c).prev (eL l) (hL l) (rev q) (E (eL l) (hL l)) (iL l n) j := by
  rw [next_at, gY_dS m c q n j l D E hD, gY_dsa m c q n l D E hD, gY_w, gY_kn]; rfl
end

/-- The carried state gradient is the recurrence's. -/
theorem carry_at : (carry (gY m c) D0 q n (ix2 j l) : EReal) = (kArgs m c).dS (eL l) (hL l) q (iL l n) j := by
  induction q generalizing n j l with
  | zero => exact Ideal.ofBits_zero_f32
  | succ q ih => exact gY_next m c q n j l _ (fun e h => (kArgs m c).dS e h q) ih

end Cert.Proof.WkvBwd

end
-- ==== Proof.Arrays.lean ====
module

public import proofs.«01_k».proof.Proof.Launch

@[expose] public section

set_option maxRecDepth 16384
set_option maxHeartbeats 1000000

noncomputable section

namespace Cert.Proof.WkvBwd

open Cert.KernelIdeal Cert.KernelIdeal.Gen
open Idealize.ShloMosaic Idealize.ShloMosaic.TcCoe Idealize.ShloMosaic.Tactic Idealize.ShloMosaic.Pipeline Idealize.SL.Sem

variable {F : FTy → Type} [FloatOps F]
variable (m : (ℓ : Loc nD τ sig) → Buf (Elt F) ℓ) (c : Dev nD)

/-- A key-indexed gradient's array, step by step. -/
def GA (val : ℕ → FVec F S64x128 .f32) : FVec F S2064x64x64 .f32 := fun p => fold2 (val (2063 - (p 0).val)) (ix3 (0 : Fin 1) (p 1) (p 2))
/-- The value gradient's array. -/
def GV (y : ℕ → Tk F) (D : Fin 32 → FVec F S64x128 .f32) : FVec F S2064x32x128 .f32 :=
  fun p => (y (2063 - (p 0).val)).dV (carry y D (2063 - (p 0).val)) (p 1) (ix2 (0 : Fin 1) (p 2))

theorem outV_at (y y' : ℕ → Tk F) (D D' : Fin 32 → FVec F S64x128 .f32) (t : ℕ) (h : ∀ k, y k = y' (16 * t + k)) (hD : ∀ k, carry y D k = carry y' D' (16 * t + k))
    (ht : t < 129) (q : S16x32x128.Idx) (p : S2064x32x128.Idx)
    (h0 : (p 0).val = (128 - t) * 16 + (q 0).val) (h1 : p 1 = q 1) (h2 : p 2 = q 2) : outV y D q = GV y' D' p := by
  have hq : (q 0).val < 16 := (q 0).isLt
  unfold outV GV
  rw [h, hD, h1, h2, h0, show 16 * t + (15 - (q 0).val) = 2063 - ((128 - t) * 16 + (q 0).val) by omega]

theorem outG_at (val val' : ℕ → FVec F S64x128 .f32) (t : ℕ) (h : ∀ k, val k = val' (16 * t + k)) (ht : t < 129) (q : S16x64x64.Idx) (p : S2064x64x64.Idx)
    (h0 : (p 0).val = (128 - t) * 16 + (q 0).val) (h1 : p 1 = q 1) (h2 : p 2 = q 2) : outG val q = GA val' p := by
  have hq : (q 0).val < 16 := (q 0).isLt
  unfold outG GA
  rw [h, h1, h2, h0, show 16 * t + (15 - (q 0).val) = 2063 - ((128 - t) * 16 + (q 0).val) by omega]

theorem carry_yb (t : ℕ) (k : ℕ) : carry (yb m c t) (cb m c t) k = carry (gY m c) D0 (16 * t + k) := (carry_add (gY m c) D0 (16 * t) k).symm

theorem arr_9 : (dats m 0 c).arrAt 9 cfg0.N = (GA (fun q => (gY m c q).dW (carry (gY m c) D0 q)) : FVec F S2064x64x64 .f32) := by
  refine (dats m 0 c).arrAt_eq_of_covers 9 _ (by decide +kernel) fun t hf y => ?_
  blk_simp
  rw [after_9]
  refine outG_at _ _ t.val (fun k => by rw [carry_yb]; rfl) t.isLt _ _ ?_ ?_ ?_
  · blk_simp [idx0_9 t]
  · exact Fin.ext (by blk_simp [idx0_9 t])
  · exact Fin.ext (by blk_simp [idx0_9 t])

theorem arr_10 : (dats m 0 c).arrAt 10 cfg0.N = (GA (fun q => (gY m c q).dKN (carry (gY m c) D0 q)) : FVec F S2064x64x64 .f32) := by
  refine (dats m 0 c).arrAt_eq_of_covers 10 _ (by decide +kernel) fun t hf y => ?_
  blk_simp
  rw [after_10]
  refine outG_at _ _ t.val (fun k => by rw [carry_yb]; rfl) t.isLt _ _ ?_ ?_ ?_
  · blk_simp [idx0_10 t]
  · exact Fin.ext (by blk_simp [idx0_10 t])
  · exact Fin.ext (by blk_simp [idx0_10 t])

theorem arr_11 : (dats m 0 c).arrAt 11 cfg0.N = (GA (fun q => (gY m c q).dB (carry (gY m c) D0 q)) : FVec F S2064x64x64 .f32) := by
  refine (dats m 0 c).arrAt_eq_of_covers 11 _ (by decide +kernel) fun t hf y => ?_
  blk_simp
  rw [after_11]
  refine outG_at _ _ t.val (fun k => by rw [carry_yb]; rfl) t.isLt _ _ ?_ ?_ ?_
  · blk_simp [idx0_11 t]
  · exact Fin.ext (by blk_simp [idx0_11 t])
  · exact Fin.ext (by blk_simp [idx0_11 t])

theorem arr_12 : (dats m 0 c).arrAt 12 cfg0.N = (GA (fun q => (gY m c q).dK (carry (gY m c) D0 q)) : FVec F S2064x64x64 .f32) := by
  refine (dats m 0 c).arrAt_eq_of_covers 12 _ (by decide +kernel) fun t hf y => ?_
  blk_simp
  rw [after_12]
  refine outG_at _ _ t.val (fun k => by rw [carry_yb]; rfl) t.isLt _ _ ?_ ?_ ?_
  · blk_simp [idx0_12 t]
  · exact Fin.ext (by blk_simp [idx0_12 t])
  · exact Fin.ext (by blk_simp [idx0_12 t])

theorem arr_13 : (dats m 0 c).arrAt 13 cfg0.N = (GA (fun q => (gY m c q).dR) : FVec F S2064x64x64 .f32) := by
  refine (dats m 0 c).arrAt_eq_of_covers 13 _ (by decide +kernel) fun t hf y => ?_
  blk_simp
  rw [after_13]
  refine outG_at (F := F) (fun k => (yb m c t.val k).dR) (fun q => (gY m c q).dR) t.val (fun k => rfl) t.isLt _ _ ?_ ?_ ?_
  · blk_simp [idx0_13 t]
  · exact Fin.ext (by blk_simp [idx0_13 t])
  · exact Fin.ext (by blk_simp [idx0_13 t])

theorem arr_14 : (dats m 0 c).arrAt 14 cfg0.N = (GV (gY m c) D0 : FVec F S2064x32x128 .f32) := by
  refine (dats m 0 c).arrAt_eq_of_covers 14 _ (by decide +kernel) fun t hf y => ?_
  blk_simp
  rw [after_14]
  refine outV_at (F := F) (yb m c t.val) (gY m c) (cb m c t.val) D0 t.val (fun k => rfl) (fun k => carry_yb m c t.val k) t.isLt _ _ ?_ ?_ ?_
  · blk_simp [idx0_14 t]
  · exact Fin.ext (by blk_simp [idx0_14 t])
  · exact Fin.ext (by blk_simp [idx0_14 t])

end Cert.Proof.WkvBwd

end
-- ==== Proof.Tail.lean ====
module

public import proofs.«01_k».proof.Proof.Arrays
public import Idealize.ShloMosaic.Lib.Claim
public import Idealize.ShloMosaic.Lib.Pointwise
public import Idealize.ShloMosaic.Lib.StableHlo.ReadAt

@[expose] public section

set_option maxRecDepth 16384
set_option maxHeartbeats 1000000

noncomputable section

namespace Cert.Proof.WkvBwd

open Cert.KernelIdeal Cert.KernelIdeal.Gen
open Idealize.ShloMosaic Idealize.ShloMosaic.TcCoe Idealize.ShloMosaic.Tactic Idealize.ShloMosaic.Pipeline Idealize.SL.Sem

/-! ## The kernel's results: its output arrays with the axes put back -/

variable {F : FTy → Type} [FloatOps F]

theorem ix3_ext {n0 n1 n2 : ℕ} {a0 b0 : Fin n0} {a1 b1 : Fin n1} {a2 b2 : Fin n2} (h0 : a0.val = b0.val) (h1 : a1.val = b1.val)
    (h2 : a2.val = b2.val) : ix3 a0 a1 a2 = ix3 b0 b1 b2 := by
  rw [Fin.ext h0, Fin.ext h1, Fin.ext h2]

section
variable (W : Valuation τ sig (Elt F)) (e : Fin 2) (t : Fin 2064) (h : Fin 32) (x : Fin 64)

theorem tail_86 : (StableHlo.after (List.flatten [hostOps1]) W (Proc.devRef .tc main_v99) : FVec F S2x2064x32x64 .f32) (ix4 e t h x)
    = (W (Proc.devRef .tc main_v67_4) : FVec F S2064x64x64 .f32) (ix3 t x ⟨e.val * 32 + h.val, by omega⟩) := by
  after_reads_at
  try simp only [id_eq]
  try pointwise
  exact congrArg (W (Proc.devRef .tc main_v67_4)) (ix3_ext (by (try dsimp only); omega) (by (try dsimp only); omega) (by (try dsimp only); omega))

theorem tail_87 : (StableHlo.after (List.flatten [hostOps1]) W (Proc.devRef .tc main_v100) : FVec F S2x2064x32x64 .f32) (ix4 e t h x)
    = (W (Proc.devRef .tc main_v67_0) : FVec F S2064x64x64 .f32) (ix3 t x ⟨e.val * 32 + h.val, by omega⟩) := by
  after_reads_at
  try simp only [id_eq]
  try pointwise
  exact congrArg (W (Proc.devRef .tc main_v67_0)) (ix3_ext (by (try dsimp only); omega) (by (try dsimp only); omega) (by (try dsimp only); omega))

theorem tail_88 : (StableHlo.after (List.flatten [hostOps1]) W (Proc.devRef .tc main_v101) : FVec F S2x2064x32x64 .f32) (ix4 e t h x)
    = (W (Proc.devRef .tc main_v67_3) : FVec F S2064x64x64 .f32) (ix3 t x ⟨e.val * 32 + h.val, by omega⟩) := by
  after_reads_at
  try simp only [id_eq]
  try pointwise
  exact congrArg (W (Proc.devRef .tc main_v67_3)) (ix3_ext (by (try dsimp only); omega) (by (try dsimp only); omega) (by (try dsimp only); omega))

theorem tail_89 : (StableHlo.after (List.flatten [hostOps1]) W (Proc.devRef .tc main_v102) : FVec F S2x2064x32x64 .f32) (ix4 e t h x)
    = (W (Proc.devRef .tc main_v67_5) : FVec F S2064x32x128 .f32) (ix3 t ⟨x.val % 32, by omega⟩ ⟨x.val / 32 * 64 + e.val * 32 + h.val, by omega⟩) := by
  after_reads_at
  try simp only [id_eq]
  try pointwise
  exact congrArg (W (Proc.devRef .tc main_v67_5)) (ix3_ext (by (try dsimp only); omega) (by (try dsimp only); omega) (by (try dsimp only); omega))

theorem tail_90 : (StableHlo.after (List.flatten [hostOps1]) W (Proc.devRef .tc main_v103) : FVec F S2x2064x32x64 .f32) (ix4 e t h x)
    = (W (Proc.devRef .tc main_v67_1) : FVec F S2064x64x64 .f32) (ix3 t x ⟨e.val * 32 + h.val, by omega⟩) := by
  after_reads_at
  try simp only [id_eq]
  try pointwise
  exact congrArg (W (Proc.devRef .tc main_v67_1)) (ix3_ext (by (try dsimp only); omega) (by (try dsimp only); omega) (by (try dsimp only); omega))

theorem tail_91 : (StableHlo.after (List.flatten [hostOps1]) W (Proc.devRef .tc main_v104) : FVec F S2x2064x32x64 .f32) (ix4 e t h x)
    = (W (Proc.devRef .tc main_v67_2) : FVec F S2064x64x64 .f32) (ix3 t x ⟨e.val * 32 + h.val, by omega⟩) := by
  after_reads_at
  try simp only [id_eq]
  try pointwise
  exact congrArg (W (Proc.devRef .tc main_v67_2)) (ix3_ext (by (try dsimp only); omega) (by (try dsimp only); omega) (by (try dsimp only); omega))

end

variable (m : (ℓ : Loc nD τ sig) → Buf (Elt F) ℓ) (c : Dev nD) (e : Fin 2) (t : Fin 2064) (h : Fin 32) (x : Fin 64)

theorem out_86 : (Pipeline.afterTail₀ cfgs (dats m) 0 (V0 m) [hostOps1] c main_v99 : FVec F S2x2064x32x64 .f32) (ix4 e t h x)
    = (GA (fun q => (gY m c q).dR) : FVec F S2064x64x64 .f32) (ix3 t x ⟨e.val * 32 + h.val, by omega⟩) := by
  refine (tail_86 (Pipeline.withArrays spec0 c (V0 m c) fun w => (dats m 0 c).arrAt w cfg0.N) e t h x).trans ?_
  rw [show Pipeline.withArrays spec0 c (V0 m c) (fun w => (dats m 0 c).arrAt w cfg0.N) (Proc.devRef .tc main_v67_4) = (dats m 0 c).arrAt 13 cfg0.N
    from Pipeline.withArrays_arr spec0 (by decide) c (V0 m c) _ 13, arr_13]

theorem out_87 : (Pipeline.afterTail₀ cfgs (dats m) 0 (V0 m) [hostOps1] c main_v100 : FVec F S2x2064x32x64 .f32) (ix4 e t h x)
    = (GA (fun q => (gY m c q).dW (carry (gY m c) D0 q)) : FVec F S2064x64x64 .f32) (ix3 t x ⟨e.val * 32 + h.val, by omega⟩) := by
  refine (tail_87 (Pipeline.withArrays spec0 c (V0 m c) fun w => (dats m 0 c).arrAt w cfg0.N) e t h x).trans ?_
  rw [show Pipeline.withArrays spec0 c (V0 m c) (fun w => (dats m 0 c).arrAt w cfg0.N) (Proc.devRef .tc main_v67_0) = (dats m 0 c).arrAt 9 cfg0.N
    from Pipeline.withArrays_arr spec0 (by decide) c (V0 m c) _ 9, arr_9]

theorem out_88 : (Pipeline.afterTail₀ cfgs (dats m) 0 (V0 m) [hostOps1] c main_v101 : FVec F S2x2064x32x64 .f32) (ix4 e t h x)
    = (GA (fun q => (gY m c q).dK (carry (gY m c) D0 q)) : FVec F S2064x64x64 .f32) (ix3 t x ⟨e.val * 32 + h.val, by omega⟩) := by
  refine (tail_88 (Pipeline.withArrays spec0 c (V0 m c) fun w => (dats m 0 c).arrAt w cfg0.N) e t h x).trans ?_
  rw [show Pipeline.withArrays spec0 c (V0 m c) (fun w => (dats m 0 c).arrAt w cfg0.N) (Proc.devRef .tc main_v67_3) = (dats m 0 c).arrAt 12 cfg0.N
    from Pipeline.withArrays_arr spec0 (by decide) c (V0 m c) _ 12, arr_12]

theorem out_89 : (Pipeline.afterTail₀ cfgs (dats m) 0 (V0 m) [hostOps1] c main_v102 : FVec F S2x2064x32x64 .f32) (ix4 e t h x)
    = (GV (gY m c) D0 : FVec F S2064x32x128 .f32) (ix3 t ⟨x.val % 32, by omega⟩ ⟨x.val / 32 * 64 + e.val * 32 + h.val, by omega⟩) := by
  refine (tail_89 (Pipeline.withArrays spec0 c (V0 m c) fun w => (dats m 0 c).arrAt w cfg0.N) e t h x).trans ?_
  rw [show Pipeline.withArrays spec0 c (V0 m c) (fun w => (dats m 0 c).arrAt w cfg0.N) (Proc.devRef .tc main_v67_5) = (dats m 0 c).arrAt 14 cfg0.N
    from Pipeline.withArrays_arr spec0 (by decide) c (V0 m c) _ 14, arr_14]

theorem out_90 : (Pipeline.afterTail₀ cfgs (dats m) 0 (V0 m) [hostOps1] c main_v103 : FVec F S2x2064x32x64 .f32) (ix4 e t h x)
    = (GA (fun q => (gY m c q).dKN (carry (gY m c) D0 q)) : FVec F S2064x64x64 .f32) (ix3 t x ⟨e.val * 32 + h.val, by omega⟩) := by
  refine (tail_90 (Pipeline.withArrays spec0 c (V0 m c) fun w => (dats m 0 c).arrAt w cfg0.N) e t h x).trans ?_
  rw [show Pipeline.withArrays spec0 c (V0 m c) (fun w => (dats m 0 c).arrAt w cfg0.N) (Proc.devRef .tc main_v67_1) = (dats m 0 c).arrAt 10 cfg0.N
    from Pipeline.withArrays_arr spec0 (by decide) c (V0 m c) _ 10, arr_10]

theorem out_91 : (Pipeline.afterTail₀ cfgs (dats m) 0 (V0 m) [hostOps1] c main_v104 : FVec F S2x2064x32x64 .f32) (ix4 e t h x)
    = (GA (fun q => (gY m c q).dB (carry (gY m c) D0 q)) : FVec F S2064x64x64 .f32) (ix3 t x ⟨e.val * 32 + h.val, by omega⟩) := by
  refine (tail_91 (Pipeline.withArrays spec0 c (V0 m c) fun w => (dats m 0 c).arrAt w cfg0.N) e t h x).trans ?_
  rw [show Pipeline.withArrays spec0 c (V0 m c) (fun w => (dats m 0 c).arrAt w cfg0.N) (Proc.devRef .tc main_v67_2) = (dats m 0 c).arrAt 11 cfg0.N
    from Pipeline.withArrays_arr spec0 (by decide) c (V0 m c) _ 11, arr_11]

end Cert.Proof.WkvBwd

end
-- ==== Proof.KernelOut.lean ====
module

public import proofs.«01_k».proof.Proof.KernelSum
public import proofs.«01_k».proof.Proof.Tail

@[expose] public section

set_option maxRecDepth 16384

noncomputable section

namespace Cert.Proof.WkvBwd

open Cert.KernelIdeal Cert.KernelIdeal.Gen
open Idealize.ShloMosaic Idealize.ShloMosaic.TcCoe Idealize.ShloMosaic.Pipeline Idealize.SL.Sem

/-! ## Finite numbers -/

/-- Neither infinity. -/
def Fn (x : EReal) : Prop := ∃ y : ℝ, x = (y : EReal)

theorem Fn.mul {x y : EReal} : Fn x → Fn y → Fn (x * y) := fun ⟨a, ha⟩ ⟨b, hb⟩ => ⟨a * b, by rw [ha, hb, EReal.coe_mul]⟩

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem Fn.sum {n : ℕ} {f : Fin n → EReal} (h : ∀ i, Fn (f i)) : Fn (∑ i, f i) := by
  choose g hg using h
  exact ⟨∑ i, g i, by rw [coe_sum]; exact Finset.sum_congr rfl fun i _ => hg i⟩

/-- Over finite numbers a product with a sum is the sum of the products. -/
theorem spread {n : ℕ} {w b k : EReal} {s a v d : Fin n → EReal} (hw : Fn w) (hb : Fn b) (hk : Fn k) (hs : ∀ i, Fn (s i)) (ha : ∀ i, Fn (a i))
    (hv : ∀ i, Fn (v i)) (hd : ∀ i, Fn (d i)) :
    w * ∑ i, s i * d i + b * ∑ i, a i * d i + k * ∑ i, v i * d i = ∑ i, (s i * w + a i * b + v i * k) * d i := by
  obtain ⟨w, rfl⟩ := hw
  obtain ⟨b, rfl⟩ := hb
  obtain ⟨k, rfl⟩ := hk
  choose s' hs using hs
  choose a' ha using ha
  choose v' hv using hv
  choose d' hd using hd
  simp only [hs, ha, hv, hd, ← EReal.coe_mul, ← EReal.coe_add, ← coe_sum]
  congr 1
  rw [Finset.mul_sum, Finset.mul_sum, Finset.mul_sum, ← Finset.sum_add_distrib, ← Finset.sum_add_distrib]
  exact Finset.sum_congr rfl fun i _ => by ring

/-- All the recurrence's inputs are finite. -/
structure Args.Finite (a : Args) : Prop where
  w : ∀ e t h j, Fn (a.w e t h j)
  k : ∀ e t h j, Fn (a.k e t h j)
  v : ∀ e t h j, Fn (a.v e t h j)
  kn : ∀ e t h j, Fn (a.kn e t h j)
  b : ∀ e t h j, Fn (a.b e t h j)
  dy : ∀ e t h j, Fn (a.dy e t h j)
  sp : ∀ t e h i j, Fn (a.sp t e h i j)

/-! ## The two halves of the lanes -/

/-- The lane that holds the first half of the value index. -/
def lane (e : Fin 2) (h : Fin 32) (x : Fin 64) : Fin 128 := ⟨x.val / 32 * 64 + e.val * 32 + h.val, by omega⟩

theorem eL_lane (e : Fin 2) (h : Fin 32) (x : Fin 64) : eL (lane e h x) = e := Fin.ext (by unfold eL lane; dsimp only; omega)
theorem hL_lane (e : Fin 2) (h : Fin 32) (x : Fin 64) : hL (lane e h x) = h := Fin.ext (by unfold hL lane; dsimp only; omega)
theorem iL_lane (e : Fin 2) (h : Fin 32) (x : Fin 64) (n : Fin 32) : iL (lane e h x) n = ⟨x.val / 32 * 32 + n.val, by omega⟩ :=
  Fin.ext (by unfold iL lane; dsimp only; omega)

theorem fold_sum (x : FVec Ideal S64x128 .f32) (j : Fin 64) (f : Fin 2 → Fin 32 → Fin 64 → EReal)
    (hx : ∀ l, (x (ix2 j l) : EReal) = ∑ n : Fin 32, f (eL l) (hL l) (iL l n)) (e : Fin 2) (h : Fin 32) :
    (fold2 x (ix3 0 j (⟨e.val * 32 + h.val, by omega⟩ : Fin 64)) : EReal) = ∑ i : Fin 64, f e h i := by
  rw [fold2_at]
  rw [show (⟨e.val * 32 + h.val, by omega⟩ : Fin 128) = lane e h 0 from Fin.ext (by unfold lane; show _ = 0 / 32 * 64 + _ + _; dsimp only; omega),
    show (⟨e.val * 32 + h.val + 64, by omega⟩ : Fin 128) = lane e h 32 from Fin.ext (by unfold lane; show _ = 32 / 32 * 64 + _ + _; dsimp only; omega)]
  rw [hx, hx, Fin.sum_univ_add (a := 32) (b := 32)]
  simp only [eL_lane, hL_lane, iL_lane]
  refine congrArg₂ (· + ·) (Finset.sum_congr rfl fun i _ => congrArg (f e h) (Fin.ext ?_)) (Finset.sum_congr rfl fun i _ => congrArg (f e h) (Fin.ext ?_))
  · show 0 / 32 * 32 + i.val = i.val
    omega
  · show 32 / 32 * 32 + i.val = 32 + i.val
    omega

/-! ## Each gradient's lanes -/

variable (m : (ℓ : Loc nD τ sig) → Buf (Elt Ideal) ℓ) (c : Dev nD) (q : ℕ) (j : Fin 64) (l : Fin 128)

/-- The state gradient that step `q` of the pass finds. -/
abbrev cD : Fin 32 → FVec Ideal S64x128 .f32 := carry (gY m c) D0 q
abbrev aD : Fin 2 → Fin 32 → Fin 64 → Fin 64 → EReal := fun e h => (kArgs m c).dS e h q

theorem lane_dW : ((gY m c q).dW (cD m c q) (ix2 j l) : EReal)
    = ∑ n : Fin 32, (kArgs m c).sp (rev q) (eL l) (hL l) (iL l n) j * (kArgs m c).g (eL l) (hL l) (rev q) (aD m c q (eL l) (hL l)) (iL l n) j := by
  unfold Tk.dW
  rw [acc_at]
  refine Finset.sum_congr rfl fun n _ => ?_
  show ((gY m c q).dS (cD m c q) n (ix2 j l) : EReal) * (gY m c q).sp n (ix2 j l) = _
  rw [gY_dS m c q n j l (cD m c q) (aD m c q) (fun n j l => carry_at m c q n j l), gY_sp, mul_comm]

theorem lane_dKN : ((gY m c q).dKN (cD m c q) (ix2 j l) : EReal)
    = ∑ n : Fin 32, (kArgs m c).sp (rev q) (eL l) (hL l) (iL l n) j * (kArgs m c).ds (eL l) (hL l) (rev q) (aD m c q (eL l) (hL l)) (iL l n) := by
  unfold Tk.dKN
  rw [acc_at]
  refine Finset.sum_congr rfl fun n _ => ?_
  pointwise
  show ((gY m c q).sp n (ix2 j l) : EReal) * (gY m c q).dsa (cD m c q) n (ix2 0 l) = _
  rw [gY_dsa m c q n l (cD m c q) (aD m c q) (fun n j l => carry_at m c q n j l), gY_sp]

theorem lane_dB : ((gY m c q).dB (cD m c q) (ix2 j l) : EReal)
    = ∑ n : Fin 32, (kArgs m c).sa (eL l) (hL l) (rev q) (iL l n) * (kArgs m c).g (eL l) (hL l) (rev q) (aD m c q (eL l) (hL l)) (iL l n) j := by
  unfold Tk.dB
  rw [acc_at]
  refine Finset.sum_congr rfl fun n _ => ?_
  pointwise
  show ((gY m c q).dS (cD m c q) n (ix2 j l) : EReal) * (gY m c q).sa n (ix2 0 l) = _
  rw [gY_dS m c q n j l (cD m c q) (aD m c q) (fun n j l => carry_at m c q n j l), gY_sa, mul_comm]

theorem lane_dK : ((gY m c q).dK (cD m c q) (ix2 j l) : EReal)
    = ∑ n : Fin 32, (kArgs m c).v (eL l) (rev q) (hL l) (iL l n) * (kArgs m c).g (eL l) (hL l) (rev q) (aD m c q (eL l) (hL l)) (iL l n) j := by
  unfold Tk.dK
  rw [acc_at]
  refine Finset.sum_congr rfl fun n _ => ?_
  pointwise
  show ((gY m c q).dS (cD m c q) n (ix2 j l) : EReal) * (gY m c q).v n (ix2 0 l) = _
  rw [gY_dS m c q n j l (cD m c q) (aD m c q) (fun n j l => carry_at m c q n j l), gY_v, mul_comm]

theorem lane_dV (n : Fin 32) : ((gY m c q).dV (cD m c q) n (ix2 0 l) : EReal)
    = ∑ j : Fin 64, (kArgs m c).g (eL l) (hL l) (rev q) (aD m c q (eL l) (hL l)) (iL l n) j * (kArgs m c).k (eL l) (rev q) (hL l) j := by
  rw [dV_at]
  refine Finset.sum_congr rfl fun j _ => ?_
  rw [gY_dS m c q n j l (cD m c q) (aD m c q) (fun n j l => carry_at m c q n j l), gY_k]

theorem dR_at (x : Tk Ideal) : (x.dR (ix2 j l) : EReal)
    = x.w (ix2 j l) * x.T1 (ix2 j l) + x.b (ix2 j l) * x.al (ix2 0 l) + x.k (ix2 j l) * x.be (ix2 0 l) := by
  unfold Tk.dR; pointwise

theorem T1_at (x : Tk Ideal) : (x.T1 (ix2 j l) : EReal) = ∑ n : Fin 32, (x.sp n (ix2 j l) * x.dy n (ix2 0 l) : EReal) := by
  unfold Tk.T1
  rw [acc_at]
  exact Finset.sum_congr rfl fun n _ => by pointwise
theorem al_at (x : Tk Ideal) : (x.al (ix2 0 l) : EReal) = ∑ n : Fin 32, (x.sa n (ix2 0 l) * x.dy n (ix2 0 l) : EReal) := by
  unfold Tk.al
  rw [acc_at]
  exact Finset.sum_congr rfl fun n _ => by pointwise
theorem be_at (x : Tk Ideal) : (x.be (ix2 0 l) : EReal) = ∑ n : Fin 32, (x.v n (ix2 0 l) * x.dy n (ix2 0 l) : EReal) := by
  unfold Tk.be
  rw [acc_at]
  exact Finset.sum_congr rfl fun n _ => by pointwise

theorem lane_dR (hf : (kArgs m c).Finite) : ((gY m c q).dR (ix2 j l) : EReal)
    = ∑ n : Fin 32, (kArgs m c).st (eL l) (hL l) (rev q) (iL l n) j * (kArgs m c).dy (eL l) (rev q) (hL l) (iL l n) := by
  rw [dR_at, T1_at, al_at, be_at]
  simp only [gY_w, gY_b, gY_k, gY_sp, gY_dy, gY_sa, gY_v]
  exact spread (hf.w _ _ _ _) (hf.b _ _ _ _) (hf.k _ _ _ _) (fun _ => hf.sp _ _ _ _ _) (fun _ => Fn.sum fun _ => (hf.sp _ _ _ _ _).mul (hf.kn _ _ _ _))
    (fun _ => hf.v _ _ _ _) (fun _ => hf.dy _ _ _ _)

/-! ## The six results -/

variable (e : Fin 2) (t : Fin 2064) (h : Fin 32) (x : Fin 64)

theorem rev_rev : rev (2063 - t.val) = t := Fin.ext (by show 2063 - (2063 - t.val) = t.val; omega)

/-- A key-indexed gradient read at an index. -/
theorem GA_at (val : ℕ → FVec Ideal S64x128 .f32) (s : Fin 64) : (GA val : FVec Ideal S2064x64x64 .f32) (ix3 t x s) = fold2 (val (2063 - t.val)) (ix3 0 x s) := rfl
theorem GV_at (y : ℕ → Tk Ideal) (D : Fin 32 → FVec Ideal S64x128 .f32) (n : Fin 32) (l : Fin 128) :
    (GV y D : FVec Ideal S2064x32x128 .f32) (ix3 t n l) = (y (2063 - t.val)).dV (carry y D (2063 - t.val)) n (ix2 0 l) := rfl

theorem res_dr (hf : (kArgs m c).Finite) : ((Pipeline.afterTail₀ cfgs (dats m) 0 (V0 m) [hostOps1] c main_v99 : FVec Ideal S2x2064x32x64 .f32) (ix4 e t h x) : EReal)
    = (kArgs m c).dr e h t x := by
  rw [out_86, GA_at]
  refine (fold_sum _ x (fun e h i => (kArgs m c).st e h (rev (2063 - t.val)) i x * (kArgs m c).dy e (rev (2063 - t.val)) h i)
    (fun l => lane_dR m c (2063 - t.val) x l hf) e h).trans ?_
  rw [rev_rev]; rfl

theorem res_dw : ((Pipeline.afterTail₀ cfgs (dats m) 0 (V0 m) [hostOps1] c main_v100 : FVec Ideal S2x2064x32x64 .f32) (ix4 e t h x) : EReal)
    = (kArgs m c).dw e h t x := by
  rw [out_87, GA_at]
  refine (fold_sum _ x (fun e h i => (kArgs m c).sp (rev (2063 - t.val)) e h i x * (kArgs m c).g e h (rev (2063 - t.val)) (aD m c (2063 - t.val) e h) i x)
    (fun l => lane_dW m c (2063 - t.val) x l) e h).trans ?_
  rw [rev_rev]; rfl

theorem res_dk : ((Pipeline.afterTail₀ cfgs (dats m) 0 (V0 m) [hostOps1] c main_v101 : FVec Ideal S2x2064x32x64 .f32) (ix4 e t h x) : EReal)
    = (kArgs m c).dk e h t x := by
  rw [out_88, GA_at]
  refine (fold_sum _ x (fun e h i => (kArgs m c).v e (rev (2063 - t.val)) h i * (kArgs m c).g e h (rev (2063 - t.val)) (aD m c (2063 - t.val) e h) i x)
    (fun l => lane_dK m c (2063 - t.val) x l) e h).trans ?_
  rw [rev_rev]; rfl

theorem res_dv : ((Pipeline.afterTail₀ cfgs (dats m) 0 (V0 m) [hostOps1] c main_v102 : FVec Ideal S2x2064x32x64 .f32) (ix4 e t h x) : EReal)
    = (kArgs m c).dv e h t x := by
  rw [out_89, GV_at]
  refine (lane_dV m c (2063 - t.val) (lane e h x) ⟨x.val % 32, by omega⟩).trans ?_
  rw [eL_lane, hL_lane, iL_lane, rev_rev, show (⟨x.val / 32 * 32 + x.val % 32, by omega⟩ : Fin 64) = x from Fin.ext (by dsimp only; omega)]
  rfl

theorem res_dkn : ((Pipeline.afterTail₀ cfgs (dats m) 0 (V0 m) [hostOps1] c main_v103 : FVec Ideal S2x2064x32x64 .f32) (ix4 e t h x) : EReal)
    = (kArgs m c).dkn e h t x := by
  rw [out_90, GA_at]
  refine (fold_sum _ x (fun e h i => (kArgs m c).sp (rev (2063 - t.val)) e h i x * (kArgs m c).ds e h (rev (2063 - t.val)) (aD m c (2063 - t.val) e h) i)
    (fun l => lane_dKN m c (2063 - t.val) x l) e h).trans ?_
  rw [rev_rev]; rfl

theorem res_db : ((Pipeline.afterTail₀ cfgs (dats m) 0 (V0 m) [hostOps1] c main_v104 : FVec Ideal S2x2064x32x64 .f32) (ix4 e t h x) : EReal)
    = (kArgs m c).db e h t x := by
  rw [out_91, GA_at]
  refine (fold_sum _ x (fun e h i => (kArgs m c).sa e h (rev (2063 - t.val)) i * (kArgs m c).g e h (rev (2063 - t.val)) (aD m c (2063 - t.val) e h) i x)
    (fun l => lane_dB m c (2063 - t.val) x l) e h).trans ?_
  rw [rev_rev]; rfl

end Cert.Proof.WkvBwd

end
-- ==== Proof.RefStep.lean ====
module

public import proofs.«01_k».proof.Proof.Gen.ReferenceIdeal.Run
public import proofs.«01_k».proof.Proof.Spec
public import Idealize.ShloMosaic.Lib.Claim
public import Idealize.ShloMosaic.Lib.Pointwise
public import Idealize.ShloMosaic.Lib.StableHlo.ReadAt
public import Idealize.ShloMosaic.PureOps.Ideal

@[expose] public section

set_option maxRecDepth 16384
set_option maxHeartbeats 1000000

noncomputable section

namespace Cert.Proof.WkvBwd

open Cert.ReferenceIdeal Cert.ReferenceIdeal.Gen Cert.ReferenceIdeal.Value
open Idealize.ShloMosaic Idealize.ShloMosaic.TcCoe Idealize.SL.Sem Idealize.ShloMosaic.StableHlo

theorem ix4_ext' {n0 n1 n2 n3 : ℕ} {a0 b0 : Fin n0} {a1 b1 : Fin n1} {a2 b2 : Fin n2} {a3 b3 : Fin n3} (h0 : a0.val = b0.val) (h1 : a1.val = b1.val)
    (h2 : a2.val = b2.val) (h3 : a3.val = b3.val) : ix4 a0 a1 a2 a3 = ix4 b0 b1 b2 b3 := by
  rw [Fin.ext h0, Fin.ext h1, Fin.ext h2, Fin.ext h3]

theorem ix5_ext' {n0 n1 n2 n3 n4 : ℕ} {a0 b0 : Fin n0} {a1 b1 : Fin n1} {a2 b2 : Fin n2} {a3 b3 : Fin n3} {a4 b4 : Fin n4} (h0 : a0.val = b0.val) (h1 : a1.val = b1.val)
    (h2 : a2.val = b2.val) (h3 : a3.val = b3.val) (h4 : a4.val = b4.val) : ix5 a0 a1 a2 a3 a4 = ix5 b0 b1 b2 b3 b4 := by
  rw [Fin.ext h0, Fin.ext h1, Fin.ext h2, Fin.ext h3, Fin.ext h4]

/-! ## One row of an array, read and written -/

section
variable (q : ℕ) (hq : q < 2064)
include hq

/-- A row of an array of vectors, read at the token's place. -/
theorem row4 (x : FVec Ideal S2064x2x32x64 .f32) (st : Fin 4 → Int) (h0 : st 0 = 2063 - q) (h1 : st 1 = 0) (h2 : st 2 = 0) (h3 : st 3 = 0) (e : Fin 2) (h : Fin 32) (j : Fin 64) :
    (shapeCast S2x32x64 (Host.dynamicSlice S1x2x32x64 x st sliceFits_S2064x2x32x64_S1x2x32x64) shapeCasts_S1x2x32x64_S2x32x64) (ix3 e h j)
      = x (ix4 (rev q) e h j) := by
  have c0 : Host.clampedStart S2064x2x32x64 S1x2x32x64 rfl st 0 = 2063 - q := Host.clampedStart_of_le _ _ _ _ (by omega) (by show 2063 - q + 1 ≤ 2064; omega)
  have c1 : Host.clampedStart S2064x2x32x64 S1x2x32x64 rfl st 1 = 0 := Host.clampedStart_of_le _ _ _ _ (by omega) (by decide)
  have c2 : Host.clampedStart S2064x2x32x64 S1x2x32x64 rfl st 2 = 0 := Host.clampedStart_of_le _ _ _ _ (by omega) (by decide)
  have c3 : Host.clampedStart S2064x2x32x64 S1x2x32x64 rfl st 3 = 0 := Host.clampedStart_of_le _ _ _ _ (by omega) (by decide)
  pointwise
  exact congrArg x (ix4_ext' c0 (by dsimp only; omega) (by dsimp only; omega) (by dsimp only; omega))

/-- A row of the array of states. -/
theorem row5 (x : FVec Ideal S2064x2x32x64x64 .f32) (st : Fin 5 → Int) (h0 : st 0 = 2063 - q) (h1 : st 1 = 0) (h2 : st 2 = 0) (h3 : st 3 = 0) (h4 : st 4 = 0) (e : Fin 2) (h : Fin 32) (i j : Fin 64) :
    (shapeCast S2x32x64x64 (Host.dynamicSlice S1x2x32x64x64 x st sliceFits_S2064x2x32x64x64_S1x2x32x64x64) shapeCasts_S1x2x32x64x64_S2x32x64x64) (ix4 e h i j)
      = x (ix5 (rev q) e h i j) := by
  have c0 : Host.clampedStart S2064x2x32x64x64 S1x2x32x64x64 rfl st 0 = 2063 - q := Host.clampedStart_of_le _ _ _ _ (by omega) (by show 2063 - q + 1 ≤ 2064; omega)
  have c1 : Host.clampedStart S2064x2x32x64x64 S1x2x32x64x64 rfl st 1 = 0 := Host.clampedStart_of_le _ _ _ _ (by omega) (by decide)
  have c2 : Host.clampedStart S2064x2x32x64x64 S1x2x32x64x64 rfl st 2 = 0 := Host.clampedStart_of_le _ _ _ _ (by omega) (by decide)
  have c3 : Host.clampedStart S2064x2x32x64x64 S1x2x32x64x64 rfl st 3 = 0 := Host.clampedStart_of_le _ _ _ _ (by omega) (by decide)
  have c4 : Host.clampedStart S2064x2x32x64x64 S1x2x32x64x64 rfl st 4 = 0 := Host.clampedStart_of_le _ _ _ _ (by omega) (by decide)
  pointwise
  exact congrArg x (ix5_ext' c0 (by dsimp only; omega) (by dsimp only; omega) (by dsimp only; omega) (by dsimp only; omega))

/-- An array of vectors with one row put in. -/
theorem put4 (x : FVec Ideal S2064x2x32x64 .f32) (y : FVec Ideal S1x2x32x64 .f32) (st : Fin 4 → Int) (h0 : st 0 = 2063 - q) (h1 : st 1 = 0) (h2 : st 2 = 0) (h3 : st 3 = 0) (t : Fin 2064) (e : Fin 2) (h : Fin 32) (j : Fin 64) :
    (Host.dynamicUpdateSlice x y st updateFits_S2064x2x32x64_S1x2x32x64) (ix4 t e h j)
      = if t = rev q then y (ix4 0 e h j) else x (ix4 t e h j) := by
  have c0 : Host.clampedStart S2064x2x32x64 S1x2x32x64 rfl st 0 = 2063 - q := Host.clampedStart_of_le _ _ _ _ (by omega) (by show 2063 - q + 1 ≤ 2064; omega)
  have c1 : Host.clampedStart S2064x2x32x64 S1x2x32x64 rfl st 1 = 0 := Host.clampedStart_of_le _ _ _ _ (by omega) (by decide)
  have c2 : Host.clampedStart S2064x2x32x64 S1x2x32x64 rfl st 2 = 0 := Host.clampedStart_of_le _ _ _ _ (by omega) (by decide)
  have c3 : Host.clampedStart S2064x2x32x64 S1x2x32x64 rfl st 3 = 0 := Host.clampedStart_of_le _ _ _ _ (by omega) (by decide)
  pointwise
  have hr : (rev q).val = 2063 - q := rfl
  by_cases ht : t = rev q
  · rw [if_pos ht, dif_pos (by rw [c0, c1, c2, c3, ht, hr]; omega)]
    exact congrArg y (ix4_ext' (by dsimp only; rw [c0, ht, hr]; simp) (by dsimp only; omega) (by dsimp only; omega) (by dsimp only; omega))
  · rw [if_neg ht, dif_neg (by
      rw [c0]
      intro hh
      exact ht (Fin.ext (by omega)))]

theorem row4w (x : FVec Ideal S2064x2x32x64 .f32) (w : (⟨S_, .i32⟩ : BufTy).Contents (Elt Ideal)) (hw : (w (Shape.Idx.first h_S_)).toInt = 2063 - q) (e : Fin 2) (h : Fin 32) (j : Fin 64) :
    (shapeCast S2x32x64 (Host.dynamicSlice S1x2x32x64 x (fun k => (((![w, constantI S_ 32 0#32, constantI S_ 32 0#32, constantI S_ 32 0#32] : Fin 4 → (⟨S_, .i32⟩ : BufTy).Contents (Elt Ideal))) k (Shape.Idx.first h_S_)).toInt) sliceFits_S2064x2x32x64_S1x2x32x64) shapeCasts_S1x2x32x64_S2x32x64) (ix3 e h j)
      = x (ix4 (rev q) e h j) := row4 q hq x (fun k => (((![w, constantI S_ 32 0#32, constantI S_ 32 0#32, constantI S_ 32 0#32] : Fin 4 → (⟨S_, .i32⟩ : BufTy).Contents (Elt Ideal))) k (Shape.Idx.first h_S_)).toInt) hw rfl rfl rfl e h j
theorem row5w (x : FVec Ideal S2064x2x32x64x64 .f32) (w : (⟨S_, .i32⟩ : BufTy).Contents (Elt Ideal)) (hw : (w (Shape.Idx.first h_S_)).toInt = 2063 - q) (e : Fin 2) (h : Fin 32) (i j : Fin 64) :
    (shapeCast S2x32x64x64 (Host.dynamicSlice S1x2x32x64x64 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S2064x2x32x64x64_S1x2x32x64x64) shapeCasts_S1x2x32x64x64_S2x32x64x64) (ix4 e h i j)
      = x (ix5 (rev q) e h i j) := row5 q hq x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) hw rfl rfl rfl rfl e h i j
theorem put4w (x : FVec Ideal S2064x2x32x64 .f32) (y : FVec Ideal S1x2x32x64 .f32) (w : (⟨S_, .i32⟩ : BufTy).Contents (Elt Ideal)) (hw : (w (Shape.Idx.first h_S_)).toInt = 2063 - q) (t : Fin 2064) (e : Fin 2) (h : Fin 32) (j : Fin 64) :
    (Host.dynamicUpdateSlice x y (fun k => (((![w, constantI S_ 32 0#32, constantI S_ 32 0#32, constantI S_ 32 0#32] : Fin 4 → (⟨S_, .i32⟩ : BufTy).Contents (Elt Ideal))) k (Shape.Idx.first h_S_)).toInt) updateFits_S2064x2x32x64_S1x2x32x64) (ix4 t e h j)
      = if t = rev q then y (ix4 0 e h j) else x (ix4 t e h j) := put4 q hq x y (fun k => (((![w, constantI S_ 32 0#32, constantI S_ 32 0#32, constantI S_ 32 0#32] : Fin 4 → (⟨S_, .i32⟩ : BufTy).Contents (Elt Ideal))) k (Shape.Idx.first h_S_)).toInt) hw rfl rfl rfl t e h j
end

/-! ## One trip of the reference's loop -/

/-- What the carried buffers hold before trip `q`. -/
structure At (a : Args) (q : ℕ) (X : Valuation τ sig (Elt Ideal)) : Prop where
  ctr : (X (Proc.devRef .tc main_v14_8) : (⟨S_, .i32⟩ : BufTy).Contents (Elt Ideal)) = fun _ => BitVec.ofNat 32 q
  sp : ∀ t e h i j, ((X (Proc.devRef .tc main_v14_0) : FVec Ideal S2064x2x32x64x64 .f32) (ix5 t e h i j) : EReal) = a.sp t e h i j
  dy : ∀ t e h j, ((X (Proc.devRef .tc main_v14_1) : FVec Ideal S2064x2x32x64 .f32) (ix4 t e h j) : EReal) = a.dy e t h j
  r : ∀ t e h j, ((X (Proc.devRef .tc main_v14_2) : FVec Ideal S2064x2x32x64 .f32) (ix4 t e h j) : EReal) = a.r e t h j
  w : ∀ t e h j, ((X (Proc.devRef .tc main_v14_3) : FVec Ideal S2064x2x32x64 .f32) (ix4 t e h j) : EReal) = a.w e t h j
  k : ∀ t e h j, ((X (Proc.devRef .tc main_v14_4) : FVec Ideal S2064x2x32x64 .f32) (ix4 t e h j) : EReal) = a.k e t h j
  v : ∀ t e h j, ((X (Proc.devRef .tc main_v14_5) : FVec Ideal S2064x2x32x64 .f32) (ix4 t e h j) : EReal) = a.v e t h j
  kn : ∀ t e h j, ((X (Proc.devRef .tc main_v14_6) : FVec Ideal S2064x2x32x64 .f32) (ix4 t e h j) : EReal) = a.kn e t h j
  b : ∀ t e h j, ((X (Proc.devRef .tc main_v14_7) : FVec Ideal S2064x2x32x64 .f32) (ix4 t e h j) : EReal) = a.b e t h j
  dS : ∀ e h i j, ((X (Proc.devRef .tc main_v14_9) : FVec Ideal S2x32x64x64 .f32) (ix4 e h i j) : EReal) = a.dS e h q i j
  dr : ∀ t e h j, 2063 - t.val < q → ((X (Proc.devRef .tc main_v14_10) : FVec Ideal S2064x2x32x64 .f32) (ix4 t e h j) : EReal) = a.dr e h t j
  dw : ∀ t e h j, 2063 - t.val < q → ((X (Proc.devRef .tc main_v14_11) : FVec Ideal S2064x2x32x64 .f32) (ix4 t e h j) : EReal) = a.dw e h t j
  dk : ∀ t e h j, 2063 - t.val < q → ((X (Proc.devRef .tc main_v14_12) : FVec Ideal S2064x2x32x64 .f32) (ix4 t e h j) : EReal) = a.dk e h t j
  dv : ∀ t e h j, 2063 - t.val < q → ((X (Proc.devRef .tc main_v14_13) : FVec Ideal S2064x2x32x64 .f32) (ix4 t e h j) : EReal) = a.dv e h t j
  dkn : ∀ t e h j, 2063 - t.val < q → ((X (Proc.devRef .tc main_v14_14) : FVec Ideal S2064x2x32x64 .f32) (ix4 t e h j) : EReal) = a.dkn e h t j
  db : ∀ t e h j, 2063 - t.val < q → ((X (Proc.devRef .tc main_v14_15) : FVec Ideal S2064x2x32x64 .f32) (ix4 t e h j) : EReal) = a.db e h t j

theorem bc_key (x : FVec Ideal S2x32x64 .f32) (e : Fin 2) (h : Fin 32) (j : Fin 64) :
    (broadcastInDim S2x32x1x64 ![0, 1, 3] bcast_S2x32x64_S2x32x1x64_0_1_3 x : FVec Ideal S2x32x1x64 .f32) (ix4 e h 0 j) = x (ix3 e h j) := by pointwise
theorem bc_val (x : FVec Ideal S2x32x64 .f32) (e : Fin 2) (h : Fin 32) (i : Fin 64) :
    (broadcastInDim S2x32x64x1 ![0, 1, 2] bcast_S2x32x64_S2x32x64x1_0_1_2 x : FVec Ideal S2x32x64x1 .f32) (ix4 e h i 0) = x (ix3 e h i) := by pointwise
theorem bc_all (x : FVec Ideal S2x32x64 .f32) (e : Fin 2) (h : Fin 32) (i j : Fin 64) :
    (broadcastInDim S2x32x64x64 ![0, 1, 2] bcast_S2x32x64_S2x32x64x64_0_1_2 x : FVec Ideal S2x32x64x64 .f32) (ix4 e h i j) = x (ix3 e h i) := by pointwise

section
variable {a : Args} {q : ℕ} {X : Valuation τ sig (Elt Ideal)} (hX : At a q X) (hq : q < 2064)
include hX hq

theorem place : ((res_main_while0b_v22 X : (⟨S_, .i32⟩ : BufTy).Contents (Elt Ideal)) (Shape.Idx.first h_S_)).toInt = 2063 - q := by
  unfold res_main_while0b_v22
  rw [hX.ctr]
  show (2064#32 - BitVec.ofNat 32 q - 1#32).toInt = 2063 - q
  rw [show 2064#32 - BitVec.ofNat 32 q - 1#32 = BitVec.ofNat 32 (2063 - q) from BitVec.eq_of_toNat_eq (by simp only [BitVec.toNat_sub, BitVec.toNat_ofNat]; omega)]
  rw [BitVec.toInt_eq_toNat_of_lt (by simp only [BitVec.toNat_ofNat]; omega), BitVec.toNat_ofNat]
  omega

variable (e : Fin 2) (h : Fin 32) (i j : Fin 64)

theorem r23 : ((res_main_while0b_v23 X : FVec Ideal S2x32x64x64 .f32) (ix4 e h i j) : EReal) = a.sp (rev q) e h i j := by
  unfold res_main_while0b_v23
  exact (row5w q hq (X (Proc.devRef .tc main_v14_0)) (res_main_while0b_v22 X) (place hX hq) e h i j).trans (hX.sp _ _ _ _ _)
theorem r31 : ((res_main_while0b_v31 X : FVec Ideal S2x32x1x64 .f32) (ix4 e h 0 j) : EReal) = a.kn e (rev q) h j := by
  unfold res_main_while0b_v31
  refine Eq.trans ?_ ((row4w q hq (X (Proc.devRef .tc main_v14_6)) (res_main_while0b_v22 X) (place hX hq) e h j).trans (hX.kn _ _ _ _))
  exact bc_key _ e h j
theorem r35 : ((res_main_while0b_v35 X : FVec Ideal S2x32x1x64 .f32) (ix4 e h 0 j) : EReal) = a.w e (rev q) h j := by
  unfold res_main_while0b_v35
  refine Eq.trans ?_ ((row4w q hq (X (Proc.devRef .tc main_v14_3)) (res_main_while0b_v22 X) (place hX hq) e h j).trans (hX.w _ _ _ _))
  exact bc_key _ e h j
theorem r39 : ((res_main_while0b_v39 X : FVec Ideal S2x32x1x64 .f32) (ix4 e h 0 j) : EReal) = a.b e (rev q) h j := by
  unfold res_main_while0b_v39
  refine Eq.trans ?_ ((row4w q hq (X (Proc.devRef .tc main_v14_7)) (res_main_while0b_v22 X) (place hX hq) e h j).trans (hX.b _ _ _ _))
  exact bc_key _ e h j
theorem r45 : ((res_main_while0b_v45 X : FVec Ideal S2x32x1x64 .f32) (ix4 e h 0 j) : EReal) = a.k e (rev q) h j := by
  unfold res_main_while0b_v45
  refine Eq.trans ?_ ((row4w q hq (X (Proc.devRef .tc main_v14_4)) (res_main_while0b_v22 X) (place hX hq) e h j).trans (hX.k _ _ _ _))
  exact bc_key _ e h j
theorem r50 : ((res_main_while0b_v50 X : FVec Ideal S2x32x1x64 .f32) (ix4 e h 0 j) : EReal) = a.r e (rev q) h j := by
  unfold res_main_while0b_v50
  refine Eq.trans ?_ ((row4w q hq (X (Proc.devRef .tc main_v14_2)) (res_main_while0b_v22 X) (place hX hq) e h j).trans (hX.r _ _ _ _))
  exact bc_key _ e h j
theorem r44 : ((res_main_while0b_v44 X : FVec Ideal S2x32x64x1 .f32) (ix4 e h i 0) : EReal) = a.v e (rev q) h i := by
  unfold res_main_while0b_v44
  refine Eq.trans ?_ ((row4w q hq (X (Proc.devRef .tc main_v14_5)) (res_main_while0b_v22 X) (place hX hq) e h i).trans (hX.v _ _ _ _))
  exact bc_val _ e h i
theorem r54 : ((res_main_while0b_v54 X : FVec Ideal S2x32x64x64 .f32) (ix4 e h i j) : EReal) = a.dy e (rev q) h i := by
  unfold res_main_while0b_v54
  refine Eq.trans ?_ ((row4w q hq (X (Proc.devRef .tc main_v14_1)) (res_main_while0b_v22 X) (place hX hq) e h i).trans (hX.dy _ _ _ _))
  exact bc_all _ e h i j
theorem r38 : ((res_main_while0b_v38 X : FVec Ideal S2x32x64x1 .f32) (ix4 e h i 0) : EReal) = a.sa e h (rev q) i := by
  unfold res_main_while0b_v38
  pointwise
  simp only [r23 hX hq, r31 hX hq]
  rfl
theorem r49 : ((res_main_while0b_v49 X : FVec Ideal S2x32x64x64 .f32) (ix4 e h i j) : EReal) = a.st e h (rev q) i j := by
  unfold res_main_while0b_v49
  pointwise
  simp only [r23 hX hq, r35 hX hq, r38 hX hq, r39 hX hq, r44 hX hq, r45 hX hq]
  rfl
theorem r60 : ((res_main_while0b_v60 X : FVec Ideal S2x32x64x64 .f32) (ix4 e h i j) : EReal) = a.g e h (rev q) (a.dS e h q) i j := by
  unfold res_main_while0b_v60
  pointwise
  simp only [hX.dS, r54 hX hq, r50 hX hq]
  rfl
theorem r88 : ((res_main_while0b_v88 X : FVec Ideal S2x32x64x64 .f32) (ix4 e h i j) : EReal) = a.ds e h (rev q) (a.dS e h q) i := by
  unfold res_main_while0b_v88
  pointwise
  simp only [r60 hX hq, r39 hX hq, Fin.sum_univ_one]
  rfl
end

/-! ## The row each gradient's array gets -/

theorem sum_key (x : FVec Ideal S2x32x64x64 .f32) (e : Fin 2) (h : Fin 32) (j : Fin 64) :
    ((broadcastInDim S1x2x32x64 ![1, 2, 3] bcast_S2x32x64_S1x2x32x64_1_2_3 (Host.reduceAdd (shapeCast S2x32x1x64 (Host.reduceAdd x (constant S_ .f32 0x00000000#32) reducesTo_S2x32x64x64_S2x32x64_d2 h_S_) shapeCasts_S2x32x64_S2x32x1x64) (constant S_ .f32 0x00000000#32) reducesTo_S2x32x1x64_S2x32x64_d2 h_S_) : FVec Ideal S1x2x32x64 .f32) (ix4 0 e h j) : EReal)
      = ∑ i : Fin 64, (x (ix4 e h i j) : EReal) := by
  pointwise
  simp only [Fin.sum_univ_one]

theorem sum_val (x : FVec Ideal S2x32x64x64 .f32) (e : Fin 2) (h : Fin 32) (i : Fin 64) :
    ((broadcastInDim S1x2x32x64 ![1, 2, 3] bcast_S2x32x64_S1x2x32x64_1_2_3 (Host.reduceAdd (shapeCast S2x32x64x1 (Host.reduceAdd x (constant S_ .f32 0x00000000#32) reducesTo_S2x32x64x64_S2x32x64_d3 h_S_) shapeCasts_S2x32x64_S2x32x64x1) (constant S_ .f32 0x00000000#32) reducesTo_S2x32x64x1_S2x32x64_d3 h_S_) : FVec Ideal S1x2x32x64 .f32) (ix4 0 e h i) : EReal)
      = ∑ j : Fin 64, (x (ix4 e h i j) : EReal) := by
  pointwise
  simp only [Fin.sum_univ_one]

section
variable {a : Args} {q : ℕ} {X : Valuation τ sig (Elt Ideal)} (hX : At a q X) (hq : q < 2064)
include hX hq

theorem later_rev (e : Fin 2) (h : Fin 32) : a.later e h (rev q) = a.dS e h q := by
  unfold Args.later rev
  exact congrArg (a.dS e h) (by dsimp only; omega)

theorem s8 : (STEP X (Proc.devRef .tc main_v14_8) : (⟨S_, .i32⟩ : BufTy).Contents (Elt Ideal)) = fun _ => BitVec.ofNat 32 (q + 1) := by
  rw [STEP_main_v14_8]
  unfold step_main_v14_8
  rw [hX.ctr]
  funext p
  show BitVec.ofNat 32 q + 1#32 = BitVec.ofNat 32 (q + 1)
  exact BitVec.eq_of_toNat_eq (by simp only [BitVec.toNat_add, BitVec.toNat_ofNat]; omega)

theorem s9 (e : Fin 2) (h : Fin 32) (i j : Fin 64) : ((STEP X (Proc.devRef .tc main_v14_9) : FVec Ideal S2x32x64x64 .f32) (ix4 e h i j) : EReal) = a.dS e h (q + 1) i j := by
  rw [STEP_main_v14_9]
  unfold step_main_v14_9
  rw [id_eq]
  pointwise
  simp only [r60 hX hq, r35 hX hq, r88 hX hq, r31 hX hq]
  rfl

variable (t : Fin 2064) (e : Fin 2) (h : Fin 32) (j : Fin 64) (ht : 2063 - t.val < q + 1)
include ht

theorem past (hne : t ≠ rev q) : 2063 - t.val < q := by
  have : t.val ≠ 2063 - q := fun hh => hne (Fin.ext hh)
  omega

theorem s10 : ((STEP X (Proc.devRef .tc main_v14_10) : FVec Ideal S2064x2x32x64 .f32) (ix4 t e h j) : EReal) = a.dr e h t j := by
  rw [STEP_main_v14_10]
  unfold step_main_v14_10
  rw [id_eq]
  refine (put4w q hq (X (Proc.devRef .tc main_v14_10)) _ (res_main_while0b_v22 X) (place hX hq) t e h j).trans ?_
  by_cases hr : t = rev q
  · rw [if_pos hr, hr, sum_key]
    unfold Args.dr
    refine Finset.sum_congr rfl fun i _ => ?_
    pointwise
    simp only [r49 hX hq, r54 hX hq]
  · rw [if_neg hr]
    exact hX.dr t e h j (past hX hq t ht hr)

theorem s11 : ((STEP X (Proc.devRef .tc main_v14_11) : FVec Ideal S2064x2x32x64 .f32) (ix4 t e h j) : EReal) = a.dw e h t j := by
  rw [STEP_main_v14_11]
  unfold step_main_v14_11
  rw [id_eq]
  refine (put4w q hq (X (Proc.devRef .tc main_v14_11)) _ (res_main_while0b_v22 X) (place hX hq) t e h j).trans ?_
  by_cases hr : t = rev q
  · rw [if_pos hr, hr, sum_key]
    unfold Args.dw
    simp only [later_rev hX hq]
    refine Finset.sum_congr rfl fun i _ => ?_
    pointwise
    simp only [r23 hX hq, r60 hX hq]
  · rw [if_neg hr]
    exact hX.dw t e h j (past hX hq t ht hr)

theorem s12 : ((STEP X (Proc.devRef .tc main_v14_12) : FVec Ideal S2064x2x32x64 .f32) (ix4 t e h j) : EReal) = a.dk e h t j := by
  rw [STEP_main_v14_12]
  unfold step_main_v14_12
  rw [id_eq]
  refine (put4w q hq (X (Proc.devRef .tc main_v14_12)) _ (res_main_while0b_v22 X) (place hX hq) t e h j).trans ?_
  by_cases hr : t = rev q
  · rw [if_pos hr, hr, sum_key]
    unfold Args.dk
    simp only [later_rev hX hq]
    refine Finset.sum_congr rfl fun i _ => ?_
    pointwise
    simp only [r44 hX hq, r60 hX hq]
  · rw [if_neg hr]
    exact hX.dk t e h j (past hX hq t ht hr)

theorem s13 : ((STEP X (Proc.devRef .tc main_v14_13) : FVec Ideal S2064x2x32x64 .f32) (ix4 t e h j) : EReal) = a.dv e h t j := by
  rw [STEP_main_v14_13]
  unfold step_main_v14_13
  rw [id_eq]
  refine (put4w q hq (X (Proc.devRef .tc main_v14_13)) _ (res_main_while0b_v22 X) (place hX hq) t e h j).trans ?_
  by_cases hr : t = rev q
  · rw [if_pos hr, hr, sum_val]
    unfold Args.dv
    simp only [later_rev hX hq]
    refine Finset.sum_congr rfl fun i _ => ?_
    pointwise
    simp only [r60 hX hq, r45 hX hq]
  · rw [if_neg hr]
    exact hX.dv t e h j (past hX hq t ht hr)

theorem s14 : ((STEP X (Proc.devRef .tc main_v14_14) : FVec Ideal S2064x2x32x64 .f32) (ix4 t e h j) : EReal) = a.dkn e h t j := by
  rw [STEP_main_v14_14]
  unfold step_main_v14_14
  rw [id_eq]
  refine (put4w q hq (X (Proc.devRef .tc main_v14_14)) _ (res_main_while0b_v22 X) (place hX hq) t e h j).trans ?_
  by_cases hr : t = rev q
  · rw [if_pos hr, hr, sum_key]
    unfold Args.dkn
    simp only [later_rev hX hq]
    refine Finset.sum_congr rfl fun i _ => ?_
    pointwise
    simp only [r23 hX hq, r88 hX hq]
  · rw [if_neg hr]
    exact hX.dkn t e h j (past hX hq t ht hr)

theorem s15 : ((STEP X (Proc.devRef .tc main_v14_15) : FVec Ideal S2064x2x32x64 .f32) (ix4 t e h j) : EReal) = a.db e h t j := by
  rw [STEP_main_v14_15]
  unfold step_main_v14_15
  rw [id_eq]
  refine (put4w q hq (X (Proc.devRef .tc main_v14_15)) _ (res_main_while0b_v22 X) (place hX hq) t e h j).trans ?_
  by_cases hr : t = rev q
  · rw [if_pos hr, hr, sum_key]
    unfold Args.db
    simp only [later_rev hX hq]
    refine Finset.sum_congr rfl fun i _ => ?_
    pointwise
    simp only [r38 hX hq, r60 hX hq]
  · rw [if_neg hr]
    exact hX.db t e h j (past hX hq t ht hr)

end

/-- One trip takes the contents before it to the contents before the next. -/
theorem At.next {a : Args} {q : ℕ} {X : Valuation τ sig (Elt Ideal)} (hX : At a q X) (hq : q < 2064) : At a (q + 1) (STEP X) where
  ctr := s8 hX hq
  sp t e h i j := by rw [STEP_main_v14_0]; exact hX.sp t e h i j
  dy t e h j := by rw [STEP_main_v14_1]; exact hX.dy t e h j
  r t e h j := by rw [STEP_main_v14_2]; exact hX.r t e h j
  w t e h j := by rw [STEP_main_v14_3]; exact hX.w t e h j
  k t e h j := by rw [STEP_main_v14_4]; exact hX.k t e h j
  v t e h j := by rw [STEP_main_v14_5]; exact hX.v t e h j
  kn t e h j := by rw [STEP_main_v14_6]; exact hX.kn t e h j
  b t e h j := by rw [STEP_main_v14_7]; exact hX.b t e h j
  dS e h i j := s9 hX hq e h i j
  dr t e h j ht := s10 hX hq t e h j ht
  dw t e h j ht := s11 hX hq t e h j ht
  dk t e h j ht := s12 hX hq t e h j ht
  dv t e h j ht := s13 hX hq t e h j ht
  dkn t e h j ht := s14 hX hq t e h j ht
  db t e h j ht := s15 hX hq t e h j ht

/-- Every trip. -/
theorem At.iterate {a : Args} {X : Valuation τ sig (Elt Ideal)} (hX : At a 0 X) : ∀ q, q ≤ 2064 → At a q (STEP^[q] X)
  | 0, _ => hX
  | q + 1, hq => by
    rw [Function.iterate_succ_apply']
    exact (At.iterate hX q (by omega)).next (by omega)

/-! ## The entry and the results -/

variable (m : (ℓ : Loc nD τ sig) → Buf (Elt Ideal) ℓ) (c : Dev nD)

/-- The recurrence's inputs as the reference's arguments hold them. -/
def rArgs : Args where
  r e t h j := (m ((c : Thread nD τ).loc main_arg0) : FVec Ideal S2x2064x32x64 .f32) (ix4 e t h j)
  w e t h j := (m ((c : Thread nD τ).loc main_arg1) : FVec Ideal S2x2064x32x64 .f32) (ix4 e t h j)
  k e t h j := (m ((c : Thread nD τ).loc main_arg2) : FVec Ideal S2x2064x32x64 .f32) (ix4 e t h j)
  v e t h j := (m ((c : Thread nD τ).loc main_arg3) : FVec Ideal S2x2064x32x64 .f32) (ix4 e t h j)
  kn e t h j := (m ((c : Thread nD τ).loc main_arg4) : FVec Ideal S2x2064x32x64 .f32) (ix4 e t h j)
  b e t h j := (m ((c : Thread nD τ).loc main_arg5) : FVec Ideal S2x2064x32x64 .f32) (ix4 e t h j)
  dy e t h j := (m ((c : Thread nD τ).loc main_arg6) : FVec Ideal S2x2064x32x64 .f32) (ix4 e t h j)
  sp t e h i j := (m ((c : Thread nD τ).loc main_arg7) : FVec Ideal S2064x2x32x64x64 .f32) (ix5 t e h i j)

theorem entry : At (rArgs m c) 0 (entryContents preI m c) where
  ctr := ctr_entry m c
  sp t e h i j := by unfold rArgs entryContents; simp only [preI, afterL_cons, afterL_nil]; after_reads_at; rfl
  dy t e h j := by unfold rArgs entryContents; simp only [preI, afterL_cons, afterL_nil]; after_reads_at; rw [id_eq]; pointwise
  r t e h j := by unfold rArgs entryContents; simp only [preI, afterL_cons, afterL_nil]; after_reads_at; rw [id_eq]; pointwise
  w t e h j := by unfold rArgs entryContents; simp only [preI, afterL_cons, afterL_nil]; after_reads_at; rw [id_eq]; pointwise
  k t e h j := by unfold rArgs entryContents; simp only [preI, afterL_cons, afterL_nil]; after_reads_at; rw [id_eq]; pointwise
  v t e h j := by unfold rArgs entryContents; simp only [preI, afterL_cons, afterL_nil]; after_reads_at; rw [id_eq]; pointwise
  kn t e h j := by unfold rArgs entryContents; simp only [preI, afterL_cons, afterL_nil]; after_reads_at; rw [id_eq]; pointwise
  b t e h j := by unfold rArgs entryContents; simp only [preI, afterL_cons, afterL_nil]; after_reads_at; rw [id_eq]; pointwise
  dS e h i j := by
    unfold entryContents
    simp only [preI, afterL_cons, afterL_nil]
    after_reads_at
    exact Ideal.ofBits_zero_f32
  dr t e h j ht := absurd ht (Nat.not_lt_zero _)
  dw t e h j ht := absurd ht (Nat.not_lt_zero _)
  dk t e h j ht := absurd ht (Nat.not_lt_zero _)
  dv t e h j ht := absurd ht (Nat.not_lt_zero _)
  dkn t e h j ht := absurd ht (Nat.not_lt_zero _)
  db t e h j ht := absurd ht (Nat.not_lt_zero _)

/-- What the loop leaves. -/
theorem left : At (rArgs m c) 2064 (STEP^[2064] (entryContents preI m c)) := (entry m c).iterate 2064 le_rfl

variable (e : Fin 2) (t : Fin 2064) (h : Fin 32) (j : Fin 64)

theorem ref_dr : ((out_main_v15 (STEP^[2064] (entryContents preI m c)) : FVec Ideal S2x2064x32x64 .f32) (ix4 e t h j) : EReal) = (rArgs m c).dr e h t j := by
  refine Eq.trans ?_ ((left m c).dr t e h j (by omega))
  unfold out_main_v15
  generalize STEP^[2064] (entryContents preI m c) = X
  pointwise
theorem ref_dw : ((out_main_v16 (STEP^[2064] (entryContents preI m c)) : FVec Ideal S2x2064x32x64 .f32) (ix4 e t h j) : EReal) = (rArgs m c).dw e h t j := by
  refine Eq.trans ?_ ((left m c).dw t e h j (by omega))
  unfold out_main_v16
  generalize STEP^[2064] (entryContents preI m c) = X
  pointwise
theorem ref_dk : ((out_main_v17 (STEP^[2064] (entryContents preI m c)) : FVec Ideal S2x2064x32x64 .f32) (ix4 e t h j) : EReal) = (rArgs m c).dk e h t j := by
  refine Eq.trans ?_ ((left m c).dk t e h j (by omega))
  unfold out_main_v17
  generalize STEP^[2064] (entryContents preI m c) = X
  pointwise
theorem ref_dv : ((out_main_v18 (STEP^[2064] (entryContents preI m c)) : FVec Ideal S2x2064x32x64 .f32) (ix4 e t h j) : EReal) = (rArgs m c).dv e h t j := by
  refine Eq.trans ?_ ((left m c).dv t e h j (by omega))
  unfold out_main_v18
  generalize STEP^[2064] (entryContents preI m c) = X
  pointwise
theorem ref_dkn : ((out_main_v19 (STEP^[2064] (entryContents preI m c)) : FVec Ideal S2x2064x32x64 .f32) (ix4 e t h j) : EReal) = (rArgs m c).dkn e h t j := by
  refine Eq.trans ?_ ((left m c).dkn t e h j (by omega))
  unfold out_main_v19
  generalize STEP^[2064] (entryContents preI m c) = X
  pointwise
theorem ref_db : ((out_main_v20 (STEP^[2064] (entryContents preI m c)) : FVec Ideal S2x2064x32x64 .f32) (ix4 e t h j) : EReal) = (rArgs m c).db e h t j := by
  refine Eq.trans ?_ ((left m c).db t e h j (by omega))
  unfold out_main_v20
  generalize STEP^[2064] (entryContents preI m c) = X
  pointwise

end Cert.Proof.WkvBwd

end
-- ==== Proof.Values.lean ====
module

public import proofs.«01_k».proof.Proof.Frames
public import proofs.«01_k».proof.Proof.KernelOut
public import proofs.«01_k».proof.Proof.RefStep

@[expose] public section

set_option maxRecDepth 16384

noncomputable section

namespace Cert.Proof.WkvBwd

open Idealize.ShloMosaic Idealize.ShloMosaic.TcCoe Idealize.ShloMosaic.Pipeline Idealize.SL.Sem

/-! ## The precondition: every input is finite -/

/-- The word compared with is the positive infinity. -/
theorem inf_word : (FloatOps.ofBits (F := Ideal) .f32 0x7F800000#32 : EReal) = ⊤ := by
  simp [Ideal.ofBits, Ideal.ieee]

theorem Fn.of_lt {x : EReal} (h : max x (-x) < ⊤) : Fn x := by
  induction x with
  | bot => exact absurd h (by simp)
  | top => exact absurd h (by simp)
  | coe x => exact ⟨x, rfl⟩

theorem Fn.of_cmp {x : EReal} (h : Ideal.cmp .olt (max x (-x)) (FloatOps.ofBits (F := Ideal) .f32 0x7F800000#32 : EReal) = 1#1) : Fn x := by
  refine Fn.of_lt ?_
  rw [inf_word] at h
  unfold Ideal.cmp at h
  by_contra hn
  simp only [hn, decide_false] at h
  exact absurd h (by decide)

open Cert.KernelIdeal in
/-- Under the precondition the recurrence's inputs are finite. -/
theorem finite_args (m : (ℓ : Loc nD τ sig) → Buf (Elt Ideal) ℓ) (h : Cert.Pre_KernelIdeal_finite m) (c : Dev nD) : (kArgs m c).Finite := by
  obtain ⟨h0, h1, h2, h3, h4, h5, h6, h7⟩ := h c
  exact {
    w := fun e t h j => Fn.of_cmp (congrFun h1 (ix4 e t h j))
    k := fun e t h j => Fn.of_cmp (congrFun h2 (ix4 e t h j))
    v := fun e t h j => Fn.of_cmp (congrFun h3 (ix4 e t h j))
    kn := fun e t h j => Fn.of_cmp (congrFun h4 (ix4 e t h j))
    b := fun e t h j => Fn.of_cmp (congrFun h5 (ix4 e t h j))
    dy := fun e t h j => Fn.of_cmp (congrFun h6 (ix4 e t h j))
    sp := fun t e h i j => Fn.of_cmp (congrFun h7 (ix5 t e h i j)) }

/-! ## The two runs end alike -/

/-- An array is its entries. -/
theorem ext4 {n0 n1 n2 n3 : ℕ} {f g : (⟨4, ![n0, n1, n2, n3]⟩ : Shape).Idx → EReal} (h : ∀ a b c d, f (ix4 a b c d) = g (ix4 a b c d)) : f = g := by
  funext p
  rw [← ix4_eta p]
  exact h _ _ _ _

set_option maxHeartbeats 4000000 in
/-- The kernel's run with its six results. -/
theorem run_values (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
r.2.mem ((c.tc : Thread Cert.KernelIdeal.nD Cert.KernelIdeal.τ).loc Cert.KernelIdeal.main_v99) = Pipeline.afterTail₀ Cert.KernelIdeal.cfgs (dats m) 0 (Cert.KernelIdeal.Gen.V0 m) [Cert.KernelIdeal.Gen.hostOps1] c Cert.KernelIdeal.main_v99
      ∧ r.2.mem ((c.tc : Thread Cert.KernelIdeal.nD Cert.KernelIdeal.τ).loc Cert.KernelIdeal.main_v100) = Pipeline.afterTail₀ Cert.KernelIdeal.cfgs (dats m) 0 (Cert.KernelIdeal.Gen.V0 m) [Cert.KernelIdeal.Gen.hostOps1] c Cert.KernelIdeal.main_v100
      ∧ r.2.mem ((c.tc : Thread Cert.KernelIdeal.nD Cert.KernelIdeal.τ).loc Cert.KernelIdeal.main_v101) = Pipeline.afterTail₀ Cert.KernelIdeal.cfgs (dats m) 0 (Cert.KernelIdeal.Gen.V0 m) [Cert.KernelIdeal.Gen.hostOps1] c Cert.KernelIdeal.main_v101
      ∧ r.2.mem ((c.tc : Thread Cert.KernelIdeal.nD Cert.KernelIdeal.τ).loc Cert.KernelIdeal.main_v102) = Pipeline.afterTail₀ Cert.KernelIdeal.cfgs (dats m) 0 (Cert.KernelIdeal.Gen.V0 m) [Cert.KernelIdeal.Gen.hostOps1] c Cert.KernelIdeal.main_v102
      ∧ r.2.mem ((c.tc : Thread Cert.KernelIdeal.nD Cert.KernelIdeal.τ).loc Cert.KernelIdeal.main_v103) = Pipeline.afterTail₀ Cert.KernelIdeal.cfgs (dats m) 0 (Cert.KernelIdeal.Gen.V0 m) [Cert.KernelIdeal.Gen.hostOps1] c Cert.KernelIdeal.main_v103
      ∧ r.2.mem ((c.tc : Thread Cert.KernelIdeal.nD Cert.KernelIdeal.τ).loc Cert.KernelIdeal.main_v104) = Pipeline.afterTail₀ Cert.KernelIdeal.cfgs (dats m) 0 (Cert.KernelIdeal.Gen.V0 m) [Cert.KernelIdeal.Gen.hostOps1] c Cert.KernelIdeal.main_v104) :=
  (θ_run Cert.KernelIdeal.defs _ _).mono (fun _ h c => ⟨(h.1 c).2 Cert.KernelIdeal.main_v99 (Pipeline.mem_restRefs_of Cert.KernelIdeal.main_v99 (by decide) (by decide)), (h.1 c).2 Cert.KernelIdeal.main_v100 (Pipeline.mem_restRefs_of Cert.KernelIdeal.main_v100 (by decide) (by decide)), (h.1 c).2 Cert.KernelIdeal.main_v101 (Pipeline.mem_restRefs_of Cert.KernelIdeal.main_v101 (by decide) (by decide)), (h.1 c).2 Cert.KernelIdeal.main_v102 (Pipeline.mem_restRefs_of Cert.KernelIdeal.main_v102 (by decide) (by decide)), (h.1 c).2 Cert.KernelIdeal.main_v103 (Pipeline.mem_restRefs_of Cert.KernelIdeal.main_v103 (by decide) (by decide)), (h.1 c).2 Cert.KernelIdeal.main_v104 (Pipeline.mem_restRefs_of Cert.KernelIdeal.main_v104 (by decide) (by decide))⟩) (run_main m ρ)

/-- The two programs' arguments agreeing, they hold the same recurrence. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    rArgs m' c = kArgs m c := by
  unfold rArgs kArgs
  rw [h0, h1, h2, h3, h4, h5, h6, h7]

set_option maxHeartbeats 4000000 in
/-- With finite inputs the kernel's six gradients are the reference's. -/
theorem algebraic : Cert.algebraic_KernelIdeal_ReferenceIdeal_pre_finite := by
  intro m ρ m' ρ' hpre hag
  have e0 : ∀ c : Dev Cert.KernelIdeal.nD, (Cert.ReferenceIdeal.Value.out_main_v15 (Cert.ReferenceIdeal.Value.STEP^[2064] (StableHlo.entryContents Cert.ReferenceIdeal.Value.preI m' c)) : FVec Ideal Cert.ReferenceIdeal.S2x2064x32x64 .f32)
      = (Pipeline.afterTail₀ Cert.KernelIdeal.cfgs (dats m) 0 (Cert.KernelIdeal.Gen.V0 m) [Cert.KernelIdeal.Gen.hostOps1] c Cert.KernelIdeal.main_v99 : FVec Ideal Cert.KernelIdeal.S2x2064x32x64 .f32) := fun c => by
    obtain ⟨h0, h1, h2, h3, h4, h5, h6, h7⟩ := hag c
    exact ext4 fun e t h x => (ref_dr m' c e t h x).trans ((congrArg (fun a : Args => a.dr e h t x) (args_eq m m' c h0 h1 h2 h3 h4 h5 h6 h7)).trans (res_dr m c e t h x (finite_args m hpre c)).symm)
  have e1 : ∀ c : Dev Cert.KernelIdeal.nD, (Cert.ReferenceIdeal.Value.out_main_v16 (Cert.ReferenceIdeal.Value.STEP^[2064] (StableHlo.entryContents Cert.ReferenceIdeal.Value.preI m' c)) : FVec Ideal Cert.ReferenceIdeal.S2x2064x32x64 .f32)
      = (Pipeline.afterTail₀ Cert.KernelIdeal.cfgs (dats m) 0 (Cert.KernelIdeal.Gen.V0 m) [Cert.KernelIdeal.Gen.hostOps1] c Cert.KernelIdeal.main_v100 : FVec Ideal Cert.KernelIdeal.S2x2064x32x64 .f32) := fun c => by
    obtain ⟨h0, h1, h2, h3, h4, h5, h6, h7⟩ := hag c
    exact ext4 fun e t h x => (ref_dw m' c e t h x).trans ((congrArg (fun a : Args => a.dw e h t x) (args_eq m m' c h0 h1 h2 h3 h4 h5 h6 h7)).trans (res_dw m c e t h x).symm)
  have e2 : ∀ c : Dev Cert.KernelIdeal.nD, (Cert.ReferenceIdeal.Value.out_main_v17 (Cert.ReferenceIdeal.Value.STEP^[2064] (StableHlo.entryContents Cert.ReferenceIdeal.Value.preI m' c)) : FVec Ideal Cert.ReferenceIdeal.S2x2064x32x64 .f32)
      = (Pipeline.afterTail₀ Cert.KernelIdeal.cfgs (dats m) 0 (Cert.KernelIdeal.Gen.V0 m) [Cert.KernelIdeal.Gen.hostOps1] c Cert.KernelIdeal.main_v101 : FVec Ideal Cert.KernelIdeal.S2x2064x32x64 .f32) := fun c => by
    obtain ⟨h0, h1, h2, h3, h4, h5, h6, h7⟩ := hag c
    exact ext4 fun e t h x => (ref_dk m' c e t h x).trans ((congrArg (fun a : Args => a.dk e h t x) (args_eq m m' c h0 h1 h2 h3 h4 h5 h6 h7)).trans (res_dk m c e t h x).symm)
  have e3 : ∀ c : Dev Cert.KernelIdeal.nD, (Cert.ReferenceIdeal.Value.out_main_v18 (Cert.ReferenceIdeal.Value.STEP^[2064] (StableHlo.entryContents Cert.ReferenceIdeal.Value.preI m' c)) : FVec Ideal Cert.ReferenceIdeal.S2x2064x32x64 .f32)
      = (Pipeline.afterTail₀ Cert.KernelIdeal.cfgs (dats m) 0 (Cert.KernelIdeal.Gen.V0 m) [Cert.KernelIdeal.Gen.hostOps1] c Cert.KernelIdeal.main_v102 : FVec Ideal Cert.KernelIdeal.S2x2064x32x64 .f32) := fun c => by
    obtain ⟨h0, h1, h2, h3, h4, h5, h6, h7⟩ := hag c
    exact ext4 fun e t h x => (ref_dv m' c e t h x).trans ((congrArg (fun a : Args => a.dv e h t x) (args_eq m m' c h0 h1 h2 h3 h4 h5 h6 h7)).trans (res_dv m c e t h x).symm)
  have e4 : ∀ c : Dev Cert.KernelIdeal.nD, (Cert.ReferenceIdeal.Value.out_main_v19 (Cert.ReferenceIdeal.Value.STEP^[2064] (StableHlo.entryContents Cert.ReferenceIdeal.Value.preI m' c)) : FVec Ideal Cert.ReferenceIdeal.S2x2064x32x64 .f32)
      = (Pipeline.afterTail₀ Cert.KernelIdeal.cfgs (dats m) 0 (Cert.KernelIdeal.Gen.V0 m) [Cert.KernelIdeal.Gen.hostOps1] c Cert.KernelIdeal.main_v103 : FVec Ideal Cert.KernelIdeal.S2x2064x32x64 .f32) := fun c => by
    obtain ⟨h0, h1, h2, h3, h4, h5, h6, h7⟩ := hag c
    exact ext4 fun e t h x => (ref_dkn m' c e t h x).trans ((congrArg (fun a : Args => a.dkn e h t x) (args_eq m m' c h0 h1 h2 h3 h4 h5 h6 h7)).trans (res_dkn m c e t h x).symm)
  have e5 : ∀ c : Dev Cert.KernelIdeal.nD, (Cert.ReferenceIdeal.Value.out_main_v20 (Cert.ReferenceIdeal.Value.STEP^[2064] (StableHlo.entryContents Cert.ReferenceIdeal.Value.preI m' c)) : FVec Ideal Cert.ReferenceIdeal.S2x2064x32x64 .f32)
      = (Pipeline.afterTail₀ Cert.KernelIdeal.cfgs (dats m) 0 (Cert.KernelIdeal.Gen.V0 m) [Cert.KernelIdeal.Gen.hostOps1] c Cert.KernelIdeal.main_v104 : FVec Ideal Cert.KernelIdeal.S2x2064x32x64 .f32) := fun c => by
    obtain ⟨h0, h1, h2, h3, h4, h5, h6, h7⟩ := hag c
    exact ext4 fun e t h x => (ref_db m' c e t h x).trans ((congrArg (fun a : Args => a.db e h t x) (args_eq m m' c h0 h1 h2 h3 h4 h5 h6 h7)).trans (res_db m c e t h x).symm)
  refine ⟨fun c => Pipeline.afterTail₀ Cert.KernelIdeal.cfgs (dats m) 0 (Cert.KernelIdeal.Gen.V0 m) [Cert.KernelIdeal.Gen.hostOps1] c Cert.KernelIdeal.main_v99, fun c => Pipeline.afterTail₀ Cert.KernelIdeal.cfgs (dats m) 0 (Cert.KernelIdeal.Gen.V0 m) [Cert.KernelIdeal.Gen.hostOps1] c Cert.KernelIdeal.main_v100, fun c => Pipeline.afterTail₀ Cert.KernelIdeal.cfgs (dats m) 0 (Cert.KernelIdeal.Gen.V0 m) [Cert.KernelIdeal.Gen.hostOps1] c Cert.KernelIdeal.main_v101, fun c => Pipeline.afterTail₀ Cert.KernelIdeal.cfgs (dats m) 0 (Cert.KernelIdeal.Gen.V0 m) [Cert.KernelIdeal.Gen.hostOps1] c Cert.KernelIdeal.main_v102, fun c => Pipeline.afterTail₀ Cert.KernelIdeal.cfgs (dats m) 0 (Cert.KernelIdeal.Gen.V0 m) [Cert.KernelIdeal.Gen.hostOps1] c Cert.KernelIdeal.main_v103, fun c => Pipeline.afterTail₀ Cert.KernelIdeal.cfgs (dats m) 0 (Cert.KernelIdeal.Gen.V0 m) [Cert.KernelIdeal.Gen.hostOps1] c Cert.KernelIdeal.main_v104,
    (θ_run Cert.KernelIdeal.defs _ _).mono (fun r h c => ?_) (θ_run_and (run_values m ρ) (run_args m ρ)),
    (θ_run Cert.ReferenceIdeal.defs _ _).mono (fun r h c => ?_) (Cert.ReferenceIdeal.Value.run m' ρ')⟩
  · obtain ⟨r0, r1, r2, r3, r4, r5⟩ := h.1 c
    exact ⟨r0, r1, r2, r3, r4, r5, h.2.1 c⟩
  · obtain ⟨r0, r1, r2, r3, r4, r5, hr⟩ := h c
    exact ⟨r0.trans (e0 c), r1.trans (e1 c), r2.trans (e2 c), r3.trans (e3 c), r4.trans (e4 c), r5.trans (e5 c), hr⟩

end Cert.Proof.WkvBwd

end
-- ==== Proof.Product.lean ====
module

public import Idealize.ShloMosaic.Lib.Pipeline.Value
public import Idealize.ShloMosaic.Lib.ValueIdx
public import Idealize.ShloMosaic.Lib.Pointwise
public import Idealize.ShloMosaic.PureOps.Ideal

@[expose] public section

noncomputable section

namespace Cert.Proof.Product

open Idealize.ShloMosaic

/-! ## A sum over the contracted axis, cut into blocks

A product whose contracted axis has `J` blocks of `T` is accumulated block by block: the first grid point of a run
leaves the start value and the first block's sum, each later one adds its own block's. -/

/-- Position `k` of block `s`. -/
abbrev at_ {J T K : ℕ} (hK : K = J * T) (s : ℕ) (hs : s < J) (k : Fin T) : Fin K :=
  ⟨s * T + k.val, by
    have h := Nat.mul_le_mul_right T (Nat.succ_le_of_lt hs)
    have hk := k.isLt
    rw [Nat.succ_mul] at h
    omega⟩

/-- The blocks' sums together are the sum over the axis. -/
theorem sum_blocks {β : Type*} [AddCommMonoid β] {J T K : ℕ} (hK : K = J * T) (F : Fin K → β) :
    ∑ s : Fin J, ∑ k : Fin T, F (at_ hK s.val s.isLt k) = ∑ q : Fin K, F q := by
  subst hK
  rw [← finProdFinEquiv.sum_comp, Fintype.sum_prod_type]
  refine Finset.sum_congr rfl fun s _ => Finset.sum_congr rfl fun k _ => congrArg F (Fin.ext ?_)
  show s.val * T + k.val = k.val + T * s.val
  rw [Nat.mul_comm, Nat.add_comm]

/-- What a run of `J` points leaves at an index, when its first point leaves `z` and block 0's sum there and every
    later point adds its block's: `z` and the sum over the whole axis. -/
theorem run_sum {ι : Type*} {N J T K : ℕ} (hK : K = J * T) (hJ : 0 < J) (a : (n : ℕ) → n < N → ι → EReal) (g : (n : ℕ) → n < N → (ι → EReal) → ι → EReal)
    (b : ℕ) (i : ι) (z : EReal) (F : Fin K → EReal)
    (ha : ∀ h : b < N, a b h i = z + ∑ k : Fin T, F (at_ hK 0 hJ k))
    (hg : ∀ (s : ℕ) (hs : s < J) (h : b + s < N) (acc : ι → EReal), g (b + s) h acc i = acc i + ∑ k : Fin T, F (at_ hK s hs k))
    (j : ℕ) (hj : j + 1 = J) (h : b + j < N) : Pipeline.accAt a g b j h i = z + ∑ q : Fin K, F q := by
  have key : ∀ (j : ℕ) (hj : j + 1 ≤ J) (h : b + j < N),
      Pipeline.accAt a g b j h i = z + ∑ s : Fin (j + 1), ∑ k : Fin T, F (at_ hK s.val (by omega) k) := by
    intro j
    induction j with
    | zero =>
      intro hj h
      rw [Pipeline.accAt_zero, Fin.sum_univ_one]
      exact ha h
    | succ j ih =>
      intro hj h
      rw [Pipeline.accAt_succ, hg (j + 1) (by omega), ih (by omega), add_assoc]
      exact congrArg (z + ·) (Fin.sum_univ_castSucc fun s : Fin (j + 1 + 1) => ∑ k : Fin T, F (at_ hK s.val (by omega) k)).symm
  subst hj
  rw [key j le_rfl h, ← sum_blocks hK F]

/-- The same where each point adds a block's sum of products: the start value and the sum of products over the axis. -/
theorem run_prod {ι : Type*} {N J T K : ℕ} (hK : K = J * T) (hJ : 0 < J) (a : (n : ℕ) → n < N → ι → EReal) (g : (n : ℕ) → n < N → (ι → EReal) → ι → EReal)
    (b : ℕ) (i : ι) (z : EReal) (u v : Fin K → EReal) {p q : (n : ℕ) → n < N → Fin T → EReal}
    (hg : ∀ (n : ℕ) (h : n < N) (acc : ι → EReal), g n h acc i = acc i + ∑ k : Fin T, p n h k * q n h k)
    (ha : ∀ h : b < N, a b h i = z + ∑ k : Fin T, p b h k * q b h k)
    (hp : ∀ (s : ℕ) (hs : s < J) (h : b + s < N) (k : Fin T), p (b + s) h k = u (at_ hK s hs k))
    (hq : ∀ (s : ℕ) (hs : s < J) (h : b + s < N) (k : Fin T), q (b + s) h k = v (at_ hK s hs k))
    (j : ℕ) (hj : j + 1 = J) (h : b + j < N) : Pipeline.accAt a g b j h i = z + ∑ r : Fin K, u r * v r :=
  run_sum hK hJ a g b i z (fun r => u r * v r)
    (fun h => (ha h).trans (congrArg (z + ·) (Finset.sum_congr rfl fun k _ => congrArg₂ (· * ·) (hp 0 hJ h k) (hq 0 hJ h k))))
    (fun s hs h acc => (hg (b + s) h acc).trans (congrArg (acc i + ·) (Finset.sum_congr rfl fun k _ => congrArg₂ (· * ·) (hp s hs h k) (hq s hs h k)))) j hj h

/-- Four blocks laid one after another, read at a position: the block it falls in, at its place there. -/
theorem four_blocks (f : Fin 4 → Fin 1408 → EReal) (q : Fin 5632) :
    (if h : q.val < 1408 then f 0 ⟨q.val, h⟩
      else if h : q.val - 1408 < 1408 then f 1 ⟨q.val - 1408, h⟩
      else if h : q.val - 1408 - 1408 < 1408 then f 2 ⟨q.val - 1408 - 1408, h⟩
      else f 3 ⟨q.val - 1408 - 1408 - 1408, by omega⟩) = f ⟨q.val / 1408, by omega⟩ ⟨q.val % 1408, by omega⟩ := by
  obtain ⟨q, hq⟩ := q
  dsimp only
  split
  · exact congrArg₂ f (Fin.ext (show (0 : ℕ) = q / 1408 by omega)) (Fin.ext (show q = q % 1408 by omega))
  split
  · exact congrArg₂ f (Fin.ext (show (1 : ℕ) = q / 1408 by omega)) (Fin.ext (show q - 1408 = q % 1408 by omega))
  split
  · exact congrArg₂ f (Fin.ext (show (2 : ℕ) = q / 1408 by omega)) (Fin.ext (show q - 1408 - 1408 = q % 1408 by omega))
  · exact congrArg₂ f (Fin.ext (show (3 : ℕ) = q / 1408 by omega)) (Fin.ext (show q - 1408 - 1408 - 1408 = q % 1408 by omega))

/-- The offsets of a load or store of the whole block. -/
theorem zero2 : (![0, 0] : Fin 2 → ℕ) = fun _ => 0 := funext fun a => by fin_cases a <;> rfl

/-- An index is the pair of its coordinates. -/
theorem eq_ix2 {n0 n1 : ℕ} {j : (⟨2, ![n0, n1]⟩ : Shape).Idx} {x : Fin n0} {y : Fin n1} (h0 : j 0 = x) (h1 : j 1 = y) : j = ix2 x y := by
  rw [← h0, ← h1, ix2_eta]

/-- Two arrays agreeing at every index are the same. -/
theorem ext2 {n0 n1 : ℕ} {f g : (⟨2, ![n0, n1]⟩ : Shape).Idx → EReal} (h : ∀ a b, f (ix2 a b) = g (ix2 a b)) : f = g := by
  funext i
  rw [← ix2_eta i]
  exact h _ _

theorem ext3 {n0 n1 n2 : ℕ} {f g : (⟨3, ![n0, n1, n2]⟩ : Shape).Idx → EReal} (h : ∀ a b c, f (ix3 a b c) = g (ix3 a b c)) : f = g := by
  funext i
  rw [← ix3_eta i]
  exact h _ _ _

end Cert.Proof.Product

end
-- ==== Proof.Ffn2.lean ====
module

public import proofs.«01_k».proof.Defs
public import proofs.«01_k».proof.Proof.Product
public import proofs.«01_k».proof.Proof.Gen.Kernel2Ideal.Value
public import proofs.«01_k».proof.Proof.Gen.Reference2Ideal.Run
public import proofs.«01_k».proof.Proof.Gen.Kernel2.Frame
public import Idealize.ShloMosaic.Lib.Claim
public import Idealize.ShloMosaic.Lib.Pipeline.ValueKit

@[expose] public section

set_option maxRecDepth 16384

noncomputable section

namespace Cert.Proof.Ffn2

open Cert.Kernel2Ideal Cert.Kernel2Ideal.Gen Cert.Kernel2Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The four arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S5632x2048 .bf16 := m ((c : Thread nD τ).loc main_arg1)
abbrev C (m : (ℓ : Loc nD τ sig) → Buf (Elt Ideal) ℓ) (c : Dev nD) : FVec Ideal S4128x5632 .f32 := m ((c : Thread nD τ).loc main_arg2)
abbrev D (m : (ℓ : Loc nD τ sig) → Buf (Elt Ideal) ℓ) (c : Dev nD) : FVec Ideal S4128x5632 .f32 := m ((c : Thread nD τ).loc main_arg3)

theorem idx0 : ∀ t : Fin cfg0.N, win0_0.index t = ![t.val / 8, t.val % 2] := (by decide +kernel : ∀ t : Fin grid0.N, win0_0.index t = ![t.val / 8, t.val % 2])
theorem idx1 : ∀ t : Fin cfg0.N, win0_1.index t = ![t.val / 2 % 4, t.val % 2] := (by decide +kernel : ∀ t : Fin grid0.N, win0_1.index t = ![t.val / 2 % 4, t.val % 2])
theorem idx2 : ∀ t : Fin cfg0.N, win0_2.index t = ![t.val / 8, t.val / 2 % 4] := (by decide +kernel : ∀ t : Fin grid0.N, win0_2.index t = ![t.val / 8, t.val / 2 % 4])
theorem idx3 : ∀ t : Fin cfg0.N, win0_3.index t = ![t.val / 8, t.val / 2 % 4] := (by decide +kernel : ∀ t : Fin grid0.N, win0_3.index t = ![t.val / 8, t.val / 2 % 4])

theorem blk0 (t : Fin cfg0.N) (x : Fin 688) (k : Fin 1024) (r : Fin 4128) (q : Fin 2048) (hr : r.val = t.val / 8 * 688 + x.val) (hq : q.val = t.val % 2 * 1024 + k.val) :
    (iblk m c 0 t : FVec Ideal S688x1024 .bf16) (ix2 x k) = A m c (ix2 r q) := by
  unfold iblk
  rw [View.read_apply]
  refine congrArg (A m c) ?_
  blk_ext [idx0 t]

theorem blk1 (t : Fin cfg0.N) (y : Fin 1408) (k : Fin 1024) (r : Fin 5632) (q : Fin 2048) (hr : r.val = t.val / 2 % 4 * 1408 + y.val) (hq : q.val = t.val % 2 * 1024 + k.val) :
    (iblk m c 1 t : FVec Ideal S1408x1024 .bf16) (ix2 y k) = B m c (ix2 r q) := by
  unfold iblk
  rw [View.read_apply]
  refine congrArg (B m c) ?_
  blk_ext [idx1 t]

theorem blk2 (t : Fin cfg0.N) (x : Fin 688) (y : Fin 1408) (r : Fin 4128) (s : Fin 5632) (hr : r.val = t.val / 8 * 688 + x.val) (hs : s.val = t.val / 2 % 4 * 1408 + y.val) :
    (iblk m c 2 t : FVec Ideal S688x1408 .f32) (ix2 x y) = C m c (ix2 r s) := by
  unfold iblk
  rw [View.read_apply]
  refine congrArg (C m c) ?_
  blk_ext [idx2 t]

theorem blk3 (t : Fin cfg0.N) (x : Fin 688) (y : Fin 1408) (r : Fin 4128) (s : Fin 5632) (hr : r.val = t.val / 8 * 688 + x.val) (hs : s.val = t.val / 2 % 4 * 1408 + y.val) :
    (iblk m c 3 t : FVec Ideal S688x1408 .f32) (ix2 x y) = D m c (ix2 r s) := by
  unfold iblk
  rw [View.read_apply]
  refine congrArg (D m c) ?_
  blk_ext [idx3 t]

theorem pay_at (u : Vec Ideal S688x1024 .bf16) (acc : Vec Ideal S688x1408 .f32) (v : Vec Ideal S1408x1024 .bf16) (x : Fin 688) (y : Fin 1408) :
    (k0_pay2 u acc v (ix2 x y) : EReal) = acc (ix2 x y) + ∑ k : Fin 1024, (u (ix2 x k) * v (ix2 y k) : EReal) := by
  unfold k0_pay2
  pointwise

/-! ## What a point leaves, as terms of its blocks -/

theorem zero2 : (![0, 0] : Fin 2 → ℕ) = fun _ => 0 := funext fun a => by fin_cases a <;> rfl

/-- The first point of a run leaves the first block's product in the scratch. -/
theorem scratch_first (c : Dev nD) (i : grid0.Coords) (arg3 : Memref sig .tc .vmem S688x1024 .bf16) (harg3 : arg3.IsWhole) (arg4 : Memref sig .tc .vmem S1408x1024 .bf16) (harg4 : arg4.IsWhole) (arg5 : Memref sig .tc .vmem S688x1408 .f32) (harg5 : arg5.IsWhole) (arg6 : Memref sig .tc .vmem S688x1408 .f32) (harg6 : arg6.IsWhole) (arg7 : Memref sig .tc .vmem S688x1408 .bf16) (harg7 : arg7.IsWhole) (arg8 : Memref sig .tc .vmem S688x1408 .bf16) (harg8 : arg8.IsWhole) (arg9 : Memref sig .tc .vmem S688x1408 .f32) (harg9 : arg9.IsWhole) (hc0 : cond0_0 i) (hc1 : ¬cond0_1 i) (x0 : Vec Ideal S688x1024 .bf16) (x1 : Vec Ideal S1408x1024 .bf16) (x2 : Vec Ideal S688x1408 .f32) (x3 : Vec Ideal S688x1408 .f32) :
    sout0_A_0 c i arg3 harg3 arg4 harg4 arg5 harg5 arg6 harg6 arg7 harg7 arg8 harg8 arg9 harg9 hc0 hc1 x0 x1 x2 x3 = k0_pay2 x0 (k0_pay1 (F := Ideal)) x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  try sl_unfold_words
  rw [View.canon_cons_unit_zero (S := S688x1408) zero2, View.readCov_unit_zero (S := S688x1408) _ zero2]
  simp only [View.readAt_eq_ld, harg3.read_unread, harg4.read_unread, harg5.read_unread, harg6.read_unread, harg9.read_unread, View.ld_unit_zero (S := S688x1408) zero2, View.ld_unit_zero (S := S688x1024) zero2, View.ld_unit_zero (S := S1408x1024) zero2, shapeCast_self]

/-- The last point adds its block's and leaves the gate's derivative. -/
theorem out_gate (c : Dev nD) (i : grid0.Coords) (arg3 : Memref sig .tc .vmem S688x1024 .bf16) (harg3 : arg3.IsWhole) (arg4 : Memref sig .tc .vmem S1408x1024 .bf16) (harg4 : arg4.IsWhole) (arg5 : Memref sig .tc .vmem S688x1408 .f32) (harg5 : arg5.IsWhole) (arg6 : Memref sig .tc .vmem S688x1408 .f32) (harg6 : arg6.IsWhole) (arg7 : Memref sig .tc .vmem S688x1408 .bf16) (harg7 : arg7.IsWhole) (arg8 : Memref sig .tc .vmem S688x1408 .bf16) (harg8 : arg8.IsWhole) (arg9 : Memref sig .tc .vmem S688x1408 .f32) (harg9 : arg9.IsWhole) (hc0 : ¬cond0_0 i) (hc1 : cond0_1 i) (x0 : Vec Ideal S688x1024 .bf16) (x1 : Vec Ideal S1408x1024 .bf16) (x2 : Vec Ideal S688x1408 .f32) (x3 : Vec Ideal S688x1408 .f32) (xs0 : Vec Ideal S688x1408 .f32) :
    out0_B_4 c i arg3 harg3 arg4 harg4 arg5 harg5 arg6 harg6 arg7 harg7 arg8 harg8 arg9 harg9 hc0 hc1 x0 x1 x2 x3 xs0 = k0_pay4 (k0_pay2 x0 xs0 x1) x2 x3 := by
  unfold out0_B_4
  rw [View.read_writes_eq_canon _ _ _ (cover0_B_4 c i arg3 harg3 arg4 harg4 arg5 harg5 arg6 harg6 arg7 harg7 arg8 harg8 arg9 harg9 hc0 hc1 x0 x1 x2 x3 xs0)]
  unfold kernelRun0_B
  dsimp only
  try sl_unfold_words
  rw [View.canon_unit_zero zero2, View.readCov_unit_zero (S := S688x1408) _ zero2]
  simp only [View.readAt_eq_ld, harg3.read_unread, harg4.read_unread, harg5.read_unread, harg6.read_unread, harg9.read_unread, View.ld_unit_zero (S := S688x1408) zero2, View.ld_unit_zero (S := S688x1024) zero2, View.ld_unit_zero (S := S1408x1024) zero2, shapeCast_self]

/-- And the other factor's. -/
theorem out_up (c : Dev nD) (i : grid0.Coords) (arg3 : Memref sig .tc .vmem S688x1024 .bf16) (harg3 : arg3.IsWhole) (arg4 : Memref sig .tc .vmem S1408x1024 .bf16) (harg4 : arg4.IsWhole) (arg5 : Memref sig .tc .vmem S688x1408 .f32) (harg5 : arg5.IsWhole) (arg6 : Memref sig .tc .vmem S688x1408 .f32) (harg6 : arg6.IsWhole) (arg7 : Memref sig .tc .vmem S688x1408 .bf16) (harg7 : arg7.IsWhole) (arg8 : Memref sig .tc .vmem S688x1408 .bf16) (harg8 : arg8.IsWhole) (arg9 : Memref sig .tc .vmem S688x1408 .f32) (harg9 : arg9.IsWhole) (hc0 : ¬cond0_0 i) (hc1 : cond0_1 i) (x0 : Vec Ideal S688x1024 .bf16) (x1 : Vec Ideal S1408x1024 .bf16) (x2 : Vec Ideal S688x1408 .f32) (x3 : Vec Ideal S688x1408 .f32) (xs0 : Vec Ideal S688x1408 .f32) :
    out0_B_5 c i arg3 harg3 arg4 harg4 arg5 harg5 arg6 harg6 arg7 harg7 arg8 harg8 arg9 harg9 hc0 hc1 x0 x1 x2 x3 xs0 = k0_pay5 (k0_pay2 x0 xs0 x1) x2 := by
  unfold out0_B_5
  rw [View.read_writes_eq_canon _ _ _ (cover0_B_5 c i arg3 harg3 arg4 harg4 arg5 harg5 arg6 harg6 arg7 harg7 arg8 harg8 arg9 harg9 hc0 hc1 x0 x1 x2 x3 xs0)]
  unfold kernelRun0_B
  dsimp only
  try sl_unfold_words
  rw [View.canon_unit_zero zero2, View.readCov_unit_zero (S := S688x1408) _ zero2]
  simp only [View.readAt_eq_ld, harg3.read_unread, harg4.read_unread, harg5.read_unread, harg6.read_unread, harg9.read_unread, View.ld_unit_zero (S := S688x1408) zero2, View.ld_unit_zero (S := S688x1024) zero2, View.ld_unit_zero (S := S1408x1024) zero2, shapeCast_self]

/-! ## A run of two points -/

/-- What a point leaves in the scratch: at a run's first point over zero, at the next over what is there. -/
def first (m : (ℓ : Loc nD τ sig) → Buf (Elt Ideal) ℓ) (c : Dev nD) (n : ℕ) (h : n < cfg0.N) : Vec Ideal S688x1408 .f32 :=
  k0_pay2 (iblk m c 0 ⟨n, h⟩) (k0_pay1 (F := Ideal)) (iblk m c 1 ⟨n, h⟩)

def next (m : (ℓ : Loc nD τ sig) → Buf (Elt Ideal) ℓ) (c : Dev nD) (n : ℕ) (h : n < cfg0.N) (acc : Vec Ideal S688x1408 .f32) : Vec Ideal S688x1408 .f32 :=
  k0_pay2 (iblk m c 0 ⟨n, h⟩) acc (iblk m c 1 ⟨n, h⟩)

/-- The product of a run's blocks. -/
def prod (m : (ℓ : Loc nD τ sig) → Buf (Elt Ideal) ℓ) (c : Dev nD) (b : ℕ) (h : 2 * b + 1 < cfg0.N) : Vec Ideal S688x1408 .f32 :=
  next m c (2 * b + 1) h (first m c (2 * b) (by omega))

/-- After the first point of a run. -/
theorem scratch_at (n : ℕ) (h : n < cfg0.N) (hn : n % 2 = 0) : (outsAt0 m c n h).2.2 = first m c n h := by
  rw [outsAt0_A m c ⟨n, h⟩ hn (by dsimp only; omega)]
  dsimp only
  unfold first
  exact scratch_first ..

/-- After the last point of a run. -/
theorem outs_at (b : ℕ) (h : 2 * b + 1 < cfg0.N) :
    (outsAt0 m c (2 * b + 1) h).1 = k0_pay4 (prod m c b h) (iblk m c 2 ⟨2 * b + 1, h⟩) (iblk m c 3 ⟨2 * b + 1, h⟩)
      ∧ (outsAt0 m c (2 * b + 1) h).2.1 = k0_pay5 (prod m c b h) (iblk m c 2 ⟨2 * b + 1, h⟩) := by
  rw [outsAt0_B m c ⟨2 * b + 1, h⟩ (by dsimp only; omega) (by dsimp only; omega)]
  dsimp only
  rw [scratch_at m c (2 * b + 1 - 1) _ (by omega)]
  refine ⟨(out_gate ..).trans ?_, (out_up ..).trans ?_⟩
  all_goals
    unfold prod next
    rfl

/-- The run's product at an index: the sum over the contracted axis. -/
theorem prod_at (x : Fin 4128) (y : Fin 5632) (b : ℕ) (hb : b = 4 * (x.val / 688) + y.val / 1408) (h : 2 * b + 1 < cfg0.N) :
    (prod m c b h (ix2 (⟨x.val % 688, by omega⟩ : Fin 688) (⟨y.val % 1408, by omega⟩ : Fin 1408)) : EReal) = ∑ q : Fin 2048, (A m c (ix2 x q) * B m c (ix2 y q) : EReal) := by
  refine (run_sum (J := 2) (T := 1024) (K := 2048) rfl (by decide) (first m c) (next m c) (2 * b) (ix2 (⟨x.val % 688, by omega⟩ : Fin 688) (⟨y.val % 1408, by omega⟩ : Fin 1408)) 0
    (fun q => (A m c (ix2 x q) * B m c (ix2 y q) : EReal)) (fun h => ?_) (fun s hs h acc => ?_) 1 rfl h).trans (zero_add _)
  · unfold first
    refine (pay_at _ _ _ _ _).trans (congrArg₂ (· + ·) ?_ (Finset.sum_congr rfl fun k _ => congrArg₂ (· * ·) (blk0 m c _ _ _ _ _ ?_ ?_) (blk1 m c _ _ _ _ _ ?_ ?_)))
    · unfold k0_pay1; pointwise
    all_goals (dsimp only; omega)
  · unfold next
    refine (pay_at _ _ _ _ _).trans (congrArg₂ (· + ·) rfl (Finset.sum_congr rfl fun k _ => congrArg₂ (· * ·) (blk0 m c _ _ _ _ _ ?_ ?_) (blk1 m c _ _ _ _ _ ?_ ?_)))
    all_goals (dsimp only; omega)

theorem loc_eq (x : Fin 4128) (y : Fin 5632) : loc4Of (ix2 x y) = ix2 (⟨x.val % 688, by omega⟩ : Fin 688) (⟨y.val % 1408, by omega⟩ : Fin 1408) := by
  funext a
  match a with
  | ⟨0, _⟩ => rfl
  | ⟨1, _⟩ => rfl

/-- The two derivatives at an index, of the product there (`s`), the gate (`g`) and the other factor (`u`). -/
def dgate (s g u : EReal) : EReal := s * u * Ideal.logistic g + g * (s * u) * (Ideal.logistic g * (1 - Ideal.logistic g))

def dup (s g : EReal) : EReal := g * Ideal.logistic g * s

/-- The product at an index. -/
def S (m : (ℓ : Loc nD τ sig) → Buf (Elt Ideal) ℓ) (c : Dev nD) (x : Fin 4128) (y : Fin 5632) : EReal :=
  ∑ q : Fin 2048, (A m c (ix2 x q) * B m c (ix2 y q) : EReal)

theorem run_eq (x : Fin 4128) (y : Fin 5632) : run4Of (ix2 x y) = 4 * (x.val / 688) + y.val / 1408 := by
  show 4 * (x.val / 688 - 0) + 1 * (y.val / 1408 - 0) = _
  omega

/-- What the kernel leaves at an index. -/
theorem G4_at (x : Fin 4128) (y : Fin 5632) :
    (G4 m c (ix2 x y) : EReal) = dgate (S m c x y) (C m c (ix2 x y)) (D m c (ix2 x y)) := by
  have hN : cfg0.N = 48 := N_0
  have hr := run_eq x y
  have hp : 2 * run4Of (ix2 x y) + 1 < cfg0.N := by omega
  unfold G4
  rw [dif_pos hp, ← outsAt0_sweep m c _ hp, (outs_at m c _ hp).1, loc_eq]
  unfold k0_pay4 k0_pay3
  pointwise
  rw [prod_at m c x y _ hr hp, blk2 m c _ _ _ x y (by dsimp only; omega) (by dsimp only; omega),
    blk3 m c _ _ _ x y (by dsimp only; omega) (by dsimp only; omega)]
  rfl

theorem G5_at (x : Fin 4128) (y : Fin 5632) :
    (G5 m c (ix2 x y) : EReal) = dup (S m c x y) (C m c (ix2 x y)) := by
  have hN : cfg0.N = 48 := N_0
  have hr := run_eq x y
  have hp : 2 * run4Of (ix2 x y) + 1 < cfg0.N := by omega
  unfold G5
  rw [dif_pos hp, ← outsAt0_sweep m c _ hp, (outs_at m c _ hp).2, show loc5Of (ix2 x y) = _ from loc_eq x y]
  unfold k0_pay5 k0_pay3
  pointwise
  rw [prod_at m c x y _ hr hp, blk2 m c _ _ _ x y (by dsimp only; omega) (by dsimp only; omega)]
  rfl

/-- The two programs compute the same arrays. -/
theorem algebraic : Cert.algebraic_Kernel2Ideal_Reference2Ideal := by
  intro m ρ m' ρ' _ hag
  refine ⟨fun c => G4 m c, fun c => G5 m c, run m ρ, (θ_run Cert.Reference2Ideal.defs _ _).mono (fun r h c => ⟨(h c).1.trans ?_, (h c).2.1.trans ?_, (h c).2.2⟩) (Cert.Reference2Ideal.Value.run m' ρ')⟩
  · rw [(hag c).1, (hag c).2.1, (hag c).2.2.1, (hag c).2.2.2]
    refine ext2 fun x y => Eq.trans ?_ (G4_at m c x y).symm
    pointwise
    rfl
  · rw [(hag c).1, (hag c).2.1, (hag c).2.2.1]
    refine ext2 fun x y => Eq.trans ?_ (G5_at m c x y).symm
    pointwise
    rfl

/-- The kernel, as it stands and over the extended reals, and the reference keep their arguments and end with every counter at zero. -/
theorem frame_kernel : Cert.quiescent_Kernel2 := fun m ρ _ => Cert.Kernel2.Gen.frame m ρ

theorem frame_kernelIdeal : Cert.quiescent_Kernel2Ideal := fun m ρ _ => Cert.Kernel2Ideal.Gen.frame m ρ

theorem frame_ref : Cert.quiescent_Reference2Ideal := fun m ρ _ =>
  (θ_run Cert.Reference2Ideal.defs _ _).mono (fun r h => ⟨fun c => (h c).2.2, sem_eq_zero_of_no_sems (by decide) r.2⟩) (Cert.Reference2Ideal.Value.run m ρ)

end Cert.Proof.Ffn2

end
-- ==== Proof.Ffn3.lean ====
module

public import proofs.«01_k».proof.Defs
public import proofs.«01_k».proof.Proof.Product
public import proofs.«01_k».proof.Proof.Gen.Kernel3Ideal.Value
public import proofs.«01_k».proof.Proof.Gen.Reference3Ideal.Run
public import proofs.«01_k».proof.Proof.Gen.Kernel3.Frame
public import Idealize.ShloMosaic.Lib.Claim
public import Idealize.ShloMosaic.Lib.Pipeline.ValueKit

@[expose] public section

set_option maxRecDepth 16384

noncomputable section

namespace Cert.Proof.Ffn3

open Cert.Kernel3Ideal Cert.Kernel3Ideal.Gen Cert.Kernel3Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The two arguments. -/
abbrev A (m : (ℓ : Loc nD τ sig) → Buf (Elt Ideal) ℓ) (c : Dev nD) : FVec Ideal S4128x5632 .bf16 := m ((c : Thread nD τ).loc main_arg0)
abbrev B (m : (ℓ : Loc nD τ sig) → Buf (Elt Ideal) ℓ) (c : Dev nD) : FVec Ideal S4128x2048 .bf16 := m ((c : Thread nD τ).loc main_arg1)

theorem idx0 : ∀ t : Fin cfg0.N, win0_0.index t = ![t.val % 6, t.val / 12] := (by decide +kernel : ∀ t : Fin grid0.N, win0_0.index t = ![t.val % 6, t.val / 12])
theorem idx1 : ∀ t : Fin cfg0.N, win0_1.index t = ![t.val % 6, t.val / 6 % 2] := (by decide +kernel : ∀ t : Fin grid0.N, win0_1.index t = ![t.val % 6, t.val / 6 % 2])

theorem blk0 (t : Fin cfg0.N) (k : Fin 688) (x : Fin 1408) (q : Fin 4128) (r : Fin 5632) (hq : q.val = t.val % 6 * 688 + k.val) (hr : r.val = t.val / 12 * 1408 + x.val) :
    (iblk m c 0 t : FVec Ideal S688x1408 .bf16) (ix2 k x) = A m c (ix2 q r) := by
  unfold iblk
  rw [View.read_apply]
  refine congrArg (A m c) ?_
  blk_ext [idx0 t]

theorem blk1 (t : Fin cfg0.N) (k : Fin 688) (y : Fin 1024) (q : Fin 4128) (r : Fin 2048) (hq : q.val = t.val % 6 * 688 + k.val) (hr : r.val = t.val / 6 % 2 * 1024 + y.val) :
    (iblk m c 1 t : FVec Ideal S688x1024 .bf16) (ix2 k y) = B m c (ix2 q r) := by
  unfold iblk
  rw [View.read_apply]
  refine congrArg (B m c) ?_
  blk_ext [idx1 t]

theorem pay_at (u : Vec Ideal S688x1408 .bf16) (v : Vec Ideal S688x1024 .bf16) (acc : Vec Ideal S1408x1024 .f32) (x : Fin 1408) (y : Fin 1024) :
    (k0_pay2 u v acc (ix2 x y) : EReal) = acc (ix2 x y) + ∑ k : Fin 688, (u (ix2 k x) * v (ix2 k y) : EReal) := by
  unfold k0_pay2
  pointwise

theorem loc_eq (x : Fin 5632) (y : Fin 2048) : loc2Of (ix2 x y) = ix2 (⟨x.val % 1408, by omega⟩ : Fin 1408) (⟨y.val % 1024, by omega⟩ : Fin 1024) := eq_ix2 rfl rfl

/-- What the kernel leaves at an index: the sum over the rows. -/
theorem G_at (x : Fin 5632) (y : Fin 2048) :
    (G2 m c (ix2 x y) : EReal) = ∑ q : Fin 4128, (A m c (ix2 q x) * B m c (ix2 q y) : EReal) := by
  have hN : cfg0.N = 48 := N_0
  have hr : run2Of (ix2 x y) = 2 * (x.val / 1408) + y.val / 1024 := by
    show 2 * (x.val / 1408 - 0) + 1 * (y.val / 1024 - 0) = _
    omega
  unfold G2
  rw [dif_pos (by omega), loc_eq]
  exact (run_prod (J := 6) (T := 688) (K := 4128) rfl (by decide) (reset2 m c) (step2 m c) (6 * run2Of (ix2 x y)) _ 0 (fun q => A m c (ix2 q x)) (fun q => B m c (ix2 q y))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 5 rfl _).trans (zero_add _)

/-- The two programs compute the same array. -/
theorem algebraic : Cert.algebraic_Kernel3Ideal_Reference3Ideal := by
  intro m ρ m' ρ' _ hag
  refine ⟨fun c => G2 m c, run m ρ, (θ_run Cert.Reference3Ideal.defs _ _).mono (fun r h c => ⟨(h c).1.trans ?_, (h c).2⟩) (Cert.Reference3Ideal.Value.run m' ρ')⟩
  rw [(hag c).1, (hag c).2]
  refine ext2 fun x y => Eq.trans ?_ (G_at m c x y).symm
  pointwise
  exact Finset.sum_congr rfl fun q _ => mul_comm _ _

/-- The kernel, as it stands and over the extended reals, and the reference keep their arguments and end with every counter at zero. -/
theorem frame_kernel : Cert.quiescent_Kernel3 := fun m ρ _ => Cert.Kernel3.Gen.frame m ρ

theorem frame_kernelIdeal : Cert.quiescent_Kernel3Ideal := fun m ρ _ => Cert.Kernel3Ideal.Gen.frame m ρ

theorem frame_ref : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

end Cert.Proof.Ffn3

end
-- ==== Proof.Ffn4.lean ====
module

public import proofs.«01_k».proof.Defs
public import proofs.«01_k».proof.Proof.Product
public import proofs.«01_k».proof.Proof.Gen.Kernel4Ideal.Value
public import proofs.«01_k».proof.Proof.Gen.Reference4Ideal.Run
public import proofs.«01_k».proof.Proof.Gen.Kernel4.Frame
public import Idealize.ShloMosaic.Lib.Claim
public import Idealize.ShloMosaic.Lib.Pipeline.ValueKit

@[expose] public section

set_option maxRecDepth 16384

noncomputable section

namespace Cert.Proof.Ffn4

open Cert.Kernel4Ideal Cert.Kernel4Ideal.Gen Cert.Kernel4Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The two arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S4128x5632 .bf16 := m ((c : Thread nD τ).loc main_arg1)

theorem idx0 : ∀ t : Fin cfg0.N, win0_0.index t = ![t.val % 6, t.val / 24] := (by decide +kernel : ∀ t : Fin grid0.N, win0_0.index t = ![t.val % 6, t.val / 24])
theorem idx1 : ∀ t : Fin cfg0.N, win0_1.index t = ![t.val % 6, t.val / 6 % 4] := (by decide +kernel : ∀ t : Fin grid0.N, win0_1.index t = ![t.val % 6, t.val / 6 % 4])

theorem blk0 (t : Fin cfg0.N) (k : Fin 688) (x : Fin 1024) (q : Fin 4128) (r : Fin 2048) (hq : q.val = t.val % 6 * 688 + k.val) (hr : r.val = t.val / 24 * 1024 + x.val) :
    (iblk m c 0 t : FVec Ideal S688x1024 .bf16) (ix2 k x) = A m c (ix2 q r) := by
  unfold iblk
  rw [View.read_apply]
  refine congrArg (A m c) ?_
  blk_ext [idx0 t]

theorem blk1 (t : Fin cfg0.N) (k : Fin 688) (y : Fin 1408) (q : Fin 4128) (r : Fin 5632) (hq : q.val = t.val % 6 * 688 + k.val) (hr : r.val = t.val / 6 % 4 * 1408 + y.val) :
    (iblk m c 1 t : FVec Ideal S688x1408 .bf16) (ix2 k y) = B m c (ix2 q r) := by
  unfold iblk
  rw [View.read_apply]
  refine congrArg (B m c) ?_
  blk_ext [idx1 t]

theorem pay_at (u : Vec Ideal S688x1024 .bf16) (v : Vec Ideal S688x1408 .bf16) (acc : Vec Ideal S1x1024x1408 .f32) (x : Fin 1024) (y : Fin 1408) :
    (k0_pay2 u v acc (ix3 (0 : Fin 1) x y) : EReal) = acc (ix3 (0 : Fin 1) x y) + ∑ k : Fin 688, (u (ix2 k x) * v (ix2 k y) : EReal) := by
  unfold k0_pay2
  pointwise

theorem loc_eq (e : Fin 4) (x : Fin 2048) (y : Fin 1408) : loc2Of (ix3 e x y) = ix3 (0 : Fin 1) (⟨x.val % 1024, by omega⟩ : Fin 1024) (⟨y.val % 1408, by omega⟩ : Fin 1408) := by
  funext a
  match a with
  | ⟨0, _⟩ => exact Fin.ext (Nat.mod_one _)
  | ⟨1, _⟩ => rfl
  | ⟨2, _⟩ => rfl

/-- A column of a shard, among all columns. -/
abbrev col (e : Fin 4) (y : Fin 1408) : Fin 5632 := ⟨e.val * 1408 + y.val, by omega⟩

/-- What the kernel leaves at an index: the sum over the rows. -/
theorem G_at (e : Fin 4) (x : Fin 2048) (y : Fin 1408) :
    (G2 m c (ix3 e x y) : EReal) = ∑ q : Fin 4128, (A m c (ix2 q x) * B m c (ix2 q (col e y)) : EReal) := by
  have hN : cfg0.N = 48 := N_0
  have hr : run2Of (ix3 e x y) = e.val + 4 * (x.val / 1024) := by
    show 1 * (e.val / 1 - 0) + 4 * (x.val / 1024 - 0) + 8 * (y.val / 1408 - 0) = _
    omega
  unfold G2
  rw [dif_pos (by omega), loc_eq]
  exact (run_prod (J := 6) (T := 688) (K := 4128) rfl (by decide) (reset2 m c) (step2 m c) (6 * run2Of (ix3 e x y)) _ 0 (fun q => A m c (ix2 q x)) (fun q => B m c (ix2 q (col e y)))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 5 rfl _).trans (zero_add _)

/-- The two programs compute the same array. -/
theorem algebraic : Cert.algebraic_Kernel4Ideal_Reference4Ideal := by
  intro m ρ m' ρ' _ hag
  refine ⟨fun c => G2 m c, run m ρ, (θ_run Cert.Reference4Ideal.defs _ _).mono (fun r h c => ⟨(h c).1.trans ?_, (h c).2⟩) (Cert.Reference4Ideal.Value.run m' ρ')⟩
  rw [(hag c).1, (hag c).2]
  refine ext3 fun e x y => Eq.trans ?_ (G_at m c e x y).symm
  have hs : ∀ (o : ℕ) (ho : o < 5632), o = e.val * 1408 + y.val →
      ∑ q : Fin 4128, (B m c (ix2 q ⟨o, ho⟩) * A m c (ix2 q x) : EReal) = ∑ q : Fin 4128, (A m c (ix2 q x) * B m c (ix2 q (col e y)) : EReal) := by
    rintro _ _ rfl
    exact Finset.sum_congr rfl fun q _ => mul_comm _ _
  pointwise
  obtain ⟨e, he⟩ := e
  interval_cases e
  all_goals
    simp (decide := true) only [dif_pos, dif_neg, zero_add, add_zero]
    exact hs _ _ (by dsimp only <;> omega)

/-- The kernel, as it stands and over the extended reals, and the reference keep their arguments and end with every counter at zero. -/
theorem frame_kernel : Cert.quiescent_Kernel4 := fun m ρ _ => Cert.Kernel4.Gen.frame m ρ

theorem frame_kernelIdeal : Cert.quiescent_Kernel4Ideal := fun m ρ _ => Cert.Kernel4Ideal.Gen.frame m ρ

theorem frame_ref : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

end Cert.Proof.Ffn4

end
-- ==== Proof.Ffn5.lean ====
module

public import proofs.«01_k».proof.Defs
public import proofs.«01_k».proof.Proof.Product
public import proofs.«01_k».proof.Proof.Gen.Kernel5Ideal.Value
public import proofs.«01_k».proof.Proof.Gen.Reference5Ideal.Run
public import proofs.«01_k».proof.Proof.Gen.Kernel5.Frame
public import Idealize.ShloMosaic.Lib.Claim
public import Idealize.ShloMosaic.Lib.Pipeline.ValueKit

@[expose] public section

set_option maxRecDepth 16384

noncomputable section

namespace Cert.Proof.Ffn5

open Cert.Kernel5Ideal Cert.Kernel5Ideal.Gen Cert.Kernel5Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The arguments. -/
abbrev A (m : (ℓ : Loc nD τ sig) → Buf (Elt Ideal) ℓ) (c : Dev nD) : FVec Ideal S4128x5632 .bf16 := m ((c : Thread nD τ).loc main_arg0)
abbrev B (m : (ℓ : Loc nD τ sig) → Buf (Elt Ideal) ℓ) (c : Dev nD) : FVec Ideal S4x2048x1408 .bf16 := m ((c : Thread nD τ).loc main_arg1)

/-- The weight's shards, one after another along the contracted axis. -/
def W (m : (ℓ : Loc nD τ sig) → Buf (Elt Ideal) ℓ) (c : Dev nD) (y : Fin 2048) (q : Fin 5632) : EReal :=
  B m c (ix3 (⟨q.val / 1408, by omega⟩ : Fin 4) y (⟨q.val % 1408, by omega⟩ : Fin 1408))

theorem idx0 : ∀ t : Fin cfg0.N, win0_0.index t = ![t.val / 8, t.val % 4] := (by decide +kernel : ∀ t : Fin grid0.N, win0_0.index t = ![t.val / 8, t.val % 4])
theorem idx1 : ∀ t : Fin cfg0.N, win0_1.index t = ![t.val % 4, t.val / 4 % 2, 0] := (by decide +kernel : ∀ t : Fin grid0.N, win0_1.index t = ![t.val % 4, t.val / 4 % 2, 0])

theorem blk0 (t : Fin cfg0.N) (x : Fin 1376) (k : Fin 1408) (r : Fin 4128) (q : Fin 5632) (hr : r.val = t.val / 8 * 1376 + x.val) (hq : q.val = t.val % 4 * 1408 + k.val) :
    (iblk m c 0 t : FVec Ideal S1376x1408 .bf16) (ix2 x k) = A m c (ix2 r q) := by
  unfold iblk
  rw [View.read_apply]
  refine congrArg (A m c) ?_
  blk_ext [idx0 t]

theorem blk1 (t : Fin cfg0.N) (y : Fin 1024) (k : Fin 1408) (r : Fin 2048) (q : Fin 5632) (hr : r.val = t.val / 4 % 2 * 1024 + y.val) (hq : q.val = t.val % 4 * 1408 + k.val) :
    ((iblk m c 1 t : FVec Ideal S1x1024x1408 .bf16) (ix3 (0 : Fin 1) y k) : EReal) = W m c r q := by
  unfold iblk W
  rw [View.read_apply]
  refine congrArg (B m c) ?_
  blk_ext [idx1 t]

theorem pay_at (u : Vec Ideal S1376x1408 .bf16) (v : Vec Ideal S1x1024x1408 .bf16) (acc : Vec Ideal S1376x1024 .f32) (x : Fin 1376) (y : Fin 1024) :
    (k0_pay2 u v acc (ix2 x y) : EReal) = acc (ix2 x y) + ∑ k : Fin 1408, (u (ix2 x k) * v (ix3 (0 : Fin 1) y k) : EReal) := by
  unfold k0_pay2
  pointwise

theorem loc_eq (x : Fin 4128) (y : Fin 2048) : loc2Of (ix2 x y) = ix2 (⟨x.val % 1376, by omega⟩ : Fin 1376) (⟨y.val % 1024, by omega⟩ : Fin 1024) := eq_ix2 rfl rfl

/-- What the kernel leaves at an index: the sum over the contracted axis. -/
theorem G_at (x : Fin 4128) (y : Fin 2048) :
    (G2 m c (ix2 x y) : EReal) = ∑ q : Fin 5632, (A m c (ix2 x q) * W m c y q : EReal) := by
  have hN : cfg0.N = 24 := N_0
  have hr : run2Of (ix2 x y) = 2 * (x.val / 1376) + y.val / 1024 := by
    show 2 * (x.val / 1376 - 0) + 1 * (y.val / 1024 - 0) = _
    omega
  unfold G2
  rw [dif_pos (by omega), loc_eq]
  exact (run_prod (J := 4) (T := 1408) (K := 5632) rfl (by decide) (reset2 m c) (step2 m c) (4 * run2Of (ix2 x y)) _ 0 (fun q => A m c (ix2 x q)) (fun q => W m c y q)
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 3 rfl _).trans (zero_add _)

/-- The two programs compute the same array. -/
theorem algebraic : Cert.algebraic_Kernel5Ideal_Reference5Ideal := by
  intro m ρ m' ρ' _ hag
  refine ⟨fun c => G2 m c, run m ρ, (θ_run Cert.Reference5Ideal.defs _ _).mono (fun r h c => ⟨(h c).1.trans ?_, (h c).2⟩) (Cert.Reference5Ideal.Value.run m' ρ')⟩
  rw [(hag c).1, (hag c).2]
  refine ext2 fun x y => Eq.trans ?_ (G_at m c x y).symm
  pointwise
  exact Finset.sum_congr rfl fun q _ => congrArg (A m c (ix2 x q) * ·) (four_blocks (fun e k => B m c (ix3 e y k)) q)

/-- The kernel, as it stands and over the extended reals, and the reference keep their arguments and end with every counter at zero. -/
theorem frame_kernel : Cert.quiescent_Kernel5 := fun m ρ _ => Cert.Kernel5.Gen.frame m ρ

theorem frame_kernelIdeal : Cert.quiescent_Kernel5Ideal := fun m ρ _ => Cert.Kernel5Ideal.Gen.frame m ρ

theorem frame_ref : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

end Cert.Proof.Ffn5

end
-- ==== Proof.Ffn6.lean ====
module

public import proofs.«01_k».proof.Defs
public import proofs.«01_k».proof.Proof.Product
public import proofs.«01_k».proof.Proof.Gen.Kernel6Ideal.Value
public import proofs.«01_k».proof.Proof.Gen.Reference6Ideal.Run
public import proofs.«01_k».proof.Proof.Gen.Kernel6.Frame
public import Idealize.ShloMosaic.Lib.Claim
public import Idealize.ShloMosaic.Lib.Pipeline.ValueKit

@[expose] public section

set_option maxRecDepth 16384

noncomputable section

namespace Cert.Proof.Ffn6

open Cert.Kernel6Ideal Cert.Kernel6Ideal.Gen Cert.Kernel6Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The arguments. -/
abbrev A (m : (ℓ : Loc nD τ sig) → Buf (Elt Ideal) ℓ) (c : Dev nD) : FVec Ideal S4128x5632 .bf16 := m ((c : Thread nD τ).loc main_arg0)
abbrev B (m : (ℓ : Loc nD τ sig) → Buf (Elt Ideal) ℓ) (c : Dev nD) : FVec Ideal S4x2048x1408 .bf16 := m ((c : Thread nD τ).loc main_arg1)
abbrev C (m : (ℓ : Loc nD τ sig) → Buf (Elt Ideal) ℓ) (c : Dev nD) : FVec Ideal S4128x2048 .f32 := m ((c : Thread nD τ).loc main_arg2)

/-- The weight's shards, one after another along the contracted axis. -/
def W (m : (ℓ : Loc nD τ sig) → Buf (Elt Ideal) ℓ) (c : Dev nD) (y : Fin 2048) (q : Fin 5632) : EReal :=
  B m c (ix3 (⟨q.val / 1408, by omega⟩ : Fin 4) y (⟨q.val % 1408, by omega⟩ : Fin 1408))

theorem idx0 : ∀ t : Fin cfg0.N, win0_0.index t = ![t.val / 8, t.val % 4] := (by decide +kernel : ∀ t : Fin grid0.N, win0_0.index t = ![t.val / 8, t.val % 4])
theorem idx1 : ∀ t : Fin cfg0.N, win0_1.index t = ![t.val % 4, t.val / 4 % 2, 0] := (by decide +kernel : ∀ t : Fin grid0.N, win0_1.index t = ![t.val % 4, t.val / 4 % 2, 0])
theorem idx2 : ∀ t : Fin cfg0.N, win0_2.index t = ![t.val / 8, t.val / 4 % 2] := (by decide +kernel : ∀ t : Fin grid0.N, win0_2.index t = ![t.val / 8, t.val / 4 % 2])

theorem blk0 (t : Fin cfg0.N) (x : Fin 1376) (k : Fin 1408) (r : Fin 4128) (q : Fin 5632) (hr : r.val = t.val / 8 * 1376 + x.val) (hq : q.val = t.val % 4 * 1408 + k.val) :
    (iblk m c 0 t : FVec Ideal S1376x1408 .bf16) (ix2 x k) = A m c (ix2 r q) := by
  unfold iblk
  rw [View.read_apply]
  refine congrArg (A m c) ?_
  blk_ext [idx0 t]

theorem blk1 (t : Fin cfg0.N) (y : Fin 1024) (k : Fin 1408) (r : Fin 2048) (q : Fin 5632) (hr : r.val = t.val / 4 % 2 * 1024 + y.val) (hq : q.val = t.val % 4 * 1408 + k.val) :
    ((iblk m c 1 t : FVec Ideal S1x1024x1408 .bf16) (ix3 (0 : Fin 1) y k) : EReal) = W m c r q := by
  unfold iblk W
  rw [View.read_apply]
  refine congrArg (B m c) ?_
  blk_ext [idx1 t]

theorem blk2 (t : Fin cfg0.N) (x : Fin 1376) (y : Fin 1024) (r : Fin 4128) (s : Fin 2048) (hr : r.val = t.val / 8 * 1376 + x.val) (hs : s.val = t.val / 4 % 2 * 1024 + y.val) :
    ((iblk m c 2 t : FVec Ideal S1376x1024 .f32) (ix2 x y) : EReal) = C m c (ix2 r s) := by
  unfold iblk
  rw [View.read_apply]
  refine congrArg (C m c) ?_
  blk_ext [idx2 t]

theorem pay_at (u : Vec Ideal S1376x1408 .bf16) (v : Vec Ideal S1x1024x1408 .bf16) (acc : Vec Ideal S1376x1024 .f32) (x : Fin 1376) (y : Fin 1024) :
    (k0_pay1 u v acc (ix2 x y) : EReal) = acc (ix2 x y) + ∑ k : Fin 1408, (u (ix2 x k) * v (ix3 (0 : Fin 1) y k) : EReal) := by
  unfold k0_pay1
  pointwise

theorem loc_eq (x : Fin 4128) (y : Fin 2048) : loc3Of (ix2 x y) = ix2 (⟨x.val % 1376, by omega⟩ : Fin 1376) (⟨y.val % 1024, by omega⟩ : Fin 1024) := eq_ix2 rfl rfl

/-- What the kernel leaves at an index: the given sum and the sum over the contracted axis. -/
theorem G_at (x : Fin 4128) (y : Fin 2048) :
    (G3 m c (ix2 x y) : EReal) = C m c (ix2 x y) + ∑ q : Fin 5632, (A m c (ix2 x q) * W m c y q : EReal) := by
  have hN : cfg0.N = 24 := N_0
  have hr : run3Of (ix2 x y) = 2 * (x.val / 1376) + y.val / 1024 := by
    show 2 * (x.val / 1376 - 0) + 1 * (y.val / 1024 - 0) = _
    omega
  unfold G3
  rw [dif_pos (by omega), loc_eq]
  refine (run_sum (J := 4) (T := 1408) (K := 5632) rfl (by decide) (reset3 m c) (step3 m c) (4 * run3Of (ix2 x y)) _ (C m c (ix2 x y))
    (fun q => (A m c (ix2 x q) * W m c y q : EReal)) (fun h => ?_) (fun s hs h acc => ?_) 3 rfl _)
  · unfold reset3
    refine (pay_at _ _ _ _ _).trans (congrArg₂ (· + ·) ?_ (Finset.sum_congr rfl fun k _ => congrArg₂ (· * ·) (blk0 m c _ _ _ _ _ ?_ ?_) (blk1 m c _ _ _ _ _ ?_ ?_)))
    · refine blk2 m c _ _ _ _ _ ?_ ?_ <;> (dsimp only; omega)
    all_goals (dsimp only; omega)
  · unfold step3
    refine (pay_at _ _ _ _ _).trans (congrArg₂ (· + ·) rfl (Finset.sum_congr rfl fun k _ => congrArg₂ (· * ·) (blk0 m c _ _ _ _ _ ?_ ?_) (blk1 m c _ _ _ _ _ ?_ ?_)))
    all_goals (dsimp only; omega)

/-- The two programs compute the same array. -/
theorem algebraic : Cert.algebraic_Kernel6Ideal_Reference6Ideal := by
  intro m ρ m' ρ' _ hag
  refine ⟨fun c => G3 m c, run m ρ, (θ_run Cert.Reference6Ideal.defs _ _).mono (fun r h c => ⟨(h c).1.trans ?_, (h c).2⟩) (Cert.Reference6Ideal.Value.run m' ρ')⟩
  rw [(hag c).1, (hag c).2.1, (hag c).2.2]
  refine ext2 fun x y => Eq.trans ?_ (G_at m c x y).symm
  pointwise
  exact congrArg (C m c (ix2 x y) + ·) (Finset.sum_congr rfl fun q _ => congrArg (A m c (ix2 x q) * ·) (four_blocks (fun e k => B m c (ix3 e y k)) q))

/-- The kernel, as it stands and over the extended reals, and the reference keep their arguments and end with every counter at zero. -/
theorem frame_kernel : Cert.quiescent_Kernel6 := fun m ρ _ => Cert.Kernel6.Gen.frame m ρ

theorem frame_kernelIdeal : Cert.quiescent_Kernel6Ideal := fun m ρ _ => Cert.Kernel6Ideal.Gen.frame m ρ

theorem frame_ref : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

end Cert.Proof.Ffn6

end
-- ==== Proof.Ffn7.lean ====
module

public import proofs.«01_k».proof.Defs
public import proofs.«01_k».proof.Proof.Product
public import proofs.«01_k».proof.Proof.Gen.Kernel7Ideal.Value
public import proofs.«01_k».proof.Proof.Gen.Reference7Ideal.Run
public import proofs.«01_k».proof.Proof.Gen.Kernel7.Frame
public import Idealize.ShloMosaic.Lib.Claim
public import Idealize.ShloMosaic.Lib.Pipeline.ValueKit

@[expose] public section

set_option maxRecDepth 16384

noncomputable section

namespace Cert.Proof.Ffn7

open Cert.Kernel7Ideal Cert.Kernel7Ideal.Gen Cert.Kernel7Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The four arguments: the input, its normed rows' gradient, the residual's, and the weights. -/
abbrev A (m : (ℓ : Loc nD τ sig) → Buf (Elt Ideal) ℓ) (c : Dev nD) : FVec Ideal S4128x2048 .f32 := m ((c : Thread nD τ).loc main_arg0)
abbrev B (m : (ℓ : Loc nD τ sig) → Buf (Elt Ideal) ℓ) (c : Dev nD) : FVec Ideal S4128x2048 .f32 := m ((c : Thread nD τ).loc main_arg1)
abbrev C (m : (ℓ : Loc nD τ sig) → Buf (Elt Ideal) ℓ) (c : Dev nD) : FVec Ideal S4128x2048 .f32 := m ((c : Thread nD τ).loc main_arg2)
abbrev D (m : (ℓ : Loc nD τ sig) → Buf (Elt Ideal) ℓ) (c : Dev nD) : FVec Ideal S1x2048 .f32 := m ((c : Thread nD τ).loc main_arg3)

/-! ## The gradients of one row -/

/-- A row of an array. -/
def row {n : ℕ} (a : FVec Ideal ⟨2, ![n, 2048]⟩ .f32) (x : Fin n) (k : Fin 2048) : EReal := a (ix2 x k)

/-- The mean square of a row `h`, with the norm's constant added. -/
def ms (h : Fin 2048 → EReal) : EReal := Ideal.div (∑ k, h k * h k) (Ideal.ofBits .f32 0x45000000#32) + Ideal.ofBits .f32 0x358637BD#32

/-- The gradient of the mean square's sum, from the row's gradient `d` and the weights `g`. -/
def dms (h d g : Fin 2048 → EReal) : EReal :=
  ∑ _ : Fin 1, Ideal.div ((∑ k, h k * (d k * g k)) * (Ideal.ofBits .f32 0xBF000000#32 * Ideal.div (Ideal.rsqrt (ms h)) (ms h))) (Ideal.ofBits .f32 0x45000000#32)

/-- The gradient of the row. -/
def dx (h d g : Fin 2048 → EReal) (y : Fin 2048) : EReal := d y * g y * Ideal.rsqrt (ms h) + h y * dms h d g + dms h d g * h y

/-- The row's share of the weights' gradient. -/
def dw (h d : Fin 2048 → EReal) (y : Fin 2048) : EReal := h y * Ideal.rsqrt (ms h) * d y

theorem pay5_at (h d : Vec Ideal S96x2048 .f32) (y : Fin 2048) :
    (k0_pay5 h d (ix2 (0 : Fin 1) y) : EReal) = ∑ x : Fin 96, dw (row h x) (row d x) y := by
  unfold k0_pay5 k0_pay4 k0_pay3
  pointwise
  rfl

theorem pay6_at (h d r : Vec Ideal S96x2048 .f32) (g : Vec Ideal S1x2048 .f32) (x : Fin 96) (y : Fin 2048) :
    (k0_pay6 h d r g (ix2 x y) : EReal) = dx (row h x) (row d x) (row g 0) y + row r x y := by
  unfold k0_pay6 k0_pay4 k0_pay3
  pointwise
  rfl

/-! ## The blocks -/

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])

theorem blk0 (t : Fin cfg0.N) (x : Fin 96) (r : Fin 4128) (hr : r.val = t.val * 96 + x.val) : row (iblk m c 0 t : FVec Ideal S96x2048 .f32) x = row (A m c) r := by
  funext y
  unfold iblk row
  rw [View.read_apply]
  refine congrArg (A m c) ?_
  blk_ext [idx0 t]

theorem blk1 (t : Fin cfg0.N) (x : Fin 96) (r : Fin 4128) (hr : r.val = t.val * 96 + x.val) : row (iblk m c 1 t : FVec Ideal S96x2048 .f32) x = row (B m c) r := by
  funext y
  unfold iblk row
  rw [View.read_apply]
  refine congrArg (B m c) ?_
  blk_ext [idx1 t]

theorem blk2 (t : Fin cfg0.N) (x : Fin 96) (r : Fin 4128) (hr : r.val = t.val * 96 + x.val) : row (iblk m c 2 t : FVec Ideal S96x2048 .f32) x = row (C m c) r := by
  funext y
  unfold iblk row
  rw [View.read_apply]
  refine congrArg (C m c) ?_
  blk_ext [idx2 t]

theorem blk3 (t : Fin cfg0.N) : row (iblk m c 3 t : FVec Ideal S1x2048 .f32) 0 = row (D m c) 0 := by
  funext y
  unfold iblk row
  rw [View.read_apply]
  refine congrArg (D m c) ?_
  blk_ext [idx3 t]

theorem emb4 (t : Fin cfg0.N) (x : Fin 96) (y : Fin 2048) (r : Fin 4128) (hr : r.val = t.val * 96 + x.val) :
    ((cfg0.win 4).blk t).view.emb (ix2 x y : S96x2048.Idx) = (ix2 r y : S4128x2048.Idx) := by
  blk_ext [idx4 t]

theorem emb5 (t : Fin cfg0.N) (y : Fin 2048) : ((cfg0.win 5).blk t).view.emb (ix2 0 y : S1x2048.Idx) = (ix2 0 y : S1x2048.Idx) := by
  blk_ext [idx5 t]

/-! ## What a point leaves, as terms of its blocks -/

theorem zero2 : (![0, 0] : Fin 2 → ℕ) = fun _ => 0 := funext fun a => by fin_cases a <;> rfl

/-- The first point's rows of the input's gradient. -/
theorem rows_first (c : Dev nD) (i : grid0.Coords) (arg2 : Memref sig .tc .vmem S96x2048 .f32) (harg2 : arg2.IsWhole) (arg3 : Memref sig .tc .vmem S96x2048 .f32) (harg3 : arg3.IsWhole) (arg4 : Memref sig .tc .vmem S96x2048 .f32) (harg4 : arg4.IsWhole) (arg5 : Memref sig .tc .vmem S1x2048 .f32) (harg5 : arg5.IsWhole) (arg6 : Memref sig .tc .vmem S96x2048 .f32) (harg6 : arg6.IsWhole) (arg7 : Memref sig .tc .vmem S1x2048 .f32) (harg7 : arg7.IsWhole) (hc0 : cond0_0 i) (x0 : Vec Ideal S96x2048 .f32) (x1 : Vec Ideal S96x2048 .f32) (x2 : Vec Ideal S96x2048 .f32) (x3 : Vec Ideal S1x2048 .f32) :
    out0_A_4 c i arg2 harg2 arg3 harg3 arg4 harg4 arg5 harg5 arg6 harg6 arg7 harg7 hc0 x0 x1 x2 x3 = k0_pay6 x0 x1 x2 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  try sl_unfold_words
  rw [View.canon_unit_zero zero2]
  simp only [View.readAt_eq_ld, harg2.read_unread, harg3.read_unread, harg4.read_unread, harg5.read_unread, harg7.read_unread, View.ld_unit_zero (S := S96x2048) zero2, View.ld_unit_zero (S := S1x2048) zero2, shapeCast_self]

/-- A later point's. -/
theorem rows_next (c : Dev nD) (i : grid0.Coords) (arg2 : Memref sig .tc .vmem S96x2048 .f32) (harg2 : arg2.IsWhole) (arg3 : Memref sig .tc .vmem S96x2048 .f32) (harg3 : arg3.IsWhole) (arg4 : Memref sig .tc .vmem S96x2048 .f32) (harg4 : arg4.IsWhole) (arg5 : Memref sig .tc .vmem S1x2048 .f32) (harg5 : arg5.IsWhole) (arg6 : Memref sig .tc .vmem S96x2048 .f32) (harg6 : arg6.IsWhole) (arg7 : Memref sig .tc .vmem S1x2048 .f32) (harg7 : arg7.IsWhole) (hc0 : ¬cond0_0 i) (x0 : Vec Ideal S96x2048 .f32) (x1 : Vec Ideal S96x2048 .f32) (x2 : Vec Ideal S96x2048 .f32) (x3 : Vec Ideal S1x2048 .f32) (xo5 : Vec Ideal S1x2048 .f32) :
    out0_B_4 c i arg2 harg2 arg3 harg3 arg4 harg4 arg5 harg5 arg6 harg6 arg7 harg7 hc0 x0 x1 x2 x3 xo5 = k0_pay6 x0 x1 x2 x3 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  try sl_unfold_words
  rw [View.canon_unit_zero zero2]
  simp only [View.readAt_eq_ld, harg2.read_unread, harg3.read_unread, harg4.read_unread, harg5.read_unread, harg7.read_unread, View.ld_unit_zero (S := S96x2048) zero2, View.ld_unit_zero (S := S1x2048) zero2, shapeCast_self]

/-- The first point's share of the weights' gradient, over zero. -/
theorem cols_first (c : Dev nD) (i : grid0.Coords) (arg2 : Memref sig .tc .vmem S96x2048 .f32) (harg2 : arg2.IsWhole) (arg3 : Memref sig .tc .vmem S96x2048 .f32) (harg3 : arg3.IsWhole) (arg4 : Memref sig .tc .vmem S96x2048 .f32) (harg4 : arg4.IsWhole) (arg5 : Memref sig .tc .vmem S1x2048 .f32) (harg5 : arg5.IsWhole) (arg6 : Memref sig .tc .vmem S96x2048 .f32) (harg6 : arg6.IsWhole) (arg7 : Memref sig .tc .vmem S1x2048 .f32) (harg7 : arg7.IsWhole) (hc0 : cond0_0 i) (x0 : Vec Ideal S96x2048 .f32) (x1 : Vec Ideal S96x2048 .f32) (x2 : Vec Ideal S96x2048 .f32) (x3 : Vec Ideal S1x2048 .f32) :
    out0_A_5 c i arg2 harg2 arg3 harg3 arg4 harg4 arg5 harg5 arg6 harg6 arg7 harg7 hc0 x0 x1 x2 x3 = k0_pay2 (k0_pay5 x0 x1) (k0_pay1 (F := Ideal)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  try sl_unfold_words
  rw [View.canon_cons_unit_zero (S := S1x2048) zero2, View.readCov_unit_zero (S := S1x2048) _ zero2]
  simp only [View.readAt_eq_ld, harg2.read_unread, harg3.read_unread, harg4.read_unread, harg5.read_unread, harg7.read_unread, View.ld_unit_zero (S := S96x2048) zero2, View.ld_unit_zero (S := S1x2048) zero2, shapeCast_self]

/-- A later point's, over what is there. -/
theorem cols_next (c : Dev nD) (i : grid0.Coords) (arg2 : Memref sig .tc .vmem S96x2048 .f32) (harg2 : arg2.IsWhole) (arg3 : Memref sig .tc .vmem S96x2048 .f32) (harg3 : arg3.IsWhole) (arg4 : Memref sig .tc .vmem S96x2048 .f32) (harg4 : arg4.IsWhole) (arg5 : Memref sig .tc .vmem S1x2048 .f32) (harg5 : arg5.IsWhole) (arg6 : Memref sig .tc .vmem S96x2048 .f32) (harg6 : arg6.IsWhole) (arg7 : Memref sig .tc .vmem S1x2048 .f32) (harg7 : arg7.IsWhole) (hc0 : ¬cond0_0 i) (x0 : Vec Ideal S96x2048 .f32) (x1 : Vec Ideal S96x2048 .f32) (x2 : Vec Ideal S96x2048 .f32) (x3 : Vec Ideal S1x2048 .f32) (xo5 : Vec Ideal S1x2048 .f32) :
    out0_B_5 c i arg2 harg2 arg3 harg3 arg4 harg4 arg5 harg5 arg6 harg6 arg7 harg7 hc0 x0 x1 x2 x3 xo5 = k0_pay2 (k0_pay5 x0 x1) xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  try sl_unfold_words
  rw [View.canon_unit_zero zero2]
  simp only [View.readAt_eq_ld, harg2.read_unread, harg3.read_unread, harg4.read_unread, harg5.read_unread, harg7.read_unread, View.ld_unit_zero (S := S96x2048) zero2, View.ld_unit_zero (S := S1x2048) zero2, shapeCast_self]

/-- A point's rows, whichever point it is. -/
theorem rows_at (t : Fin cfg0.N) : (outsAt0 m c t.val t.isLt).1 = k0_pay6 (iblk m c 0 t) (iblk m c 1 t) (iblk m c 2 t) (iblk m c 3 t) := by
  by_cases h : t.val % 43 = 0
  · rw [outsAt0_A m c t h]
    dsimp only
    exact rows_first ..
  · rw [outsAt0_B m c t h]
    dsimp only
    exact rows_next ..

/-- What a point leaves of the weights' gradient: at the first point over zero, at a later one over what is there. -/
def first (m : (ℓ : Loc nD τ sig) → Buf (Elt Ideal) ℓ) (c : Dev nD) (n : ℕ) (h : n < cfg0.N) : Vec Ideal S1x2048 .f32 :=
  k0_pay2 (k0_pay5 (iblk m c 0 ⟨n, h⟩) (iblk m c 1 ⟨n, h⟩)) (k0_pay1 (F := Ideal))

def next (m : (ℓ : Loc nD τ sig) → Buf (Elt Ideal) ℓ) (c : Dev nD) (n : ℕ) (h : n < cfg0.N) (acc : Vec Ideal S1x2048 .f32) : Vec Ideal S1x2048 .f32 :=
  k0_pay2 (k0_pay5 (iblk m c 0 ⟨n, h⟩) (iblk m c 1 ⟨n, h⟩)) acc

theorem first_at (n : ℕ) (h : n < cfg0.N) (hn : n % 43 = 0) : (outsAt0 m c n h).2 = first m c n h := by
  rw [outsAt0_A m c ⟨n, h⟩ hn]
  dsimp only
  unfold first
  exact cols_first ..

theorem next_at (n : ℕ) (h : n + 1 < cfg0.N) (hn : ¬(n + 1) % 43 = 0) :
    (outsAt0 m c (n + 1) h).2 = next m c (n + 1) h (outsAt0 m c n (Nat.lt_of_succ_lt h)).2 := by
  rw [outsAt0_B m c ⟨n + 1, h⟩ hn]
  dsimp only
  unfold next
  exact cols_next ..

theorem cols_at (h : 43 * 0 + 42 < cfg0.N) : (outsAt0 m c (43 * 0 + 42) h).2 = accAt (first m c) (next m c) (43 * 0) 42 h :=
  eq_accAt (fun n h => (outsAt0 m c n h).2) 43 (first m c) (next m c) (first_at m c) (next_at m c) 0 42 (by decide) h

theorem pay2_at (s acc : Vec Ideal S1x2048 .f32) (y : Fin 2048) : (k0_pay2 s acc (ix2 (0 : Fin 1) y) : EReal) = acc (ix2 (0 : Fin 1) y) + s (ix2 (0 : Fin 1) y) := by
  unfold k0_pay2
  pointwise

/-! ## The arrays -/

/-- The input's gradient, with the residual's, and the weights'. -/
def G4 (m : (ℓ : Loc nD τ sig) → Buf (Elt Ideal) ℓ) (c : Dev nD) : FVec Ideal S4128x2048 .f32 := fun i =>
  dx (row (A m c) (i 0)) (row (B m c) (i 0)) (row (D m c) 0) (i 1) + row (C m c) (i 0) (i 1)

def G5 (m : (ℓ : Loc nD τ sig) → Buf (Elt Ideal) ℓ) (c : Dev nD) : FVec Ideal S1x2048 .f32 := fun i => ∑ q : Fin 4128, dw (row (A m c) q) (row (B m c) q) (i 1)

theorem final4 : (dats m 0 c).arrAt 4 cfg0.N = G4 m c := by
  have hN : cfg0.N = 43 := N_0
  refine (dats m 0 c).arrAt_eq_of_cover 4 _ (fun t _ => ?_) fun i => ?_
  · rw [flushed4, rows_at]
    have key : ∀ (x : Fin 96) (y : Fin 2048), (k0_pay6 (iblk m c 0 t) (iblk m c 1 t) (iblk m c 2 t) (iblk m c 3 t) (ix2 x y) : EReal)
        = G4 m c (((cfg0.win 4).blk t).view.emb (ix2 x y : S96x2048.Idx)) := by
      intro x y
      have ht : t.val < 43 := lt_of_lt_of_eq t.isLt N_0
      have hr : (⟨t.val * 96 + x.val, by omega⟩ : Fin 4128).val = t.val * 96 + x.val := rfl
      rw [emb4 t x y _ hr, pay6_at, blk0 m c t x _ hr, blk1 m c t x _ hr, blk2 m c t x _ hr, blk3]
      rfl
    exact ext2 key
  · have h0 : (i 0).val < 4128 := (i 0).isLt
    have e := emb4 ⟨(i 0).val / 96, by omega⟩ ⟨(i 0).val % 96, by omega⟩ (i 1) (i 0) (by dsimp only; omega)
    exact ⟨⟨(i 0).val / 96, by omega⟩, flush0_4 _, (e.trans (ix2_eta i)) ▸ View.emb_mem_set _ _⟩

/-- The weights' gradient after the last point. -/
theorem cols_last (h : 43 * 0 + 42 < cfg0.N) (y : Fin 2048) : ((outsAt0 m c (43 * 0 + 42) h).2 (ix2 (0 : Fin 1) y) : EReal) = ∑ q : Fin 4128, dw (row (A m c) q) (row (B m c) q) y := by
  rw [cols_at m c h]
  refine (run_sum (J := 43) (T := 96) (K := 4128) rfl (by decide) (first m c) (next m c) (43 * 0) (ix2 (0 : Fin 1) y) 0
    (fun q => dw (row (A m c) q) (row (B m c) q) y) (fun h => ?_) (fun s hs h acc => ?_) 42 rfl _).trans (zero_add _)
  · unfold first
    refine (pay2_at _ _ _).trans (congrArg₂ (· + ·) ?_ ((pay5_at _ _ _).trans (Finset.sum_congr rfl fun x _ => congrArg₂ (dw · · y) (blk0 m c _ _ _ ?_) (blk1 m c _ _ _ ?_))))
    · unfold k0_pay1; pointwise
    all_goals (dsimp only)
  · unfold next
    refine (pay2_at _ _ _).trans (congrArg₂ (· + ·) rfl ((pay5_at _ _ _).trans (Finset.sum_congr rfl fun x _ => congrArg₂ (dw · · y) (blk0 m c _ _ _ ?_) (blk1 m c _ _ _ ?_))))
    all_goals (dsimp only; omega)

/-- The last point. -/
def last : Fin cfg0.N := ⟨43 * 0 + 42, lt_of_lt_of_eq (by decide) N_0.symm⟩

theorem flushed_last : (dats m 0 c).flushed 5 last = ((cfg0.win 5).blk last).view.read (Elt Ideal) (G5 m c) := by
  rw [flushed5]
  have key : ∀ (x : Fin 1) (y : Fin 2048), ((outsAt0 m c last.val last.isLt).2 (ix2 x y) : EReal)
      = G5 m c (((cfg0.win 5).blk last).view.emb (ix2 x y : S1x2048.Idx)) := by
    intro x y
    obtain rfl : x = 0 := Subsingleton.elim _ _
    rw [emb5]
    exact cols_last m c _ y
  exact ext2 key

theorem final5 : (dats m 0 c).arrAt 5 cfg0.N = G5 m c := by
  refine (dats m 0 c).arrAt_eq_of_cover 5 _ (fun t hf => ?_) fun i => ?_
  · have ht : t = last := Fin.ext (by
      have h1 := (flush0_5 t).mp hf
      have h2 : t.val < 43 := lt_of_lt_of_eq t.isLt N_0
      show t.val = 42
      omega)
    rw [ht]
    exact flushed_last m c
  · have e := emb5 last (i 1)
    have hi : (ix2 0 (i 1) : S1x2048.Idx) = i := (congrArg (ix2 · (i 1)) (Subsingleton.elim (0 : Fin 1) (i 0))).trans (ix2_eta i)
    exact ⟨last, (flush0_5 _).mpr rfl, (e.trans hi) ▸ View.emb_mem_set _ _⟩

/-- The two programs compute the same arrays. -/
theorem algebraic : Cert.algebraic_Kernel7Ideal_Reference7Ideal := by
  intro m ρ m' ρ' _ hag
  refine ⟨fun c => G4 m c, fun c => G5 m c, (θ_run defs _ _).mono (fun r h c => ⟨(h c).1.trans (final4 m c), (h c).2.1.trans (final5 m c), (h c).2.2⟩) (run_blocks m ρ),
    (θ_run Cert.Reference7Ideal.defs _ _).mono (fun r h c => ⟨(h c).1.trans ?_, (h c).2.1.trans ?_, (h c).2.2⟩) (Cert.Reference7Ideal.Value.run m' ρ')⟩
  · rw [(hag c).1, (hag c).2.1, (hag c).2.2.1, (hag c).2.2.2]
    refine ext2 fun x y => ?_
    pointwise
    exact add_comm _ _
  · rw [(hag c).1, (hag c).2.1]
    refine ext2 fun x y => ?_
    obtain rfl : x = 0 := Subsingleton.elim _ _
    pointwise
    rfl

/-- The kernel, as it stands and over the extended reals, and the reference keep their arguments and end with every counter at zero. -/
theorem frame_kernel : Cert.quiescent_Kernel7 := fun m ρ _ => Cert.Kernel7.Gen.frame m ρ

theorem frame_kernelIdeal : Cert.quiescent_Kernel7Ideal := fun m ρ _ => Cert.Kernel7Ideal.Gen.frame m ρ

theorem frame_ref : Cert.quiescent_Reference7Ideal := fun m ρ _ =>
  (θ_run Cert.Reference7Ideal.defs _ _).mono (fun r h => ⟨fun c => (h c).2.2, sem_eq_zero_of_no_sems (by decide) r.2⟩) (Cert.Reference7Ideal.Value.run m ρ)

end Cert.Proof.Ffn7

end
-- ==== Proof.Ffn8.lean ====
module

public import proofs.«01_k».proof.Defs
public import proofs.«01_k».proof.Proof.Product
public import proofs.«01_k».proof.Proof.Gen.Kernel8Ideal.Value
public import proofs.«01_k».proof.Proof.Gen.Reference8Ideal.Run
public import proofs.«01_k».proof.Proof.Gen.Kernel8.Frame
public import Idealize.ShloMosaic.Lib.Claim
public import Idealize.ShloMosaic.Lib.Pipeline.ValueKit

@[expose] public section

set_option maxRecDepth 16384

noncomputable section

namespace Cert.Proof.Ffn8

open Cert.Kernel8Ideal Cert.Kernel8Ideal.Gen Cert.Kernel8Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The three arguments: the rows, and the two weights in shards of columns. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S4x2048x1408 .bf16 := m ((c : Thread nD τ).loc main_arg1)
abbrev C (m : (ℓ : Loc nD τ sig) → Buf (Elt Ideal) ℓ) (c : Dev nD) : FVec Ideal S4x2048x1408 .bf16 := m ((c : Thread nD τ).loc main_arg2)

/-- A weight's entry at a column among all columns. -/
def at_col (w : FVec Ideal S4x2048x1408 .bf16) (q : Fin 2048) (y : Fin 5632) : EReal :=
  w (ix3 (⟨y.val / 1408, by omega⟩ : Fin 4) q (⟨y.val % 1408, by omega⟩ : Fin 1408))

theorem idx0 : ∀ t : Fin cfg0.N, win0_0.index t = ![t.val / 8, t.val % 2] := (by decide +kernel : ∀ t : Fin grid0.N, win0_0.index t = ![t.val / 8, t.val % 2])
theorem idx1 : ∀ t : Fin cfg0.N, win0_1.index t = ![t.val / 2 % 4, t.val % 2, 0] := (by decide +kernel : ∀ t : Fin grid0.N, win0_1.index t = ![t.val / 2 % 4, t.val % 2, 0])
theorem idx2 : ∀ t : Fin cfg0.N, win0_2.index t = ![t.val / 2 % 4, t.val % 2, 0] := (by decide +kernel : ∀ t : Fin grid0.N, win0_2.index t = ![t.val / 2 % 4, t.val % 2, 0])

theorem blk0 (t : Fin cfg0.N) (x : Fin 688) (k : Fin 1024) (r : Fin 4128) (q : Fin 2048) (hr : r.val = t.val / 8 * 688 + x.val) (hq : q.val = t.val % 2 * 1024 + k.val) :
    (iblk m c 0 t : FVec Ideal S688x1024 .bf16) (ix2 x k) = A m c (ix2 r q) := by
  unfold iblk
  rw [View.read_apply]
  refine congrArg (A m c) ?_
  blk_ext [idx0 t]

theorem blk1 (t : Fin cfg0.N) (k : Fin 1024) (y : Fin 1408) (q : Fin 2048) (r : Fin 5632) (hq : q.val = t.val % 2 * 1024 + k.val) (hr : r.val = t.val / 2 % 4 * 1408 + y.val) :
    ((iblk m c 1 t : FVec Ideal S1x1024x1408 .bf16) (ix3 (0 : Fin 1) k y) : EReal) = at_col (B m c) q r := by
  unfold iblk at_col
  rw [View.read_apply]
  refine congrArg (B m c) ?_
  blk_ext [idx1 t]

theorem blk2 (t : Fin cfg0.N) (k : Fin 1024) (y : Fin 1408) (q : Fin 2048) (r : Fin 5632) (hq : q.val = t.val % 2 * 1024 + k.val) (hr : r.val = t.val / 2 % 4 * 1408 + y.val) :
    ((iblk m c 2 t : FVec Ideal S1x1024x1408 .bf16) (ix3 (0 : Fin 1) k y) : EReal) = at_col (C m c) q r := by
  unfold iblk at_col
  rw [View.read_apply]
  refine congrArg (C m c) ?_
  blk_ext [idx2 t]

theorem gate_at (u : Vec Ideal S688x1024 .bf16) (acc : Vec Ideal S688x1408 .f32) (v : Vec Ideal S1x1024x1408 .bf16) (x : Fin 688) (y : Fin 1408) :
    (k0_pay3 u acc v (ix2 x y) : EReal) = acc (ix2 x y) + ∑ k : Fin 1024, (u (ix2 x k) * v (ix3 (0 : Fin 1) k y) : EReal) := by
  unfold k0_pay3
  pointwise

theorem up_at (u : Vec Ideal S688x1024 .bf16) (acc : Vec Ideal S688x1408 .f32) (v : Vec Ideal S1x1024x1408 .bf16) (x : Fin 688) (y : Fin 1408) :
    (k0_pay4 u acc v (ix2 x y) : EReal) = acc (ix2 x y) + ∑ k : Fin 1024, (u (ix2 x k) * v (ix3 (0 : Fin 1) k y) : EReal) := by
  unfold k0_pay4
  pointwise

/-! ## What a point leaves, as terms of its blocks -/

theorem zero2 : (![0, 0] : Fin 2 → ℕ) = fun _ => 0 := funext fun a => by fin_cases a <;> rfl
theorem zero3 : (![0, 0, 0] : Fin 3 → ℕ) = fun _ => 0 := funext fun a => by fin_cases a <;> rfl

/-- The first point of a run leaves the first block's product with the first weight in one scratch. -/
theorem gate_first (c : Dev nD) (i : grid0.Coords) (arg3 : Memref sig .tc .vmem S688x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S688x1408 .f32) (harg6 : arg6.IsWhole) (arg7 : Memref sig .tc .vmem S688x1408 .f32) (harg7 : arg7.IsWhole) (arg8 : Memref sig .tc .vmem S688x1408 .bf16) (harg8 : arg8.IsWhole) (arg9 : Memref sig .tc .vmem S688x1408 .f32) (harg9 : arg9.IsWhole) (arg10 : Memref sig .tc .vmem S688x1408 .f32) (harg10 : arg10.IsWhole) (hc0 : cond0_0 i) (hc1 : ¬cond0_1 i) (x0 : Vec Ideal S688x1024 .bf16) (x1 : Vec Ideal S1x1024x1408 .bf16) (x2 : Vec Ideal S1x1024x1408 .bf16) :
    sout0_A_0 c i arg3 harg3 arg4 harg4 arg5 harg5 arg6 harg6 arg7 harg7 arg8 harg8 arg9 harg9 arg10 harg10 hc0 hc1 x0 x1 x2 = k0_pay3 x0 (k0_pay1 (F := Ideal)) x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2)]
  unfold kernelRun0_A
  dsimp only
  try sl_unfold_words
  rw [View.canon_cons_unit_zero (S := S688x1408) zero2, View.readCov_unit_zero (S := S688x1408) _ zero2]
  simp only [View.readAt_eq_ld, harg3.read_unread, harg4.read_unread, harg5.read_unread, harg9.read_unread, harg10.read_unread, View.ld_unit_zero (S := S688x1408) zero2, View.ld_unit_zero (S := S688x1024) zero2, View.ld_unit_zero (S := S1x1024x1408) zero3, shapeCast_self]

/-- And with the second weight in the other. -/
theorem up_first (c : Dev nD) (i : grid0.Coords) (arg3 : Memref sig .tc .vmem S688x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S688x1408 .f32) (harg6 : arg6.IsWhole) (arg7 : Memref sig .tc .vmem S688x1408 .f32) (harg7 : arg7.IsWhole) (arg8 : Memref sig .tc .vmem S688x1408 .bf16) (harg8 : arg8.IsWhole) (arg9 : Memref sig .tc .vmem S688x1408 .f32) (harg9 : arg9.IsWhole) (arg10 : Memref sig .tc .vmem S688x1408 .f32) (harg10 : arg10.IsWhole) (hc0 : cond0_0 i) (hc1 : ¬cond0_1 i) (x0 : Vec Ideal S688x1024 .bf16) (x1 : Vec Ideal S1x1024x1408 .bf16) (x2 : Vec Ideal S1x1024x1408 .bf16) :
    sout0_A_1 c i arg3 harg3 arg4 harg4 arg5 harg5 arg6 harg6 arg7 harg7 arg8 harg8 arg9 harg9 arg10 harg10 hc0 hc1 x0 x1 x2 = k0_pay4 x0 (k0_pay2 (F := Ideal)) x2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2)]
  unfold kernelRun0_A
  dsimp only
  try sl_unfold_words
  rw [View.canon_cons_unit_zero (S := S688x1408) zero2, View.readCov_unit_zero (S := S688x1408) _ zero2]
  simp only [View.readAt_eq_ld, harg3.read_unread, harg4.read_unread, harg5.read_unread, harg9.read_unread, harg10.read_unread, View.ld_unit_zero (S := S688x1408) zero2, View.ld_unit_zero (S := S688x1024) zero2, View.ld_unit_zero (S := S1x1024x1408) zero3, shapeCast_self]

/-- The last point adds its block's: the gate. -/
theorem out_gate (c : Dev nD) (i : grid0.Coords) (arg3 : Memref sig .tc .vmem S688x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S688x1408 .f32) (harg6 : arg6.IsWhole) (arg7 : Memref sig .tc .vmem S688x1408 .f32) (harg7 : arg7.IsWhole) (arg8 : Memref sig .tc .vmem S688x1408 .bf16) (harg8 : arg8.IsWhole) (arg9 : Memref sig .tc .vmem S688x1408 .f32) (harg9 : arg9.IsWhole) (arg10 : Memref sig .tc .vmem S688x1408 .f32) (harg10 : arg10.IsWhole) (hc0 : ¬cond0_0 i) (hc1 : cond0_1 i) (x0 : Vec Ideal S688x1024 .bf16) (x1 : Vec Ideal S1x1024x1408 .bf16) (x2 : Vec Ideal S1x1024x1408 .bf16) (xs0 xs1 : Vec Ideal S688x1408 .f32) :
    out0_B_3 c i arg3 harg3 arg4 harg4 arg5 harg5 arg6 harg6 arg7 harg7 arg8 harg8 arg9 harg9 arg10 harg10 hc0 hc1 x0 x1 x2 xs0 xs1 = k0_pay3 x0 xs0 x1 := by
  unfold out0_B_3
  rw [View.read_writes_eq_canon _ _ _ (cover0_B_3 c i arg3 harg3 arg4 harg4 arg5 harg5 arg6 harg6 arg7 harg7 arg8 harg8 arg9 harg9 arg10 harg10 hc0 hc1 x0 x1 x2 xs0 xs1)]
  unfold kernelRun0_B
  dsimp only
  try sl_unfold_words
  rw [View.canon_unit_zero zero2, View.readCov_unit_zero (S := S688x1408) _ zero2]
  simp only [View.readAt_eq_ld, harg3.read_unread, harg4.read_unread, harg5.read_unread, harg9.read_unread, harg10.read_unread, View.ld_unit_zero (S := S688x1408) zero2, View.ld_unit_zero (S := S688x1024) zero2, View.ld_unit_zero (S := S1x1024x1408) zero3, shapeCast_self]

/-- The other factor. -/
theorem out_up (c : Dev nD) (i : grid0.Coords) (arg3 : Memref sig .tc .vmem S688x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S688x1408 .f32) (harg6 : arg6.IsWhole) (arg7 : Memref sig .tc .vmem S688x1408 .f32) (harg7 : arg7.IsWhole) (arg8 : Memref sig .tc .vmem S688x1408 .bf16) (harg8 : arg8.IsWhole) (arg9 : Memref sig .tc .vmem S688x1408 .f32) (harg9 : arg9.IsWhole) (arg10 : Memref sig .tc .vmem S688x1408 .f32) (harg10 : arg10.IsWhole) (hc0 : ¬cond0_0 i) (hc1 : cond0_1 i) (x0 : Vec Ideal S688x1024 .bf16) (x1 : Vec Ideal S1x1024x1408 .bf16) (x2 : Vec Ideal S1x1024x1408 .bf16) (xs0 xs1 : Vec Ideal S688x1408 .f32) :
    out0_B_4 c i arg3 harg3 arg4 harg4 arg5 harg5 arg6 harg6 arg7 harg7 arg8 harg8 arg9 harg9 arg10 harg10 hc0 hc1 x0 x1 x2 xs0 xs1 = k0_pay4 x0 xs1 x2 := by
  unfold out0_B_4
  rw [View.read_writes_eq_canon _ _ _ (cover0_B_4 c i arg3 harg3 arg4 harg4 arg5 harg5 arg6 harg6 arg7 harg7 arg8 harg8 arg9 harg9 arg10 harg10 hc0 hc1 x0 x1 x2 xs0 xs1)]
  unfold kernelRun0_B
  dsimp only
  try sl_unfold_words
  rw [View.canon_unit_zero zero2, View.readCov_unit_zero (S := S688x1408) _ zero2]
  simp only [View.readAt_eq_ld, harg3.read_unread, harg4.read_unread, harg5.read_unread, harg9.read_unread, harg10.read_unread, View.ld_unit_zero (S := S688x1408) zero2, View.ld_unit_zero (S := S688x1024) zero2, View.ld_unit_zero (S := S1x1024x1408) zero3, shapeCast_self]

/-- And the activation, of the two. -/
theorem out_act (c : Dev nD) (i : grid0.Coords) (arg3 : Memref sig .tc .vmem S688x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S688x1408 .f32) (harg6 : arg6.IsWhole) (arg7 : Memref sig .tc .vmem S688x1408 .f32) (harg7 : arg7.IsWhole) (arg8 : Memref sig .tc .vmem S688x1408 .bf16) (harg8 : arg8.IsWhole) (arg9 : Memref sig .tc .vmem S688x1408 .f32) (harg9 : arg9.IsWhole) (arg10 : Memref sig .tc .vmem S688x1408 .f32) (harg10 : arg10.IsWhole) (hc0 : ¬cond0_0 i) (hc1 : cond0_1 i) (x0 : Vec Ideal S688x1024 .bf16) (x1 : Vec Ideal S1x1024x1408 .bf16) (x2 : Vec Ideal S1x1024x1408 .bf16) (xs0 xs1 : Vec Ideal S688x1408 .f32) :
    out0_B_5 c i arg3 harg3 arg4 harg4 arg5 harg5 arg6 harg6 arg7 harg7 arg8 harg8 arg9 harg9 arg10 harg10 hc0 hc1 x0 x1 x2 xs0 xs1 = k0_pay5 (k0_pay3 x0 xs0 x1) (k0_pay4 x0 xs1 x2) := by
  unfold out0_B_5
  rw [View.read_writes_eq_canon _ _ _ (cover0_B_5 c i arg3 harg3 arg4 harg4 arg5 harg5 arg6 harg6 arg7 harg7 arg8 harg8 arg9 harg9 arg10 harg10 hc0 hc1 x0 x1 x2 xs0 xs1)]
  unfold kernelRun0_B
  dsimp only
  try sl_unfold_words
  rw [View.canon_unit_zero zero2, View.readCov_unit_zero (S := S688x1408) _ zero2, View.readCov_unit_zero (S := S688x1408) _ zero2]
  simp only [View.readAt_eq_ld, harg3.read_unread, harg4.read_unread, harg5.read_unread, harg9.read_unread, harg10.read_unread, View.ld_unit_zero (S := S688x1408) zero2, View.ld_unit_zero (S := S688x1024) zero2, View.ld_unit_zero (S := S1x1024x1408) zero3, shapeCast_self]

/-! ## A run of two points -/

/-- What a point leaves in each scratch: at a run's first point over zero, at the next over what is there. -/
def first1 (m : (ℓ : Loc nD τ sig) → Buf (Elt Ideal) ℓ) (c : Dev nD) (n : ℕ) (h : n < cfg0.N) : Vec Ideal S688x1408 .f32 :=
  k0_pay3 (iblk m c 0 ⟨n, h⟩) (k0_pay1 (F := Ideal)) (iblk m c 1 ⟨n, h⟩)

def first2 (m : (ℓ : Loc nD τ sig) → Buf (Elt Ideal) ℓ) (c : Dev nD) (n : ℕ) (h : n < cfg0.N) : Vec Ideal S688x1408 .f32 :=
  k0_pay4 (iblk m c 0 ⟨n, h⟩) (k0_pay2 (F := Ideal)) (iblk m c 2 ⟨n, h⟩)

def next1 (m : (ℓ : Loc nD τ sig) → Buf (Elt Ideal) ℓ) (c : Dev nD) (n : ℕ) (h : n < cfg0.N) (acc : Vec Ideal S688x1408 .f32) : Vec Ideal S688x1408 .f32 :=
  k0_pay3 (iblk m c 0 ⟨n, h⟩) acc (iblk m c 1 ⟨n, h⟩)

def next2 (m : (ℓ : Loc nD τ sig) → Buf (Elt Ideal) ℓ) (c : Dev nD) (n : ℕ) (h : n < cfg0.N) (acc : Vec Ideal S688x1408 .f32) : Vec Ideal S688x1408 .f32 :=
  k0_pay4 (iblk m c 0 ⟨n, h⟩) acc (iblk m c 2 ⟨n, h⟩)

/-- The products of a run's blocks. -/
def prod1 (m : (ℓ : Loc nD τ sig) → Buf (Elt Ideal) ℓ) (c : Dev nD) (b : ℕ) (h : 2 * b + 1 < cfg0.N) : Vec Ideal S688x1408 .f32 :=
  next1 m c (2 * b + 1) h (first1 m c (2 * b) (by omega))

def prod2 (m : (ℓ : Loc nD τ sig) → Buf (Elt Ideal) ℓ) (c : Dev nD) (b : ℕ) (h : 2 * b + 1 < cfg0.N) : Vec Ideal S688x1408 .f32 :=
  next2 m c (2 * b + 1) h (first2 m c (2 * b) (by omega))

/-- After the first point of a run. -/
theorem scratch_at (n : ℕ) (h : n < cfg0.N) (hn : n % 2 = 0) :
    (outsAt0 m c n h).2.2.2.1 = first1 m c n h ∧ (outsAt0 m c n h).2.2.2.2 = first2 m c n h := by
  rw [outsAt0_A m c ⟨n, h⟩ hn (by dsimp only; omega)]
  dsimp only
  unfold first1 first2
  exact ⟨gate_first .., up_first ..⟩

/-- After the last point of a run. -/
theorem outs_at (b : ℕ) (h : 2 * b + 1 < cfg0.N) :
    (outsAt0 m c (2 * b + 1) h).1 = prod1 m c b h ∧ (outsAt0 m c (2 * b + 1) h).2.1 = prod2 m c b h
      ∧ (outsAt0 m c (2 * b + 1) h).2.2.1 = k0_pay5 (prod1 m c b h) (prod2 m c b h) := by
  rw [outsAt0_B m c ⟨2 * b + 1, h⟩ (by dsimp only; omega) (by dsimp only; omega)]
  dsimp only
  rw [(scratch_at m c (2 * b + 1 - 1) _ (by omega)).1, (scratch_at m c (2 * b + 1 - 1) _ (by omega)).2]
  refine ⟨(out_gate ..).trans ?_, (out_up ..).trans ?_, (out_act ..).trans ?_⟩
  all_goals rfl

/-- A product at an index: the sum over the contracted axis. -/
def S (m : (ℓ : Loc nD τ sig) → Buf (Elt Ideal) ℓ) (c : Dev nD) (w : FVec Ideal S4x2048x1408 .bf16) (x : Fin 4128) (y : Fin 5632) : EReal :=
  ∑ q : Fin 2048, (A m c (ix2 x q) * at_col w q y : EReal)

theorem prod1_at (x : Fin 4128) (y : Fin 5632) (b : ℕ) (hb : b = 4 * (x.val / 688) + y.val / 1408) (h : 2 * b + 1 < cfg0.N) :
    (prod1 m c b h (ix2 (⟨x.val % 688, by omega⟩ : Fin 688) (⟨y.val % 1408, by omega⟩ : Fin 1408)) : EReal) = S m c (B m c) x y := by
  refine (run_sum (J := 2) (T := 1024) (K := 2048) rfl (by decide) (first1 m c) (next1 m c) (2 * b) (ix2 (⟨x.val % 688, by omega⟩ : Fin 688) (⟨y.val % 1408, by omega⟩ : Fin 1408)) 0
    (fun q => (A m c (ix2 x q) * at_col (B m c) q y : EReal)) (fun h => ?_) (fun s hs h acc => ?_) 1 rfl h).trans (zero_add _)
  · unfold first1
    refine (gate_at _ _ _ _ _).trans (congrArg₂ (· + ·) ?_ (Finset.sum_congr rfl fun k _ => congrArg₂ (· * ·) (blk0 m c _ _ _ _ _ ?_ ?_) (blk1 m c _ _ _ _ _ ?_ ?_)))
    · unfold k0_pay1; pointwise
    all_goals (dsimp only; omega)
  · unfold next1
    refine (gate_at _ _ _ _ _).trans (congrArg₂ (· + ·) rfl (Finset.sum_congr rfl fun k _ => congrArg₂ (· * ·) (blk0 m c _ _ _ _ _ ?_ ?_) (blk1 m c _ _ _ _ _ ?_ ?_)))
    all_goals (dsimp only; omega)

theorem prod2_at (x : Fin 4128) (y : Fin 5632) (b : ℕ) (hb : b = 4 * (x.val / 688) + y.val / 1408) (h : 2 * b + 1 < cfg0.N) :
    (prod2 m c b h (ix2 (⟨x.val % 688, by omega⟩ : Fin 688) (⟨y.val % 1408, by omega⟩ : Fin 1408)) : EReal) = S m c (C m c) x y := by
  refine (run_sum (J := 2) (T := 1024) (K := 2048) rfl (by decide) (first2 m c) (next2 m c) (2 * b) (ix2 (⟨x.val % 688, by omega⟩ : Fin 688) (⟨y.val % 1408, by omega⟩ : Fin 1408)) 0
    (fun q => (A m c (ix2 x q) * at_col (C m c) q y : EReal)) (fun h => ?_) (fun s hs h acc => ?_) 1 rfl h).trans (zero_add _)
  · unfold first2
    refine (up_at _ _ _ _ _).trans (congrArg₂ (· + ·) ?_ (Finset.sum_congr rfl fun k _ => congrArg₂ (· * ·) (blk0 m c _ _ _ _ _ ?_ ?_) (blk2 m c _ _ _ _ _ ?_ ?_)))
    · unfold k0_pay2; pointwise
    all_goals (dsimp only; omega)
  · unfold next2
    refine (up_at _ _ _ _ _).trans (congrArg₂ (· + ·) rfl (Finset.sum_congr rfl fun k _ => congrArg₂ (· * ·) (blk0 m c _ _ _ _ _ ?_ ?_) (blk2 m c _ _ _ _ _ ?_ ?_)))
    all_goals (dsimp only; omega)

theorem loc_eq (x : Fin 4128) (y : Fin 5632) : loc3Of (ix2 x y) = ix2 (⟨x.val % 688, by omega⟩ : Fin 688) (⟨y.val % 1408, by omega⟩ : Fin 1408) := by
  funext a
  match a with
  | ⟨0, _⟩ => rfl
  | ⟨1, _⟩ => rfl

theorem run_eq (x : Fin 4128) (y : Fin 5632) : run3Of (ix2 x y) = 4 * (x.val / 688) + y.val / 1408 := by
  show 4 * (x.val / 688 - 0) + 1 * (y.val / 1408 - 0) = _
  omega

theorem pt_lt (x : Fin 4128) (y : Fin 5632) : 2 * run3Of (ix2 x y) + 1 < cfg0.N := by
  have hN : cfg0.N = 48 := N_0
  have hr := run_eq x y
  omega

/-- The activation of a gate `g` and the other factor `u`. -/
def act (g u : EReal) : EReal := g * Ideal.logistic g * u

/-- What the kernel leaves at an index. -/
theorem G3_at (x : Fin 4128) (y : Fin 5632) : (G3 m c (ix2 x y) : EReal) = S m c (B m c) x y := by
  unfold G3
  rw [dif_pos (pt_lt x y), ← outsAt0_sweep m c _ (pt_lt x y), (outs_at m c _ (pt_lt x y)).1, loc_eq]
  exact prod1_at m c x y _ (run_eq x y) _

theorem G4_at (x : Fin 4128) (y : Fin 5632) : (G4 m c (ix2 x y) : EReal) = S m c (C m c) x y := by
  unfold G4
  rw [dif_pos (pt_lt x y), ← outsAt0_sweep m c _ (pt_lt x y), (outs_at m c _ (pt_lt x y)).2.1, show loc4Of (ix2 x y) = _ from loc_eq x y]
  exact prod2_at m c x y _ (run_eq x y) _

theorem G5_at (x : Fin 4128) (y : Fin 5632) : (G5 m c (ix2 x y) : EReal) = act (S m c (B m c) x y) (S m c (C m c) x y) := by
  unfold G5
  rw [dif_pos (pt_lt x y), ← outsAt0_sweep m c _ (pt_lt x y), (outs_at m c _ (pt_lt x y)).2.2, show loc5Of (ix2 x y) = _ from loc_eq x y]
  unfold k0_pay5
  pointwise
  rw [prod1_at m c x y _ (run_eq x y) _, prod2_at m c x y _ (run_eq x y) _]
  rfl

/-- The reference's product at an index: each column is read in its shard. -/
theorem cols (w : FVec Ideal S4x2048x1408 .bf16) (x : Fin 4128) (y : Fin 5632) :
    (∑ q : Fin 2048, (A m c (ix2 x q) * (if h : y.val < 1408 then w (ix3 0 q ⟨y.val, h⟩)
      else if h : y.val - 1408 < 1408 then w (ix3 1 q ⟨y.val - 1408, h⟩)
      else if h : y.val - 1408 - 1408 < 1408 then w (ix3 2 q ⟨y.val - 1408 - 1408, h⟩)
      else w (ix3 3 q ⟨y.val - 1408 - 1408 - 1408, by omega⟩)) : EReal)) = S m c w x y :=
  Finset.sum_congr rfl fun q _ => congrArg (A m c (ix2 x q) * ·) (four_blocks (fun e k => w (ix3 e q k)) y)

/-- The two programs compute the same arrays. -/
theorem algebraic : Cert.algebraic_Kernel8Ideal_Reference8Ideal := by
  intro m ρ m' ρ' _ hag
  refine ⟨fun c => G3 m c, fun c => G4 m c, fun c => G5 m c, run m ρ, (θ_run Cert.Reference8Ideal.defs _ _).mono (fun r h c => ⟨(h c).1.trans ?_, (h c).2.1.trans ?_, (h c).2.2.1.trans ?_, (h c).2.2.2⟩) (Cert.Reference8Ideal.Value.run m' ρ')⟩
  · rw [(hag c).1, (hag c).2.1]
    refine ext2 fun x y => Eq.trans ?_ (G3_at m c x y).symm
    pointwise
    exact cols m c (B m c) x y
  · rw [(hag c).1, (hag c).2.2]
    refine ext2 fun x y => Eq.trans ?_ (G4_at m c x y).symm
    pointwise
    exact cols m c (C m c) x y
  · unfold Cert.Reference8Ideal.Value.res_main_v26
    rw [(hag c).1, (hag c).2.1, (hag c).2.2]
    refine ext2 fun x y => Eq.trans ?_ (G5_at m c x y).symm
    rw [← cols m c (B m c) x y, ← cols m c (C m c) x y]
    pointwise
    rfl

/-- The kernel, as it stands and over the extended reals, and the reference keep their arguments and end with every counter at zero. -/
theorem frame_kernel : Cert.quiescent_Kernel8 := fun m ρ _ => Cert.Kernel8.Gen.frame m ρ

theorem frame_kernelIdeal : Cert.quiescent_Kernel8Ideal := fun m ρ _ => Cert.Kernel8Ideal.Gen.frame m ρ

theorem frame_ref : Cert.quiescent_Reference8Ideal := fun m ρ _ =>
  (θ_run Cert.Reference8Ideal.defs _ _).mono (fun r h => ⟨fun c => (h c).2.2.2, sem_eq_zero_of_no_sems (by decide) r.2⟩) (Cert.Reference8Ideal.Value.run m ρ)

end Cert.Proof.Ffn8

end
-- ==== Proof.Ffn9.lean ====
module

public import proofs.«01_k».proof.Defs
public import proofs.«01_k».proof.Proof.Product
public import proofs.«01_k».proof.Proof.Gen.Kernel9Ideal.Value
public import proofs.«01_k».proof.Proof.Gen.Reference9Ideal.Run
public import proofs.«01_k».proof.Proof.Gen.Kernel9.Frame
public import Idealize.ShloMosaic.Lib.Claim
public import Idealize.ShloMosaic.Lib.Pipeline.ValueKit

@[expose] public section

set_option maxRecDepth 16384

noncomputable section

namespace Cert.Proof.Ffn9

open Cert.Kernel9Ideal Cert.Kernel9Ideal.Gen Cert.Kernel9Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The arguments. -/
abbrev A (m : (ℓ : Loc nD τ sig) → Buf (Elt Ideal) ℓ) (c : Dev nD) : FVec Ideal S4128x5632 .bf16 := m ((c : Thread nD τ).loc main_arg0)
abbrev B (m : (ℓ : Loc nD τ sig) → Buf (Elt Ideal) ℓ) (c : Dev nD) : FVec Ideal S5632x2048 .bf16 := m ((c : Thread nD τ).loc main_arg1)
abbrev C (m : (ℓ : Loc nD τ sig) → Buf (Elt Ideal) ℓ) (c : Dev nD) : FVec Ideal S4128x2048 .f32 := m ((c : Thread nD τ).loc main_arg2)

theorem idx0 : ∀ t : Fin cfg0.N, win0_0.index t = ![t.val / 8, t.val % 4] := (by decide +kernel : ∀ t : Fin grid0.N, win0_0.index t = ![t.val / 8, t.val % 4])
theorem idx1 : ∀ t : Fin cfg0.N, win0_1.index t = ![t.val % 4, t.val / 4 % 2] := (by decide +kernel : ∀ t : Fin grid0.N, win0_1.index t = ![t.val % 4, t.val / 4 % 2])
theorem idx2 : ∀ t : Fin cfg0.N, win0_2.index t = ![t.val / 8, t.val / 4 % 2] := (by decide +kernel : ∀ t : Fin grid0.N, win0_2.index t = ![t.val / 8, t.val / 4 % 2])

theorem blk0 (t : Fin cfg0.N) (x : Fin 1376) (k : Fin 1408) (r : Fin 4128) (q : Fin 5632) (hr : r.val = t.val / 8 * 1376 + x.val) (hq : q.val = t.val % 4 * 1408 + k.val) :
    (iblk m c 0 t : FVec Ideal S1376x1408 .bf16) (ix2 x k) = A m c (ix2 r q) := by
  unfold iblk
  rw [View.read_apply]
  refine congrArg (A m c) ?_
  blk_ext [idx0 t]

theorem blk1 (t : Fin cfg0.N) (k : Fin 1408) (y : Fin 1024) (q : Fin 5632) (r : Fin 2048) (hq : q.val = t.val % 4 * 1408 + k.val) (hr : r.val = t.val / 4 % 2 * 1024 + y.val) :
    (iblk m c 1 t : FVec Ideal S1408x1024 .bf16) (ix2 k y) = B m c (ix2 q r) := by
  unfold iblk
  rw [View.read_apply]
  refine congrArg (B m c) ?_
  blk_ext [idx1 t]

theorem blk2 (t : Fin cfg0.N) (x : Fin 1376) (y : Fin 1024) (r : Fin 4128) (s : Fin 2048) (hr : r.val = t.val / 8 * 1376 + x.val) (hs : s.val = t.val / 4 % 2 * 1024 + y.val) :
    ((iblk m c 2 t : FVec Ideal S1376x1024 .f32) (ix2 x y) : EReal) = C m c (ix2 r s) := by
  unfold iblk
  rw [View.read_apply]
  refine congrArg (C m c) ?_
  blk_ext [idx2 t]

/-- The program's half. -/
abbrev half : EReal := Scalar.ofBits (F := Ideal) .f32 0x3F000000#32

/-- The half of a sum is the sum of the halves: the half is a nonnegative real number. -/
theorem half_sum {n : ℕ} (f : Fin n → EReal) : half * ∑ k : Fin n, f k = ∑ k : Fin n, half * f k := by
  have hh : half = ((1 / 2 : ℝ) : EReal) := by
    show Ideal.ofBits .f32 0x3F000000#32 = _
    simp [Ideal.ofBits, Ideal.ieee, -EReal.coe_mul]; norm_num
  rw [hh]
  refine Finset.induction_on (Finset.univ : Finset (Fin n)) (by simp) fun k s hk ih => ?_
  rw [Finset.sum_insert hk, Finset.sum_insert hk, ← ih]
  exact EReal.left_distrib_of_nonneg_of_ne_top (by norm_num) (EReal.coe_ne_top _) _ _

theorem pay_at (u : Vec Ideal S1376x1408 .bf16) (v : Vec Ideal S1408x1024 .bf16) (acc : Vec Ideal S1376x1024 .f32) (x : Fin 1376) (y : Fin 1024) :
    (k0_pay1 u v acc (ix2 x y) : EReal) = acc (ix2 x y) + ∑ k : Fin 1408, half * (u (ix2 x k) * v (ix2 k y) : EReal) := by
  refine Eq.trans ?_ (congrArg (acc (ix2 x y) + ·) (half_sum fun k : Fin 1408 => (u (ix2 x k) * v (ix2 k y) : EReal)))
  unfold k0_pay1
  pointwise

theorem loc_eq (x : Fin 4128) (y : Fin 2048) : loc3Of (ix2 x y) = ix2 (⟨x.val % 1376, by omega⟩ : Fin 1376) (⟨y.val % 1024, by omega⟩ : Fin 1024) := eq_ix2 rfl rfl

/-- What the kernel leaves at an index: the residual and half the sum over the contracted axis. -/
theorem G_at (x : Fin 4128) (y : Fin 2048) :
    (G3 m c (ix2 x y) : EReal) = C m c (ix2 x y) + ∑ q : Fin 5632, half * (A m c (ix2 x q) * B m c (ix2 q y) : EReal) := by
  have hN : cfg0.N = 24 := N_0
  have hr : run3Of (ix2 x y) = 2 * (x.val / 1376) + y.val / 1024 := by
    show 2 * (x.val / 1376 - 0) + 1 * (y.val / 1024 - 0) = _
    omega
  unfold G3
  rw [dif_pos (by omega), loc_eq]
  refine run_sum (J := 4) (T := 1408) (K := 5632) rfl (by decide) (reset3 m c) (step3 m c) (4 * run3Of (ix2 x y)) _ (C m c (ix2 x y))
    (fun q => half * (A m c (ix2 x q) * B m c (ix2 q y) : EReal)) (fun h => ?_) (fun s hs h acc => ?_) 3 rfl _
  · unfold reset3
    refine (pay_at _ _ _ _ _).trans (congrArg₂ (· + ·) (blk2 m c _ _ _ _ _ ?_ ?_) (Finset.sum_congr rfl fun k _ => congrArg (half * ·) (congrArg₂ (· * ·) (blk0 m c _ _ _ _ _ ?_ ?_) (blk1 m c _ _ _ _ _ ?_ ?_))))
    all_goals (dsimp only; omega)
  · unfold step3
    refine (pay_at _ _ _ _ _).trans (congrArg₂ (· + ·) rfl (Finset.sum_congr rfl fun k _ => congrArg (half * ·) (congrArg₂ (· * ·) (blk0 m c _ _ _ _ _ ?_ ?_) (blk1 m c _ _ _ _ _ ?_ ?_))))
    all_goals (dsimp only; omega)

/-- The two programs compute the same array. -/
theorem algebraic : Cert.algebraic_Kernel9Ideal_Reference9Ideal := by
  intro m ρ m' ρ' _ hag
  refine ⟨fun c => G3 m c, run m ρ, (θ_run Cert.Reference9Ideal.defs _ _).mono (fun r h c => ⟨(h c).1.trans ?_, (h c).2⟩) (Cert.Reference9Ideal.Value.run m' ρ')⟩
  rw [(hag c).1, (hag c).2.1, (hag c).2.2]
  refine ext2 fun x y => Eq.trans ?_ ((G_at m c x y).trans (congrArg (C m c (ix2 x y) + ·) (half_sum fun q : Fin 5632 => (A m c (ix2 x q) * B m c (ix2 q y) : EReal)).symm)).symm
  pointwise

/-- The kernel, as it stands and over the extended reals, and the reference keep their arguments and end with every counter at zero. -/
theorem frame_kernel : Cert.quiescent_Kernel9 := fun m ρ _ => Cert.Kernel9.Gen.frame m ρ

theorem frame_kernelIdeal : Cert.quiescent_Kernel9Ideal := fun m ρ _ => Cert.Kernel9Ideal.Gen.frame m ρ

theorem frame_ref : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

end Cert.Proof.Ffn9

end
-- ==== Proof.Win.lean ====
module

public import proofs.«01_k».proof.Defs
public import proofs.«01_k».proof.Proof.Product
public import proofs.«01_k».proof.Proof.Gen.Kernel10Ideal.Value
public import proofs.«01_k».proof.Proof.Gen.Reference10Ideal.Run
public import proofs.«01_k».proof.Proof.Gen.Kernel10.Frame
public import Idealize.ShloMosaic.Lib.Claim
public import Idealize.ShloMosaic.Lib.Pipeline.ValueKit

@[expose] public section

set_option maxRecDepth 16384

noncomputable section

namespace Cert.Proof.Win

open Cert.Kernel10Ideal Cert.Kernel10Ideal.Gen Cert.Kernel10Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The two arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S4128x12288 .bf16 := m ((c : Thread nD τ).loc main_arg1)

theorem idx0 : ∀ t : Fin cfg0.N, win0_0.index t = ![t.val % 6, t.val / 48] := (by decide +kernel : ∀ t : Fin grid0.N, win0_0.index t = ![t.val % 6, t.val / 48])
theorem idx1 : ∀ t : Fin cfg0.N, win0_1.index t = ![t.val % 6, t.val / 6 % 8] := (by decide +kernel : ∀ t : Fin grid0.N, win0_1.index t = ![t.val % 6, t.val / 6 % 8])

theorem blk0 (t : Fin cfg0.N) (k : Fin 688) (x : Fin 1024) (q : Fin 4128) (r : Fin 2048) (hq : q.val = t.val % 6 * 688 + k.val) (hr : r.val = t.val / 48 * 1024 + x.val) :
    (iblk m c 0 t : FVec Ideal S688x1024 .bf16) (ix2 k x) = A m c (ix2 q r) := by
  unfold iblk
  rw [View.read_apply]
  refine congrArg (A m c) ?_
  blk_ext [idx0 t]

theorem blk1 (t : Fin cfg0.N) (k : Fin 688) (y : Fin 1536) (q : Fin 4128) (r : Fin 12288) (hq : q.val = t.val % 6 * 688 + k.val) (hr : r.val = t.val / 6 % 8 * 1536 + y.val) :
    (iblk m c 1 t : FVec Ideal S688x1536 .bf16) (ix2 k y) = B m c (ix2 q r) := by
  unfold iblk
  rw [View.read_apply]
  refine congrArg (B m c) ?_
  blk_ext [idx1 t]

theorem pay_at (u : Vec Ideal S688x1024 .bf16) (v : Vec Ideal S688x1536 .bf16) (acc : Vec Ideal S1024x1536 .f32) (x : Fin 1024) (y : Fin 1536) :
    (k0_pay2 u v acc (ix2 x y) : EReal) = acc (ix2 x y) + ∑ k : Fin 688, (u (ix2 k x) * v (ix2 k y) : EReal) := by
  unfold k0_pay2
  pointwise

theorem loc_eq (x : Fin 2048) (y : Fin 12288) : loc2Of (ix2 x y) = ix2 (⟨x.val % 1024, by omega⟩ : Fin 1024) (⟨y.val % 1536, by omega⟩ : Fin 1536) := eq_ix2 rfl rfl

/-- What the kernel leaves at an index: the sum over the rows. -/
theorem G_at (x : Fin 2048) (y : Fin 12288) :
    (G2 m c (ix2 x y) : EReal) = ∑ q : Fin 4128, (A m c (ix2 q x) * B m c (ix2 q y) : EReal) := by
  have hN : cfg0.N = 96 := N_0
  have hr : run2Of (ix2 x y) = 8 * (x.val / 1024) + y.val / 1536 := by
    show 8 * (x.val / 1024 - 0) + 1 * (y.val / 1536 - 0) = _
    omega
  unfold G2
  rw [dif_pos (by omega), loc_eq]
  exact (run_prod (J := 6) (T := 688) (K := 4128) rfl (by decide) (reset2 m c) (step2 m c) (6 * run2Of (ix2 x y)) _ 0 (fun q => A m c (ix2 q x)) (fun q => B m c (ix2 q y))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 5 rfl _).trans (zero_add _)

/-- The two programs compute the same array. -/
theorem algebraic : Cert.algebraic_Kernel10Ideal_Reference10Ideal := by
  intro m ρ m' ρ' _ hag
  refine ⟨fun c => G2 m c, run m ρ, (θ_run Cert.Reference10Ideal.defs _ _).mono (fun r h c => ⟨(h c).1.trans ?_, (h c).2⟩) (Cert.Reference10Ideal.Value.run m' ρ')⟩
  rw [(hag c).1, (hag c).2]
  refine ext2 fun x y => Eq.trans ?_ (G_at m c x y).symm
  pointwise
  exact Finset.sum_congr rfl fun q _ => mul_comm _ _

/-- The kernel, as it stands and over the extended reals, and the reference keep their arguments and end with every counter at zero. -/
theorem frame_kernel : Cert.quiescent_Kernel10 := fun m ρ _ => Cert.Kernel10.Gen.frame m ρ

theorem frame_kernelIdeal : Cert.quiescent_Kernel10Ideal := fun m ρ _ => Cert.Kernel10Ideal.Gen.frame m ρ

theorem frame_ref : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

end Cert.Proof.Win

end
-- ==== Proof.Proj.lean ====
module

public import proofs.«01_k».proof.Defs
public import proofs.«01_k».proof.Proof.Product
public import proofs.«01_k».proof.Proof.Gen.Kernel11Ideal.Value
public import proofs.«01_k».proof.Proof.Gen.Reference11Ideal.Run
public import proofs.«01_k».proof.Proof.Gen.Kernel11.Frame
public import Idealize.ShloMosaic.Lib.Claim
public import Idealize.ShloMosaic.Lib.Pipeline.ValueKit

@[expose] public section

set_option maxRecDepth 16384

noncomputable section

namespace Cert.Proof.Proj

open Cert.Kernel11Ideal Cert.Kernel11Ideal.Gen Cert.Kernel11Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S2048x12288 .bf16 := m ((c : Thread nD τ).loc main_arg1)

theorem idx0 : ∀ t : Fin cfg0.N, win0_0.index t = ![t.val / 16, t.val % 2] := (by decide +kernel : ∀ t : Fin grid0.N, win0_0.index t = ![t.val / 16, t.val % 2])
theorem idx1 : ∀ t : Fin cfg0.N, win0_1.index t = ![t.val % 2, t.val / 2 % 8] := (by decide +kernel : ∀ t : Fin grid0.N, win0_1.index t = ![t.val % 2, t.val / 2 % 8])

theorem blk0 (t : Fin cfg0.N) (x : Fin 1376) (k : Fin 1024) (r : Fin 4128) (q : Fin 2048) (hr : r.val = t.val / 16 * 1376 + x.val) (hq : q.val = t.val % 2 * 1024 + k.val) :
    (iblk m c 0 t : FVec Ideal S1376x1024 .bf16) (ix2 x k) = A m c (ix2 r q) := by
  unfold iblk
  rw [View.read_apply]
  refine congrArg (A m c) ?_
  blk_ext [idx0 t]

theorem blk1 (t : Fin cfg0.N) (k : Fin 1024) (y : Fin 1536) (q : Fin 2048) (r : Fin 12288) (hq : q.val = t.val % 2 * 1024 + k.val) (hr : r.val = t.val / 2 % 8 * 1536 + y.val) :
    (iblk m c 1 t : FVec Ideal S1024x1536 .bf16) (ix2 k y) = B m c (ix2 q r) := by
  unfold iblk
  rw [View.read_apply]
  refine congrArg (B m c) ?_
  blk_ext [idx1 t]

theorem pay_at (u : Vec Ideal S1376x1024 .bf16) (v : Vec Ideal S1024x1536 .bf16) (acc : Vec Ideal S1376x1536 .f32) (x : Fin 1376) (y : Fin 1536) :
    (k0_pay2 u v acc (ix2 x y) : EReal) = acc (ix2 x y) + ∑ k : Fin 1024, (u (ix2 x k) * v (ix2 k y) : EReal) := by
  unfold k0_pay2
  pointwise

theorem loc_eq (x : Fin 4128) (y : Fin 12288) : loc2Of (ix2 x y) = ix2 (⟨x.val % 1376, by omega⟩ : Fin 1376) (⟨y.val % 1536, by omega⟩ : Fin 1536) := by
  funext a
  match a with
  | ⟨0, _⟩ => rfl
  | ⟨1, _⟩ => rfl

/-- What the kernel leaves at an index: the sum over the contracted axis. -/
theorem G_at (x : Fin 4128) (y : Fin 12288) :
    (G2 m c (ix2 x y) : EReal) = ∑ q : Fin 2048, (A m c (ix2 x q) * B m c (ix2 q y) : EReal) := by
  have hN : cfg0.N = 48 := N_0
  have hr : run2Of (ix2 x y) = 8 * (x.val / 1376) + y.val / 1536 := by
    show 8 * (x.val / 1376 - 0) + 1 * (y.val / 1536 - 0) = _
    omega
  unfold G2
  rw [dif_pos (by omega), loc_eq]
  refine (run_sum (J := 2) (T := 1024) (K := 2048) rfl (by decide) (reset2 m c) (step2 m c) (2 * run2Of (ix2 x y)) _ 0
    (fun q => (A m c (ix2 x q) * B m c (ix2 q y) : EReal)) (fun h => ?_) (fun s hs h acc => ?_) 1 rfl _).trans (zero_add _)
  · unfold reset2
    refine (pay_at _ _ _ _ _).trans (congrArg₂ (· + ·) ?_ (Finset.sum_congr rfl fun k _ => congrArg₂ (· * ·) (blk0 m c _ _ _ _ _ ?_ ?_) (blk1 m c _ _ _ _ _ ?_ ?_)))
    · unfold k0_pay1; pointwise
    all_goals (dsimp only; omega)
  · unfold step2
    refine (pay_at _ _ _ _ _).trans (congrArg₂ (· + ·) rfl (Finset.sum_congr rfl fun k _ => congrArg₂ (· * ·) (blk0 m c _ _ _ _ _ ?_ ?_) (blk1 m c _ _ _ _ _ ?_ ?_)))
    all_goals (dsimp only; omega)

/-- The two programs compute the same array. -/
theorem algebraic : Cert.algebraic_Kernel11Ideal_Reference11Ideal := by
  intro m ρ m' ρ' _ hag
  refine ⟨fun c => G2 m c, run m ρ, (θ_run Cert.Reference11Ideal.defs _ _).mono (fun r h c => ⟨(h c).1.trans ?_, (h c).2⟩) (Cert.Reference11Ideal.Value.run m' ρ')⟩
  rw [(hag c).1, (hag c).2]
  refine ext2 fun x y => Eq.trans ?_ (G_at m c x y).symm
  pointwise

/-- The kernel, as it stands and over the extended reals, and the reference keep their arguments and end with every counter at zero. -/
theorem frame_kernel : Cert.quiescent_Kernel11 := fun m ρ _ => Cert.Kernel11.Gen.frame m ρ

theorem frame_kernelIdeal : Cert.quiescent_Kernel11Ideal := fun m ρ _ => Cert.Kernel11Ideal.Gen.frame m ρ

theorem frame_ref : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

end Cert.Proof.Proj

end
-- ==== Proof.Wout.lean ====
module

public import proofs.«01_k».proof.Defs
public import proofs.«01_k».proof.Proof.Product
public import proofs.«01_k».proof.Proof.Gen.Kernel12Ideal.Value
public import proofs.«01_k».proof.Proof.Gen.Reference12Ideal.Run
public import proofs.«01_k».proof.Proof.Gen.Kernel12.Frame
public import Idealize.ShloMosaic.Lib.Claim
public import Idealize.ShloMosaic.Lib.Pipeline.ValueKit

@[expose] public section

set_option maxRecDepth 16384

noncomputable section

namespace Cert.Proof.Wout

open Cert.Kernel12Ideal Cert.Kernel12Ideal.Gen Cert.Kernel12Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The two arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S4128x2048 .bf16 := m ((c : Thread nD τ).loc main_arg1)

theorem idx0 : ∀ t : Fin cfg0.N, win0_0.index t = ![t.val % 6, t.val / 12] := (by decide +kernel : ∀ t : Fin grid0.N, win0_0.index t = ![t.val % 6, t.val / 12])
theorem idx1 : ∀ t : Fin cfg0.N, win0_1.index t = ![t.val % 6, t.val / 6 % 2] := (by decide +kernel : ∀ t : Fin grid0.N, win0_1.index t = ![t.val % 6, t.val / 6 % 2])

theorem blk0 (t : Fin cfg0.N) (k : Fin 688) (x : Fin 1024) (q : Fin 4128) (r : Fin 2048) (hq : q.val = t.val % 6 * 688 + k.val) (hr : r.val = t.val / 12 * 1024 + x.val) :
    (iblk m c 0 t : FVec Ideal S688x1024 .bf16) (ix2 k x) = A m c (ix2 q r) := by
  unfold iblk
  rw [View.read_apply]
  refine congrArg (A m c) ?_
  blk_ext [idx0 t]

theorem blk1 (t : Fin cfg0.N) (k : Fin 688) (y : Fin 1024) (q : Fin 4128) (r : Fin 2048) (hq : q.val = t.val % 6 * 688 + k.val) (hr : r.val = t.val / 6 % 2 * 1024 + y.val) :
    (iblk m c 1 t : FVec Ideal S688x1024 .bf16) (ix2 k y) = B m c (ix2 q r) := by
  unfold iblk
  rw [View.read_apply]
  refine congrArg (B m c) ?_
  blk_ext [idx1 t]

theorem pay_at (u : Vec Ideal S688x1024 .bf16) (v : Vec Ideal S688x1024 .bf16) (acc : Vec Ideal S1024x1024 .f32) (x : Fin 1024) (y : Fin 1024) :
    (k0_pay2 u v acc (ix2 x y) : EReal) = acc (ix2 x y) + ∑ k : Fin 688, (u (ix2 k x) * v (ix2 k y) : EReal) := by
  unfold k0_pay2
  pointwise

theorem loc_eq (x : Fin 2048) (y : Fin 2048) : loc2Of (ix2 x y) = ix2 (⟨x.val % 1024, by omega⟩ : Fin 1024) (⟨y.val % 1024, by omega⟩ : Fin 1024) := eq_ix2 rfl rfl

/-- What the kernel leaves at an index: the sum over the rows. -/
theorem G_at (x : Fin 2048) (y : Fin 2048) :
    (G2 m c (ix2 x y) : EReal) = ∑ q : Fin 4128, (A m c (ix2 q x) * B m c (ix2 q y) : EReal) := by
  have hN : cfg0.N = 24 := N_0
  have hr : run2Of (ix2 x y) = 2 * (x.val / 1024) + y.val / 1024 := by
    show 2 * (x.val / 1024 - 0) + 1 * (y.val / 1024 - 0) = _
    omega
  unfold G2
  rw [dif_pos (by omega), loc_eq]
  exact (run_prod (J := 6) (T := 688) (K := 4128) rfl (by decide) (reset2 m c) (step2 m c) (6 * run2Of (ix2 x y)) _ 0 (fun q => A m c (ix2 q x)) (fun q => B m c (ix2 q y))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 5 rfl _).trans (zero_add _)

/-- The two programs compute the same array. -/
theorem algebraic : Cert.algebraic_Kernel12Ideal_Reference12Ideal := by
  intro m ρ m' ρ' _ hag
  refine ⟨fun c => G2 m c, run m ρ, (θ_run Cert.Reference12Ideal.defs _ _).mono (fun r h c => ⟨(h c).1.trans ?_, (h c).2⟩) (Cert.Reference12Ideal.Value.run m' ρ')⟩
  rw [(hag c).1, (hag c).2]
  refine ext2 fun x y => Eq.trans ?_ (G_at m c x y).symm
  pointwise
  exact Finset.sum_congr rfl fun q _ => mul_comm _ _

/-- The kernel, as it stands and over the extended reals, and the reference keep their arguments and end with every counter at zero. -/
theorem frame_kernel : Cert.quiescent_Kernel12 := fun m ρ _ => Cert.Kernel12.Gen.frame m ρ

theorem frame_kernelIdeal : Cert.quiescent_Kernel12Ideal := fun m ρ _ => Cert.Kernel12Ideal.Gen.frame m ρ

theorem frame_ref : Cert.quiescent_Reference12Ideal := fun m ρ _ =>
  (θ_run Cert.Reference12Ideal.defs _ _).mono (fun r h => ⟨fun c => (h c).2, sem_eq_zero_of_no_sems (by decide) r.2⟩) (Cert.Reference12Ideal.Value.run m ρ)

end Cert.Proof.Wout

end
-- ==== Proof.Mix.lean ====
module

public import proofs.«01_k».proof.Defs
public import proofs.«01_k».proof.Proof.Product
public import proofs.«01_k».proof.Proof.Gen.Kernel13Ideal.Value
public import proofs.«01_k».proof.Proof.Gen.Reference13Ideal.Run
public import proofs.«01_k».proof.Proof.Gen.Kernel13.Frame
public import Idealize.ShloMosaic.Lib.Claim
public import Idealize.ShloMosaic.Lib.Pipeline.ValueKit

@[expose] public section

set_option maxRecDepth 16384

noncomputable section

namespace Cert.Proof.Mix

open Cert.Kernel13Ideal Cert.Kernel13Ideal.Gen Cert.Kernel13Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S2048x2048 .bf16 := m ((c : Thread nD τ).loc main_arg1)

theorem idx0 : ∀ t : Fin cfg0.N, win0_0.index t = ![t.val / 4, t.val % 2] := (by decide +kernel : ∀ t : Fin grid0.N, win0_0.index t = ![t.val / 4, t.val % 2])
theorem idx1 : ∀ t : Fin cfg0.N, win0_1.index t = ![t.val / 2 % 2, t.val % 2] := (by decide +kernel : ∀ t : Fin grid0.N, win0_1.index t = ![t.val / 2 % 2, t.val % 2])

theorem blk0 (t : Fin cfg0.N) (x : Fin 1376) (k : Fin 1024) (r : Fin 4128) (q : Fin 2048) (hr : r.val = t.val / 4 * 1376 + x.val) (hq : q.val = t.val % 2 * 1024 + k.val) :
    (iblk m c 0 t : FVec Ideal S1376x1024 .bf16) (ix2 x k) = A m c (ix2 r q) := by
  unfold iblk
  rw [View.read_apply]
  refine congrArg (A m c) ?_
  blk_ext [idx0 t]

theorem blk1 (t : Fin cfg0.N) (y : Fin 1024) (k : Fin 1024) (q : Fin 2048) (r : Fin 2048) (hq : q.val = t.val % 2 * 1024 + k.val) (hr : r.val = t.val / 2 % 2 * 1024 + y.val) :
    (iblk m c 1 t : FVec Ideal S1024x1024 .bf16) (ix2 y k) = B m c (ix2 r q) := by
  unfold iblk
  rw [View.read_apply]
  refine congrArg (B m c) ?_
  blk_ext [idx1 t]

theorem pay_at (u : Vec Ideal S1376x1024 .bf16) (v : Vec Ideal S1024x1024 .bf16) (acc : Vec Ideal S1376x1024 .f32) (x : Fin 1376) (y : Fin 1024) :
    (k0_pay2 u v acc (ix2 x y) : EReal) = acc (ix2 x y) + ∑ k : Fin 1024, (u (ix2 x k) * v (ix2 y k) : EReal) := by
  unfold k0_pay2
  pointwise

theorem loc_eq (x : Fin 4128) (y : Fin 2048) : loc2Of (ix2 x y) = ix2 (⟨x.val % 1376, by omega⟩ : Fin 1376) (⟨y.val % 1024, by omega⟩ : Fin 1024) := eq_ix2 rfl rfl

/-- What the kernel leaves at an index: the sum over the contracted axis. -/
theorem G_at (x : Fin 4128) (y : Fin 2048) :
    (G2 m c (ix2 x y) : EReal) = ∑ q : Fin 2048, (A m c (ix2 x q) * B m c (ix2 y q) : EReal) := by
  have hN : cfg0.N = 12 := N_0
  have hr : run2Of (ix2 x y) = 2 * (x.val / 1376) + y.val / 1024 := by
    show 2 * (x.val / 1376 - 0) + 1 * (y.val / 1024 - 0) = _
    omega
  unfold G2
  rw [dif_pos (by omega), loc_eq]
  exact (run_prod (J := 2) (T := 1024) (K := 2048) rfl (by decide) (reset2 m c) (step2 m c) (2 * run2Of (ix2 x y)) _ 0 (fun q => A m c (ix2 x q)) (fun q => B m c (ix2 y q))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 1 rfl _).trans (zero_add _)

/-- The two programs compute the same array. -/
theorem algebraic : Cert.algebraic_Kernel13Ideal_Reference13Ideal := by
  intro m ρ m' ρ' _ hag
  refine ⟨fun c => G2 m c, run m ρ, (θ_run Cert.Reference13Ideal.defs _ _).mono (fun r h c => ⟨(h c).1.trans ?_, (h c).2⟩) (Cert.Reference13Ideal.Value.run m' ρ')⟩
  rw [(hag c).1, (hag c).2]
  refine ext2 fun x y => Eq.trans ?_ (G_at m c x y).symm
  pointwise

/-- The kernel, as it stands and over the extended reals, and the reference keep their arguments and end with every counter at zero. -/
theorem frame_kernel : Cert.quiescent_Kernel13 := fun m ρ _ => Cert.Kernel13.Gen.frame m ρ

theorem frame_kernelIdeal : Cert.quiescent_Kernel13Ideal := fun m ρ _ => Cert.Kernel13Ideal.Gen.frame m ρ

theorem frame_ref : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

end Cert.Proof.Mix

end
-- ==== Proof.DGate.lean ====
module

public import proofs.«01_k».proof.Defs
public import proofs.«01_k».proof.Proof.Product
public import proofs.«01_k».proof.Proof.Gen.Kernel14Ideal.Value
public import proofs.«01_k».proof.Proof.Gen.Reference14Ideal.Run
public import proofs.«01_k».proof.Proof.Gen.Kernel14.Frame
public import Idealize.ShloMosaic.Lib.Claim
public import Idealize.ShloMosaic.Lib.Pipeline.ValueKit

@[expose] public section

set_option maxRecDepth 16384

noncomputable section

namespace Cert.Proof.DGate

open Cert.Kernel14Ideal Cert.Kernel14Ideal.Gen Cert.Kernel14Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The four arguments: the gates' inputs among the projections, the two branches, and the mix's gradient. -/
abbrev A (m : (ℓ : Loc nD τ sig) → Buf (Elt Ideal) ℓ) (c : Dev nD) : FVec Ideal S4128x12288 .f32 := m ((c : Thread nD τ).loc main_arg0)
abbrev B (m : (ℓ : Loc nD τ sig) → Buf (Elt Ideal) ℓ) (c : Dev nD) : FVec Ideal S4128x2048 .f32 := m ((c : Thread nD τ).loc main_arg1)
abbrev C (m : (ℓ : Loc nD τ sig) → Buf (Elt Ideal) ℓ) (c : Dev nD) : FVec Ideal S4128x2048 .f32 := m ((c : Thread nD τ).loc main_arg2)
abbrev D (m : (ℓ : Loc nD τ sig) → Buf (Elt Ideal) ℓ) (c : Dev nD) : FVec Ideal S4128x2048 .f32 := m ((c : Thread nD τ).loc main_arg3)

/-- The columns of the two gates. -/
def lo (y : Fin 2048) : Fin 12288 := ⟨6144 + y.val, by omega⟩
def hi (y : Fin 2048) : Fin 12288 := ⟨6144 + (2048 + y.val), by omega⟩

/-- The gradient of a gate's input `p`, from its branch `b` and the mix's gradient `d`. -/
def dpre (p b d : EReal) : EReal := d * b * (Ideal.logistic p * (1 - Ideal.logistic p))

/-! ## The blocks -/

theorem idx0 : ∀ t : Fin cfg0.N, win0_0.index t = ![t.val % 6, t.val / 6 + 12] := (by decide +kernel : ∀ t : Fin grid0.N, win0_0.index t = ![t.val % 6, t.val / 6 + 12])
theorem idx1 : ∀ t : Fin cfg0.N, win0_1.index t = ![t.val % 6, t.val / 6 + 16] := (by decide +kernel : ∀ t : Fin grid0.N, win0_1.index t = ![t.val % 6, t.val / 6 + 16])
theorem idx2 : ∀ t : Fin cfg0.N, win0_2.index t = ![t.val % 6, t.val / 6] := (by decide +kernel : ∀ t : Fin grid0.N, win0_2.index t = ![t.val % 6, t.val / 6])
theorem idx3 : ∀ t : Fin cfg0.N, win0_3.index t = ![t.val % 6, t.val / 6] := (by decide +kernel : ∀ t : Fin grid0.N, win0_3.index t = ![t.val % 6, t.val / 6])
theorem idx4 : ∀ t : Fin cfg0.N, win0_4.index t = ![t.val % 6, t.val / 6] := (by decide +kernel : ∀ t : Fin grid0.N, win0_4.index t = ![t.val % 6, t.val / 6])
theorem idx5 : ∀ t : Fin cfg0.N, win0_5.index t = ![t.val % 6, t.val / 6] := (by decide +kernel : ∀ t : Fin grid0.N, win0_5.index t = ![t.val % 6, t.val / 6])
theorem idx6 : ∀ t : Fin cfg0.N, win0_6.index t = ![t.val % 6, t.val / 6] := (by decide +kernel : ∀ t : Fin grid0.N, win0_6.index t = ![t.val % 6, t.val / 6])
theorem idx7 : ∀ t : Fin cfg0.N, win0_7.index t = ![t.val % 6, t.val / 6] := (by decide +kernel : ∀ t : Fin grid0.N, win0_7.index t = ![t.val % 6, t.val / 6])
theorem idx8 : ∀ t : Fin cfg0.N, win0_8.index t = ![t.val % 6, t.val / 6] := (by decide +kernel : ∀ t : Fin grid0.N, win0_8.index t = ![t.val % 6, t.val / 6])

theorem blk0 (t : Fin cfg0.N) (x : Fin 688) (y : Fin 512) (r : Fin 4128) (k : Fin 12288) (hr : r.val = t.val % 6 * 688 + x.val) (hk : k.val = t.val / 6 * 512 + y.val + 6144) :
    ((iblk m c 0 t : FVec Ideal S688x512 .f32) (ix2 x y) : EReal) = A m c (ix2 r k) := by
  unfold iblk
  rw [View.read_apply]
  refine congrArg (A m c) ?_
  blk_ext [idx0 t]

theorem blk1 (t : Fin cfg0.N) (x : Fin 688) (y : Fin 512) (r : Fin 4128) (k : Fin 12288) (hr : r.val = t.val % 6 * 688 + x.val) (hk : k.val = t.val / 6 * 512 + y.val + 8192) :
    ((iblk m c 1 t : FVec Ideal S688x512 .f32) (ix2 x y) : EReal) = A m c (ix2 r k) := by
  unfold iblk
  rw [View.read_apply]
  refine congrArg (A m c) ?_
  blk_ext [idx1 t]

theorem blk2 (t : Fin cfg0.N) (x : Fin 688) (y : Fin 512) (r : Fin 4128) (k : Fin 2048) (hr : r.val = t.val % 6 * 688 + x.val) (hk : k.val = t.val / 6 * 512 + y.val) :
    ((iblk m c 2 t : FVec Ideal S688x512 .f32) (ix2 x y) : EReal) = B m c (ix2 r k) := by
  unfold iblk
  rw [View.read_apply]
  refine congrArg (B m c) ?_
  blk_ext [idx2 t]

theorem blk3 (t : Fin cfg0.N) (x : Fin 688) (y : Fin 512) (r : Fin 4128) (k : Fin 2048) (hr : r.val = t.val % 6 * 688 + x.val) (hk : k.val = t.val / 6 * 512 + y.val) :
    ((iblk m c 3 t : FVec Ideal S688x512 .f32) (ix2 x y) : EReal) = C m c (ix2 r k) := by
  unfold iblk
  rw [View.read_apply]
  refine congrArg (C m c) ?_
  blk_ext [idx3 t]

theorem blk4 (t : Fin cfg0.N) (x : Fin 688) (y : Fin 512) (r : Fin 4128) (k : Fin 2048) (hr : r.val = t.val % 6 * 688 + x.val) (hk : k.val = t.val / 6 * 512 + y.val) :
    ((iblk m c 4 t : FVec Ideal S688x512 .f32) (ix2 x y) : EReal) = D m c (ix2 r k) := by
  unfold iblk
  rw [View.read_apply]
  refine congrArg (D m c) ?_
  blk_ext [idx4 t]

theorem emb5 (t : Fin cfg0.N) (x : Fin 688) (y : Fin 512) (r : Fin 4128) (k : Fin 2048) (hr : r.val = t.val % 6 * 688 + x.val) (hk : k.val = t.val / 6 * 512 + y.val) :
    ((cfg0.win 5).blk t).view.emb (ix2 x y : S688x512.Idx) = (ix2 r k : S4128x2048.Idx) := by
  blk_ext [idx5 t]

theorem emb6 (t : Fin cfg0.N) (x : Fin 688) (y : Fin 512) (r : Fin 4128) (k : Fin 2048) (hr : r.val = t.val % 6 * 688 + x.val) (hk : k.val = t.val / 6 * 512 + y.val) :
    ((cfg0.win 6).blk t).view.emb (ix2 x y : S688x512.Idx) = (ix2 r k : S4128x2048.Idx) := by
  blk_ext [idx6 t]

theorem emb7 (t : Fin cfg0.N) (x : Fin 688) (y : Fin 512) (r : Fin 4128) (k : Fin 2048) (hr : r.val = t.val % 6 * 688 + x.val) (hk : k.val = t.val / 6 * 512 + y.val) :
    ((cfg0.win 7).blk t).view.emb (ix2 x y : S688x512.Idx) = (ix2 r k : S4128x2048.Idx) := by
  blk_ext [idx7 t]

theorem emb8 (t : Fin cfg0.N) (x : Fin 688) (y : Fin 512) (r : Fin 4128) (k : Fin 2048) (hr : r.val = t.val % 6 * 688 + x.val) (hk : k.val = t.val / 6 * 512 + y.val) :
    ((cfg0.win 8).blk t).view.emb (ix2 x y : S688x512.Idx) = (ix2 r k : S4128x2048.Idx) := by
  blk_ext [idx8 t]

/-! ## The arrays -/

/-- The gradient of the first gate's input. -/
def G5 (m : (ℓ : Loc nD τ sig) → Buf (Elt Ideal) ℓ) (c : Dev nD) : FVec Ideal S4128x2048 .bf16 := fun i => (dpre (A m c (ix2 (i 0) (lo (i 1)))) (B m c i) (D m c i) : EReal)

/-- The gradient of the second gate's input. -/
def G6 (m : (ℓ : Loc nD τ sig) → Buf (Elt Ideal) ℓ) (c : Dev nD) : FVec Ideal S4128x2048 .bf16 := fun i => (dpre (A m c (ix2 (i 0) (hi (i 1)))) (C m c i) (D m c i) : EReal)

/-- The gradient of the first branch. -/
def G7 (m : (ℓ : Loc nD τ sig) → Buf (Elt Ideal) ℓ) (c : Dev nD) : FVec Ideal S4128x2048 .f32 := fun i => (Ideal.logistic (A m c (ix2 (i 0) (lo (i 1)))) * D m c i : EReal)

/-- The gradient of the second branch. -/
def G8 (m : (ℓ : Loc nD τ sig) → Buf (Elt Ideal) ℓ) (c : Dev nD) : FVec Ideal S4128x2048 .bf16 := fun i => (Ideal.logistic (A m c (ix2 (i 0) (hi (i 1)))) * D m c i : EReal)

theorem out5_eq (x0 x1 x2 x3 x4 : Vec Ideal S688x512 .f32) : out0_5 x0 x1 x2 x3 x4 = k0_pay6 x0 x2 x4 := by
  unfold out0_5
  rw [View.canon_unit_zero zero2]
  simp only [View.ld_unit_zero (S := S688x512) zero2]

theorem final5 : (dats m 0 c).arrAt 5 cfg0.N = G5 m c := by
  have hN : cfg0.N = 24 := N_0
  refine (dats m 0 c).arrAt_eq_of_cover 5 _ (fun t _ => ?_) fun i => ?_
  · rw [flushed5, out5_eq]
    have key : ∀ (x : Fin 688) (y : Fin 512), (k0_pay6 (iblk m c 0 t) (iblk m c 2 t) (iblk m c 4 t) (ix2 x y) : EReal)
        = G5 m c (((cfg0.win 5).blk t).view.emb (ix2 x y : S688x512.Idx)) := by
      intro x y
      have ht : t.val < 24 := lt_of_lt_of_eq t.isLt N_0
      obtain ⟨r, hr⟩ : ∃ r : Fin 4128, r.val = t.val % 6 * 688 + x.val := ⟨⟨t.val % 6 * 688 + x.val, by omega⟩, rfl⟩
      obtain ⟨k, hk⟩ : ∃ k : Fin 2048, k.val = t.val / 6 * 512 + y.val := ⟨⟨t.val / 6 * 512 + y.val, by omega⟩, rfl⟩
      rw [emb5 t x y r k hr hk]
      unfold k0_pay6 k0_pay1 k0_pay3
      pointwise
      rw [blk0 m c t x y r (lo k) hr (by show 6144 + k.val = _; omega), blk2 m c t x y r k hr hk, blk4 m c t x y r k hr hk]
      rfl
    exact ext2 key
  · have h0 : (i 0).val < 4128 := (i 0).isLt
    have h1 : (i 1).val < 2048 := (i 1).isLt
    have e := emb5 ⟨6 * ((i 1).val / 512) + (i 0).val / 688, by omega⟩ ⟨(i 0).val % 688, by omega⟩ ⟨(i 1).val % 512, by omega⟩ (i 0) (i 1) (by dsimp only; omega) (by dsimp only; omega)
    exact ⟨⟨6 * ((i 1).val / 512) + (i 0).val / 688, by omega⟩, flush0_5 _, (e.trans (ix2_eta i)) ▸ View.emb_mem_set _ _⟩

theorem out6_eq (x0 x1 x2 x3 x4 : Vec Ideal S688x512 .f32) : out0_6 x0 x1 x2 x3 x4 = k0_pay7 x1 x3 x4 := by
  unfold out0_6
  rw [View.canon_unit_zero zero2]
  simp only [View.ld_unit_zero (S := S688x512) zero2]

theorem final6 : (dats m 0 c).arrAt 6 cfg0.N = G6 m c := by
  have hN : cfg0.N = 24 := N_0
  refine (dats m 0 c).arrAt_eq_of_cover 6 _ (fun t _ => ?_) fun i => ?_
  · rw [flushed6, out6_eq]
    have key : ∀ (x : Fin 688) (y : Fin 512), (k0_pay7 (iblk m c 1 t) (iblk m c 3 t) (iblk m c 4 t) (ix2 x y) : EReal)
        = G6 m c (((cfg0.win 6).blk t).view.emb (ix2 x y : S688x512.Idx)) := by
      intro x y
      have ht : t.val < 24 := lt_of_lt_of_eq t.isLt N_0
      obtain ⟨r, hr⟩ : ∃ r : Fin 4128, r.val = t.val % 6 * 688 + x.val := ⟨⟨t.val % 6 * 688 + x.val, by omega⟩, rfl⟩
      obtain ⟨k, hk⟩ : ∃ k : Fin 2048, k.val = t.val / 6 * 512 + y.val := ⟨⟨t.val / 6 * 512 + y.val, by omega⟩, rfl⟩
      rw [emb6 t x y r k hr hk]
      unfold k0_pay7 k0_pay2 k0_pay4
      pointwise
      rw [blk1 m c t x y r (hi k) hr (by show 6144 + (2048 + k.val) = _; omega), blk3 m c t x y r k hr hk, blk4 m c t x y r k hr hk]
      rfl
    exact ext2 key
  · have h0 : (i 0).val < 4128 := (i 0).isLt
    have h1 : (i 1).val < 2048 := (i 1).isLt
    have e := emb6 ⟨6 * ((i 1).val / 512) + (i 0).val / 688, by omega⟩ ⟨(i 0).val % 688, by omega⟩ ⟨(i 1).val % 512, by omega⟩ (i 0) (i 1) (by dsimp only; omega) (by dsimp only; omega)
    exact ⟨⟨6 * ((i 1).val / 512) + (i 0).val / 688, by omega⟩, flush0_6 _, (e.trans (ix2_eta i)) ▸ View.emb_mem_set _ _⟩

theorem out7_eq (x0 x1 x2 x3 x4 : Vec Ideal S688x512 .f32) : out0_7 x0 x1 x2 x3 x4 = k0_pay5 x0 x4 := by
  unfold out0_7
  rw [View.canon_unit_zero zero2]
  simp only [View.ld_unit_zero (S := S688x512) zero2]

theorem final7 : (dats m 0 c).arrAt 7 cfg0.N = G7 m c := by
  have hN : cfg0.N = 24 := N_0
  refine (dats m 0 c).arrAt_eq_of_cover 7 _ (fun t _ => ?_) fun i => ?_
  · rw [flushed7, out7_eq]
    have key : ∀ (x : Fin 688) (y : Fin 512), (k0_pay5 (iblk m c 0 t) (iblk m c 4 t) (ix2 x y) : EReal)
        = G7 m c (((cfg0.win 7).blk t).view.emb (ix2 x y : S688x512.Idx)) := by
      intro x y
      have ht : t.val < 24 := lt_of_lt_of_eq t.isLt N_0
      obtain ⟨r, hr⟩ : ∃ r : Fin 4128, r.val = t.val % 6 * 688 + x.val := ⟨⟨t.val % 6 * 688 + x.val, by omega⟩, rfl⟩
      obtain ⟨k, hk⟩ : ∃ k : Fin 2048, k.val = t.val / 6 * 512 + y.val := ⟨⟨t.val / 6 * 512 + y.val, by omega⟩, rfl⟩
      rw [emb7 t x y r k hr hk]
      unfold k0_pay5 k0_pay1 k0_pay3
      pointwise
      rw [blk0 m c t x y r (lo k) hr (by show 6144 + k.val = _; omega), blk4 m c t x y r k hr hk]
      rfl
    exact ext2 key
  · have h0 : (i 0).val < 4128 := (i 0).isLt
    have h1 : (i 1).val < 2048 := (i 1).isLt
    have e := emb7 ⟨6 * ((i 1).val / 512) + (i 0).val / 688, by omega⟩ ⟨(i 0).val % 688, by omega⟩ ⟨(i 1).val % 512, by omega⟩ (i 0) (i 1) (by dsimp only; omega) (by dsimp only; omega)
    exact ⟨⟨6 * ((i 1).val / 512) + (i 0).val / 688, by omega⟩, flush0_7 _, (e.trans (ix2_eta i)) ▸ View.emb_mem_set _ _⟩

theorem out8_eq (x0 x1 x2 x3 x4 : Vec Ideal S688x512 .f32) : out0_8 x0 x1 x2 x3 x4 = k0_pay8 x1 x4 := by
  unfold out0_8
  rw [View.canon_unit_zero zero2]
  simp only [View.ld_unit_zero (S := S688x512) zero2]

theorem final8 : (dats m 0 c).arrAt 8 cfg0.N = G8 m c := by
  have hN : cfg0.N = 24 := N_0
  refine (dats m 0 c).arrAt_eq_of_cover 8 _ (fun t _ => ?_) fun i => ?_
  · rw [flushed8, out8_eq]
    have key : ∀ (x : Fin 688) (y : Fin 512), (k0_pay8 (iblk m c 1 t) (iblk m c 4 t) (ix2 x y) : EReal)
        = G8 m c (((cfg0.win 8).blk t).view.emb (ix2 x y : S688x512.Idx)) := by
      intro x y
      have ht : t.val < 24 := lt_of_lt_of_eq t.isLt N_0
      obtain ⟨r, hr⟩ : ∃ r : Fin 4128, r.val = t.val % 6 * 688 + x.val := ⟨⟨t.val % 6 * 688 + x.val, by omega⟩, rfl⟩
      obtain ⟨k, hk⟩ : ∃ k : Fin 2048, k.val = t.val / 6 * 512 + y.val := ⟨⟨t.val / 6 * 512 + y.val, by omega⟩, rfl⟩
      rw [emb8 t x y r k hr hk]
      unfold k0_pay8 k0_pay2 k0_pay4
      pointwise
      rw [blk1 m c t x y r (hi k) hr (by show 6144 + (2048 + k.val) = _; omega), blk4 m c t x y r k hr hk]
      rfl
    exact ext2 key
  · have h0 : (i 0).val < 4128 := (i 0).isLt
    have h1 : (i 1).val < 2048 := (i 1).isLt
    have e := emb8 ⟨6 * ((i 1).val / 512) + (i 0).val / 688, by omega⟩ ⟨(i 0).val % 688, by omega⟩ ⟨(i 1).val % 512, by omega⟩ (i 0) (i 1) (by dsimp only; omega) (by dsimp only; omega)
    exact ⟨⟨6 * ((i 1).val / 512) + (i 0).val / 688, by omega⟩, flush0_8 _, (e.trans (ix2_eta i)) ▸ View.emb_mem_set _ _⟩

/-- The two programs compute the same arrays. -/
theorem algebraic : Cert.algebraic_Kernel14Ideal_Reference14Ideal := by
  intro m ρ m' ρ' _ hag
  refine ⟨fun c => G5 m c, fun c => G6 m c, fun c => G7 m c, fun c => G8 m c,
    (θ_run defs _ _).mono (fun r h c => ⟨(h c).1.trans (final5 m c), (h c).2.1.trans (final6 m c), (h c).2.2.1.trans (final7 m c), (h c).2.2.2.1.trans (final8 m c), (h c).2.2.2.2⟩) (run_blocks m ρ),
    (θ_run Cert.Reference14Ideal.defs _ _).mono (fun r h c => ⟨(h c).1.trans ?_, (h c).2.1.trans ?_, (h c).2.2.1.trans ?_, (h c).2.2.2.1.trans ?_, (h c).2.2.2.2⟩) (Cert.Reference14Ideal.Value.run m' ρ')⟩
  all_goals
    clear h
    simp only [(hag c).1, (hag c).2.1, (hag c).2.2.1, (hag c).2.2.2]
    refine ext2 fun x y => ?_
    pointwise
    try rw [(hag c).2.2.2]
    try rw [(hag c).2.1]
    try rw [(hag c).2.2.1]
    rfl

/-- The kernel, as it stands and over the extended reals, and the reference keep their arguments and end with every counter at zero. -/
theorem frame_kernel : Cert.quiescent_Kernel14 := fun m ρ _ => Cert.Kernel14.Gen.frame m ρ

theorem frame_kernelIdeal : Cert.quiescent_Kernel14Ideal := fun m ρ _ => Cert.Kernel14Ideal.Gen.frame m ρ

theorem frame_ref : Cert.quiescent_Reference14Ideal := fun m ρ _ =>
  (θ_run Cert.Reference14Ideal.defs _ _).mono (fun r h => ⟨fun c => (h c).2.2.2.2, sem_eq_zero_of_no_sems (by decide) r.2⟩) (Cert.Reference14Ideal.Value.run m ρ)

end Cert.Proof.DGate

end
-- ==== Proof.WoutFwd.lean ====
module

public import proofs.«01_k».proof.Defs
public import proofs.«01_k».proof.Proof.Product
public import proofs.«01_k».proof.Proof.Gen.Kernel15Ideal.Value
public import proofs.«01_k».proof.Proof.Gen.Reference15Ideal.Run
public import proofs.«01_k».proof.Proof.Gen.Kernel15.Frame
public import Idealize.ShloMosaic.Lib.Claim
public import Idealize.ShloMosaic.Lib.Pipeline.ValueKit

@[expose] public section

set_option maxRecDepth 16384

noncomputable section

namespace Cert.Proof.WoutFwd

open Cert.Kernel15Ideal Cert.Kernel15Ideal.Gen Cert.Kernel15Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S2048x2048 .bf16 := m ((c : Thread nD τ).loc main_arg1)
abbrev C (m : (ℓ : Loc nD τ sig) → Buf (Elt Ideal) ℓ) (c : Dev nD) : FVec Ideal S4128x2048 .f32 := m ((c : Thread nD τ).loc main_arg2)

theorem idx0 : ∀ t : Fin cfg0.N, win0_0.index t = ![t.val / 4, t.val % 2] := (by decide +kernel : ∀ t : Fin grid0.N, win0_0.index t = ![t.val / 4, t.val % 2])
theorem idx1 : ∀ t : Fin cfg0.N, win0_1.index t = ![t.val % 2, t.val / 2 % 2] := (by decide +kernel : ∀ t : Fin grid0.N, win0_1.index t = ![t.val % 2, t.val / 2 % 2])
theorem idx2 : ∀ t : Fin cfg0.N, win0_2.index t = ![t.val / 4, t.val / 2 % 2] := (by decide +kernel : ∀ t : Fin grid0.N, win0_2.index t = ![t.val / 4, t.val / 2 % 2])

theorem blk0 (t : Fin cfg0.N) (x : Fin 1376) (k : Fin 1024) (r : Fin 4128) (q : Fin 2048) (hr : r.val = t.val / 4 * 1376 + x.val) (hq : q.val = t.val % 2 * 1024 + k.val) :
    (iblk m c 0 t : FVec Ideal S1376x1024 .bf16) (ix2 x k) = A m c (ix2 r q) := by
  unfold iblk
  rw [View.read_apply]
  refine congrArg (A m c) ?_
  blk_ext [idx0 t]

theorem blk1 (t : Fin cfg0.N) (k : Fin 1024) (y : Fin 1024) (q : Fin 2048) (r : Fin 2048) (hq : q.val = t.val % 2 * 1024 + k.val) (hr : r.val = t.val / 2 % 2 * 1024 + y.val) :
    (iblk m c 1 t : FVec Ideal S1024x1024 .bf16) (ix2 k y) = B m c (ix2 q r) := by
  unfold iblk
  rw [View.read_apply]
  refine congrArg (B m c) ?_
  blk_ext [idx1 t]

theorem blk2 (t : Fin cfg0.N) (x : Fin 1376) (y : Fin 1024) (r : Fin 4128) (s : Fin 2048) (hr : r.val = t.val / 4 * 1376 + x.val) (hs : s.val = t.val / 2 % 2 * 1024 + y.val) :
    ((iblk m c 2 t : FVec Ideal S1376x1024 .f32) (ix2 x y) : EReal) = C m c (ix2 r s) := by
  unfold iblk
  rw [View.read_apply]
  refine congrArg (C m c) ?_
  blk_ext [idx2 t]

theorem pay_at (u : Vec Ideal S1376x1024 .bf16) (v : Vec Ideal S1024x1024 .bf16) (acc : Vec Ideal S1376x1024 .f32) (x : Fin 1376) (y : Fin 1024) :
    (k0_pay1 u v acc (ix2 x y) : EReal) = acc (ix2 x y) + ∑ k : Fin 1024, (u (ix2 x k) * v (ix2 k y) : EReal) := by
  unfold k0_pay1
  pointwise

theorem loc_eq (x : Fin 4128) (y : Fin 2048) : loc3Of (ix2 x y) = ix2 (⟨x.val % 1376, by omega⟩ : Fin 1376) (⟨y.val % 1024, by omega⟩ : Fin 1024) := eq_ix2 rfl rfl

/-- What the kernel leaves at an index: the residual and the sum over the contracted axis. -/
theorem G_at (x : Fin 4128) (y : Fin 2048) :
    (G3 m c (ix2 x y) : EReal) = C m c (ix2 x y) + ∑ q : Fin 2048, (A m c (ix2 x q) * B m c (ix2 q y) : EReal) := by
  have hN : cfg0.N = 12 := N_0
  have hr : run3Of (ix2 x y) = 2 * (x.val / 1376) + y.val / 1024 := by
    show 2 * (x.val / 1376 - 0) + 1 * (y.val / 1024 - 0) = _
    omega
  unfold G3
  rw [dif_pos (by omega), loc_eq]
  exact run_prod (J := 2) (T := 1024) (K := 2048) rfl (by decide) (reset3 m c) (step3 m c) (2 * run3Of (ix2 x y)) _ (C m c (ix2 x y)) (fun q => A m c (ix2 x q)) (fun q => B m c (ix2 q y))
    (fun n h acc => pay_at _ _ acc _ _) (fun h => (pay_at _ _ _ _ _).trans (congrArg (· + _) (blk2 m c _ _ _ _ _ (by dsimp only; omega) (by dsimp only; omega))))
    (fun s hs h k => blk0 m c _ _ _ _ _ (by dsimp only; omega) (by dsimp only; omega)) (fun s hs h k => blk1 m c _ _ _ _ _ (by dsimp only; omega) (by dsimp only; omega)) 1 rfl _

/-- The two programs compute the same array. -/
theorem algebraic : Cert.algebraic_Kernel15Ideal_Reference15Ideal := by
  intro m ρ m' ρ' _ hag
  refine ⟨fun c => G3 m c, run m ρ, (θ_run Cert.Reference15Ideal.defs _ _).mono (fun r h c => ⟨(h c).1.trans ?_, (h c).2⟩) (Cert.Reference15Ideal.Value.run m' ρ')⟩
  rw [(hag c).1, (hag c).2.1, (hag c).2.2]
  refine ext2 fun x y => Eq.trans ?_ (G_at m c x y).symm
  pointwise

/-- The kernel, as it stands and over the extended reals, and the reference keep their arguments and end with every counter at zero. -/
theorem frame_kernel : Cert.quiescent_Kernel15 := fun m ρ _ => Cert.Kernel15.Gen.frame m ρ

theorem frame_kernelIdeal : Cert.quiescent_Kernel15Ideal := fun m ρ _ => Cert.Kernel15Ideal.Gen.frame m ρ

theorem frame_ref : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)

end Cert.Proof.WoutFwd

end
-- ==== Proof.Norm.lean ====
module

public import proofs.«01_k».proof.Defs
public import proofs.«01_k».proof.Proof.Product
public import proofs.«01_k».proof.Proof.Gen.Kernel16Ideal.Value
public import proofs.«01_k».proof.Proof.Gen.Reference16Ideal.Run
public import proofs.«01_k».proof.Proof.Gen.Kernel16.Frame
public import Idealize.ShloMosaic.Lib.Claim
public import Idealize.ShloMosaic.Lib.Pipeline.ValueKit

@[expose] public section

set_option maxRecDepth 16384

noncomputable section

namespace Cert.Proof.Norm

open Cert.Kernel16Ideal Cert.Kernel16Ideal.Gen Cert.Kernel16Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The two arguments: the input and the weights. -/
abbrev A (m : (ℓ : Loc nD τ sig) → Buf (Elt Ideal) ℓ) (c : Dev nD) : FVec Ideal S4128x2048 .f32 := m ((c : Thread nD τ).loc main_arg0)
abbrev B (m : (ℓ : Loc nD τ sig) → Buf (Elt Ideal) ℓ) (c : Dev nD) : FVec Ideal S1x2048 .f32 := m ((c : Thread nD τ).loc main_arg1)

/-- A row of an array. -/
def row {n : ℕ} (a : FVec Ideal ⟨2, ![n, 2048]⟩ .f32) (x : Fin n) (k : Fin 2048) : EReal := a (ix2 x k)

/-- The normed row of a row `h`, with weights `g`. -/
def norm (h g : Fin 2048 → EReal) (y : Fin 2048) : EReal :=
  h y * Ideal.rsqrt (Ideal.div (∑ k, h k * h k) (Ideal.ofBits .f32 0x45000000#32) + Ideal.ofBits .f32 0x358637BD#32) * g y

theorem pay1_at (h : Vec Ideal S96x2048 .f32) (g : Vec Ideal S1x2048 .f32) (x : Fin 96) (y : Fin 2048) :
    (k0_pay1 h g (ix2 x y) : EReal) = norm (row h x) (row g 0) y := by
  unfold k0_pay1
  pointwise
  rfl

/-! ## The blocks -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem blk0 (t : Fin cfg0.N) (x : Fin 96) (r : Fin 4128) (hr : r.val = t.val * 96 + x.val) : row (iblk m c 0 t : FVec Ideal S96x2048 .f32) x = row (A m c) r := by
  funext y
  unfold iblk row
  rw [View.read_apply]
  refine congrArg (A m c) ?_
  blk_ext [idx0 t]

theorem blk1 (t : Fin cfg0.N) : row (iblk m c 1 t : FVec Ideal S1x2048 .f32) 0 = row (B m c) 0 := by
  funext y
  unfold iblk row
  rw [View.read_apply]
  refine congrArg (B m c) ?_
  blk_ext [idx1 t]

theorem emb2 (t : Fin cfg0.N) (x : Fin 96) (y : Fin 2048) (r : Fin 4128) (hr : r.val = t.val * 96 + x.val) :
    ((cfg0.win 2).blk t).view.emb (ix2 x y : S96x2048.Idx) = (ix2 r y : S4128x2048.Idx) := by
  blk_ext [idx2 t]

/-! ## The array -/

theorem out_eq (h : Vec Ideal S96x2048 .f32) (g : Vec Ideal S1x2048 .f32) : out0_2 h g = k0_pay1 h g := by
  unfold out0_2
  rw [View.canon_unit_zero zero2]
  simp only [View.ld_unit_zero (S := S96x2048) zero2, View.ld_unit_zero (S := S1x2048) zero2]

/-- The normed rows. -/
def G2 (m : (ℓ : Loc nD τ sig) → Buf (Elt Ideal) ℓ) (c : Dev nD) : FVec Ideal S4128x2048 .bf16 := fun i => norm (row (A m c) (i 0)) (row (B m c) 0) (i 1)

theorem final2 : (dats m 0 c).arrAt 2 cfg0.N = G2 m c := by
  have hN : cfg0.N = 43 := N_0
  refine (dats m 0 c).arrAt_eq_of_cover 2 _ (fun t _ => ?_) fun i => ?_
  · rw [flushed2, out_eq]
    have key : ∀ (x : Fin 96) (y : Fin 2048), (k0_pay1 (iblk m c 0 t) (iblk m c 1 t) (ix2 x y) : EReal)
        = G2 m c (((cfg0.win 2).blk t).view.emb (ix2 x y : S96x2048.Idx)) := by
      intro x y
      have ht : t.val < 43 := lt_of_lt_of_eq t.isLt N_0
      have hr : (⟨t.val * 96 + x.val, by omega⟩ : Fin 4128).val = t.val * 96 + x.val := rfl
      rw [emb2 t x y _ hr, pay1_at, blk0 m c t x _ hr, blk1]
      rfl
    exact ext2 key
  · have h0 : (i 0).val < 4128 := (i 0).isLt
    have e := emb2 ⟨(i 0).val / 96, by omega⟩ ⟨(i 0).val % 96, by omega⟩ (i 1) (i 0) (by dsimp only; omega)
    exact ⟨⟨(i 0).val / 96, by omega⟩, flush0_2 _, (e.trans (ix2_eta i)) ▸ View.emb_mem_set _ _⟩

/-- The two programs compute the same array. -/
theorem algebraic : Cert.algebraic_Kernel16Ideal_Reference16Ideal := by
  intro m ρ m' ρ' _ hag
  refine ⟨fun c => G2 m c, (θ_run defs _ _).mono (fun r h c => ⟨(h c).1.trans (final2 m c), (h c).2⟩) (run_blocks m ρ),
    (θ_run Cert.Reference16Ideal.defs _ _).mono (fun r h c => ⟨(h c).1.trans ?_, (h c).2⟩) (Cert.Reference16Ideal.Value.run m' ρ')⟩
  rw [(hag c).1, (hag c).2]
  refine ext2 fun x y => ?_
  pointwise
  rfl

/-- The kernel, as it stands and over the extended reals, and the reference keep their arguments and end with every counter at zero. -/
theorem frame_kernel : Cert.quiescent_Kernel16 := fun m ρ _ => Cert.Kernel16.Gen.frame m ρ

theorem frame_kernelIdeal : Cert.quiescent_Kernel16Ideal := fun m ρ _ => Cert.Kernel16Ideal.Gen.frame m ρ

theorem frame_ref : Cert.quiescent_Reference16Ideal := fun m ρ _ =>
  (θ_run Cert.Reference16Ideal.defs _ _).mono (fun r h => ⟨fun c => (h c).2, sem_eq_zero_of_no_sems (by decide) r.2⟩) (Cert.Reference16Ideal.Value.run m ρ)

end Cert.Proof.Norm

end
-- ==== Proof.Gate.lean ====
module

public import proofs.«01_k».proof.Defs
public import proofs.«01_k».proof.Proof.Product
public import proofs.«01_k».proof.Proof.Gen.Kernel17Ideal.Value
public import proofs.«01_k».proof.Proof.Gen.Reference17Ideal.Run
public import proofs.«01_k».proof.Proof.Gen.Kernel17.Frame
public import Idealize.ShloMosaic.Lib.Claim
public import Idealize.ShloMosaic.Lib.Pipeline.ValueKit

@[expose] public section

set_option maxRecDepth 16384

noncomputable section

namespace Cert.Proof.Gate

open Cert.Kernel17Ideal Cert.Kernel17Ideal.Gen Cert.Kernel17Ideal.Value Cert.Proof.Product
open Idealize.ShloMosaic Idealize.ShloMosaic.TcCoe Idealize.ShloMosaic.Pipeline Idealize.SL.Sem

/-- The gates' inputs stand in the columns from 6144 and from 8192 of the projections. -/
theorem lo_eq (x : Fin 4128) (y : Fin 2048) : inIdx4_0 (ix2 x y) = ix2 x (⟨6144 + y.val, by omega⟩ : Fin 12288) := by
  funext a
  match a with
  | ⟨0, _⟩ => rfl
  | ⟨1, _⟩ => exact Fin.ext (Nat.add_comm _ _)

theorem hi_eq (x : Fin 4128) (y : Fin 2048) : inIdx4_1 (ix2 x y) = ix2 x (⟨6144 + (2048 + y.val), by omega⟩ : Fin 12288) := by
  funext a
  match a with
  | ⟨0, _⟩ => rfl
  | ⟨1, _⟩ => exact Fin.ext (show y.val + 8192 = 6144 + (2048 + y.val) by omega)

/-- The gated mix is the kernel's closed form, read at an index. -/
theorem algebraic : Cert.algebraic_Kernel17Ideal_Reference17Ideal := by
  intro m ρ m' ρ' _ hag
  refine ⟨_, run m ρ, (θ_run Cert.Reference17Ideal.defs _ _).mono (fun r h c => ⟨(h c).1.trans ?_, (h c).2⟩) (Cert.Reference17Ideal.Value.run m' ρ')⟩
  rw [(hag c).1, (hag c).2.1, (hag c).2.2]
  refine ext2 fun x y => ?_
  pointwise
  rw [lo_eq, hi_eq]
  rfl

/-- The kernel, as it stands and over the extended reals, and the reference keep their arguments and end with every counter at zero. -/
theorem frame_kernel : Cert.quiescent_Kernel17 := fun m ρ _ => Cert.Kernel17.Gen.frame m ρ

theorem frame_kernelIdeal : Cert.quiescent_Kernel17Ideal := fun m ρ _ => Cert.Kernel17Ideal.Gen.frame m ρ

theorem frame_ref : Cert.quiescent_Reference17Ideal := fun m ρ _ =>
  (θ_run Cert.Reference17Ideal.defs _ _).mono (fun r h => ⟨fun c => (h c).2, sem_eq_zero_of_no_sems (by decide) r.2⟩) (Cert.Reference17Ideal.Value.run m ρ)

end Cert.Proof.Gate

end
-- ==== Proof.MlaWeights.lean ====
module

public import proofs.«01_k».proof.Defs
public import proofs.«01_k».proof.Proof.Product
public import proofs.«01_k».proof.Proof.Gen.Kernel18Ideal.Value
public import proofs.«01_k».proof.Proof.Gen.Reference18Ideal.Run
public import proofs.«01_k».proof.Proof.Gen.Kernel18.Frame
public import proofs.«01_k».proof.Proof.Gen.Kernel19Ideal.Value
public import proofs.«01_k».proof.Proof.Gen.Reference19Ideal.Run
public import proofs.«01_k».proof.Proof.Gen.Kernel19.Frame
public import Idealize.ShloMosaic.Lib.Claim
public import Idealize.ShloMosaic.Lib.Pipeline.ValueKit

@[expose] public section

set_option maxRecDepth 16384

noncomputable section

namespace Cert.Proof.Wq

open Cert.Kernel18Ideal Cert.Kernel18Ideal.Gen Cert.Kernel18Ideal.Value Cert.Proof.Product
open Idealize.ShloMosaic Idealize.ShloMosaic.TcCoe Idealize.ShloMosaic.Pipeline Idealize.SL.Sem

/-! ## The gradient of the query weights, over the real tokens -/

variable (m : (ℓ : Loc nD τ sig) → Buf (Elt Ideal) ℓ) (c : Dev nD)

/-- The arguments. -/
abbrev A (m : (ℓ : Loc nD τ sig) → Buf (Elt Ideal) ℓ) (c : Dev nD) : FVec Ideal S4096x512 .bf16 := m ((c : Thread nD τ).loc main_arg0)
abbrev B (m : (ℓ : Loc nD τ sig) → Buf (Elt Ideal) ℓ) (c : Dev nD) : FVec Ideal S4096x2048 .bf16 := m ((c : Thread nD τ).loc main_arg1)

theorem idx0 : ∀ t : Fin cfg0.N, win0_0.index t = ![t.val % 4, t.val / 8] := (by decide +kernel : ∀ t : Fin grid0.N, win0_0.index t = ![t.val % 4, t.val / 8])
theorem idx1 : ∀ t : Fin cfg0.N, win0_1.index t = ![t.val % 4, t.val / 4 % 2] := (by decide +kernel : ∀ t : Fin grid0.N, win0_1.index t = ![t.val % 4, t.val / 4 % 2])

theorem blk0 (t : Fin cfg0.N) (x : Fin 1024) (y : Fin 512) (r : Fin 4096) (s : Fin 512) (hr : r.val = t.val % 4 * 1024 + x.val) (hs : s.val = t.val / 8 * 512 + y.val) :
    (iblk m c 0 t : FVec Ideal S1024x512 .bf16) (ix2 x y) = A m c (ix2 r s) := by
  unfold iblk
  rw [View.read_apply]
  refine congrArg (A m c) ?_
  blk_ext [idx0 t]

theorem blk1 (t : Fin cfg0.N) (x : Fin 1024) (y : Fin 1024) (r : Fin 4096) (s : Fin 2048) (hr : r.val = t.val % 4 * 1024 + x.val) (hs : s.val = t.val / 4 % 2 * 1024 + y.val) :
    (iblk m c 1 t : FVec Ideal S1024x1024 .bf16) (ix2 x y) = B m c (ix2 r s) := by
  unfold iblk
  rw [View.read_apply]
  refine congrArg (B m c) ?_
  blk_ext [idx1 t]

theorem pay_at (u : Vec Ideal S1024x512 .bf16) (v : Vec Ideal S1024x1024 .bf16) (acc : Vec Ideal S512x1024 .f32) (x : Fin 512) (y : Fin 1024) :
    (k0_pay2 u v acc (ix2 x y) : EReal) = acc (ix2 x y) + ∑ k : Fin 1024, (u (ix2 k x) * v (ix2 k y) : EReal) := by
  unfold k0_pay2
  pointwise

theorem loc_eq (x : Fin 512) (y : Fin 2048) : loc2Of (ix2 x y) = ix2 (⟨x.val % 512, by omega⟩ : Fin 512) (⟨y.val % 1024, by omega⟩ : Fin 1024) := eq_ix2 rfl rfl

/-- What the kernel leaves at an index: the sum over the contracted axis. -/
theorem G_at (x : Fin 512) (y : Fin 2048) :
    (G2 m c (ix2 x y) : EReal) = ∑ q : Fin 4096, (A m c (ix2 q x) * B m c (ix2 q y) : EReal) := by
  have hN : cfg0.N = 8 := N_0
  have hr : run2Of (ix2 x y) = 2 * (x.val / 512) + y.val / 1024 := by
    show 2 * (x.val / 512 - 0) + 1 * (y.val / 1024 - 0) = _
    omega
  unfold G2
  rw [dif_pos (by omega), loc_eq]
  exact (run_prod (J := 4) (T := 1024) (K := 4096) rfl (by decide) (reset2 m c) (step2 m c) (4 * run2Of (ix2 x y)) _ 0 (fun q => A m c (ix2 q x)) (fun q => B m c (ix2 q y))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 3 rfl _).trans (zero_add _)

/-- The two programs compute the same array. -/
theorem algebraic : Cert.algebraic_Kernel18Ideal_Reference18Ideal := by
  intro m ρ m' ρ' _ hag
  refine ⟨fun c => G2 m c, run m ρ, (θ_run Cert.Reference18Ideal.defs _ _).mono (fun r h c => ⟨(h c).1.trans ?_, (h c).2⟩) (Cert.Reference18Ideal.Value.run m' ρ')⟩
  rw [(hag c).1, (hag c).2]
  refine ext2 fun x y => Eq.trans ?_ (G_at m c x y).symm
  pointwise
  exact Finset.sum_congr rfl fun q _ => mul_comm _ _

/-- The kernel, as it stands and over the extended reals, and the reference keep their arguments and end with every counter at zero. -/
theorem frame_kernel : Cert.quiescent_Kernel18 := fun m ρ _ => Cert.Kernel18.Gen.frame m ρ

theorem frame_kernelIdeal : Cert.quiescent_Kernel18Ideal := fun m ρ _ => Cert.Kernel18Ideal.Gen.frame m ρ

theorem frame_ref : Cert.quiescent_Reference18Ideal := fun m ρ _ =>
  (θ_run Cert.Reference18Ideal.defs _ _).mono (fun r h => ⟨fun c => (h c).2, sem_eq_zero_of_no_sems (by decide) r.2⟩) (Cert.Reference18Ideal.Value.run m ρ)

end Cert.Proof.Wq

namespace Cert.Proof.Wkv

open Cert.Kernel19Ideal Cert.Kernel19Ideal.Gen Cert.Kernel19Ideal.Value Cert.Proof.Product
open Idealize.ShloMosaic Idealize.ShloMosaic.TcCoe Idealize.ShloMosaic.Pipeline Idealize.SL.Sem

/-! ## The gradient of the key and value weights, over all tokens -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x512 .bf16 := m ((c : Thread nD τ).loc main_arg0)
abbrev B (m : (ℓ : Loc nD τ sig) → Buf (Elt Ideal) ℓ) (c : Dev nD) : FVec Ideal S4128x2048 .bf16 := m ((c : Thread nD τ).loc main_arg1)

theorem idx0 : ∀ t : Fin cfg0.N, win0_0.index t = ![t.val % 6, t.val / 12] := (by decide +kernel : ∀ t : Fin grid0.N, win0_0.index t = ![t.val % 6, t.val / 12])
theorem idx1 : ∀ t : Fin cfg0.N, win0_1.index t = ![t.val % 6, t.val / 6 % 2] := (by decide +kernel : ∀ t : Fin grid0.N, win0_1.index t = ![t.val % 6, t.val / 6 % 2])

theorem blk0 (t : Fin cfg0.N) (x : Fin 688) (y : Fin 512) (r : Fin 4128) (s : Fin 512) (hr : r.val = t.val % 6 * 688 + x.val) (hs : s.val = t.val / 12 * 512 + y.val) :
    (iblk m c 0 t : FVec Ideal S688x512 .bf16) (ix2 x y) = A m c (ix2 r s) := by
  unfold iblk
  rw [View.read_apply]
  refine congrArg (A m c) ?_
  blk_ext [idx0 t]

theorem blk1 (t : Fin cfg0.N) (x : Fin 688) (y : Fin 1024) (r : Fin 4128) (s : Fin 2048) (hr : r.val = t.val % 6 * 688 + x.val) (hs : s.val = t.val / 6 % 2 * 1024 + y.val) :
    (iblk m c 1 t : FVec Ideal S688x1024 .bf16) (ix2 x y) = B m c (ix2 r s) := by
  unfold iblk
  rw [View.read_apply]
  refine congrArg (B m c) ?_
  blk_ext [idx1 t]

theorem pay_at (u : Vec Ideal S688x512 .bf16) (v : Vec Ideal S688x1024 .bf16) (acc : Vec Ideal S512x1024 .f32) (x : Fin 512) (y : Fin 1024) :
    (k0_pay2 u v acc (ix2 x y) : EReal) = acc (ix2 x y) + ∑ k : Fin 688, (u (ix2 k x) * v (ix2 k y) : EReal) := by
  unfold k0_pay2
  pointwise

theorem loc_eq (x : Fin 512) (y : Fin 2048) : loc2Of (ix2 x y) = ix2 (⟨x.val % 512, by omega⟩ : Fin 512) (⟨y.val % 1024, by omega⟩ : Fin 1024) := eq_ix2 rfl rfl

/-- What the kernel leaves at an index: the sum over the contracted axis. -/
theorem G_at (x : Fin 512) (y : Fin 2048) :
    (G2 m c (ix2 x y) : EReal) = ∑ q : Fin 4128, (A m c (ix2 q x) * B m c (ix2 q y) : EReal) := by
  have hN : cfg0.N = 12 := N_0
  have hr : run2Of (ix2 x y) = 2 * (x.val / 512) + y.val / 1024 := by
    show 2 * (x.val / 512 - 0) + 1 * (y.val / 1024 - 0) = _
    omega
  unfold G2
  rw [dif_pos (by omega), loc_eq]
  exact (run_prod (J := 6) (T := 688) (K := 4128) rfl (by decide) (reset2 m c) (step2 m c) (6 * run2Of (ix2 x y)) _ 0 (fun q => A m c (ix2 q x)) (fun q => B m c (ix2 q y))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 5 rfl _).trans (zero_add _)

/-- The two programs compute the same array. -/
theorem algebraic : Cert.algebraic_Kernel19Ideal_Reference19Ideal := by
  intro m ρ m' ρ' _ hag
  refine ⟨fun c => G2 m c, run m ρ, (θ_run Cert.Reference19Ideal.defs _ _).mono (fun r h c => ⟨(h c).1.trans ?_, (h c).2⟩) (Cert.Reference19Ideal.Value.run m' ρ')⟩
  rw [(hag c).1, (hag c).2]
  refine ext2 fun x y => Eq.trans ?_ (G_at m c x y).symm
  pointwise
  exact Finset.sum_congr rfl fun q _ => mul_comm _ _

/-- The kernel, as it stands and over the extended reals, and the reference keep their arguments and end with every counter at zero. -/
theorem frame_kernel : Cert.quiescent_Kernel19 := fun m ρ _ => Cert.Kernel19.Gen.frame m ρ

theorem frame_kernelIdeal : Cert.quiescent_Kernel19Ideal := fun m ρ _ => Cert.Kernel19Ideal.Gen.frame m ρ

theorem frame_ref : Cert.quiescent_Reference19Ideal := fun m ρ _ =>
  (θ_run Cert.Reference19Ideal.defs _ _).mono (fun r h => ⟨fun c => (h c).2, sem_eq_zero_of_no_sems (by decide) r.2⟩) (Cert.Reference19Ideal.Value.run m ρ)

end Cert.Proof.Wkv

end
-- ==== Proof.MlaQuery.lean ====
module

public import proofs.«01_k».proof.Defs
public import proofs.«01_k».proof.Proof.Product
public import proofs.«01_k».proof.Proof.Gen.Kernel20Ideal.Value
public import proofs.«01_k».proof.Proof.Gen.Reference20Ideal.Run
public import proofs.«01_k».proof.Proof.Gen.Kernel20.Frame
public import proofs.«01_k».proof.Proof.Gen.Kernel21Ideal.Value
public import proofs.«01_k».proof.Proof.Gen.Reference21Ideal.Run
public import proofs.«01_k».proof.Proof.Gen.Kernel21.Frame
public import Idealize.ShloMosaic.Lib.Claim
public import Idealize.ShloMosaic.Lib.Pipeline.ValueKit

@[expose] public section

set_option maxRecDepth 16384

noncomputable section

namespace Cert.Proof.Cq

open Cert.Kernel20Ideal Cert.Kernel20Ideal.Gen Cert.Kernel20Ideal.Value Cert.Proof.Product
open Idealize.ShloMosaic Idealize.ShloMosaic.TcCoe Idealize.ShloMosaic.Pipeline Idealize.SL.Sem

/-! ## The gradient of the query input, through half of the columns -/

variable (m : (ℓ : Loc nD τ sig) → Buf (Elt Ideal) ℓ) (c : Dev nD)

/-- The arguments. -/
abbrev A (m : (ℓ : Loc nD τ sig) → Buf (Elt Ideal) ℓ) (c : Dev nD) : FVec Ideal S4096x2048 .bf16 := m ((c : Thread nD τ).loc main_arg0)
abbrev B (m : (ℓ : Loc nD τ sig) → Buf (Elt Ideal) ℓ) (c : Dev nD) : FVec Ideal S512x2048 .bf16 := m ((c : Thread nD τ).loc main_arg1)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2 % 1, t.val % 2] := (by decide +kernel : ∀ t : Fin grid0.N, win0_1.index t = ![t.val / 2 % 1, t.val % 2])

theorem blk0 (t : Fin cfg0.N) (x : Fin 1024) (y : Fin 1024) (r : Fin 4096) (s : Fin 2048) (hr : r.val = t.val / 2 * 1024 + x.val) (hs : s.val = t.val % 2 * 1024 + y.val) :
    (iblk m c 0 t : FVec Ideal S1024x1024 .bf16) (ix2 x y) = A m c (ix2 r s) := by
  unfold iblk
  rw [View.read_apply]
  refine congrArg (A m c) ?_
  blk_ext [idx0 t]

theorem blk1 (t : Fin cfg0.N) (x : Fin 512) (y : Fin 1024) (r : Fin 512) (s : Fin 2048) (hr : r.val = t.val / 2 % 1 * 512 + x.val) (hs : s.val = t.val % 2 * 1024 + y.val) :
    (iblk m c 1 t : FVec Ideal S512x1024 .bf16) (ix2 x y) = B m c (ix2 r s) := by
  unfold iblk
  rw [View.read_apply]
  refine congrArg (B m c) ?_
  blk_ext [idx1 t]

theorem pay_at (u : Vec Ideal S1024x1024 .bf16) (v : Vec Ideal S512x1024 .bf16) (acc : Vec Ideal S1024x512 .f32) (x : Fin 1024) (y : Fin 512) :
    (k0_pay2 u v acc (ix2 x y) : EReal) = acc (ix2 x y) + ∑ k : Fin 1024, (u (ix2 x k) * v (ix2 y k) : EReal) := by
  unfold k0_pay2
  pointwise

theorem loc_eq (x : Fin 4096) (y : Fin 512) : loc2Of (ix2 x y) = ix2 (⟨x.val % 1024, by omega⟩ : Fin 1024) (⟨y.val % 512, by omega⟩ : Fin 512) := eq_ix2 rfl rfl

/-- What the kernel leaves at an index: the sum over the contracted axis. -/
theorem G_at (x : Fin 4096) (y : Fin 512) :
    (G2 m c (ix2 x y) : EReal) = ∑ q : Fin 2048, (A m c (ix2 x q) * B m c (ix2 y q) : EReal) := by
  have hN : cfg0.N = 8 := N_0
  have hr : run2Of (ix2 x y) = 1 * (x.val / 1024) + y.val / 512 := by
    show 1 * (x.val / 1024 - 0) + 1 * (y.val / 512 - 0) = _
    omega
  unfold G2
  rw [dif_pos (by omega), loc_eq]
  exact (run_prod (J := 2) (T := 1024) (K := 2048) rfl (by decide) (reset2 m c) (step2 m c) (2 * run2Of (ix2 x y)) _ 0 (fun q => A m c (ix2 x q)) (fun q => B m c (ix2 y q))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 1 rfl _).trans (zero_add _)

/-- The two programs compute the same array. -/
theorem algebraic : Cert.algebraic_Kernel20Ideal_Reference20Ideal := by
  intro m ρ m' ρ' _ hag
  refine ⟨fun c => G2 m c, run m ρ, (θ_run Cert.Reference20Ideal.defs _ _).mono (fun r h c => ⟨(h c).1.trans ?_, (h c).2⟩) (Cert.Reference20Ideal.Value.run m' ρ')⟩
  rw [(hag c).1, (hag c).2]
  refine ext2 fun x y => Eq.trans ?_ (G_at m c x y).symm
  pointwise

/-- The kernel, as it stands and over the extended reals, and the reference keep their arguments and end with every counter at zero. -/
theorem frame_kernel : Cert.quiescent_Kernel20 := fun m ρ _ => Cert.Kernel20.Gen.frame m ρ

theorem frame_kernelIdeal : Cert.quiescent_Kernel20Ideal := fun m ρ _ => Cert.Kernel20Ideal.Gen.frame m ρ

theorem frame_ref : Cert.quiescent_Reference20Ideal := fun m ρ _ =>
  (θ_run Cert.Reference20Ideal.defs _ _).mono (fun r h => ⟨fun c => (h c).2, sem_eq_zero_of_no_sems (by decide) r.2⟩) (Cert.Reference20Ideal.Value.run m ρ)

end Cert.Proof.Cq

namespace Cert.Proof.CqSum

open Cert.Kernel21Ideal Cert.Kernel21Ideal.Gen Cert.Kernel21Ideal.Value Cert.Proof.Product
open Idealize.ShloMosaic Idealize.ShloMosaic.TcCoe Idealize.ShloMosaic.Pipeline Idealize.SL.Sem

/-! ## The same through the other half, added to the former -/

variable (m : (ℓ : Loc nD τ sig) → Buf (Elt Ideal) ℓ) (c : Dev nD)

/-- The arguments. -/
abbrev A (m : (ℓ : Loc nD τ sig) → Buf (Elt Ideal) ℓ) (c : Dev nD) : FVec Ideal S4096x2048 .bf16 := m ((c : Thread nD τ).loc main_arg0)
abbrev B (m : (ℓ : Loc nD τ sig) → Buf (Elt Ideal) ℓ) (c : Dev nD) : FVec Ideal S512x2048 .bf16 := m ((c : Thread nD τ).loc main_arg1)
abbrev C (m : (ℓ : Loc nD τ sig) → Buf (Elt Ideal) ℓ) (c : Dev nD) : FVec Ideal S4096x512 .f32 := m ((c : Thread nD τ).loc main_arg2)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2 % 1, t.val % 2] := (by decide +kernel : ∀ t : Fin grid0.N, win0_1.index t = ![t.val / 2 % 1, t.val % 2])
theorem idx2 : ∀ t : Fin cfg0.N, win0_2.index t = ![t.val / 2, t.val / 2 % 1] := (by decide +kernel : ∀ t : Fin grid0.N, win0_2.index t = ![t.val / 2, t.val / 2 % 1])

theorem blk0 (t : Fin cfg0.N) (x : Fin 1024) (y : Fin 1024) (r : Fin 4096) (s : Fin 2048) (hr : r.val = t.val / 2 * 1024 + x.val) (hs : s.val = t.val % 2 * 1024 + y.val) :
    (iblk m c 0 t : FVec Ideal S1024x1024 .bf16) (ix2 x y) = A m c (ix2 r s) := by
  unfold iblk
  rw [View.read_apply]
  refine congrArg (A m c) ?_
  blk_ext [idx0 t]

theorem blk1 (t : Fin cfg0.N) (x : Fin 512) (y : Fin 1024) (r : Fin 512) (s : Fin 2048) (hr : r.val = t.val / 2 % 1 * 512 + x.val) (hs : s.val = t.val % 2 * 1024 + y.val) :
    (iblk m c 1 t : FVec Ideal S512x1024 .bf16) (ix2 x y) = B m c (ix2 r s) := by
  unfold iblk
  rw [View.read_apply]
  refine congrArg (B m c) ?_
  blk_ext [idx1 t]

theorem blk2 (t : Fin cfg0.N) (x : Fin 1024) (y : Fin 512) (r : Fin 4096) (s : Fin 512) (hr : r.val = t.val / 2 * 1024 + x.val) (hs : s.val = t.val / 2 % 1 * 512 + y.val) :
    ((iblk m c 2 t : FVec Ideal S1024x512 .f32) (ix2 x y) : EReal) = C m c (ix2 r s) := by
  unfold iblk
  rw [View.read_apply]
  refine congrArg (C m c) ?_
  blk_ext [idx2 t]

theorem pay_at (u : Vec Ideal S1024x1024 .bf16) (v : Vec Ideal S512x1024 .bf16) (acc : Vec Ideal S1024x512 .f32) (x : Fin 1024) (y : Fin 512) :
    (k0_pay1 u v acc (ix2 x y) : EReal) = acc (ix2 x y) + ∑ k : Fin 1024, (u (ix2 x k) * v (ix2 y k) : EReal) := by
  unfold k0_pay1
  pointwise

theorem loc_eq (x : Fin 4096) (y : Fin 512) : loc3Of (ix2 x y) = ix2 (⟨x.val % 1024, by omega⟩ : Fin 1024) (⟨y.val % 512, by omega⟩ : Fin 512) := eq_ix2 rfl rfl

/-- What the kernel leaves at an index: the third argument and the sum over the contracted axis. -/
theorem G_at (x : Fin 4096) (y : Fin 512) :
    (G3 m c (ix2 x y) : EReal) = C m c (ix2 x y) + ∑ q : Fin 2048, (A m c (ix2 x q) * B m c (ix2 y q) : EReal) := by
  have hN : cfg0.N = 8 := N_0
  have hr : run3Of (ix2 x y) = 1 * (x.val / 1024) + y.val / 512 := by
    show 1 * (x.val / 1024 - 0) + 1 * (y.val / 512 - 0) = _
    omega
  unfold G3
  rw [dif_pos (by omega), loc_eq]
  exact run_prod (J := 2) (T := 1024) (K := 2048) rfl (by decide) (reset3 m c) (step3 m c) (2 * run3Of (ix2 x y)) _ (C m c (ix2 x y)) (fun q => A m c (ix2 x q)) (fun q => B m c (ix2 y q))
    (fun n h acc => pay_at _ _ acc _ _) (fun h => (pay_at _ _ _ _ _).trans (congrArg (· + _) (blk2 m c _ _ _ _ _ (by dsimp only; omega) (by dsimp only; omega))))
    (fun s hs h k => blk0 m c _ _ _ _ _ (by dsimp only; omega) (by dsimp only; omega)) (fun s hs h k => blk1 m c _ _ _ _ _ (by dsimp only; omega) (by dsimp only; omega)) 1 rfl _

/-- The two programs compute the same array. -/
theorem algebraic : Cert.algebraic_Kernel21Ideal_Reference21Ideal := by
  intro m ρ m' ρ' _ hag
  refine ⟨fun c => G3 m c, run m ρ, (θ_run Cert.Reference21Ideal.defs _ _).mono (fun r h c => ⟨(h c).1.trans ?_, (h c).2⟩) (Cert.Reference21Ideal.Value.run m' ρ')⟩
  rw [(hag c).1, (hag c).2.1, (hag c).2.2]
  refine ext2 fun x y => Eq.trans ?_ (G_at m c x y).symm
  pointwise

/-- The kernel, as it stands and over the extended reals, and the reference keep their arguments and end with every counter at zero. -/
theorem frame_kernel : Cert.quiescent_Kernel21 := fun m ρ _ => Cert.Kernel21.Gen.frame m ρ

theorem frame_kernelIdeal : Cert.quiescent_Kernel21Ideal := fun m ρ _ => Cert.Kernel21Ideal.Gen.frame m ρ

theorem frame_ref : Cert.quiescent_Reference21Ideal := fun m ρ _ =>
  (θ_run Cert.Reference21Ideal.defs _ _).mono (fun r h => ⟨fun c => (h c).2, sem_eq_zero_of_no_sems (by decide) r.2⟩) (Cert.Reference21Ideal.Value.run m ρ)

end Cert.Proof.CqSum

end
-- ==== Proof.MlaKey.lean ====
module

public import proofs.«01_k».proof.Defs
public import proofs.«01_k».proof.Proof.Product
public import proofs.«01_k».proof.Proof.Gen.Kernel22Ideal.Value
public import proofs.«01_k».proof.Proof.Gen.Reference22Ideal.Run
public import proofs.«01_k».proof.Proof.Gen.Kernel22.Frame
public import proofs.«01_k».proof.Proof.Gen.Kernel23Ideal.Value
public import proofs.«01_k».proof.Proof.Gen.Reference23Ideal.Run
public import proofs.«01_k».proof.Proof.Gen.Kernel23.Frame
public import Idealize.ShloMosaic.Lib.Claim
public import Idealize.ShloMosaic.Lib.Pipeline.ValueKit

@[expose] public section

set_option maxRecDepth 16384

noncomputable section

namespace Cert.Proof.Ckv

open Cert.Kernel22Ideal Cert.Kernel22Ideal.Gen Cert.Kernel22Ideal.Value Cert.Proof.Product
open Idealize.ShloMosaic Idealize.ShloMosaic.TcCoe Idealize.ShloMosaic.Pipeline Idealize.SL.Sem

/-! ## The gradient of the key and value input, through the keys -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S512x2048 .bf16 := m ((c : Thread nD τ).loc main_arg1)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2 % 1, t.val % 2] := (by decide +kernel : ∀ t : Fin grid0.N, win0_1.index t = ![t.val / 2 % 1, t.val % 2])

theorem blk0 (t : Fin cfg0.N) (x : Fin 1376) (y : Fin 1024) (r : Fin 4128) (s : Fin 2048) (hr : r.val = t.val / 2 * 1376 + x.val) (hs : s.val = t.val % 2 * 1024 + y.val) :
    (iblk m c 0 t : FVec Ideal S1376x1024 .bf16) (ix2 x y) = A m c (ix2 r s) := by
  unfold iblk
  rw [View.read_apply]
  refine congrArg (A m c) ?_
  blk_ext [idx0 t]

theorem blk1 (t : Fin cfg0.N) (x : Fin 512) (y : Fin 1024) (r : Fin 512) (s : Fin 2048) (hr : r.val = t.val / 2 % 1 * 512 + x.val) (hs : s.val = t.val % 2 * 1024 + y.val) :
    (iblk m c 1 t : FVec Ideal S512x1024 .bf16) (ix2 x y) = B m c (ix2 r s) := by
  unfold iblk
  rw [View.read_apply]
  refine congrArg (B m c) ?_
  blk_ext [idx1 t]

theorem pay_at (u : Vec Ideal S1376x1024 .bf16) (v : Vec Ideal S512x1024 .bf16) (acc : Vec Ideal S1376x512 .f32) (x : Fin 1376) (y : Fin 512) :
    (k0_pay2 u v acc (ix2 x y) : EReal) = acc (ix2 x y) + ∑ k : Fin 1024, (u (ix2 x k) * v (ix2 y k) : EReal) := by
  unfold k0_pay2
  pointwise

theorem loc_eq (x : Fin 4128) (y : Fin 512) : loc2Of (ix2 x y) = ix2 (⟨x.val % 1376, by omega⟩ : Fin 1376) (⟨y.val % 512, by omega⟩ : Fin 512) := eq_ix2 rfl rfl

/-- What the kernel leaves at an index: the sum over the contracted axis. -/
theorem G_at (x : Fin 4128) (y : Fin 512) :
    (G2 m c (ix2 x y) : EReal) = ∑ q : Fin 2048, (A m c (ix2 x q) * B m c (ix2 y q) : EReal) := by
  have hN : cfg0.N = 6 := N_0
  have hr : run2Of (ix2 x y) = 1 * (x.val / 1376) + y.val / 512 := by
    show 1 * (x.val / 1376 - 0) + 1 * (y.val / 512 - 0) = _
    omega
  unfold G2
  rw [dif_pos (by omega), loc_eq]
  exact (run_prod (J := 2) (T := 1024) (K := 2048) rfl (by decide) (reset2 m c) (step2 m c) (2 * run2Of (ix2 x y)) _ 0 (fun q => A m c (ix2 x q)) (fun q => B m c (ix2 y q))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 1 rfl _).trans (zero_add _)

/-- The two programs compute the same array. -/
theorem algebraic : Cert.algebraic_Kernel22Ideal_Reference22Ideal := by
  intro m ρ m' ρ' _ hag
  refine ⟨fun c => G2 m c, run m ρ, (θ_run Cert.Reference22Ideal.defs _ _).mono (fun r h c => ⟨(h c).1.trans ?_, (h c).2⟩) (Cert.Reference22Ideal.Value.run m' ρ')⟩
  rw [(hag c).1, (hag c).2]
  refine ext2 fun x y => Eq.trans ?_ (G_at m c x y).symm
  pointwise

/-- The kernel, as it stands and over the extended reals, and the reference keep their arguments and end with every counter at zero. -/
theorem frame_kernel : Cert.quiescent_Kernel22 := fun m ρ _ => Cert.Kernel22.Gen.frame m ρ

theorem frame_kernelIdeal : Cert.quiescent_Kernel22Ideal := fun m ρ _ => Cert.Kernel22Ideal.Gen.frame m ρ

theorem frame_ref : Cert.quiescent_Reference22Ideal := fun m ρ _ =>
  (θ_run Cert.Reference22Ideal.defs _ _).mono (fun r h => ⟨fun c => (h c).2, sem_eq_zero_of_no_sems (by decide) r.2⟩) (Cert.Reference22Ideal.Value.run m ρ)

end Cert.Proof.Ckv

namespace Cert.Proof.CkvSum

open Cert.Kernel23Ideal Cert.Kernel23Ideal.Gen Cert.Kernel23Ideal.Value Cert.Proof.Product
open Idealize.ShloMosaic Idealize.ShloMosaic.TcCoe Idealize.ShloMosaic.Pipeline Idealize.SL.Sem

/-! ## The same through the values, added to the former -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S512x2048 .bf16 := m ((c : Thread nD τ).loc main_arg1)
abbrev C (m : (ℓ : Loc nD τ sig) → Buf (Elt Ideal) ℓ) (c : Dev nD) : FVec Ideal S4128x512 .f32 := m ((c : Thread nD τ).loc main_arg2)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2 % 1, t.val % 2] := (by decide +kernel : ∀ t : Fin grid0.N, win0_1.index t = ![t.val / 2 % 1, t.val % 2])
theorem idx2 : ∀ t : Fin cfg0.N, win0_2.index t = ![t.val / 2, t.val / 2 % 1] := (by decide +kernel : ∀ t : Fin grid0.N, win0_2.index t = ![t.val / 2, t.val / 2 % 1])

theorem blk0 (t : Fin cfg0.N) (x : Fin 1376) (y : Fin 1024) (r : Fin 4128) (s : Fin 2048) (hr : r.val = t.val / 2 * 1376 + x.val) (hs : s.val = t.val % 2 * 1024 + y.val) :
    (iblk m c 0 t : FVec Ideal S1376x1024 .bf16) (ix2 x y) = A m c (ix2 r s) := by
  unfold iblk
  rw [View.read_apply]
  refine congrArg (A m c) ?_
  blk_ext [idx0 t]

theorem blk1 (t : Fin cfg0.N) (x : Fin 512) (y : Fin 1024) (r : Fin 512) (s : Fin 2048) (hr : r.val = t.val / 2 % 1 * 512 + x.val) (hs : s.val = t.val % 2 * 1024 + y.val) :
    (iblk m c 1 t : FVec Ideal S512x1024 .bf16) (ix2 x y) = B m c (ix2 r s) := by
  unfold iblk
  rw [View.read_apply]
  refine congrArg (B m c) ?_
  blk_ext [idx1 t]

theorem blk2 (t : Fin cfg0.N) (x : Fin 1376) (y : Fin 512) (r : Fin 4128) (s : Fin 512) (hr : r.val = t.val / 2 * 1376 + x.val) (hs : s.val = t.val / 2 % 1 * 512 + y.val) :
    ((iblk m c 2 t : FVec Ideal S1376x512 .f32) (ix2 x y) : EReal) = C m c (ix2 r s) := by
  unfold iblk
  rw [View.read_apply]
  refine congrArg (C m c) ?_
  blk_ext [idx2 t]

theorem pay_at (u : Vec Ideal S1376x1024 .bf16) (v : Vec Ideal S512x1024 .bf16) (acc : Vec Ideal S1376x512 .f32) (x : Fin 1376) (y : Fin 512) :
    (k0_pay1 u v acc (ix2 x y) : EReal) = acc (ix2 x y) + ∑ k : Fin 1024, (u (ix2 x k) * v (ix2 y k) : EReal) := by
  unfold k0_pay1
  pointwise

theorem loc_eq (x : Fin 4128) (y : Fin 512) : loc3Of (ix2 x y) = ix2 (⟨x.val % 1376, by omega⟩ : Fin 1376) (⟨y.val % 512, by omega⟩ : Fin 512) := eq_ix2 rfl rfl

/-- What the kernel leaves at an index: the third argument and the sum over the contracted axis. -/
theorem G_at (x : Fin 4128) (y : Fin 512) :
    (G3 m c (ix2 x y) : EReal) = C m c (ix2 x y) + ∑ q : Fin 2048, (A m c (ix2 x q) * B m c (ix2 y q) : EReal) := by
  have hN : cfg0.N = 6 := N_0
  have hr : run3Of (ix2 x y) = 1 * (x.val / 1376) + y.val / 512 := by
    show 1 * (x.val / 1376 - 0) + 1 * (y.val / 512 - 0) = _
    omega
  unfold G3
  rw [dif_pos (by omega), loc_eq]
  exact run_prod (J := 2) (T := 1024) (K := 2048) rfl (by decide) (reset3 m c) (step3 m c) (2 * run3Of (ix2 x y)) _ (C m c (ix2 x y)) (fun q => A m c (ix2 x q)) (fun q => B m c (ix2 y q))
    (fun n h acc => pay_at _ _ acc _ _) (fun h => (pay_at _ _ _ _ _).trans (congrArg (· + _) (blk2 m c _ _ _ _ _ (by dsimp only; omega) (by dsimp only; omega))))
    (fun s hs h k => blk0 m c _ _ _ _ _ (by dsimp only; omega) (by dsimp only; omega)) (fun s hs h k => blk1 m c _ _ _ _ _ (by dsimp only; omega) (by dsimp only; omega)) 1 rfl _

/-- The two programs compute the same array. -/
theorem algebraic : Cert.algebraic_Kernel23Ideal_Reference23Ideal := by
  intro m ρ m' ρ' _ hag
  refine ⟨fun c => G3 m c, run m ρ, (θ_run Cert.Reference23Ideal.defs _ _).mono (fun r h c => ⟨(h c).1.trans ?_, (h c).2⟩) (Cert.Reference23Ideal.Value.run m' ρ')⟩
  rw [(hag c).1, (hag c).2.1, (hag c).2.2]
  refine ext2 fun x y => Eq.trans ?_ (G_at m c x y).symm
  pointwise

/-- The kernel, as it stands and over the extended reals, and the reference keep their arguments and end with every counter at zero. -/
theorem frame_kernel : Cert.quiescent_Kernel23 := fun m ρ _ => Cert.Kernel23.Gen.frame m ρ

theorem frame_kernelIdeal : Cert.quiescent_Kernel23Ideal := fun m ρ _ => Cert.Kernel23Ideal.Gen.frame m ρ

theorem frame_ref : Cert.quiescent_Reference23Ideal := fun m ρ _ =>
  (θ_run Cert.Reference23Ideal.defs _ _).mono (fun r h => ⟨fun c => (h c).2, sem_eq_zero_of_no_sems (by decide) r.2⟩) (Cert.Reference23Ideal.Value.run m ρ)

end Cert.Proof.CkvSum

end
-- ==== Proof.MlaForward.lean ====
module

public import proofs.«01_k».proof.Defs
public import proofs.«01_k».proof.Proof.Product
public import proofs.«01_k».proof.Proof.Gen.Kernel24Ideal.Value
public import proofs.«01_k».proof.Proof.Gen.Reference24Ideal.Run
public import proofs.«01_k».proof.Proof.Gen.Kernel24.Frame
public import proofs.«01_k».proof.Proof.Gen.Kernel25Ideal.Value
public import proofs.«01_k».proof.Proof.Gen.Reference25Ideal.Run
public import proofs.«01_k».proof.Proof.Gen.Kernel25.Frame
public import proofs.«01_k».proof.Proof.Gen.Kernel26Ideal.Value
public import proofs.«01_k».proof.Proof.Gen.Reference26Ideal.Run
public import proofs.«01_k».proof.Proof.Gen.Kernel26.Frame
public import Idealize.ShloMosaic.Lib.Claim
public import Idealize.ShloMosaic.Lib.VecWindow
public import Idealize.ShloMosaic.Lib.Pipeline.ValueKit

@[expose] public section

set_option maxRecDepth 16384

noncomputable section

namespace Cert.Proof.QNope

open Cert.Kernel24Ideal Cert.Kernel24Ideal.Gen Cert.Kernel24Ideal.Value Cert.Proof.Product
open Idealize.ShloMosaic Idealize.ShloMosaic.TcCoe Idealize.ShloMosaic.Pipeline Idealize.SL.Sem

/-! ## The part of the queries without positions -/

variable (m : (ℓ : Loc nD τ sig) → Buf (Elt Ideal) ℓ) (c : Dev nD)

/-- The arguments. -/
abbrev A (m : (ℓ : Loc nD τ sig) → Buf (Elt Ideal) ℓ) (c : Dev nD) : FVec Ideal S4096x512 .bf16 := m ((c : Thread nD τ).loc main_arg0)
abbrev B (m : (ℓ : Loc nD τ sig) → Buf (Elt Ideal) ℓ) (c : Dev nD) : FVec Ideal S512x2048 .bf16 := m ((c : Thread nD τ).loc main_arg1)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

theorem blk0 (t : Fin cfg0.N) (x : Fin 1024) (y : Fin 512) (r : Fin 4096) (s : Fin 512) (hr : r.val = t.val / 2 * 1024 + x.val) (hs : s.val = 0 * 512 + y.val) :
    (iblk m c 0 t : FVec Ideal S1024x512 .bf16) (ix2 x y) = A m c (ix2 r s) := by
  unfold iblk
  rw [View.read_apply]
  refine congrArg (A m c) ?_
  blk_ext [idx0 t]

theorem blk1 (t : Fin cfg0.N) (x : Fin 512) (y : Fin 1024) (r : Fin 512) (s : Fin 2048) (hr : r.val = 0 * 512 + x.val) (hs : s.val = t.val % 2 * 1024 + y.val) :
    (iblk m c 1 t : FVec Ideal S512x1024 .bf16) (ix2 x y) = B m c (ix2 r s) := by
  unfold iblk
  rw [View.read_apply]
  refine congrArg (B m c) ?_
  blk_ext [idx1 t]

theorem emb2 (t : Fin cfg0.N) (x : Fin 1024) (y : Fin 1024) (r : Fin 4096) (s : Fin 2048) (hr : r.val = t.val / 2 * 1024 + x.val) (hs : s.val = t.val % 2 * 1024 + y.val) :
    ((cfg0.win 2).blk t).view.emb (ix2 x y : S1024x1024.Idx) = (ix2 r s : S4096x2048.Idx) := by
  blk_ext [idx2 t]

/-- One block of the result, at an index. -/
theorem pay_at (u : Vec Ideal S1024x512 .bf16) (v : Vec Ideal S512x1024 .bf16) (x : Fin 1024) (y : Fin 1024) :
    (k0_pay3 (k0_pay2 u v (k0_pay1 (F := Ideal))) (ix2 x y) : EReal) = ∑ k : Fin 512, (u (ix2 x k) * v (ix2 k y) : EReal) := by
  unfold k0_pay3 k0_pay2 k0_pay1
  pointwise

theorem out_eq (i : grid0.Coords) (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole) (hc0 : cond0_0 i) (hc1 : cond0_1 i)
    (u : Vec Ideal S1024x512 .bf16) (v : Vec Ideal S512x1024 .bf16) :
    out0_A_2 c i arg3 harg3 arg4 harg4 arg5 harg5 arg6 harg6 hc0 hc1 u v = k0_pay3 (k0_pay2 u v (k0_pay1 (F := Ideal))) := by
  unfold out0_A_2
  rw [View.read_writes_eq_canon _ _ _ (cover0_A_2 c i arg3 harg3 arg4 harg4 arg5 harg5 arg6 harg6 hc0 hc1 u v)]
  unfold kernelRun0_A
  dsimp only
  sl_unfold_words
  rw [View.canon_cons_unit_zero (S := S1024x1024) zero2]
  simp only [View.readCov_unit_zero (S := S1024x1024) _ zero2, View.readAt_eq_ld, harg3.read_unread, harg4.read_unread, View.ld_unit_zero (S := S1024x512) zero2, View.ld_unit_zero (S := S512x1024) zero2, shapeCast_self]
  exact congrArg k0_pay3 (View.readCov_full (s := S1024x1024) _ _ _ _ _)

/-- The product. -/
def G2 (m : (ℓ : Loc nD τ sig) → Buf (Elt Ideal) ℓ) (c : Dev nD) : FVec Ideal S4096x2048 .bf16 := fun i =>
  ∑ q : Fin 512, (A m c (ix2 (i 0) q) * B m c (ix2 q (i 1)) : EReal)

theorem final2 : (dats m 0 c).arrAt 2 cfg0.N = G2 m c := by
  have hN : cfg0.N = 8 := N_0
  refine (dats m 0 c).arrAt_eq_of_cover 2 _ (fun t _ => ?_) fun i => ?_
  · rw [flushed2_A, out_eq]
    have key : ∀ (x : Fin 1024) (y : Fin 1024), (k0_pay3 (k0_pay2 (iblk m c 0 t) (iblk m c 1 t) (k0_pay1 (F := Ideal))) (ix2 x y) : EReal)
        = G2 m c (((cfg0.win 2).blk t).view.emb (ix2 x y : S1024x1024.Idx)) := by
      intro x y
      have ht : t.val < 8 := lt_of_lt_of_eq t.isLt N_0
      have hr : (⟨t.val / 2 * 1024 + x.val, by omega⟩ : Fin 4096).val = t.val / 2 * 1024 + x.val := rfl
      have hs : (⟨t.val % 2 * 1024 + y.val, by omega⟩ : Fin 2048).val = t.val % 2 * 1024 + y.val := rfl
      rw [emb2 t x y _ _ hr hs]
      exact (pay_at _ _ x y).trans (Finset.sum_congr rfl fun k _ => congrArg₂ (· * ·) (blk0 m c t x k _ k hr (by omega)) (blk1 m c t k y k _ (by omega) hs))
    exact ext2 key
  · have h0 : (i 0).val < 4096 := (i 0).isLt
    have h1 : (i 1).val < 2048 := (i 1).isLt
    have e := emb2 ⟨2 * ((i 0).val / 1024) + (i 1).val / 1024, by omega⟩ ⟨(i 0).val % 1024, by omega⟩ ⟨(i 1).val % 1024, by omega⟩ (i 0) (i 1) (by dsimp only; omega) (by dsimp only; omega)
    exact ⟨⟨2 * ((i 0).val / 1024) + (i 1).val / 1024, by omega⟩, flush0_2 _, (e.trans (ix2_eta i)) ▸ View.emb_mem_set _ _⟩

/-- The two programs compute the same array. -/
theorem algebraic : Cert.algebraic_Kernel24Ideal_Reference24Ideal := by
  intro m ρ m' ρ' _ hag
  refine ⟨fun c => G2 m c, (θ_run defs _ _).mono (fun r h c => ⟨(h c).1.trans (final2 m c), (h c).2⟩) (run_blocks m ρ),
    (θ_run Cert.Reference24Ideal.defs _ _).mono (fun r h c => ⟨(h c).1.trans ?_, (h c).2⟩) (Cert.Reference24Ideal.Value.run m' ρ')⟩
  rw [(hag c).1, (hag c).2]
  refine ext2 fun x y => ?_
  pointwise
  rfl

/-- The kernel, as it stands and over the extended reals, and the reference keep their arguments and end with every counter at zero. -/
theorem frame_kernel : Cert.quiescent_Kernel24 := fun m ρ _ => Cert.Kernel24.Gen.frame m ρ

theorem frame_kernelIdeal : Cert.quiescent_Kernel24Ideal := fun m ρ _ => Cert.Kernel24Ideal.Gen.frame m ρ

theorem frame_ref : Cert.quiescent_Reference24Ideal := fun m ρ _ =>
  (θ_run Cert.Reference24Ideal.defs _ _).mono (fun r h => ⟨fun c => (h c).2, sem_eq_zero_of_no_sems (by decide) r.2⟩) (Cert.Reference24Ideal.Value.run m ρ)

end Cert.Proof.QNope

namespace Cert.Proof.QPe

open Cert.Kernel25Ideal Cert.Kernel25Ideal.Gen Cert.Kernel25Ideal.Value Cert.Proof.Product
open Idealize.ShloMosaic Idealize.ShloMosaic.TcCoe Idealize.ShloMosaic.Pipeline Idealize.SL.Sem

/-! ## The part of the queries with positions -/

variable (m : (ℓ : Loc nD τ sig) → Buf (Elt Ideal) ℓ) (c : Dev nD)

/-- The arguments. -/
abbrev A (m : (ℓ : Loc nD τ sig) → Buf (Elt Ideal) ℓ) (c : Dev nD) : FVec Ideal S4096x512 .bf16 := m ((c : Thread nD τ).loc main_arg0)
abbrev B (m : (ℓ : Loc nD τ sig) → Buf (Elt Ideal) ℓ) (c : Dev nD) : FVec Ideal S512x2048 .bf16 := m ((c : Thread nD τ).loc main_arg1)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

theorem blk0 (t : Fin cfg0.N) (x : Fin 1024) (y : Fin 512) (r : Fin 4096) (s : Fin 512) (hr : r.val = t.val / 2 * 1024 + x.val) (hs : s.val = 0 * 512 + y.val) :
    (iblk m c 0 t : FVec Ideal S1024x512 .bf16) (ix2 x y) = A m c (ix2 r s) := by
  unfold iblk
  rw [View.read_apply]
  refine congrArg (A m c) ?_
  blk_ext [idx0 t]

theorem blk1 (t : Fin cfg0.N) (x : Fin 512) (y : Fin 1024) (r : Fin 512) (s : Fin 2048) (hr : r.val = 0 * 512 + x.val) (hs : s.val = t.val % 2 * 1024 + y.val) :
    (iblk m c 1 t : FVec Ideal S512x1024 .bf16) (ix2 x y) = B m c (ix2 r s) := by
  unfold iblk
  rw [View.read_apply]
  refine congrArg (B m c) ?_
  blk_ext [idx1 t]

theorem emb2 (t : Fin cfg0.N) (x : Fin 1024) (y : Fin 1024) (r : Fin 4096) (s : Fin 2048) (hr : r.val = t.val / 2 * 1024 + x.val) (hs : s.val = t.val % 2 * 1024 + y.val) :
    ((cfg0.win 2).blk t).view.emb (ix2 x y : S1024x1024.Idx) = (ix2 r s : S4096x2048.Idx) := by
  blk_ext [idx2 t]

/-- One block of the result, at an index. -/
theorem pay_at (u : Vec Ideal S1024x512 .bf16) (v : Vec Ideal S512x1024 .bf16) (x : Fin 1024) (y : Fin 1024) :
    (k0_pay2 u v (k0_pay1 (F := Ideal)) (ix2 x y) : EReal) = ∑ k : Fin 512, (u (ix2 x k) * v (ix2 k y) : EReal) := by
  unfold k0_pay2 k0_pay1
  pointwise

theorem out_eq (i : grid0.Coords) (arg3 : Memref sig .tc .vmem S1024x512 .bf16) (harg3 : arg3.IsWhole) (arg4 : Memref sig .tc .vmem S512x1024 .bf16) (harg4 : arg4.IsWhole)
    (arg5 : Memref sig .tc .vmem S1024x1024 .f32) (harg5 : arg5.IsWhole) (hc0 : cond0_0 i)
    (u : Vec Ideal S1024x512 .bf16) (v : Vec Ideal S512x1024 .bf16) :
    out0_A_2 c i arg3 harg3 arg4 harg4 arg5 harg5 hc0 u v = k0_pay2 u v (k0_pay1 (F := Ideal)) := by
  unfold out0_A_2
  rw [View.read_writes_eq_canon _ _ _ (cover0_A_2 c i arg3 harg3 arg4 harg4 arg5 harg5 hc0 u v)]
  unfold kernelRun0_A
  dsimp only
  sl_unfold_words
  rw [View.canon_cons_unit_zero (S := S1024x1024) zero2]
  simp only [View.readCov_unit_zero (S := S1024x1024) _ zero2, View.readAt_eq_ld, harg3.read_unread, harg4.read_unread, View.ld_unit_zero (S := S1024x512) zero2, View.ld_unit_zero (S := S512x1024) zero2, shapeCast_self]

/-- The product. -/
def G2 (m : (ℓ : Loc nD τ sig) → Buf (Elt Ideal) ℓ) (c : Dev nD) : FVec Ideal S4096x2048 .f32 := fun i =>
  ∑ q : Fin 512, (A m c (ix2 (i 0) q) * B m c (ix2 q (i 1)) : EReal)

theorem final2 : (dats m 0 c).arrAt 2 cfg0.N = G2 m c := by
  have hN : cfg0.N = 8 := N_0
  refine (dats m 0 c).arrAt_eq_of_cover 2 _ (fun t _ => ?_) fun i => ?_
  · rw [flushed2_A, out_eq]
    have key : ∀ (x : Fin 1024) (y : Fin 1024), (k0_pay2 (iblk m c 0 t) (iblk m c 1 t) (k0_pay1 (F := Ideal)) (ix2 x y) : EReal)
        = G2 m c (((cfg0.win 2).blk t).view.emb (ix2 x y : S1024x1024.Idx)) := by
      intro x y
      have ht : t.val < 8 := lt_of_lt_of_eq t.isLt N_0
      have hr : (⟨t.val / 2 * 1024 + x.val, by omega⟩ : Fin 4096).val = t.val / 2 * 1024 + x.val := rfl
      have hs : (⟨t.val % 2 * 1024 + y.val, by omega⟩ : Fin 2048).val = t.val % 2 * 1024 + y.val := rfl
      rw [emb2 t x y _ _ hr hs]
      exact (pay_at _ _ x y).trans (Finset.sum_congr rfl fun k _ => congrArg₂ (· * ·) (blk0 m c t x k _ k hr (by omega)) (blk1 m c t k y k _ (by omega) hs))
    exact ext2 key
  · have h0 : (i 0).val < 4096 := (i 0).isLt
    have h1 : (i 1).val < 2048 := (i 1).isLt
    have e := emb2 ⟨2 * ((i 0).val / 1024) + (i 1).val / 1024, by omega⟩ ⟨(i 0).val % 1024, by omega⟩ ⟨(i 1).val % 1024, by omega⟩ (i 0) (i 1) (by dsimp only; omega) (by dsimp only; omega)
    exact ⟨⟨2 * ((i 0).val / 1024) + (i 1).val / 1024, by omega⟩, flush0_2 _, (e.trans (ix2_eta i)) ▸ View.emb_mem_set _ _⟩

/-- The two programs compute the same array. -/
theorem algebraic : Cert.algebraic_Kernel25Ideal_Reference25Ideal := by
  intro m ρ m' ρ' _ hag
  refine ⟨fun c => G2 m c, (θ_run defs _ _).mono (fun r h c => ⟨(h c).1.trans (final2 m c), (h c).2⟩) (run_blocks m ρ),
    (θ_run Cert.Reference25Ideal.defs _ _).mono (fun r h c => ⟨(h c).1.trans ?_, (h c).2⟩) (Cert.Reference25Ideal.Value.run m' ρ')⟩
  rw [(hag c).1, (hag c).2]
  refine ext2 fun x y => ?_
  pointwise
  rfl

/-- The kernel, as it stands and over the extended reals, and the reference keep their arguments and end with every counter at zero. -/
theorem frame_kernel : Cert.quiescent_Kernel25 := fun m ρ _ => Cert.Kernel25.Gen.frame m ρ

theorem frame_kernelIdeal : Cert.quiescent_Kernel25Ideal := fun m ρ _ => Cert.Kernel25Ideal.Gen.frame m ρ

theorem frame_ref : Cert.quiescent_Reference25Ideal := fun m ρ _ =>
  (θ_run Cert.Reference25Ideal.defs _ _).mono (fun r h => ⟨fun c => (h c).2, sem_eq_zero_of_no_sems (by decide) r.2⟩) (Cert.Reference25Ideal.Value.run m ρ)

end Cert.Proof.QPe

namespace Cert.Proof.KNope

open Cert.Kernel26Ideal Cert.Kernel26Ideal.Gen Cert.Kernel26Ideal.Value Cert.Proof.Product
open Idealize.ShloMosaic Idealize.ShloMosaic.TcCoe Idealize.ShloMosaic.Pipeline Idealize.SL.Sem

/-! ## The part of the keys without positions -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x512 .bf16 := m ((c : Thread nD τ).loc main_arg0)
abbrev B (m : (ℓ : Loc nD τ sig) → Buf (Elt Ideal) ℓ) (c : Dev nD) : FVec Ideal S512x2048 .bf16 := m ((c : Thread nD τ).loc main_arg1)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

theorem blk0 (t : Fin cfg0.N) (x : Fin 1376) (y : Fin 512) (r : Fin 4128) (s : Fin 512) (hr : r.val = t.val / 2 * 1376 + x.val) (hs : s.val = 0 * 512 + y.val) :
    (iblk m c 0 t : FVec Ideal S1376x512 .bf16) (ix2 x y) = A m c (ix2 r s) := by
  unfold iblk
  rw [View.read_apply]
  refine congrArg (A m c) ?_
  blk_ext [idx0 t]

theorem blk1 (t : Fin cfg0.N) (x : Fin 512) (y : Fin 1024) (r : Fin 512) (s : Fin 2048) (hr : r.val = 0 * 512 + x.val) (hs : s.val = t.val % 2 * 1024 + y.val) :
    (iblk m c 1 t : FVec Ideal S512x1024 .bf16) (ix2 x y) = B m c (ix2 r s) := by
  unfold iblk
  rw [View.read_apply]
  refine congrArg (B m c) ?_
  blk_ext [idx1 t]

theorem emb2 (t : Fin cfg0.N) (x : Fin 1376) (y : Fin 1024) (r : Fin 4128) (s : Fin 2048) (hr : r.val = t.val / 2 * 1376 + x.val) (hs : s.val = t.val % 2 * 1024 + y.val) :
    ((cfg0.win 2).blk t).view.emb (ix2 x y : S1376x1024.Idx) = (ix2 r s : S4128x2048.Idx) := by
  blk_ext [idx2 t]

/-- One block of the result, at an index. -/
theorem pay_at (u : Vec Ideal S1376x512 .bf16) (v : Vec Ideal S512x1024 .bf16) (x : Fin 1376) (y : Fin 1024) :
    (k0_pay3 (k0_pay2 u v (k0_pay1 (F := Ideal))) (ix2 x y) : EReal) = ∑ k : Fin 512, (u (ix2 x k) * v (ix2 k y) : EReal) := by
  unfold k0_pay3 k0_pay2 k0_pay1
  pointwise

theorem out_eq (i : grid0.Coords) (arg3 : Memref sig .tc .vmem S1376x512 .bf16) (harg3 : arg3.IsWhole) (arg4 : Memref sig .tc .vmem S512x1024 .bf16) (harg4 : arg4.IsWhole)
    (arg5 : Memref sig .tc .vmem S1376x1024 .bf16) (harg5 : arg5.IsWhole) (arg6 : Memref sig .tc .vmem S1376x1024 .f32) (harg6 : arg6.IsWhole) (hc0 : cond0_0 i) (hc1 : cond0_1 i)
    (u : Vec Ideal S1376x512 .bf16) (v : Vec Ideal S512x1024 .bf16) :
    out0_A_2 c i arg3 harg3 arg4 harg4 arg5 harg5 arg6 harg6 hc0 hc1 u v = k0_pay3 (k0_pay2 u v (k0_pay1 (F := Ideal))) := by
  unfold out0_A_2
  rw [View.read_writes_eq_canon _ _ _ (cover0_A_2 c i arg3 harg3 arg4 harg4 arg5 harg5 arg6 harg6 hc0 hc1 u v)]
  unfold kernelRun0_A
  dsimp only
  sl_unfold_words
  rw [View.canon_cons_unit_zero (S := S1376x1024) zero2]
  simp only [View.readCov_unit_zero (S := S1376x1024) _ zero2, View.readAt_eq_ld, harg3.read_unread, harg4.read_unread, View.ld_unit_zero (S := S1376x512) zero2, View.ld_unit_zero (S := S512x1024) zero2, shapeCast_self]
  exact congrArg k0_pay3 (View.readCov_full (s := S1376x1024) _ _ _ _ _)

/-- The product. -/
def G2 (m : (ℓ : Loc nD τ sig) → Buf (Elt Ideal) ℓ) (c : Dev nD) : FVec Ideal S4128x2048 .bf16 := fun i =>
  ∑ q : Fin 512, (A m c (ix2 (i 0) q) * B m c (ix2 q (i 1)) : EReal)

theorem final2 : (dats m 0 c).arrAt 2 cfg0.N = G2 m c := by
  have hN : cfg0.N = 6 := N_0
  refine (dats m 0 c).arrAt_eq_of_cover 2 _ (fun t _ => ?_) fun i => ?_
  · rw [flushed2_A, out_eq]
    have key : ∀ (x : Fin 1376) (y : Fin 1024), (k0_pay3 (k0_pay2 (iblk m c 0 t) (iblk m c 1 t) (k0_pay1 (F := Ideal))) (ix2 x y) : EReal)
        = G2 m c (((cfg0.win 2).blk t).view.emb (ix2 x y : S1376x1024.Idx)) := by
      intro x y
      have ht : t.val < 6 := lt_of_lt_of_eq t.isLt N_0
      have hr : (⟨t.val / 2 * 1376 + x.val, by omega⟩ : Fin 4128).val = t.val / 2 * 1376 + x.val := rfl
      have hs : (⟨t.val % 2 * 1024 + y.val, by omega⟩ : Fin 2048).val = t.val % 2 * 1024 + y.val := rfl
      rw [emb2 t x y _ _ hr hs]
      exact (pay_at _ _ x y).trans (Finset.sum_congr rfl fun k _ => congrArg₂ (· * ·) (blk0 m c t x k _ k hr (by omega)) (blk1 m c t k y k _ (by omega) hs))
    exact ext2 key
  · have h0 : (i 0).val < 4128 := (i 0).isLt
    have h1 : (i 1).val < 2048 := (i 1).isLt
    have e := emb2 ⟨2 * ((i 0).val / 1376) + (i 1).val / 1024, by omega⟩ ⟨(i 0).val % 1376, by omega⟩ ⟨(i 1).val % 1024, by omega⟩ (i 0) (i 1) (by dsimp only; omega) (by dsimp only; omega)
    exact ⟨⟨2 * ((i 0).val / 1376) + (i 1).val / 1024, by omega⟩, flush0_2 _, (e.trans (ix2_eta i)) ▸ View.emb_mem_set _ _⟩

/-- The two programs compute the same array. -/
theorem algebraic : Cert.algebraic_Kernel26Ideal_Reference26Ideal := by
  intro m ρ m' ρ' _ hag
  refine ⟨fun c => G2 m c, (θ_run defs _ _).mono (fun r h c => ⟨(h c).1.trans (final2 m c), (h c).2⟩) (run_blocks m ρ),
    (θ_run Cert.Reference26Ideal.defs _ _).mono (fun r h c => ⟨(h c).1.trans ?_, (h c).2⟩) (Cert.Reference26Ideal.Value.run m' ρ')⟩
  rw [(hag c).1, (hag c).2]
  refine ext2 fun x y => ?_
  pointwise
  rfl

/-- The kernel, as it stands and over the extended reals, and the reference keep their arguments and end with every counter at zero. -/
theorem frame_kernel : Cert.quiescent_Kernel26 := fun m ρ _ => Cert.Kernel26.Gen.frame m ρ

theorem frame_kernelIdeal : Cert.quiescent_Kernel26Ideal := fun m ρ _ => Cert.Kernel26Ideal.Gen.frame m ρ

theorem frame_ref : Cert.quiescent_Reference26Ideal := fun m ρ _ =>
  (θ_run Cert.Reference26Ideal.defs _ _).mono (fun r h => ⟨fun c => (h c).2, sem_eq_zero_of_no_sems (by decide) r.2⟩) (Cert.Reference26Ideal.Value.run m ρ)

end Cert.Proof.KNope

end
-- ==== Proof.LoraForward.lean ====
module

public import proofs.«01_k».proof.Defs
public import proofs.«01_k».proof.Proof.Product
public import proofs.«01_k».proof.Proof.Gen.Kernel27Ideal.Value
public import proofs.«01_k».proof.Proof.Gen.Reference27Ideal.Run
public import proofs.«01_k».proof.Proof.Gen.Kernel27.Frame
public import proofs.«01_k».proof.Proof.Gen.Kernel28Ideal.Value
public import proofs.«01_k».proof.Proof.Gen.Reference28Ideal.Run
public import proofs.«01_k».proof.Proof.Gen.Kernel28.Frame
public import Idealize.ShloMosaic.Lib.Claim
public import Idealize.ShloMosaic.Lib.Pipeline.ValueKit

@[expose] public section

set_option maxRecDepth 16384

noncomputable section

namespace Cert.Proof.LoraUp

open Cert.Kernel27Ideal Cert.Kernel27Ideal.Gen Cert.Kernel27Ideal.Value Cert.Proof.Product
open Idealize.ShloMosaic Idealize.ShloMosaic.TcCoe Idealize.ShloMosaic.Pipeline Idealize.SL.Sem

/-! ## The second product of the decay and the learning rate branches -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x128 .bf16 := m ((c : Thread nD τ).loc main_arg0)
abbrev B (m : (ℓ : Loc nD τ sig) → Buf (Elt Ideal) ℓ) (c : Dev nD) : FVec Ideal S128x2048 .bf16 := m ((c : Thread nD τ).loc main_arg1)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

theorem blk0 (t : Fin cfg0.N) (x : Fin 1376) (y : Fin 128) (r : Fin 4128) (s : Fin 128) (hr : r.val = t.val / 2 * 1376 + x.val) (hs : s.val = 0 * 128 + y.val) :
    (iblk m c 0 t : FVec Ideal S1376x128 .bf16) (ix2 x y) = A m c (ix2 r s) := by
  unfold iblk
  rw [View.read_apply]
  refine congrArg (A m c) ?_
  blk_ext [idx0 t]

theorem blk1 (t : Fin cfg0.N) (x : Fin 128) (y : Fin 1024) (r : Fin 128) (s : Fin 2048) (hr : r.val = 0 * 128 + x.val) (hs : s.val = t.val % 2 * 1024 + y.val) :
    (iblk m c 1 t : FVec Ideal S128x1024 .bf16) (ix2 x y) = B m c (ix2 r s) := by
  unfold iblk
  rw [View.read_apply]
  refine congrArg (B m c) ?_
  blk_ext [idx1 t]

theorem emb2 (t : Fin cfg0.N) (x : Fin 1376) (y : Fin 1024) (r : Fin 4128) (s : Fin 2048) (hr : r.val = t.val / 2 * 1376 + x.val) (hs : s.val = t.val % 2 * 1024 + y.val) :
    ((cfg0.win 2).blk t).view.emb (ix2 x y : S1376x1024.Idx) = (ix2 r s : S4128x2048.Idx) := by
  blk_ext [idx2 t]

/-- One block of the result, at an index. -/
theorem pay_at (u : Vec Ideal S1376x128 .bf16) (v : Vec Ideal S128x1024 .bf16) (x : Fin 1376) (y : Fin 1024) :
    (k0_pay2 u v (k0_pay1 (F := Ideal)) (ix2 x y) : EReal) = ∑ k : Fin 128, (u (ix2 x k) * v (ix2 k y) : EReal) := by
  unfold k0_pay2 k0_pay1
  pointwise

theorem out_eq (i : grid0.Coords) (arg3 : Memref sig .tc .vmem S1376x128 .bf16) (harg3 : arg3.IsWhole) (arg4 : Memref sig .tc .vmem S128x1024 .bf16) (harg4 : arg4.IsWhole)
    (arg5 : Memref sig .tc .vmem S1376x1024 .f32) (harg5 : arg5.IsWhole) (hc0 : cond0_0 i)
    (u : Vec Ideal S1376x128 .bf16) (v : Vec Ideal S128x1024 .bf16) :
    out0_A_2 c i arg3 harg3 arg4 harg4 arg5 harg5 hc0 u v = k0_pay2 u v (k0_pay1 (F := Ideal)) := by
  unfold out0_A_2
  rw [View.read_writes_eq_canon _ _ _ (cover0_A_2 c i arg3 harg3 arg4 harg4 arg5 harg5 hc0 u v)]
  unfold kernelRun0_A
  dsimp only
  sl_unfold_words
  rw [View.canon_cons_unit_zero (S := S1376x1024) zero2]
  simp only [View.readCov_unit_zero (S := S1376x1024) _ zero2, View.readAt_eq_ld, harg3.read_unread, harg4.read_unread, View.ld_unit_zero (S := S1376x128) zero2, View.ld_unit_zero (S := S128x1024) zero2, shapeCast_self]

/-- The product. -/
def G2 (m : (ℓ : Loc nD τ sig) → Buf (Elt Ideal) ℓ) (c : Dev nD) : FVec Ideal S4128x2048 .f32 := fun i =>
  ∑ q : Fin 128, (A m c (ix2 (i 0) q) * B m c (ix2 q (i 1)) : EReal)

theorem final2 : (dats m 0 c).arrAt 2 cfg0.N = G2 m c := by
  have hN : cfg0.N = 6 := N_0
  refine (dats m 0 c).arrAt_eq_of_cover 2 _ (fun t _ => ?_) fun i => ?_
  · rw [flushed2_A, out_eq]
    have key : ∀ (x : Fin 1376) (y : Fin 1024), (k0_pay2 (iblk m c 0 t) (iblk m c 1 t) (k0_pay1 (F := Ideal)) (ix2 x y) : EReal)
        = G2 m c (((cfg0.win 2).blk t).view.emb (ix2 x y : S1376x1024.Idx)) := by
      intro x y
      have ht : t.val < 6 := lt_of_lt_of_eq t.isLt N_0
      have hr : (⟨t.val / 2 * 1376 + x.val, by omega⟩ : Fin 4128).val = t.val / 2 * 1376 + x.val := rfl
      have hs : (⟨t.val % 2 * 1024 + y.val, by omega⟩ : Fin 2048).val = t.val % 2 * 1024 + y.val := rfl
      rw [emb2 t x y _ _ hr hs]
      exact (pay_at _ _ x y).trans (Finset.sum_congr rfl fun k _ => congrArg₂ (· * ·) (blk0 m c t x k _ k hr (by omega)) (blk1 m c t k y k _ (by omega) hs))
    exact ext2 key
  · have h0 : (i 0).val < 4128 := (i 0).isLt
    have h1 : (i 1).val < 2048 := (i 1).isLt
    have e := emb2 ⟨2 * ((i 0).val / 1376) + (i 1).val / 1024, by omega⟩ ⟨(i 0).val % 1376, by omega⟩ ⟨(i 1).val % 1024, by omega⟩ (i 0) (i 1) (by dsimp only; omega) (by dsimp only; omega)
    exact ⟨⟨2 * ((i 0).val / 1376) + (i 1).val / 1024, by omega⟩, flush0_2 _, (e.trans (ix2_eta i)) ▸ View.emb_mem_set _ _⟩

/-- The two programs compute the same array. -/
theorem algebraic : Cert.algebraic_Kernel27Ideal_Reference27Ideal := by
  intro m ρ m' ρ' _ hag
  refine ⟨fun c => G2 m c, (θ_run defs _ _).mono (fun r h c => ⟨(h c).1.trans (final2 m c), (h c).2⟩) (run_blocks m ρ),
    (θ_run Cert.Reference27Ideal.defs _ _).mono (fun r h c => ⟨(h c).1.trans ?_, (h c).2⟩) (Cert.Reference27Ideal.Value.run m' ρ')⟩
  rw [(hag c).1, (hag c).2]
  refine ext2 fun x y => ?_
  pointwise
  rfl

/-- The kernel, as it stands and over the extended reals, and the reference keep their arguments and end with every counter at zero. -/
theorem frame_kernel : Cert.quiescent_Kernel27 := fun m ρ _ => Cert.Kernel27.Gen.frame m ρ

theorem frame_kernelIdeal : Cert.quiescent_Kernel27Ideal := fun m ρ _ => Cert.Kernel27Ideal.Gen.frame m ρ

theorem frame_ref : Cert.quiescent_Reference27Ideal := fun m ρ _ =>
  (θ_run Cert.Reference27Ideal.defs _ _).mono (fun r h => ⟨fun c => (h c).2, sem_eq_zero_of_no_sems (by decide) r.2⟩) (Cert.Reference27Ideal.Value.run m ρ)

end Cert.Proof.LoraUp

namespace Cert.Proof.LoraGate

open Cert.Kernel28Ideal Cert.Kernel28Ideal.Gen Cert.Kernel28Ideal.Value Cert.Proof.Product
open Idealize.ShloMosaic Idealize.ShloMosaic.TcCoe Idealize.ShloMosaic.Pipeline Idealize.SL.Sem

/-! ## The second product of the gate branch -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x256 .bf16 := m ((c : Thread nD τ).loc main_arg0)
abbrev B (m : (ℓ : Loc nD τ sig) → Buf (Elt Ideal) ℓ) (c : Dev nD) : FVec Ideal S256x2048 .bf16 := m ((c : Thread nD τ).loc main_arg1)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

theorem blk0 (t : Fin cfg0.N) (x : Fin 1376) (y : Fin 256) (r : Fin 4128) (s : Fin 256) (hr : r.val = t.val / 2 * 1376 + x.val) (hs : s.val = 0 * 256 + y.val) :
    (iblk m c 0 t : FVec Ideal S1376x256 .bf16) (ix2 x y) = A m c (ix2 r s) := by
  unfold iblk
  rw [View.read_apply]
  refine congrArg (A m c) ?_
  blk_ext [idx0 t]

theorem blk1 (t : Fin cfg0.N) (x : Fin 256) (y : Fin 1024) (r : Fin 256) (s : Fin 2048) (hr : r.val = 0 * 256 + x.val) (hs : s.val = t.val % 2 * 1024 + y.val) :
    (iblk m c 1 t : FVec Ideal S256x1024 .bf16) (ix2 x y) = B m c (ix2 r s) := by
  unfold iblk
  rw [View.read_apply]
  refine congrArg (B m c) ?_
  blk_ext [idx1 t]

theorem emb2 (t : Fin cfg0.N) (x : Fin 1376) (y : Fin 1024) (r : Fin 4128) (s : Fin 2048) (hr : r.val = t.val / 2 * 1376 + x.val) (hs : s.val = t.val % 2 * 1024 + y.val) :
    ((cfg0.win 2).blk t).view.emb (ix2 x y : S1376x1024.Idx) = (ix2 r s : S4128x2048.Idx) := by
  blk_ext [idx2 t]

/-- One block of the result, at an index. -/
theorem pay_at (u : Vec Ideal S1376x256 .bf16) (v : Vec Ideal S256x1024 .bf16) (x : Fin 1376) (y : Fin 1024) :
    (k0_pay2 u v (k0_pay1 (F := Ideal)) (ix2 x y) : EReal) = ∑ k : Fin 256, (u (ix2 x k) * v (ix2 k y) : EReal) := by
  unfold k0_pay2 k0_pay1
  pointwise

theorem out_eq (i : grid0.Coords) (arg3 : Memref sig .tc .vmem S1376x256 .bf16) (harg3 : arg3.IsWhole) (arg4 : Memref sig .tc .vmem S256x1024 .bf16) (harg4 : arg4.IsWhole)
    (arg5 : Memref sig .tc .vmem S1376x1024 .f32) (harg5 : arg5.IsWhole) (hc0 : cond0_0 i)
    (u : Vec Ideal S1376x256 .bf16) (v : Vec Ideal S256x1024 .bf16) :
    out0_A_2 c i arg3 harg3 arg4 harg4 arg5 harg5 hc0 u v = k0_pay2 u v (k0_pay1 (F := Ideal)) := by
  unfold out0_A_2
  rw [View.read_writes_eq_canon _ _ _ (cover0_A_2 c i arg3 harg3 arg4 harg4 arg5 harg5 hc0 u v)]
  unfold kernelRun0_A
  dsimp only
  sl_unfold_words
  rw [View.canon_cons_unit_zero (S := S1376x1024) zero2]
  simp only [View.readCov_unit_zero (S := S1376x1024) _ zero2, View.readAt_eq_ld, harg3.read_unread, harg4.read_unread, View.ld_unit_zero (S := S1376x256) zero2, View.ld_unit_zero (S := S256x1024) zero2, shapeCast_self]

/-- The product. -/
def G2 (m : (ℓ : Loc nD τ sig) → Buf (Elt Ideal) ℓ) (c : Dev nD) : FVec Ideal S4128x2048 .f32 := fun i =>
  ∑ q : Fin 256, (A m c (ix2 (i 0) q) * B m c (ix2 q (i 1)) : EReal)

theorem final2 : (dats m 0 c).arrAt 2 cfg0.N = G2 m c := by
  have hN : cfg0.N = 6 := N_0
  refine (dats m 0 c).arrAt_eq_of_cover 2 _ (fun t _ => ?_) fun i => ?_
  · rw [flushed2_A, out_eq]
    have key : ∀ (x : Fin 1376) (y : Fin 1024), (k0_pay2 (iblk m c 0 t) (iblk m c 1 t) (k0_pay1 (F := Ideal)) (ix2 x y) : EReal)
        = G2 m c (((cfg0.win 2).blk t).view.emb (ix2 x y : S1376x1024.Idx)) := by
      intro x y
      have ht : t.val < 6 := lt_of_lt_of_eq t.isLt N_0
      have hr : (⟨t.val / 2 * 1376 + x.val, by omega⟩ : Fin 4128).val = t.val / 2 * 1376 + x.val := rfl
      have hs : (⟨t.val % 2 * 1024 + y.val, by omega⟩ : Fin 2048).val = t.val % 2 * 1024 + y.val := rfl
      rw [emb2 t x y _ _ hr hs]
      exact (pay_at _ _ x y).trans (Finset.sum_congr rfl fun k _ => congrArg₂ (· * ·) (blk0 m c t x k _ k hr (by omega)) (blk1 m c t k y k _ (by omega) hs))
    exact ext2 key
  · have h0 : (i 0).val < 4128 := (i 0).isLt
    have h1 : (i 1).val < 2048 := (i 1).isLt
    have e := emb2 ⟨2 * ((i 0).val / 1376) + (i 1).val / 1024, by omega⟩ ⟨(i 0).val % 1376, by omega⟩ ⟨(i 1).val % 1024, by omega⟩ (i 0) (i 1) (by dsimp only; omega) (by dsimp only; omega)
    exact ⟨⟨2 * ((i 0).val / 1376) + (i 1).val / 1024, by omega⟩, flush0_2 _, (e.trans (ix2_eta i)) ▸ View.emb_mem_set _ _⟩

/-- The two programs compute the same array. -/
theorem algebraic : Cert.algebraic_Kernel28Ideal_Reference28Ideal := by
  intro m ρ m' ρ' _ hag
  refine ⟨fun c => G2 m c, (θ_run defs _ _).mono (fun r h c => ⟨(h c).1.trans (final2 m c), (h c).2⟩) (run_blocks m ρ),
    (θ_run Cert.Reference28Ideal.defs _ _).mono (fun r h c => ⟨(h c).1.trans ?_, (h c).2⟩) (Cert.Reference28Ideal.Value.run m' ρ')⟩
  rw [(hag c).1, (hag c).2]
  refine ext2 fun x y => ?_
  pointwise
  rfl

/-- The kernel, as it stands and over the extended reals, and the reference keep their arguments and end with every counter at zero. -/
theorem frame_kernel : Cert.quiescent_Kernel28 := fun m ρ _ => Cert.Kernel28.Gen.frame m ρ

theorem frame_kernelIdeal : Cert.quiescent_Kernel28Ideal := fun m ρ _ => Cert.Kernel28Ideal.Gen.frame m ρ

theorem frame_ref : Cert.quiescent_Reference28Ideal := fun m ρ _ =>
  (θ_run Cert.Reference28Ideal.defs _ _).mono (fun r h => ⟨fun c => (h c).2, sem_eq_zero_of_no_sems (by decide) r.2⟩) (Cert.Reference28Ideal.Value.run m ρ)

end Cert.Proof.LoraGate

end
-- ==== Proof.LoraWeights.lean ====
module

public import proofs.«01_k».proof.Defs
public import proofs.«01_k».proof.Proof.Product
public import proofs.«01_k».proof.Proof.Gen.Kernel29Ideal.Value
public import proofs.«01_k».proof.Proof.Gen.Reference29Ideal.Run
public import proofs.«01_k».proof.Proof.Gen.Kernel29.Frame
public import proofs.«01_k».proof.Proof.Gen.Kernel31Ideal.Value
public import proofs.«01_k».proof.Proof.Gen.Reference31Ideal.Run
public import proofs.«01_k».proof.Proof.Gen.Kernel31.Frame
public import Idealize.ShloMosaic.Lib.Claim
public import Idealize.ShloMosaic.Lib.Pipeline.ValueKit

@[expose] public section

set_option maxRecDepth 16384

noncomputable section

namespace Cert.Proof.DLoraUp

open Cert.Kernel29Ideal Cert.Kernel29Ideal.Gen Cert.Kernel29Ideal.Value Cert.Proof.Product
open Idealize.ShloMosaic Idealize.ShloMosaic.TcCoe Idealize.ShloMosaic.Pipeline Idealize.SL.Sem

/-! ## The gradient of the weights of the decay and the learning rate branches -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x128 .bf16 := m ((c : Thread nD τ).loc main_arg0)
abbrev B (m : (ℓ : Loc nD τ sig) → Buf (Elt Ideal) ℓ) (c : Dev nD) : FVec Ideal S4128x2048 .bf16 := m ((c : Thread nD τ).loc main_arg1)

theorem idx0 : ∀ t : Fin cfg0.N, win0_0.index t = ![t.val % 6, t.val / 12] := (by decide +kernel : ∀ t : Fin grid0.N, win0_0.index t = ![t.val % 6, t.val / 12])
theorem idx1 : ∀ t : Fin cfg0.N, win0_1.index t = ![t.val % 6, t.val / 6 % 2] := (by decide +kernel : ∀ t : Fin grid0.N, win0_1.index t = ![t.val % 6, t.val / 6 % 2])

theorem blk0 (t : Fin cfg0.N) (x : Fin 688) (y : Fin 128) (r : Fin 4128) (s : Fin 128) (hr : r.val = t.val % 6 * 688 + x.val) (hs : s.val = t.val / 12 * 128 + y.val) :
    (iblk m c 0 t : FVec Ideal S688x128 .bf16) (ix2 x y) = A m c (ix2 r s) := by
  unfold iblk
  rw [View.read_apply]
  refine congrArg (A m c) ?_
  blk_ext [idx0 t]

theorem blk1 (t : Fin cfg0.N) (x : Fin 688) (y : Fin 1024) (r : Fin 4128) (s : Fin 2048) (hr : r.val = t.val % 6 * 688 + x.val) (hs : s.val = t.val / 6 % 2 * 1024 + y.val) :
    (iblk m c 1 t : FVec Ideal S688x1024 .bf16) (ix2 x y) = B m c (ix2 r s) := by
  unfold iblk
  rw [View.read_apply]
  refine congrArg (B m c) ?_
  blk_ext [idx1 t]

theorem pay_at (u : Vec Ideal S688x128 .bf16) (v : Vec Ideal S688x1024 .bf16) (acc : Vec Ideal S128x1024 .f32) (x : Fin 128) (y : Fin 1024) :
    (k0_pay2 u v acc (ix2 x y) : EReal) = acc (ix2 x y) + ∑ k : Fin 688, (u (ix2 k x) * v (ix2 k y) : EReal) := by
  unfold k0_pay2
  pointwise

theorem loc_eq (x : Fin 128) (y : Fin 2048) : loc2Of (ix2 x y) = ix2 (⟨x.val % 128, by omega⟩ : Fin 128) (⟨y.val % 1024, by omega⟩ : Fin 1024) := eq_ix2 rfl rfl

/-- What the kernel leaves at an index: the sum over the contracted axis. -/
theorem G_at (x : Fin 128) (y : Fin 2048) :
    (G2 m c (ix2 x y) : EReal) = ∑ q : Fin 4128, (A m c (ix2 q x) * B m c (ix2 q y) : EReal) := by
  have hN : cfg0.N = 12 := N_0
  have hr : run2Of (ix2 x y) = 2 * (x.val / 128) + y.val / 1024 := by
    show 2 * (x.val / 128 - 0) + 1 * (y.val / 1024 - 0) = _
    omega
  unfold G2
  rw [dif_pos (by omega), loc_eq]
  exact (run_prod (J := 6) (T := 688) (K := 4128) rfl (by decide) (reset2 m c) (step2 m c) (6 * run2Of (ix2 x y)) _ 0 (fun q => A m c (ix2 q x)) (fun q => B m c (ix2 q y))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 5 rfl _).trans (zero_add _)

/-- The two programs compute the same array. -/
theorem algebraic : Cert.algebraic_Kernel29Ideal_Reference29Ideal := by
  intro m ρ m' ρ' _ hag
  refine ⟨fun c => G2 m c, run m ρ, (θ_run Cert.Reference29Ideal.defs _ _).mono (fun r h c => ⟨(h c).1.trans ?_, (h c).2⟩) (Cert.Reference29Ideal.Value.run m' ρ')⟩
  rw [(hag c).1, (hag c).2]
  refine ext2 fun x y => Eq.trans ?_ (G_at m c x y).symm
  pointwise
  exact Finset.sum_congr rfl fun q _ => mul_comm _ _

/-- The kernel, as it stands and over the extended reals, and the reference keep their arguments and end with every counter at zero. -/
theorem frame_kernel : Cert.quiescent_Kernel29 := fun m ρ _ => Cert.Kernel29.Gen.frame m ρ

theorem frame_kernelIdeal : Cert.quiescent_Kernel29Ideal := fun m ρ _ => Cert.Kernel29Ideal.Gen.frame m ρ

theorem frame_ref : Cert.quiescent_Reference29Ideal := fun m ρ _ =>
  (θ_run Cert.Reference29Ideal.defs _ _).mono (fun r h => ⟨fun c => (h c).2, sem_eq_zero_of_no_sems (by decide) r.2⟩) (Cert.Reference29Ideal.Value.run m ρ)

end Cert.Proof.DLoraUp

namespace Cert.Proof.DLoraGate

open Cert.Kernel31Ideal Cert.Kernel31Ideal.Gen Cert.Kernel31Ideal.Value Cert.Proof.Product
open Idealize.ShloMosaic Idealize.ShloMosaic.TcCoe Idealize.ShloMosaic.Pipeline Idealize.SL.Sem

/-! ## The gradient of the weights of the gate branch -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x256 .bf16 := m ((c : Thread nD τ).loc main_arg0)
abbrev B (m : (ℓ : Loc nD τ sig) → Buf (Elt Ideal) ℓ) (c : Dev nD) : FVec Ideal S4128x2048 .bf16 := m ((c : Thread nD τ).loc main_arg1)

theorem idx0 : ∀ t : Fin cfg0.N, win0_0.index t = ![t.val % 6, t.val / 12] := (by decide +kernel : ∀ t : Fin grid0.N, win0_0.index t = ![t.val % 6, t.val / 12])
theorem idx1 : ∀ t : Fin cfg0.N, win0_1.index t = ![t.val % 6, t.val / 6 % 2] := (by decide +kernel : ∀ t : Fin grid0.N, win0_1.index t = ![t.val % 6, t.val / 6 % 2])

theorem blk0 (t : Fin cfg0.N) (x : Fin 688) (y : Fin 256) (r : Fin 4128) (s : Fin 256) (hr : r.val = t.val % 6 * 688 + x.val) (hs : s.val = t.val / 12 * 256 + y.val) :
    (iblk m c 0 t : FVec Ideal S688x256 .bf16) (ix2 x y) = A m c (ix2 r s) := by
  unfold iblk
  rw [View.read_apply]
  refine congrArg (A m c) ?_
  blk_ext [idx0 t]

theorem blk1 (t : Fin cfg0.N) (x : Fin 688) (y : Fin 1024) (r : Fin 4128) (s : Fin 2048) (hr : r.val = t.val % 6 * 688 + x.val) (hs : s.val = t.val / 6 % 2 * 1024 + y.val) :
    (iblk m c 1 t : FVec Ideal S688x1024 .bf16) (ix2 x y) = B m c (ix2 r s) := by
  unfold iblk
  rw [View.read_apply]
  refine congrArg (B m c) ?_
  blk_ext [idx1 t]

theorem pay_at (u : Vec Ideal S688x256 .bf16) (v : Vec Ideal S688x1024 .bf16) (acc : Vec Ideal S256x1024 .f32) (x : Fin 256) (y : Fin 1024) :
    (k0_pay2 u v acc (ix2 x y) : EReal) = acc (ix2 x y) + ∑ k : Fin 688, (u (ix2 k x) * v (ix2 k y) : EReal) := by
  unfold k0_pay2
  pointwise

theorem loc_eq (x : Fin 256) (y : Fin 2048) : loc2Of (ix2 x y) = ix2 (⟨x.val % 256, by omega⟩ : Fin 256) (⟨y.val % 1024, by omega⟩ : Fin 1024) := eq_ix2 rfl rfl

/-- What the kernel leaves at an index: the sum over the contracted axis. -/
theorem G_at (x : Fin 256) (y : Fin 2048) :
    (G2 m c (ix2 x y) : EReal) = ∑ q : Fin 4128, (A m c (ix2 q x) * B m c (ix2 q y) : EReal) := by
  have hN : cfg0.N = 12 := N_0
  have hr : run2Of (ix2 x y) = 2 * (x.val / 256) + y.val / 1024 := by
    show 2 * (x.val / 256 - 0) + 1 * (y.val / 1024 - 0) = _
    omega
  unfold G2
  rw [dif_pos (by omega), loc_eq]
  exact (run_prod (J := 6) (T := 688) (K := 4128) rfl (by decide) (reset2 m c) (step2 m c) (6 * run2Of (ix2 x y)) _ 0 (fun q => A m c (ix2 q x)) (fun q => B m c (ix2 q y))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 5 rfl _).trans (zero_add _)

/-- The two programs compute the same array. -/
theorem algebraic : Cert.algebraic_Kernel31Ideal_Reference31Ideal := by
  intro m ρ m' ρ' _ hag
  refine ⟨fun c => G2 m c, run m ρ, (θ_run Cert.Reference31Ideal.defs _ _).mono (fun r h c => ⟨(h c).1.trans ?_, (h c).2⟩) (Cert.Reference31Ideal.Value.run m' ρ')⟩
  rw [(hag c).1, (hag c).2]
  refine ext2 fun x y => Eq.trans ?_ (G_at m c x y).symm
  pointwise
  exact Finset.sum_congr rfl fun q _ => mul_comm _ _

/-- The kernel, as it stands and over the extended reals, and the reference keep their arguments and end with every counter at zero. -/
theorem frame_kernel : Cert.quiescent_Kernel31 := fun m ρ _ => Cert.Kernel31.Gen.frame m ρ

theorem frame_kernelIdeal : Cert.quiescent_Kernel31Ideal := fun m ρ _ => Cert.Kernel31Ideal.Gen.frame m ρ

theorem frame_ref : Cert.quiescent_Reference31Ideal := fun m ρ _ =>
  (θ_run Cert.Reference31Ideal.defs _ _).mono (fun r h => ⟨fun c => (h c).2, sem_eq_zero_of_no_sems (by decide) r.2⟩) (Cert.Reference31Ideal.Value.run m ρ)

end Cert.Proof.DLoraGate

end
-- ==== Proof.LoraInput.lean ====
module

public import proofs.«01_k».proof.Defs
public import proofs.«01_k».proof.Proof.Product
public import proofs.«01_k».proof.Proof.Gen.Kernel30Ideal.Value
public import proofs.«01_k».proof.Proof.Gen.Reference30Ideal.Run
public import proofs.«01_k».proof.Proof.Gen.Kernel30.Frame
public import proofs.«01_k».proof.Proof.Gen.Kernel32Ideal.Value
public import proofs.«01_k».proof.Proof.Gen.Reference32Ideal.Run
public import proofs.«01_k».proof.Proof.Gen.Kernel32.Frame
public import Idealize.ShloMosaic.Lib.Claim
public import Idealize.ShloMosaic.Lib.Pipeline.ValueKit

@[expose] public section

set_option maxRecDepth 16384

noncomputable section

namespace Cert.Proof.DLoraUpIn

open Cert.Kernel30Ideal Cert.Kernel30Ideal.Gen Cert.Kernel30Ideal.Value Cert.Proof.Product
open Idealize.ShloMosaic Idealize.ShloMosaic.TcCoe Idealize.ShloMosaic.Pipeline Idealize.SL.Sem

/-! ## The gradient of the input of the decay and the learning rate branches -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S128x2048 .bf16 := m ((c : Thread nD τ).loc main_arg1)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2 % 1, t.val % 2] := (by decide +kernel : ∀ t : Fin grid0.N, win0_1.index t = ![t.val / 2 % 1, t.val % 2])

theorem blk0 (t : Fin cfg0.N) (x : Fin 1376) (y : Fin 1024) (r : Fin 4128) (s : Fin 2048) (hr : r.val = t.val / 2 * 1376 + x.val) (hs : s.val = t.val % 2 * 1024 + y.val) :
    (iblk m c 0 t : FVec Ideal S1376x1024 .bf16) (ix2 x y) = A m c (ix2 r s) := by
  unfold iblk
  rw [View.read_apply]
  refine congrArg (A m c) ?_
  blk_ext [idx0 t]

theorem blk1 (t : Fin cfg0.N) (x : Fin 128) (y : Fin 1024) (r : Fin 128) (s : Fin 2048) (hr : r.val = t.val / 2 % 1 * 128 + x.val) (hs : s.val = t.val % 2 * 1024 + y.val) :
    (iblk m c 1 t : FVec Ideal S128x1024 .bf16) (ix2 x y) = B m c (ix2 r s) := by
  unfold iblk
  rw [View.read_apply]
  refine congrArg (B m c) ?_
  blk_ext [idx1 t]

theorem pay_at (u : Vec Ideal S1376x1024 .bf16) (v : Vec Ideal S128x1024 .bf16) (acc : Vec Ideal S1376x128 .f32) (x : Fin 1376) (y : Fin 128) :
    (k0_pay2 u v acc (ix2 x y) : EReal) = acc (ix2 x y) + ∑ k : Fin 1024, (u (ix2 x k) * v (ix2 y k) : EReal) := by
  unfold k0_pay2
  pointwise

theorem loc_eq (x : Fin 4128) (y : Fin 128) : loc2Of (ix2 x y) = ix2 (⟨x.val % 1376, by omega⟩ : Fin 1376) (⟨y.val % 128, by omega⟩ : Fin 128) := eq_ix2 rfl rfl

/-- What the kernel leaves at an index: the sum over the contracted axis. -/
theorem G_at (x : Fin 4128) (y : Fin 128) :
    (G2 m c (ix2 x y) : EReal) = ∑ q : Fin 2048, (A m c (ix2 x q) * B m c (ix2 y q) : EReal) := by
  have hN : cfg0.N = 6 := N_0
  have hr : run2Of (ix2 x y) = 1 * (x.val / 1376) + y.val / 128 := by
    show 1 * (x.val / 1376 - 0) + 1 * (y.val / 128 - 0) = _
    omega
  unfold G2
  rw [dif_pos (by omega), loc_eq]
  exact (run_prod (J := 2) (T := 1024) (K := 2048) rfl (by decide) (reset2 m c) (step2 m c) (2 * run2Of (ix2 x y)) _ 0 (fun q => A m c (ix2 x q)) (fun q => B m c (ix2 y q))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 1 rfl _).trans (zero_add _)

/-- The two programs compute the same array. -/
theorem algebraic : Cert.algebraic_Kernel30Ideal_Reference30Ideal := by
  intro m ρ m' ρ' _ hag
  refine ⟨fun c => G2 m c, run m ρ, (θ_run Cert.Reference30Ideal.defs _ _).mono (fun r h c => ⟨(h c).1.trans ?_, (h c).2⟩) (Cert.Reference30Ideal.Value.run m' ρ')⟩
  rw [(hag c).1, (hag c).2]
  refine ext2 fun x y => Eq.trans ?_ (G_at m c x y).symm
  pointwise

/-- The kernel, as it stands and over the extended reals, and the reference keep their arguments and end with every counter at zero. -/
theorem frame_kernel : Cert.quiescent_Kernel30 := fun m ρ _ => Cert.Kernel30.Gen.frame m ρ

theorem frame_kernelIdeal : Cert.quiescent_Kernel30Ideal := fun m ρ _ => Cert.Kernel30Ideal.Gen.frame m ρ

theorem frame_ref : Cert.quiescent_Reference30Ideal := fun m ρ _ =>
  (θ_run Cert.Reference30Ideal.defs _ _).mono (fun r h => ⟨fun c => (h c).2, sem_eq_zero_of_no_sems (by decide) r.2⟩) (Cert.Reference30Ideal.Value.run m ρ)

end Cert.Proof.DLoraUpIn

namespace Cert.Proof.DLoraGateIn

open Cert.Kernel32Ideal Cert.Kernel32Ideal.Gen Cert.Kernel32Ideal.Value Cert.Proof.Product
open Idealize.ShloMosaic Idealize.ShloMosaic.TcCoe Idealize.ShloMosaic.Pipeline Idealize.SL.Sem

/-! ## The gradient of the input of the gate branch -/

variable (m : (ℓ : Loc nD τ sig) → Buf (Elt Ideal) ℓ) (c : Dev nD)

/-- The arguments. -/
abbrev A (m : (ℓ : Loc nD τ sig) → Buf (Elt Ideal) ℓ) (c : Dev nD) : FVec Ideal S4128x2048 .bf16 := m ((c : Thread nD τ).loc main_arg0)
abbrev B (m : (ℓ : Loc nD τ sig) → Buf (Elt Ideal) ℓ) (c : Dev nD) : FVec Ideal S256x2048 .bf16 := m ((c : Thread nD τ).loc main_arg1)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2 % 1, t.val % 2] := (by decide +kernel : ∀ t : Fin grid0.N, win0_1.index t = ![t.val / 2 % 1, t.val % 2])

theorem blk0 (t : Fin cfg0.N) (x : Fin 1376) (y : Fin 1024) (r : Fin 4128) (s : Fin 2048) (hr : r.val = t.val / 2 * 1376 + x.val) (hs : s.val = t.val % 2 * 1024 + y.val) :
    (iblk m c 0 t : FVec Ideal S1376x1024 .bf16) (ix2 x y) = A m c (ix2 r s) := by
  unfold iblk
  rw [View.read_apply]
  refine congrArg (A m c) ?_
  blk_ext [idx0 t]

theorem blk1 (t : Fin cfg0.N) (x : Fin 256) (y : Fin 1024) (r : Fin 256) (s : Fin 2048) (hr : r.val = t.val / 2 % 1 * 256 + x.val) (hs : s.val = t.val % 2 * 1024 + y.val) :
    (iblk m c 1 t : FVec Ideal S256x1024 .bf16) (ix2 x y) = B m c (ix2 r s) := by
  unfold iblk
  rw [View.read_apply]
  refine congrArg (B m c) ?_
  blk_ext [idx1 t]

theorem pay_at (u : Vec Ideal S1376x1024 .bf16) (v : Vec Ideal S256x1024 .bf16) (acc : Vec Ideal S1376x256 .f32) (x : Fin 1376) (y : Fin 256) :
    (k0_pay2 u v acc (ix2 x y) : EReal) = acc (ix2 x y) + ∑ k : Fin 1024, (u (ix2 x k) * v (ix2 y k) : EReal) := by
  unfold k0_pay2
  pointwise

theorem loc_eq (x : Fin 4128) (y : Fin 256) : loc2Of (ix2 x y) = ix2 (⟨x.val % 1376, by omega⟩ : Fin 1376) (⟨y.val % 256, by omega⟩ : Fin 256) := eq_ix2 rfl rfl

/-- What the kernel leaves at an index: the sum over the contracted axis. -/
theorem G_at (x : Fin 4128) (y : Fin 256) :
    (G2 m c (ix2 x y) : EReal) = ∑ q : Fin 2048, (A m c (ix2 x q) * B m c (ix2 y q) : EReal) := by
  have hN : cfg0.N = 6 := N_0
  have hr : run2Of (ix2 x y) = 1 * (x.val / 1376) + y.val / 256 := by
    show 1 * (x.val / 1376 - 0) + 1 * (y.val / 256 - 0) = _
    omega
  unfold G2
  rw [dif_pos (by omega), loc_eq]
  exact (run_prod (J := 2) (T := 1024) (K := 2048) rfl (by decide) (reset2 m c) (step2 m c) (2 * run2Of (ix2 x y)) _ 0 (fun q => A m c (ix2 x q)) (fun q => B m c (ix2 y q))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 1 rfl _).trans (zero_add _)

/-- The two programs compute the same array. -/
theorem algebraic : Cert.algebraic_Kernel32Ideal_Reference32Ideal := by
  intro m ρ m' ρ' _ hag
  refine ⟨fun c => G2 m c, run m ρ, (θ_run Cert.Reference32Ideal.defs _ _).mono (fun r h c => ⟨(h c).1.trans ?_, (h c).2⟩) (Cert.Reference32Ideal.Value.run m' ρ')⟩
  rw [(hag c).1, (hag c).2]
  refine ext2 fun x y => Eq.trans ?_ (G_at m c x y).symm
  pointwise

/-- The kernel, as it stands and over the extended reals, and the reference keep their arguments and end with every counter at zero. -/
theorem frame_kernel : Cert.quiescent_Kernel32 := fun m ρ _ => Cert.Kernel32.Gen.frame m ρ

theorem frame_kernelIdeal : Cert.quiescent_Kernel32Ideal := fun m ρ _ => Cert.Kernel32Ideal.Gen.frame m ρ

theorem frame_ref : Cert.quiescent_Reference32Ideal := fun m ρ _ =>
  (θ_run Cert.Reference32Ideal.defs _ _).mono (fun r h => ⟨fun c => (h c).2, sem_eq_zero_of_no_sems (by decide) r.2⟩) (Cert.Reference32Ideal.Value.run m ρ)

end Cert.Proof.DLoraGateIn

end
-- ==== Proof.Adamw.lean ====
module

public import proofs.«01_k».proof.Defs
public import proofs.«01_k».proof.Proof.Product
public import proofs.«01_k».proof.Proof.Gen.Kernel33Ideal.Value
public import proofs.«01_k».proof.Proof.Gen.Reference33Ideal.Run
public import proofs.«01_k».proof.Proof.Gen.Kernel33.Frame
public import proofs.«01_k».proof.Proof.Gen.Kernel34Ideal.Value
public import proofs.«01_k».proof.Proof.Gen.Reference34Ideal.Run
public import proofs.«01_k».proof.Proof.Gen.Kernel34.Frame
public import proofs.«01_k».proof.Proof.Gen.Kernel35Ideal.Value
public import proofs.«01_k».proof.Proof.Gen.Reference35Ideal.Run
public import proofs.«01_k».proof.Proof.Gen.Kernel35.Frame
public import proofs.«01_k».proof.Proof.Gen.Kernel36Ideal.Value
public import proofs.«01_k».proof.Proof.Gen.Reference36Ideal.Run
public import proofs.«01_k».proof.Proof.Gen.Kernel36.Frame
public import proofs.«01_k».proof.Proof.Gen.Kernel37Ideal.Value
public import proofs.«01_k».proof.Proof.Gen.Reference37Ideal.Run
public import proofs.«01_k».proof.Proof.Gen.Kernel37.Frame
public import proofs.«01_k».proof.Proof.Gen.Kernel38Ideal.Value
public import proofs.«01_k».proof.Proof.Gen.Reference38Ideal.Run
public import proofs.«01_k».proof.Proof.Gen.Kernel38.Frame
public import proofs.«01_k».proof.Proof.Gen.Kernel39Ideal.Value
public import proofs.«01_k».proof.Proof.Gen.Reference39Ideal.Run
public import proofs.«01_k».proof.Proof.Gen.Kernel39.Frame
public import proofs.«01_k».proof.Proof.Gen.Kernel40Ideal.Value
public import proofs.«01_k».proof.Proof.Gen.Reference40Ideal.Run
public import proofs.«01_k».proof.Proof.Gen.Kernel40.Frame
public import proofs.«01_k».proof.Proof.Gen.Kernel41Ideal.Value
public import proofs.«01_k».proof.Proof.Gen.Reference41Ideal.Run
public import proofs.«01_k».proof.Proof.Gen.Kernel41.Frame
public import proofs.«01_k».proof.Proof.Gen.Kernel42Ideal.Value
public import proofs.«01_k».proof.Proof.Gen.Reference42Ideal.Run
public import proofs.«01_k».proof.Proof.Gen.Kernel42.Frame
public import proofs.«01_k».proof.Proof.Gen.Kernel43Ideal.Value
public import proofs.«01_k».proof.Proof.Gen.Reference43Ideal.Run
public import proofs.«01_k».proof.Proof.Gen.Kernel43.Frame
public import proofs.«01_k».proof.Proof.Gen.Kernel44Ideal.Value
public import proofs.«01_k».proof.Proof.Gen.Reference44Ideal.Run
public import proofs.«01_k».proof.Proof.Gen.Kernel44.Frame
public import Idealize.ShloMosaic.Lib.Claim
public import Idealize.ShloMosaic.Lib.Pipeline.ValueKit

@[expose] public section

set_option maxRecDepth 16384

noncomputable section

namespace Cert.Proof.AdamGate

open Cert.Kernel33Ideal Cert.Kernel33Ideal.Gen Cert.Kernel33Ideal.Value Cert.Proof.Product
open Idealize.ShloMosaic Idealize.ShloMosaic.TcCoe Idealize.ShloMosaic.Pipeline Idealize.SL.Sem

/-- The gate and up weights: both programs do the same to each entry. -/
theorem algebraic : Cert.algebraic_Kernel33Ideal_Reference33Ideal := by
  intro m ρ m' ρ' _ hag
  refine ⟨_, _, _, run m ρ, (θ_run Cert.Reference33Ideal.defs _ _).mono
    (fun r h c => ⟨(h c).1.trans ?_, (h c).2.1.trans ?_, (h c).2.2.1.trans ?_, (h c).2.2.2⟩) (Cert.Reference33Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel33 := fun m ρ _ => Cert.Kernel33.Gen.frame m ρ

theorem frame_kernelIdeal : Cert.quiescent_Kernel33Ideal := fun m ρ _ => Cert.Kernel33Ideal.Gen.frame m ρ

theorem frame_ref : Cert.quiescent_Reference33Ideal := fun m ρ _ =>
  (θ_run Cert.Reference33Ideal.defs _ _).mono (fun r h => ⟨fun c => (h c).2.2.2, sem_eq_zero_of_no_sems (by decide) r.2⟩) (Cert.Reference33Ideal.Value.run m ρ)

end Cert.Proof.AdamGate

namespace Cert.Proof.AdamDown

open Cert.Kernel34Ideal Cert.Kernel34Ideal.Gen Cert.Kernel34Ideal.Value Cert.Proof.Product
open Idealize.ShloMosaic Idealize.ShloMosaic.TcCoe Idealize.ShloMosaic.Pipeline Idealize.SL.Sem

/-- The down weights: both programs do the same to each entry. -/
theorem algebraic : Cert.algebraic_Kernel34Ideal_Reference34Ideal := by
  intro m ρ m' ρ' _ hag
  refine ⟨_, _, _, run m ρ, (θ_run Cert.Reference34Ideal.defs _ _).mono
    (fun r h c => ⟨(h c).1.trans ?_, (h c).2.1.trans ?_, (h c).2.2.1.trans ?_, (h c).2.2.2⟩) (Cert.Reference34Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel34 := fun m ρ _ => Cert.Kernel34.Gen.frame m ρ

theorem frame_kernelIdeal : Cert.quiescent_Kernel34Ideal := fun m ρ _ => Cert.Kernel34Ideal.Gen.frame m ρ

theorem frame_ref : Cert.quiescent_Reference34Ideal := fun m ρ _ =>
  (θ_run Cert.Reference34Ideal.defs _ _).mono (fun r h => ⟨fun c => (h c).2.2.2, sem_eq_zero_of_no_sems (by decide) r.2⟩) (Cert.Reference34Ideal.Value.run m ρ)

end Cert.Proof.AdamDown

namespace Cert.Proof.AdamIn

open Cert.Kernel35Ideal Cert.Kernel35Ideal.Gen Cert.Kernel35Ideal.Value Cert.Proof.Product
open Idealize.ShloMosaic Idealize.ShloMosaic.TcCoe Idealize.ShloMosaic.Pipeline Idealize.SL.Sem

/-- The input weights: both programs do the same to each entry. -/
theorem algebraic : Cert.algebraic_Kernel35Ideal_Reference35Ideal := by
  intro m ρ m' ρ' _ hag
  refine ⟨_, _, _, run m ρ, (θ_run Cert.Reference35Ideal.defs _ _).mono
    (fun r h c => ⟨(h c).1.trans ?_, (h c).2.1.trans ?_, (h c).2.2.1.trans ?_, (h c).2.2.2⟩) (Cert.Reference35Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel35 := fun m ρ _ => Cert.Kernel35.Gen.frame m ρ

theorem frame_kernelIdeal : Cert.quiescent_Kernel35Ideal := fun m ρ _ => Cert.Kernel35Ideal.Gen.frame m ρ

theorem frame_ref : Cert.quiescent_Reference35Ideal := fun m ρ _ =>
  (θ_run Cert.Reference35Ideal.defs _ _).mono (fun r h => ⟨fun c => (h c).2.2.2, sem_eq_zero_of_no_sems (by decide) r.2⟩) (Cert.Reference35Ideal.Value.run m ρ)

end Cert.Proof.AdamIn

namespace Cert.Proof.AdamOut

open Cert.Kernel36Ideal Cert.Kernel36Ideal.Gen Cert.Kernel36Ideal.Value Cert.Proof.Product
open Idealize.ShloMosaic Idealize.ShloMosaic.TcCoe Idealize.ShloMosaic.Pipeline Idealize.SL.Sem

/-- The output weights: both programs do the same to each entry. -/
theorem algebraic : Cert.algebraic_Kernel36Ideal_Reference36Ideal := by
  intro m ρ m' ρ' _ hag
  refine ⟨_, _, _, run m ρ, (θ_run Cert.Reference36Ideal.defs _ _).mono
    (fun r h c => ⟨(h c).1.trans ?_, (h c).2.1.trans ?_, (h c).2.2.1.trans ?_, (h c).2.2.2⟩) (Cert.Reference36Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel36 := fun m ρ _ => Cert.Kernel36.Gen.frame m ρ

theorem frame_kernelIdeal : Cert.quiescent_Kernel36Ideal := fun m ρ _ => Cert.Kernel36Ideal.Gen.frame m ρ

theorem frame_ref : Cert.quiescent_Reference36Ideal := fun m ρ _ =>
  (θ_run Cert.Reference36Ideal.defs _ _).mono (fun r h => ⟨fun c => (h c).2.2.2, sem_eq_zero_of_no_sems (by decide) r.2⟩) (Cert.Reference36Ideal.Value.run m ρ)

end Cert.Proof.AdamOut

namespace Cert.Proof.AdamUkv

open Cert.Kernel37Ideal Cert.Kernel37Ideal.Gen Cert.Kernel37Ideal.Value Cert.Proof.Product
open Idealize.ShloMosaic Idealize.ShloMosaic.TcCoe Idealize.ShloMosaic.Pipeline Idealize.SL.Sem

/-- The key and value weights: both programs do the same to each entry. -/
theorem algebraic : Cert.algebraic_Kernel37Ideal_Reference37Ideal := by
  intro m ρ m' ρ' _ hag
  refine ⟨_, _, _, run m ρ, (θ_run Cert.Reference37Ideal.defs _ _).mono
    (fun r h c => ⟨(h c).1.trans ?_, (h c).2.1.trans ?_, (h c).2.2.1.trans ?_, (h c).2.2.2⟩) (Cert.Reference37Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel37 := fun m ρ _ => Cert.Kernel37.Gen.frame m ρ

theorem frame_kernelIdeal : Cert.quiescent_Kernel37Ideal := fun m ρ _ => Cert.Kernel37Ideal.Gen.frame m ρ

theorem frame_ref : Cert.quiescent_Reference37Ideal := fun m ρ _ =>
  (θ_run Cert.Reference37Ideal.defs _ _).mono (fun r h => ⟨fun c => (h c).2.2.2, sem_eq_zero_of_no_sems (by decide) r.2⟩) (Cert.Reference37Ideal.Value.run m ρ)

end Cert.Proof.AdamUkv

namespace Cert.Proof.AdamUq

open Cert.Kernel38Ideal Cert.Kernel38Ideal.Gen Cert.Kernel38Ideal.Value Cert.Proof.Product
open Idealize.ShloMosaic Idealize.ShloMosaic.TcCoe Idealize.ShloMosaic.Pipeline Idealize.SL.Sem

/-- The query weights: both programs do the same to each entry. -/
theorem algebraic : Cert.algebraic_Kernel38Ideal_Reference38Ideal := by
  intro m ρ m' ρ' _ hag
  refine ⟨_, _, _, run m ρ, (θ_run Cert.Reference38Ideal.defs _ _).mono
    (fun r h c => ⟨(h c).1.trans ?_, (h c).2.1.trans ?_, (h c).2.2.1.trans ?_, (h c).2.2.2⟩) (Cert.Reference38Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel38 := fun m ρ _ => Cert.Kernel38.Gen.frame m ρ

theorem frame_kernelIdeal : Cert.quiescent_Kernel38Ideal := fun m ρ _ => Cert.Kernel38Ideal.Gen.frame m ρ

theorem frame_ref : Cert.quiescent_Reference38Ideal := fun m ρ _ =>
  (θ_run Cert.Reference38Ideal.defs _ _).mono (fun r h => ⟨fun c => (h c).2.2.2, sem_eq_zero_of_no_sems (by decide) r.2⟩) (Cert.Reference38Ideal.Value.run m ρ)

end Cert.Proof.AdamUq

namespace Cert.Proof.AdamGUp

open Cert.Kernel39Ideal Cert.Kernel39Ideal.Gen Cert.Kernel39Ideal.Value Cert.Proof.Product
open Idealize.ShloMosaic Idealize.ShloMosaic.TcCoe Idealize.ShloMosaic.Pipeline Idealize.SL.Sem

/-- The output gate's second weights: both programs do the same to each entry. -/
theorem algebraic : Cert.algebraic_Kernel39Ideal_Reference39Ideal := by
  intro m ρ m' ρ' _ hag
  refine ⟨_, _, _, run m ρ, (θ_run Cert.Reference39Ideal.defs _ _).mono
    (fun r h c => ⟨(h c).1.trans ?_, (h c).2.1.trans ?_, (h c).2.2.1.trans ?_, (h c).2.2.2⟩) (Cert.Reference39Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel39 := fun m ρ _ => Cert.Kernel39.Gen.frame m ρ

theorem frame_kernelIdeal : Cert.quiescent_Kernel39Ideal := fun m ρ _ => Cert.Kernel39Ideal.Gen.frame m ρ

theorem frame_ref : Cert.quiescent_Reference39Ideal := fun m ρ _ =>
  (θ_run Cert.Reference39Ideal.defs _ _).mono (fun r h => ⟨fun c => (h c).2.2.2, sem_eq_zero_of_no_sems (by decide) r.2⟩) (Cert.Reference39Ideal.Value.run m ρ)

end Cert.Proof.AdamGUp

namespace Cert.Proof.AdamUp

open Cert.Kernel40Ideal Cert.Kernel40Ideal.Gen Cert.Kernel40Ideal.Value Cert.Proof.Product
open Idealize.ShloMosaic Idealize.ShloMosaic.TcCoe Idealize.ShloMosaic.Pipeline Idealize.SL.Sem

/-- The second weights of the decay's and the learning rate's branches: both programs do the same to each entry. -/
theorem algebraic : Cert.algebraic_Kernel40Ideal_Reference40Ideal := by
  intro m ρ m' ρ' _ hag
  refine ⟨_, _, _, run m ρ, (θ_run Cert.Reference40Ideal.defs _ _).mono
    (fun r h c => ⟨(h c).1.trans ?_, (h c).2.1.trans ?_, (h c).2.2.1.trans ?_, (h c).2.2.2⟩) (Cert.Reference40Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel40 := fun m ρ _ => Cert.Kernel40.Gen.frame m ρ

theorem frame_kernelIdeal : Cert.quiescent_Kernel40Ideal := fun m ρ _ => Cert.Kernel40Ideal.Gen.frame m ρ

theorem frame_ref : Cert.quiescent_Reference40Ideal := fun m ρ _ =>
  (θ_run Cert.Reference40Ideal.defs _ _).mono (fun r h => ⟨fun c => (h c).2.2.2, sem_eq_zero_of_no_sems (by decide) r.2⟩) (Cert.Reference40Ideal.Value.run m ρ)

end Cert.Proof.AdamUp

namespace Cert.Proof.AdamMeta

open Cert.Kernel41Ideal Cert.Kernel41Ideal.Gen Cert.Kernel41Ideal.Value Cert.Proof.Product
open Idealize.ShloMosaic Idealize.ShloMosaic.TcCoe Idealize.ShloMosaic.Pipeline Idealize.SL.Sem

/-- The meta tokens: both programs do the same to each entry. -/
theorem algebraic : Cert.algebraic_Kernel41Ideal_Reference41Ideal := by
  intro m ρ m' ρ' _ hag
  refine ⟨_, _, _, run m ρ, (θ_run Cert.Reference41Ideal.defs _ _).mono
    (fun r h c => ⟨(h c).1.trans ?_, (h c).2.1.trans ?_, (h c).2.2.1.trans ?_, (h c).2.2.2⟩) (Cert.Reference41Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel41 := fun m ρ _ => Cert.Kernel41.Gen.frame m ρ

theorem frame_kernelIdeal : Cert.quiescent_Kernel41Ideal := fun m ρ _ => Cert.Kernel41Ideal.Gen.frame m ρ

theorem frame_ref : Cert.quiescent_Reference41Ideal := fun m ρ _ =>
  (θ_run Cert.Reference41Ideal.defs _ _).mono (fun r h => ⟨fun c => (h c).2.2.2, sem_eq_zero_of_no_sems (by decide) r.2⟩) (Cert.Reference41Ideal.Value.run m ρ)

end Cert.Proof.AdamMeta

namespace Cert.Proof.AdamMu

open Cert.Kernel42Ideal Cert.Kernel42Ideal.Gen Cert.Kernel42Ideal.Value Cert.Proof.Product
open Idealize.ShloMosaic Idealize.ShloMosaic.TcCoe Idealize.ShloMosaic.Pipeline Idealize.SL.Sem

/-- The token shift's factors: both programs do the same to each entry. -/
theorem algebraic : Cert.algebraic_Kernel42Ideal_Reference42Ideal := by
  intro m ρ m' ρ' _ hag
  refine ⟨_, _, _, run m ρ, (θ_run Cert.Reference42Ideal.defs _ _).mono
    (fun r h c => ⟨(h c).1.trans ?_, (h c).2.1.trans ?_, (h c).2.2.1.trans ?_, (h c).2.2.2⟩) (Cert.Reference42Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel42 := fun m ρ _ => Cert.Kernel42.Gen.frame m ρ

theorem frame_kernelIdeal : Cert.quiescent_Kernel42Ideal := fun m ρ _ => Cert.Kernel42Ideal.Gen.frame m ρ

theorem frame_ref : Cert.quiescent_Reference42Ideal := fun m ρ _ =>
  (θ_run Cert.Reference42Ideal.defs _ _).mono (fun r h => ⟨fun c => (h c).2.2.2, sem_eq_zero_of_no_sems (by decide) r.2⟩) (Cert.Reference42Ideal.Value.run m ρ)

end Cert.Proof.AdamMu

namespace Cert.Proof.AdamRow

open Cert.Kernel43Ideal Cert.Kernel43Ideal.Gen Cert.Kernel43Ideal.Value Cert.Proof.Product
open Idealize.ShloMosaic Idealize.ShloMosaic.TcCoe Idealize.ShloMosaic.Pipeline Idealize.SL.Sem

/-- The vectors of the model's width: both programs do the same to each entry. -/
theorem algebraic : Cert.algebraic_Kernel43Ideal_Reference43Ideal := by
  intro m ρ m' ρ' _ hag
  refine ⟨_, _, _, run m ρ, (θ_run Cert.Reference43Ideal.defs _ _).mono
    (fun r h c => ⟨(h c).1.trans ?_, (h c).2.1.trans ?_, (h c).2.2.1.trans ?_, (h c).2.2.2⟩) (Cert.Reference43Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel43 := fun m ρ _ => Cert.Kernel43.Gen.frame m ρ

theorem frame_kernelIdeal : Cert.quiescent_Kernel43Ideal := fun m ρ _ => Cert.Kernel43Ideal.Gen.frame m ρ

theorem frame_ref : Cert.quiescent_Reference43Ideal := fun m ρ _ =>
  (θ_run Cert.Reference43Ideal.defs _ _).mono (fun r h => ⟨fun c => (h c).2.2.2, sem_eq_zero_of_no_sems (by decide) r.2⟩) (Cert.Reference43Ideal.Value.run m ρ)

end Cert.Proof.AdamRow

namespace Cert.Proof.AdamNorm

open Cert.Kernel44Ideal Cert.Kernel44Ideal.Gen Cert.Kernel44Ideal.Value Cert.Proof.Product
open Idealize.ShloMosaic Idealize.ShloMosaic.TcCoe Idealize.ShloMosaic.Pipeline Idealize.SL.Sem

/-- The latents' norm weights: both programs do the same to each entry. -/
theorem algebraic : Cert.algebraic_Kernel44Ideal_Reference44Ideal := by
  intro m ρ m' ρ' _ hag
  refine ⟨_, _, _, run m ρ, (θ_run Cert.Reference44Ideal.defs _ _).mono
    (fun r h c => ⟨(h c).1.trans ?_, (h c).2.1.trans ?_, (h c).2.2.1.trans ?_, (h c).2.2.2⟩) (Cert.Reference44Ideal.Value.run m' ρ')⟩
  all_goals
    simp only [(hag c).1, (hag c).2.1, (hag c).2.2.1, (hag c).2.2.2]
    refine ext2 fun x y => ?_
    pointwise

/-- The kernel, as it stands and over the extended reals, and the reference keep their arguments and end with every counter at zero. -/
theorem frame_kernel : Cert.quiescent_Kernel44 := fun m ρ _ => Cert.Kernel44.Gen.frame m ρ

theorem frame_kernelIdeal : Cert.quiescent_Kernel44Ideal := fun m ρ _ => Cert.Kernel44Ideal.Gen.frame m ρ

theorem frame_ref : Cert.quiescent_Reference44Ideal := fun m ρ _ =>
  (θ_run Cert.Reference44Ideal.defs _ _).mono (fun r h => ⟨fun c => (h c).2.2.2, sem_eq_zero_of_no_sems (by decide) r.2⟩) (Cert.Reference44Ideal.Value.run m ρ)

end Cert.Proof.AdamNorm

end
-- ==== Proof.InputGrad.lean ====
module

public import proofs.«01_k».proof.Defs
public import proofs.«01_k».proof.Proof.Product
public import proofs.«01_k».proof.Proof.Gen.Kernel45Ideal.Value
public import proofs.«01_k».proof.Proof.Gen.Reference45Ideal.Run
public import proofs.«01_k».proof.Proof.Gen.Kernel45.Frame
public import Idealize.ShloMosaic.Lib.Claim
public import Idealize.ShloMosaic.Lib.Pipeline.ValueKit

@[expose] public section

set_option maxRecDepth 16384

noncomputable section

namespace Cert.Proof.InputGrad

open Cert.Kernel45Ideal Cert.Kernel45Ideal.Gen Cert.Kernel45Ideal.Value Cert.Proof.Product
open Idealize.ShloMosaic Idealize.ShloMosaic.TcCoe Idealize.ShloMosaic.Pipeline Idealize.SL.Sem

variable (m : (ℓ : Loc nD τ sig) → Buf (Elt Ideal) ℓ) (c : Dev nD)

/-- The arguments. -/
abbrev A (m : (ℓ : Loc nD τ sig) → Buf (Elt Ideal) ℓ) (c : Dev nD) : FVec Ideal S4128x12288 .bf16 := m ((c : Thread nD τ).loc main_arg0)
abbrev B (m : (ℓ : Loc nD τ sig) → Buf (Elt Ideal) ℓ) (c : Dev nD) : FVec Ideal S2048x12288 .bf16 := m ((c : Thread nD τ).loc main_arg1)

theorem idx0 : ∀ t : Fin cfg0.N, win0_0.index t = ![t.val / 16, t.val % 8] := (by decide +kernel : ∀ t : Fin grid0.N, win0_0.index t = ![t.val / 16, t.val % 8])
theorem idx1 : ∀ t : Fin cfg0.N, win0_1.index t = ![t.val / 8 % 2, t.val % 8] := (by decide +kernel : ∀ t : Fin grid0.N, win0_1.index t = ![t.val / 8 % 2, t.val % 8])

theorem blk0 (t : Fin cfg0.N) (x : Fin 1376) (k : Fin 1536) (r : Fin 4128) (q : Fin 12288) (hr : r.val = t.val / 16 * 1376 + x.val) (hq : q.val = t.val % 8 * 1536 + k.val) :
    (iblk m c 0 t : FVec Ideal S1376x1536 .bf16) (ix2 x k) = A m c (ix2 r q) := by
  unfold iblk
  rw [View.read_apply]
  refine congrArg (A m c) ?_
  blk_ext [idx0 t]

theorem blk1 (t : Fin cfg0.N) (y : Fin 1024) (k : Fin 1536) (q : Fin 12288) (r : Fin 2048) (hq : q.val = t.val % 8 * 1536 + k.val) (hr : r.val = t.val / 8 % 2 * 1024 + y.val) :
    (iblk m c 1 t : FVec Ideal S1024x1536 .bf16) (ix2 y k) = B m c (ix2 r q) := by
  unfold iblk
  rw [View.read_apply]
  refine congrArg (B m c) ?_
  blk_ext [idx1 t]

theorem pay_at (u : Vec Ideal S1376x1536 .bf16) (v : Vec Ideal S1024x1536 .bf16) (acc : Vec Ideal S1376x1024 .f32) (x : Fin 1376) (y : Fin 1024) :
    (k0_pay2 u v acc (ix2 x y) : EReal) = acc (ix2 x y) + ∑ k : Fin 1536, (u (ix2 x k) * v (ix2 y k) : EReal) := by
  unfold k0_pay2
  pointwise

theorem loc_eq (x : Fin 4128) (y : Fin 2048) : loc2Of (ix2 x y) = ix2 (⟨x.val % 1376, by omega⟩ : Fin 1376) (⟨y.val % 1024, by omega⟩ : Fin 1024) := eq_ix2 rfl rfl

/-- What the kernel leaves at an index: the sum over the contracted axis. -/
theorem G_at (x : Fin 4128) (y : Fin 2048) :
    (G2 m c (ix2 x y) : EReal) = ∑ q : Fin 12288, (A m c (ix2 x q) * B m c (ix2 y q) : EReal) := by
  have hN : cfg0.N = 48 := N_0
  have hr : run2Of (ix2 x y) = 2 * (x.val / 1376) + y.val / 1024 := by
    show 2 * (x.val / 1376 - 0) + 1 * (y.val / 1024 - 0) = _
    omega
  unfold G2
  rw [dif_pos (by omega), loc_eq]
  exact (run_prod (J := 8) (T := 1536) (K := 12288) rfl (by decide) (reset2 m c) (step2 m c) (8 * run2Of (ix2 x y)) _ 0 (fun q => A m c (ix2 x q)) (fun q => B m c (ix2 y q))
    (fun n h acc => pay_at _ _ acc _ _) (fun h => (pay_at _ _ _ _ _).trans (congrArg (· + _) (by unfold k0_pay1; pointwise)))
    (fun s hs h k => blk0 m c _ _ _ _ _ (by dsimp only; omega) (by dsimp only; omega)) (fun s hs h k => blk1 m c _ _ _ _ _ (by dsimp only; omega) (by dsimp only; omega)) 7 rfl _).trans (zero_add _)

/-- The two programs compute the same array. -/
theorem algebraic : Cert.algebraic_Kernel45Ideal_Reference45Ideal := by
  intro m ρ m' ρ' _ hag
  refine ⟨fun c => G2 m c, run m ρ, (θ_run Cert.Reference45Ideal.defs _ _).mono (fun r h c => ⟨(h c).1.trans ?_, (h c).2⟩) (Cert.Reference45Ideal.Value.run m' ρ')⟩
  rw [(hag c).1, (hag c).2]
  refine ext2 fun x y => Eq.trans ?_ (G_at m c x y).symm
  pointwise

/-- The kernel, as it stands and over the extended reals, and the reference keep their arguments and end with every counter at zero. -/
theorem frame_kernel : Cert.quiescent_Kernel45 := fun m ρ _ => Cert.Kernel45.Gen.frame m ρ

theorem frame_kernelIdeal : Cert.quiescent_Kernel45Ideal := fun m ρ _ => Cert.Kernel45Ideal.Gen.frame m ρ

theorem frame_ref : Cert.quiescent_Reference45Ideal := fun m ρ _ =>
  (θ_run Cert.Reference45Ideal.defs _ _).mono (fun r h => ⟨fun c => (h c).2, sem_eq_zero_of_no_sems (by decide) r.2⟩) (Cert.Reference45Ideal.Value.run m ρ)

end Cert.Proof.InputGrad

end
-- ==== Proof.lean ====
/- The backward pass of the RWKV-7 recurrence, the products, the gates and the norms around it, and the optimiser,
   as the kernel computes them: each call keeps its arguments, and its results are those of the step's plain mathematics. -/
module

public import proofs.«01_k».proof.Defs
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Kernel40.Frame
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Kernel41.Frame
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Gen.Kernel42.Frame
public import proofs.«01_k».proof.Proof.Gen.Kernel42Ideal.Frame
public import proofs.«01_k».proof.Proof.Gen.Kernel42Ideal.Value
public import proofs.«01_k».proof.Proof.Gen.Reference42Ideal.Run
public import proofs.«01_k».proof.Proof.Gen.Kernel43.Frame
public import proofs.«01_k».proof.Proof.Gen.Kernel43Ideal.Frame
public import proofs.«01_k».proof.Proof.Gen.Kernel43Ideal.Value
public import proofs.«01_k».proof.Proof.Gen.Reference43Ideal.Run
public import proofs.«01_k».proof.Proof.Gen.Kernel44.Frame
public import proofs.«01_k».proof.Proof.Gen.Kernel44Ideal.Frame
public import proofs.«01_k».proof.Proof.Gen.Kernel44Ideal.Value
public import proofs.«01_k».proof.Proof.Gen.Reference44Ideal.Run
public import proofs.«01_k».proof.Proof.Gen.Kernel45.Frame
public import proofs.«01_k».proof.Proof.Gen.Kernel45Ideal.Frame
public import proofs.«01_k».proof.Proof.Gen.Kernel45Ideal.Value
public import proofs.«01_k».proof.Proof.Gen.Reference45Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal
public import proofs.«01_k».proof.Proof.Gen.Reference11Ideal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12Ideal
public import proofs.«01_k».proof.Proof.Gen.Reference12Ideal
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13Ideal
public import proofs.«01_k».proof.Proof.Gen.Reference13Ideal
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal
public import proofs.«01_k».proof.Proof.Gen.Reference14Ideal
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15Ideal
public import proofs.«01_k».proof.Proof.Gen.Reference15Ideal
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16Ideal
public import proofs.«01_k».proof.Proof.Gen.Reference16Ideal
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17Ideal
public import proofs.«01_k».proof.Proof.Gen.Reference17Ideal
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Values
public import proofs.«01_k».proof.Proof.Ffn2
public import proofs.«01_k».proof.Proof.Ffn3
public import proofs.«01_k».proof.Proof.Ffn4
public import proofs.«01_k».proof.Proof.Ffn5
public import proofs.«01_k».proof.Proof.Ffn6
public import proofs.«01_k».proof.Proof.Ffn7
public import proofs.«01_k».proof.Proof.Ffn8
public import proofs.«01_k».proof.Proof.Ffn9
public import proofs.«01_k».proof.Proof.Win
public import proofs.«01_k».proof.Proof.Proj
public import proofs.«01_k».proof.Proof.Wout
public import proofs.«01_k».proof.Proof.Mix
public import proofs.«01_k».proof.Proof.DGate
public import proofs.«01_k».proof.Proof.WoutFwd
public import proofs.«01_k».proof.Proof.Norm
public import proofs.«01_k».proof.Proof.Gate
public import proofs.«01_k».proof.Proof.MlaWeights
public import proofs.«01_k».proof.Proof.MlaQuery
public import proofs.«01_k».proof.Proof.MlaKey
public import proofs.«01_k».proof.Proof.MlaForward
public import proofs.«01_k».proof.Proof.LoraForward
public import proofs.«01_k».proof.Proof.LoraWeights
public import proofs.«01_k».proof.Proof.LoraInput
public import proofs.«01_k».proof.Proof.Adamw
public import proofs.«01_k».proof.Proof.InputGrad

@[expose] public section

noncomputable section

namespace Cert.Proof

/-- Every kernel and every reference runs to its end without fault and leaves the arguments alone, and each pair
    computes the same arrays: the recurrence's with finite inputs, the others with any. -/
theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts, Cert.Kernel9.Gen.facts,
  Cert.Kernel9Ideal.Gen.facts, Cert.Reference9Ideal.Gen.facts, Cert.Kernel10.Gen.facts, Cert.Kernel10Ideal.Gen.facts,
  Cert.Reference10Ideal.Gen.facts, Cert.Kernel11.Gen.facts, Cert.Kernel11Ideal.Gen.facts, Cert.Reference11Ideal.Gen.facts, Cert.Kernel12.Gen.facts,
  Cert.Kernel12Ideal.Gen.facts, Cert.Reference12Ideal.Gen.facts, Cert.Kernel13.Gen.facts, Cert.Kernel13Ideal.Gen.facts,
  Cert.Reference13Ideal.Gen.facts, Cert.Kernel14.Gen.facts, Cert.Kernel14Ideal.Gen.facts, Cert.Reference14Ideal.Gen.facts, Cert.Kernel15.Gen.facts,
  Cert.Kernel15Ideal.Gen.facts, Cert.Reference15Ideal.Gen.facts, Cert.Kernel16.Gen.facts, Cert.Kernel16Ideal.Gen.facts,
  Cert.Reference16Ideal.Gen.facts, Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts, Cert.Kernel21.Gen.facts,
  Cert.Kernel21Ideal.Gen.facts, Cert.Reference21Ideal.Gen.facts, Cert.Kernel22.Gen.facts, Cert.Kernel22Ideal.Gen.facts,
  Cert.Reference22Ideal.Gen.facts, Cert.Kernel23.Gen.facts, Cert.Kernel23Ideal.Gen.facts, Cert.Reference23Ideal.Gen.facts, Cert.Kernel24.Gen.facts,
  Cert.Kernel24Ideal.Gen.facts, Cert.Reference24Ideal.Gen.facts, Cert.Kernel25.Gen.facts, Cert.Kernel25Ideal.Gen.facts,
  Cert.Reference25Ideal.Gen.facts, Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts, Cert.Kernel30.Gen.facts,
  Cert.Kernel30Ideal.Gen.facts, Cert.Reference30Ideal.Gen.facts, Cert.Kernel31.Gen.facts, Cert.Kernel31Ideal.Gen.facts,
  Cert.Reference31Ideal.Gen.facts, Cert.Kernel32.Gen.facts, Cert.Kernel32Ideal.Gen.facts, Cert.Reference32Ideal.Gen.facts, Cert.Kernel33.Gen.facts,
  Cert.Kernel33Ideal.Gen.facts, Cert.Reference33Ideal.Gen.facts, Cert.Kernel34.Gen.facts, Cert.Kernel34Ideal.Gen.facts,
  Cert.Reference34Ideal.Gen.facts, Cert.Kernel35.Gen.facts, Cert.Kernel35Ideal.Gen.facts, Cert.Reference35Ideal.Gen.facts, Cert.Kernel36.Gen.facts,
  Cert.Kernel36Ideal.Gen.facts, Cert.Reference36Ideal.Gen.facts, Cert.Kernel37.Gen.facts, Cert.Kernel37Ideal.Gen.facts,
  Cert.Reference37Ideal.Gen.facts, Cert.Kernel38.Gen.facts, Cert.Kernel38Ideal.Gen.facts, Cert.Reference38Ideal.Gen.facts, Cert.Kernel39.Gen.facts,
  Cert.Kernel39Ideal.Gen.facts, Cert.Reference39Ideal.Gen.facts, Cert.Kernel40.Gen.facts, Cert.Kernel40Ideal.Gen.facts,
  Cert.Reference40Ideal.Gen.facts, Cert.Kernel41.Gen.facts, Cert.Kernel41Ideal.Gen.facts, Cert.Reference41Ideal.Gen.facts, Cert.Kernel42.Gen.facts,
  Cert.Kernel42Ideal.Gen.facts, Cert.Reference42Ideal.Gen.facts, Cert.Kernel43.Gen.facts, Cert.Kernel43Ideal.Gen.facts,
  Cert.Reference43Ideal.Gen.facts, Cert.Kernel44.Gen.facts, Cert.Kernel44Ideal.Gen.facts, Cert.Reference44Ideal.Gen.facts, Cert.Kernel45.Gen.facts,
  Cert.Kernel45Ideal.Gen.facts, Cert.Reference45Ideal.Gen.facts, Cert.Pre_finite.Gen.facts,
  WkvBwd.frame_kernel, WkvBwd.frame_kernelIdeal, WkvBwd.frame_kernelIdeal_pre, WkvBwd.frame_ref, WkvBwd.frame_ref_pre, Ffn2.frame_kernel,
  Ffn2.frame_kernelIdeal, Ffn2.frame_ref, Ffn3.frame_kernel, Ffn3.frame_kernelIdeal, Ffn3.frame_ref, Ffn4.frame_kernel, Ffn4.frame_kernelIdeal,
  Ffn4.frame_ref, Ffn5.frame_kernel, Ffn5.frame_kernelIdeal, Ffn5.frame_ref, Ffn6.frame_kernel, Ffn6.frame_kernelIdeal, Ffn6.frame_ref,
  Ffn7.frame_kernel, Ffn7.frame_kernelIdeal, Ffn7.frame_ref, Ffn8.frame_kernel, Ffn8.frame_kernelIdeal, Ffn8.frame_ref, Ffn9.frame_kernel,
  Ffn9.frame_kernelIdeal, Ffn9.frame_ref, Win.frame_kernel, Win.frame_kernelIdeal, Win.frame_ref, Proj.frame_kernel, Proj.frame_kernelIdeal,
  Proj.frame_ref, Wout.frame_kernel, Wout.frame_kernelIdeal, Wout.frame_ref, Mix.frame_kernel, Mix.frame_kernelIdeal, Mix.frame_ref,
  DGate.frame_kernel, DGate.frame_kernelIdeal, DGate.frame_ref, WoutFwd.frame_kernel, WoutFwd.frame_kernelIdeal, WoutFwd.frame_ref,
  Norm.frame_kernel, Norm.frame_kernelIdeal, Norm.frame_ref, Gate.frame_kernel, Gate.frame_kernelIdeal, Gate.frame_ref, Wq.frame_kernel,
  Wq.frame_kernelIdeal, Wq.frame_ref, Wkv.frame_kernel, Wkv.frame_kernelIdeal, Wkv.frame_ref, Cq.frame_kernel, Cq.frame_kernelIdeal, Cq.frame_ref,
  CqSum.frame_kernel, CqSum.frame_kernelIdeal, CqSum.frame_ref, Ckv.frame_kernel, Ckv.frame_kernelIdeal, Ckv.frame_ref, CkvSum.frame_kernel,
  CkvSum.frame_kernelIdeal, CkvSum.frame_ref, QNope.frame_kernel, QNope.frame_kernelIdeal, QNope.frame_ref, QPe.frame_kernel, QPe.frame_kernelIdeal,
  QPe.frame_ref, KNope.frame_kernel, KNope.frame_kernelIdeal, KNope.frame_ref, LoraUp.frame_kernel, LoraUp.frame_kernelIdeal, LoraUp.frame_ref,
  LoraGate.frame_kernel, LoraGate.frame_kernelIdeal, LoraGate.frame_ref, DLoraUp.frame_kernel, DLoraUp.frame_kernelIdeal, DLoraUp.frame_ref,
  DLoraUpIn.frame_kernel, DLoraUpIn.frame_kernelIdeal, DLoraUpIn.frame_ref, DLoraGate.frame_kernel, DLoraGate.frame_kernelIdeal, DLoraGate.frame_ref,
  DLoraGateIn.frame_kernel, DLoraGateIn.frame_kernelIdeal, DLoraGateIn.frame_ref, AdamGate.frame_kernel, AdamGate.frame_kernelIdeal,
  AdamGate.frame_ref, AdamDown.frame_kernel, AdamDown.frame_kernelIdeal, AdamDown.frame_ref, AdamIn.frame_kernel, AdamIn.frame_kernelIdeal,
  AdamIn.frame_ref, AdamOut.frame_kernel, AdamOut.frame_kernelIdeal, AdamOut.frame_ref, AdamUkv.frame_kernel, AdamUkv.frame_kernelIdeal,
  AdamUkv.frame_ref, AdamUq.frame_kernel, AdamUq.frame_kernelIdeal, AdamUq.frame_ref, AdamGUp.frame_kernel, AdamGUp.frame_kernelIdeal,
  AdamGUp.frame_ref, AdamUp.frame_kernel, AdamUp.frame_kernelIdeal, AdamUp.frame_ref, AdamMeta.frame_kernel, AdamMeta.frame_kernelIdeal,
  AdamMeta.frame_ref, AdamMu.frame_kernel, AdamMu.frame_kernelIdeal, AdamMu.frame_ref, AdamRow.frame_kernel, AdamRow.frame_kernelIdeal,
  AdamRow.frame_ref, AdamNorm.frame_kernel, AdamNorm.frame_kernelIdeal, AdamNorm.frame_ref, InputGrad.frame_kernel, InputGrad.frame_kernelIdeal,
  InputGrad.frame_ref, trivial, WkvBwd.algebraic, trivial, Ffn2.algebraic, trivial, Ffn3.algebraic, trivial, Ffn4.algebraic, trivial, Ffn5.algebraic,
  trivial, Ffn6.algebraic, trivial, Ffn7.algebraic, trivial, Ffn8.algebraic, trivial, Ffn9.algebraic, trivial, Win.algebraic, trivial,
  Proj.algebraic, trivial, Wout.algebraic, trivial, Mix.algebraic, trivial, DGate.algebraic, trivial, WoutFwd.algebraic, trivial, Norm.algebraic,
  trivial, Gate.algebraic, trivial, Wq.algebraic, trivial, Wkv.algebraic, trivial, Cq.algebraic, trivial, CqSum.algebraic, trivial, Ckv.algebraic,
  trivial, CkvSum.algebraic, trivial, QNope.algebraic, trivial, QPe.algebraic, trivial, KNope.algebraic, trivial, LoraUp.algebraic, trivial,
  LoraGate.algebraic, trivial, DLoraUp.algebraic, trivial, DLoraUpIn.algebraic, trivial, DLoraGate.algebraic, trivial, DLoraGateIn.algebraic,
  trivial, AdamGate.algebraic, trivial, AdamDown.algebraic, trivial, AdamIn.algebraic, trivial, AdamOut.algebraic, trivial, AdamUkv.algebraic,
  trivial, AdamUq.algebraic, trivial, AdamGUp.algebraic, trivial, AdamUp.algebraic, trivial, AdamMeta.algebraic, trivial, AdamMu.algebraic, trivial,
  AdamRow.algebraic, trivial, AdamNorm.algebraic, trivial, InputGrad.algebraic⟩

end Cert.Proof

end
